-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_named : Cert.Pre_experts_named.Facts] (m : (ℓ : Loc Cert.Kernel3.nD Cert.Kernel3.τ Cert.Kernel3.sig) → Buf (Elt Bits) ℓ) : Prop :=
  ∀ c : Dev Cert.Kernel3.nD,
    (Cert.Pre_experts_named.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).1 = (fun _ => 1#1)
    ∧ (Cert.Pre_experts_named.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).2.1 = (fun _ => 1#1)
    ∧ (Cert.Pre_experts_named.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).2.2 = (fun _ => 1#1)

def Pre_Kernel3Ideal [hPre_experts_named : Cert.Pre_experts_named.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_named.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_experts_named.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_experts_named.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_named [hPre_experts_named : Cert.Pre_experts_named.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_named.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_experts_named.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_experts_named.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] [hPre_experts_named : Cert.Pre_experts_named.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_experts_named : Cert.Pre_experts_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_experts_named [hReference3Ideal : Cert.Reference3Ideal.Facts] [hPre_experts_named : Cert.Pre_experts_named.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_named m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  IdealRules.named_const.Statement Cert.KernelIdeal.κ "scale_log2e" .f32 0x3E38AA3B#32 ((8⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] [hPre_experts_named : Cert.Pre_experts_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v146) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v12)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v19_0)) (v1 : (c : Dev Cert.Kernel5Ideal.nD) → Buf (Elt Ideal) ((c.tc : Thread Cert.Kernel5Ideal.nD Cert.Kernel5Ideal.τ).loc Cert.Kernel5Ideal.main_v19_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19_0) = v0 c
          ∧ r.2.mem ((c.tc : Thread Cert.Kernel5Ideal.nD Cert.Kernel5Ideal.τ).loc Cert.Kernel5Ideal.main_v19_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v73) = v0 c
          ∧ r.2.mem ((c.tc : Thread Cert.Reference5Ideal.nD Cert.Reference5Ideal.τ).loc Cert.Reference5Ideal.main_v75) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v13_0)) (v1 : (c : Dev Cert.Kernel6Ideal.nD) → Buf (Elt Ideal) ((c.tc : Thread Cert.Kernel6Ideal.nD Cert.Kernel6Ideal.τ).loc Cert.Kernel6Ideal.main_v13_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_0) = v0 c
          ∧ r.2.mem ((c.tc : Thread Cert.Kernel6Ideal.nD Cert.Kernel6Ideal.τ).loc Cert.Kernel6Ideal.main_v13_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v52) = v0 c
          ∧ r.2.mem ((c.tc : Thread Cert.Reference6Ideal.nD Cert.Reference6Ideal.τ).loc Cert.Reference6Ideal.main_v54) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_experts_named : Cert.Pre_experts_named.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_named := hPre_experts_named)
    ∧ quiescent_Kernel3Ideal (hKernel3Ideal := hKernel3Ideal) (hPre_experts_named := hPre_experts_named)
    ∧ quiescent_Reference3Ideal (hReference3Ideal := hReference3Ideal)
    ∧ quiescent_Reference3Ideal_pre_experts_named (hReference3Ideal := hReference3Ideal) (hPre_experts_named := hPre_experts_named)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_named := hPre_experts_named)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_experts_named.lean ====
abbrev S30208x1024 : Shape := ⟨2, ![30208, 1024]⟩
abbrev S59 : Shape := ⟨1, ![59]⟩
abbrev S1x8x1024x1024 : Shape := ⟨4, ![1, 8, 1024, 1024]⟩
abbrev S_ : Shape := ⟨0, ![]⟩

class Facts : Prop where
  bcast_S_S59 : S_.BroadcastsInDim S59 (![] : Fin 0 → Fin S59.rank)

variable [Facts]

def fn {F : FTy → Type} [FloatOps F] (main_arg0 : FVec F S30208x1024 .f32) (main_arg1 : IVec S59 32) (main_arg2 : IVec S59 32) (main_arg3 : FVec F S1x8x1024x1024 .f32) (main_arg4 : FVec F S1x8x1024x1024 .f32) (main_arg5 : FVec F S1x8x1024x1024 .f32) : IVec S59 1 × IVec S59 1 × IVec S59 1 :=
  let main_c : IVec S_ 32 := constantI S_ 32 0#32
  let main_v0 : IVec S59 32 := broadcastInDim S59 ![] bcast_S_S59 main_c
  let main_v1 : IVec S59 1 := cmpi .sge main_arg1 main_v0
  let main_c_0 : IVec S_ 32 := constantI S_ 32 8#32
  let main_v2 : IVec S59 32 := broadcastInDim S59 ![] bcast_S_S59 main_c_0
  let main_v3 : IVec S59 1 := cmpi .slt main_arg1 main_v2
  let main_c_1 : IVec S_ 32 := constantI S_ 32 0#32
  let main_v4 : IVec S59 32 := broadcastInDim S59 ![] bcast_S_S59 main_c_1
  let main_v5 : IVec S59 1 := cmpi .sge main_arg2 main_v4
  (main_v1, main_v3, main_v5)
-- ==== Pre_finite.lean ====
abbrev S2x4096x4x2x64 : Shape := ⟨5, ![2, 4096, 4, 2, 64]⟩
abbrev S2x4096x4x128 : Shape := ⟨4, ![2, 4096, 4, 128]⟩
abbrev S2x2x512x4x2x64 : Shape := ⟨6, ![2, 2, 512, 4, 2, 64]⟩
abbrev S2x2x512x4x128 : Shape := ⟨5, ![2, 2, 512, 4, 128]⟩
abbrev S2x4x64 : Shape := ⟨3, ![2, 4, 64]⟩
abbrev S2x128 : Shape := ⟨2, ![2, 128]⟩
abbrev S_ : Shape := ⟨0, ![]⟩

class Facts : Prop where
  bcast_S_S2x4096x4x2x64 : S_.BroadcastsInDim S2x4096x4x2x64 (![] : Fin 0 → Fin S2x4096x4x2x64.rank)
  bcast_S_S2x4096x4x128 : S_.BroadcastsInDim S2x4096x4x128 (![] : Fin 0 → Fin S2x4096x4x128.rank)
  bcast_S_S2x2x512x4x2x64 : S_.BroadcastsInDim S2x2x512x4x2x64 (![] : Fin 0 → Fin S2x2x512x4x2x64.rank)
  bcast_S_S2x2x512x4x128 : S_.BroadcastsInDim S2x2x512x4x128 (![] : Fin 0 → Fin S2x2x512x4x128.rank)
  bcast_S_S2x4x64 : S_.BroadcastsInDim S2x4x64 (![] : Fin 0 → Fin S2x4x64.rank)

variable [Facts]

def fn {F : FTy → Type} [FloatOps F] (main_arg0 : FVec F S2x4096x4x2x64 .f32) (main_arg1 : FVec F S2x4096x4x2x64 .f32) (main_arg2 : FVec F S2x4096x4x128 .f32) (main_arg3 : FVec F S2x2x512x4x2x64 .f32) (main_arg4 : FVec F S2x2x512x4x128 .f32) (main_arg5 : FVec F S2x4x64 .f32) (main_arg6 : FVec F S2x128 .f32) : IVec S2x4096x4x2x64 1 × IVec S2x4096x4x2x64 1 × IVec S2x4096x4x128 1 × IVec S2x2x512x4x2x64 1 × IVec S2x2x512x4x128 1 × IVec S2x4x64 1 :=
  let main_v0 : FVec F S2x4096x4x2x64 .f32 := Host.absf main_arg0
  let main_cst : FVec F S_ .f32 := constant S_ .f32 0x7F800000#32
  let main_v1 : FVec F S2x4096x4x2x64 .f32 := broadcastInDim S2x4096x4x2x64 ![] bcast_S_S2x4096x4x2x64 main_cst
  let main_v2 : IVec S2x4096x4x2x64 1 := cmpf .olt main_v0 main_v1
  let main_v3 : FVec F S2x4096x4x2x64 .f32 := Host.absf main_arg1
  let main_cst_0 : FVec F S_ .f32 := constant S_ .f32 0x7F800000#32
  let main_v4 : FVec F S2x4096x4x2x64 .f32 := broadcastInDim S2x4096x4x2x64 ![] bcast_S_S2x4096x4x2x64 main_cst_0
  let main_v5 : IVec S2x4096x4x2x64 1 := cmpf .olt main_v3 main_v4
  let main_v6 : FVec F S2x4096x4x128 .f32 := Host.absf main_arg2
  let main_cst_1 : FVec F S_ .f32 := constant S_ .f32 0x7F800000#32
  let main_v7 : FVec F S2x4096x4x128 .f32 := broadcastInDim S2x4096x4x128 ![] bcast_S_S2x4096x4x128 main_cst_1
  let main_v8 : IVec S2x4096x4x128 1 := cmpf .olt main_v6 main_v7
  let main_v9 : FVec F S2x2x512x4x2x64 .f32 := Host.absf main_arg3
  let main_cst_2 : FVec F S_ .f32 := constant S_ .f32 0x7F800000#32
  let main_v10 : FVec F S2x2x512x4x2x64 .f32 := broadcastInDim S2x2x512x4x2x64 ![] bcast_S_S2x2x512x4x2x64 main_cst_2
  let main_v11 : IVec S2x2x512x4x2x64 1 := cmpf .olt main_v9 main_v10
  let main_v12 : FVec F S2x2x512x4x128 .f32 := Host.absf main_arg4
  let main_cst_3 : FVec F S_ .f32 := constant S_ .f32 0x7F800000#32
  let main_v13 : FVec F S2x2x512x4x128 .f32 := broadcastInDim S2x2x512x4x128 ![] bcast_S_S2x2x512x4x128 main_cst_3
  let main_v14 : IVec S2x2x512x4x128 1 := cmpf .olt main_v12 main_v13
  let main_v15 : FVec F S2x4x64 .f32 := Host.absf main_arg5
  let main_cst_4 : FVec F S_ .f32 := constant S_ .f32 0x7F800000#32
  let main_v16 : FVec F S2x4x64 .f32 := broadcastInDim S2x4x64 ![] bcast_S_S2x4x64 main_cst_4
  let main_v17 : IVec S2x4x64 1 := cmpf .olt main_v15 main_v16
  (main_v2, main_v5, main_v8, main_v11, main_v14, main_v17)
-- ==== Kernel.lean ====
abbrev S2x4096x4x2x64 : Shape := ⟨5, ![2, 4096, 4, 2, 64]⟩
abbrev S2x4096x4x128 : Shape := ⟨4, ![2, 4096, 4, 128]⟩
abbrev S2x2x512x4x2x64 : Shape := ⟨6, ![2, 2, 512, 4, 2, 64]⟩
abbrev S2x2x512x4x128 : Shape := ⟨5, ![2, 2, 512, 4, 128]⟩
abbrev S2x4x64 : Shape := ⟨3, ![2, 4, 64]⟩
abbrev S2x128 : Shape := ⟨2, ![2, 128]⟩
abbrev S8192x512 : Shape := ⟨2, ![8192, 512]⟩
abbrev S8192x1536 : Shape := ⟨2, ![8192, 1536]⟩
abbrev S2x2x512x512 : Shape := ⟨4, ![2, 2, 512, 512]⟩
abbrev S2x1x512x512 : Shape := ⟨4, ![2, 1, 512, 512]⟩
abbrev S2x512x512 : Shape := ⟨3, ![2, 512, 512]⟩
abbrev S2x4096x1536 : Shape := ⟨3, ![2, 4096, 1536]⟩
abbrev S2x1x128 : Shape := ⟨3, ![2, 1, 128]⟩
abbrev S2x4096x512 : Shape := ⟨3, ![2, 4096, 512]⟩
abbrev S1x4x64 : Shape := ⟨3, ![1, 4, 64]⟩
abbrev S1x1x128 : Shape := ⟨3, ![1, 1, 128]⟩
abbrev S1x1024x128 : Shape := ⟨3, ![1, 1024, 128]⟩
abbrev S1x512x128 : Shape := ⟨3, ![1, 512, 128]⟩
abbrev S1x4096x128 : Shape := ⟨3, ![1, 4096, 128]⟩
abbrev S4608x128 : Shape := ⟨2, ![4608, 128]⟩
abbrev S512x128 : Shape := ⟨2, ![512, 128]⟩
abbrev S4096x128 : Shape := ⟨2, ![4096, 128]⟩
abbrev S4x64 : Shape := ⟨2, ![4, 64]⟩
abbrev S1x64 : Shape := ⟨2, ![1, 64]⟩
abbrev S1x1x64 : Shape := ⟨3, ![1, 1, 64]⟩
abbrev S1 : Shape := ⟨1, ![1]⟩
abbrev S1x1x1 : Shape := ⟨3, ![1, 1, 1]⟩
abbrev S1x1 : Shape := ⟨2, ![1, 1]⟩
abbrev S1024x128 : Shape := ⟨2, ![1024, 128]⟩
abbrev S1024x1 : Shape := ⟨2, ![1024, 1]⟩
abbrev S1536x128 : Shape := ⟨2, ![1536, 128]⟩
abbrev S1024x1536 : Shape := ⟨2, ![1024, 1536]⟩
abbrev S1024 : Shape := ⟨1, ![1024]⟩
abbrev S1x128 : Shape := ⟨2, ![1, 128]⟩
abbrev S512 : Shape := ⟨1, ![512]⟩
abbrev S512x1 : Shape := ⟨2, ![512, 1]⟩

abbrev nBuf : Space → Nat
  | .hbm => 25
  | .vmem => 16
  | .smem => 0
  | _ => 0

abbrev bufTy : (tb : Table) → Fin (tcTables nBuf tb) → BufTy
  | .hbm, ⟨0, _⟩ => ⟨S2x4096x4x2x64, .f32⟩
  | .hbm, ⟨1, _⟩ => ⟨S2x4096x4x2x64, .f32⟩
  | .hbm, ⟨2, _⟩ => ⟨S2x4096x4x128, .f32⟩
  | .hbm, ⟨3, _⟩ => ⟨S2x2x512x4x2x64, .f32⟩
  | .hbm, ⟨4, _⟩ => ⟨S2x2x512x4x128, .f32⟩
  | .hbm, ⟨5, _⟩ => ⟨S2x4x64, .f32⟩
  | .hbm, ⟨6, _⟩ => ⟨S2x128, .f32⟩
  | .hbm, ⟨7, _⟩ => ⟨S8192x512, .f32⟩
  | .hbm, ⟨8, _⟩ => ⟨S8192x512, .bf16⟩
  | .hbm, ⟨9, _⟩ => ⟨S8192x512, .f32⟩
  | .hbm, ⟨10, _⟩ => ⟨S8192x512, .bf16⟩
  | .hbm, ⟨11, _⟩ => ⟨S8192x512, .f32⟩
  | .hbm, ⟨12, _⟩ => ⟨S8192x512, .bf16⟩
  | .hbm, ⟨13, _⟩ => ⟨S8192x1536, .bf16⟩
  | .hbm, ⟨14, _⟩ => ⟨S2x2x512x512, .f32⟩
  | .hbm, ⟨15, _⟩ => ⟨S2x2x512x512, .bf16⟩
  | .hbm, ⟨16, _⟩ => ⟨S2x2x512x512, .f32⟩
  | .hbm, ⟨17, _⟩ => ⟨S2x2x512x512, .bf16⟩
  | .hbm, ⟨18, _⟩ => ⟨S2x1x512x512, .bf16⟩
  | .hbm, ⟨19, _⟩ => ⟨S2x512x512, .bf16⟩
  | .hbm, ⟨20, _⟩ => ⟨S2x1x512x512, .bf16⟩
  | .hbm, ⟨21, _⟩ => ⟨S2x512x512, .bf16⟩
  | .hbm, ⟨22, _⟩ => ⟨S2x4096x1536, .bf16⟩
  | .hbm, ⟨23, _⟩ => ⟨S2x1x128, .f32⟩
  | .hbm, ⟨24, _⟩ => ⟨S2x4096x512, .bf16⟩
  | .local _ .vmem, ⟨0, _⟩ => ⟨S1x4x64, .f32⟩
  | .local _ .vmem, ⟨1, _⟩ => ⟨S1x1x128, .f32⟩
  | .local _ .vmem, ⟨2, _⟩ => ⟨S1x1024x128, .bf16⟩
  | .local _ .vmem, ⟨3, _⟩ => ⟨S1x1024x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S4608x128, .bf16⟩
  | .local _ .vmem, ⟨15, _⟩ => ⟨S4608x128, .bf16⟩
  | _, _ => ⟨S2x4096x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 4, 4], ![false, false, false]⟩

def k0_mult1 : BitVec 32 :=
  let c0_i32_14 : BitVec 32 := 0#32
  let c1536_i32 : BitVec 32 := 1536#32
  let v44 : BitVec 32 := Scalar.muli c0_i32_14 c1536_i32
  v44
def k0_off1 (c0_i32_14 : BitVec 32) : Fin 2 → Nat :=
  let c1536_i32 : BitVec 32 := 1536#32
  let v44 : BitVec 32 := Scalar.muli c0_i32_14 c1536_i32
  let v45 : BitVec 32 := v44
  let v46 : Index := Scalar.indexCast v45
  let c0_15 : Index := 0#32
  ![v46.toNat, 0]
def k0_mult2 : BitVec 32 :=
  let c1_i32 : BitVec 32 := 1#32
  let c1536_i32_21 : BitVec 32 := 1536#32
  let v68 : BitVec 32 := Scalar.muli c1_i32 c1536_i32_21
  v68
def k0_mult3 : BitVec 32 :=
  let c2_i32 : BitVec 32 := 2#32
  let c1536_i32_28 : BitVec 32 := 1536#32
  let v92 : BitVec 32 := Scalar.muli c2_i32 c1536_i32_28
  v92
def k0_mult4 : BitVec 32 :=
  let c0_i32_54 : BitVec 32 := 0#32
  let c1536_i32_55 : BitVec 32 := 1536#32
  let v161 : BitVec 32 := Scalar.muli c0_i32_54 c1536_i32_55
  v161
def k0_mult5 : BitVec 32 :=
  let c1_i32_62 : BitVec 32 := 1#32
  let c1536_i32_63 : BitVec 32 := 1536#32
  let v185 : BitVec 32 := Scalar.muli c1_i32_62 c1536_i32_63
  v185
def k0_mult6 : BitVec 32 :=
  let c2_i32_70 : BitVec 32 := 2#32
  let c1536_i32_71 : BitVec 32 := 1536#32
  let v209 : BitVec 32 := Scalar.muli c2_i32_70 c1536_i32_71
  v209
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S1x4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "scale_log2e" => some ((8⁻¹ * (Real.log 2)⁻¹ : ℝ) : EReal)
  | _ => none
-- ==== ReferenceIdeal.lean ====
abbrev S2x4096x4x2x64 : Shape := ⟨5, ![2, 4096, 4, 2, 64]⟩
abbrev S2x4096x4x128 : Shape := ⟨4, ![2, 4096, 4, 128]⟩
abbrev S2x2x512x4x2x64 : Shape := ⟨6, ![2, 2, 512, 4, 2, 64]⟩
abbrev S2x2x512x4x128 : Shape := ⟨5, ![2, 2, 512, 4, 128]⟩
abbrev S2x4x64 : Shape := ⟨3, ![2, 4, 64]⟩
abbrev S2x128 : Shape := ⟨2, ![2, 128]⟩
abbrev S2x1x512x4x2x64 : Shape := ⟨6, ![2, 1, 512, 4, 2, 64]⟩
abbrev S2x512x4x2x64 : Shape := ⟨5, ![2, 512, 4, 2, 64]⟩
abbrev S2x4608x4x2x64 : Shape := ⟨5, ![2, 4608, 4, 2, 64]⟩
abbrev S2x1x512x4x128 : Shape := ⟨5, ![2, 1, 512, 4, 128]⟩
abbrev S2x512x4x128 : Shape := ⟨4, ![2, 512, 4, 128]⟩
abbrev S2x4608x4x128 : Shape := ⟨4, ![2, 4608, 4, 128]⟩
abbrev S1x4x64 : Shape := ⟨3, ![1, 4, 64]⟩
abbrev S4x64 : Shape := ⟨2, ![4, 64]⟩
abbrev S1x64 : Shape := ⟨2, ![1, 64]⟩
abbrev S64 : Shape := ⟨1, ![64]⟩
abbrev S_ : Shape := ⟨0, ![]⟩
abbrev S2x2x4x4096x4608 : Shape := ⟨5, ![2, 2, 4, 4096, 4608]⟩
abbrev S2x2x4x4096 : Shape := ⟨4, ![2, 2, 4, 4096]⟩
abbrev S2x2x4x4096x1 : Shape := ⟨5, ![2, 2, 4, 4096, 1]⟩
abbrev S2x1x4x4096x4608 : Shape := ⟨5, ![2, 1, 4, 4096, 4608]⟩
abbrev S2x4x4096x4608 : Shape := ⟨4, ![2, 4, 4096, 4608]⟩
abbrev S2x4x128x4096 : Shape := ⟨4, ![2, 4, 128, 4096]⟩
abbrev S1x128 : Shape := ⟨2, ![1, 128]⟩
abbrev S128 : Shape := ⟨1, ![128]⟩
abbrev S2x4096x4 : Shape := ⟨3, ![2, 4096, 4]⟩
abbrev S2x4096x4x1 : Shape := ⟨4, ![2, 4096, 4, 1]⟩
abbrev S1x1x1x128 : Shape := ⟨4, ![1, 1, 1, 128]⟩
abbrev S2x4096x512 : Shape := ⟨3, ![2, 4096, 512]⟩

abbrev nBuf : Space → Nat
  | .hbm => 84
  | .vmem => 0
  | .smem => 0
  | _ => 0

abbrev bufTy : (tb : Table) → Fin (tcTables nBuf tb) → BufTy
  | .hbm, ⟨0, _⟩ => ⟨S2x4096x4x2x64, .f32⟩
  | .hbm, ⟨1, _⟩ => ⟨S2x4096x4x2x64, .f32⟩
  | .hbm, ⟨2, _⟩ => ⟨S2x4096x4x128, .f32⟩
  | .hbm, ⟨3, _⟩ => ⟨S2x2x512x4x2x64, .f32⟩
  | .hbm, ⟨4, _⟩ => ⟨S2x2x512x4x128, .f32⟩
  | .hbm, ⟨5, _⟩ => ⟨S2x4x64, .f32⟩
  | .hbm, ⟨6, _⟩ => ⟨S2x128, .f32⟩
  | .hbm, ⟨7, _⟩ => ⟨S2x1x512x4x2x64, .f32⟩
  | .hbm, ⟨8, _⟩ => ⟨S2x512x4x2x64, .f32⟩
  | .hbm, ⟨9, _⟩ => ⟨S2x4608x4x2x64, .f32⟩
  | .hbm, ⟨10, _⟩ => ⟨S2x1x512x4x128, .f32⟩
  | .hbm, ⟨11, _⟩ => ⟨S2x512x4x128, .f32⟩
  | .hbm, ⟨12, _⟩ => ⟨S2x4608x4x128, .f32⟩
  | .hbm, ⟨13, _⟩ => ⟨S1x4x64, .f32⟩
  | .hbm, ⟨14, _⟩ => ⟨S4x64, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S2x2x4x4096x4608, .f32⟩
  | .hbm, ⟨35, _⟩ => ⟨S_, .f32⟩
  | .hbm, ⟨36, _⟩ => ⟨S2x2x4x4096x4608, .f32⟩
  | .hbm, ⟨37, _⟩ => ⟨S2x2x4x4096x4608, .f32⟩
  | .hbm, ⟨38, _⟩ => ⟨S_, .f32⟩
  | .hbm, ⟨39, _⟩ => ⟨S2x2x4x4096, .f32⟩
  | .hbm, ⟨40, _⟩ => ⟨S_, .f32⟩
  | .hbm, ⟨41, _⟩ => ⟨S2x2x4x4096, .f32⟩
  | .hbm, ⟨42, _⟩ => ⟨S2x2x4x4096, .f32⟩
  | .hbm, ⟨43, _⟩ => ⟨S2x2x4x4096x1, .f32⟩
  | .hbm, ⟨44, _⟩ => ⟨S2x2x4x4096x4608, .f32⟩
  | .hbm, ⟨45, _⟩ => ⟨S2x2x4x4096x4608, .f32⟩
  | .hbm, ⟨46, _⟩ => ⟨S2x2x4x4096x4608, .f32⟩
  | .hbm, ⟨47, _⟩ => ⟨S_, .f32⟩
  | .hbm, ⟨48, _⟩ => ⟨S2x2x4x4096, .f32⟩
  | .hbm, ⟨49, _⟩ => ⟨S2x2x4x4096x1, .f32⟩
  | .hbm, ⟨50, _⟩ => ⟨S2x2x4x4096x4608, .f32⟩
  | .hbm, ⟨51, _⟩ => ⟨S2x2x4x4096x4608, .f32⟩
  | .hbm, ⟨52, _⟩ => ⟨S2x1x4x4096x4608, .f32⟩
  | .hbm, ⟨53, _⟩ => ⟨S2x4x4096x4608, .f32⟩
  | .hbm, ⟨54, _⟩ => ⟨S2x1x4x4096x4608, .f32⟩
  | .hbm, ⟨55, _⟩ => ⟨S2x4x4096x4608, .f32⟩
  | .hbm, ⟨56, _⟩ => ⟨S2x4x4096x4608, .f32⟩
  | .hbm, ⟨57, _⟩ => ⟨S2x4x4096x4608, .f32⟩
  | .hbm, ⟨58, _⟩ => ⟨S2x4x4096x4608, .f32⟩
  | .hbm, ⟨59, _⟩ => ⟨S2x4x128x4096, .f32⟩
  | .hbm, ⟨60, _⟩ => ⟨S2x4096x4x128, .f32⟩
  | .hbm, ⟨61, _⟩ => ⟨S1x128, .f32⟩
  | .hbm, ⟨62, _⟩ => ⟨S128, .f32⟩
  | .hbm, ⟨63, _⟩ => ⟨S2x4096x4x128, .f32⟩
  | .hbm, ⟨64, _⟩ => ⟨S_, .f32⟩
  | .hbm, ⟨65, _⟩ => ⟨S2x4096x4, .f32⟩
  | .hbm, ⟨66, _⟩ => ⟨S2x4096x4x1, .f32⟩
  | .hbm, ⟨67, _⟩ => ⟨S_, .f32⟩
  | .hbm, ⟨68, _⟩ => ⟨S2x4096x4x1, .f32⟩
  | .hbm, ⟨69, _⟩ => ⟨S2x4096x4x1, .f32⟩
  | .hbm, ⟨70, _⟩ => ⟨S_, .f32⟩
  | .hbm, ⟨71, _⟩ => ⟨S2x4096x4x1, .f32⟩
  | .hbm, ⟨72, _⟩ => ⟨S2x4096x4x1, .f32⟩
  | .hbm, ⟨73, _⟩ => ⟨S2x4096x4x1, .f32⟩
  | .hbm, ⟨74, _⟩ => ⟨S2x4096x4x128, .f32⟩
  | .hbm, ⟨75, _⟩ => ⟨S2x4096x4x128, .f32⟩
  | .hbm, ⟨76, _⟩ => ⟨S1x1x1x128, .f32⟩
  | .hbm, ⟨77, _⟩ => ⟨S2x4096x4x128, .f32⟩
  | .hbm, ⟨78, _⟩ => ⟨S2x4096x4x128, .f32⟩
  | .hbm, ⟨79, _⟩ => ⟨S_, .f32⟩
  | .hbm, ⟨80, _⟩ => ⟨S2x4096x4x128, .f32⟩
  | .hbm, ⟨81, _⟩ => ⟨S2x4096x4x128, .f32⟩
  | .hbm, ⟨82, _⟩ => ⟨S2x4096x512, .f32⟩
  | .hbm, ⟨83, _⟩ => ⟨S2x4096x512, .bf16⟩
  | _, _ => ⟨S2x4096x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_cst_7 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_9 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Kernel2.lean ====
abbrev S2x4096x1024 : Shape := ⟨3, ![2, 4096, 1024]⟩
abbrev S2x8x6144 : Shape := ⟨3, ![2, 8, 6144]⟩
abbrev S2x1024 : Shape := ⟨2, ![2, 1024]⟩
abbrev S1x1024x2816 : Shape := ⟨3, ![1, 1024, 2816]⟩
abbrev S1x2816x1024 : Shape := ⟨3, ![1, 2816, 1024]⟩
abbrev S8192x1024 : Shape := ⟨2, ![8192, 1024]⟩
abbrev S1x1024 : Shape := ⟨2, ![1, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1x8x1024 : Shape := ⟨3, ![1, 8, 1024]⟩
abbrev S512x2816 : Shape := ⟨2, ![512, 2816]⟩
abbrev S1x1x1024 : Shape := ⟨3, ![1, 1, 1024]⟩
abbrev S512 : Shape := ⟨1, ![512]⟩
abbrev S512x1 : Shape := ⟨2, ![512, 1]⟩

abbrev nBuf : Space → Nat
  | .hbm => 20
  | .vmem => 11
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x8x6144, .f32⟩
  | .hbm, ⟨3, _⟩ => ⟨S2x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S1x1024, .f32⟩
  | .hbm, ⟨11, _⟩ => ⟨S1024, .f32⟩
  | .hbm, ⟨12, _⟩ => ⟨S1024x2816, .f32⟩
  | .hbm, ⟨13, _⟩ => ⟨S1024x2816, .bf16⟩
  | .hbm, ⟨14, _⟩ => ⟨S1024x2816, .f32⟩
  | .hbm, ⟨15, _⟩ => ⟨S1024x2816, .bf16⟩
  | .hbm, ⟨16, _⟩ => ⟨S2816x1024, .f32⟩
  | .hbm, ⟨17, _⟩ => ⟨S2816x1024, .bf16⟩
  | .hbm, ⟨18, _⟩ => ⟨S1x1024, .f32⟩
  | .hbm, ⟨19, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x8x1024, .f32⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let c0_14 : Index := 0#32
  let c1_i32 : BitVec 32 := 1#32
  let arg0 : BitVec 32 := BitVec.ofNat 32 (i 0).val
  let c8_i32 : BitVec 32 := 8#32
  let v0 : BitVec 32 := Scalar.divsi arg0 c8_i32
  let v1 : BitVec 32 := Scalar.addi c1_i32 v0
  let v25 : Index := Scalar.indexCast v1
  let c0_15 : Index := 0#32
  ![0, v25.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S2x4096x1024 : Shape := ⟨3, ![2, 4096, 1024]⟩
abbrev S2x8x6144 : Shape := ⟨3, ![2, 8, 6144]⟩
abbrev S2x1024 : Shape := ⟨2, ![2, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S2x4096x2816 : Shape := ⟨3, ![2, 4096, 2816]⟩
abbrev S_ : Shape := ⟨0, ![]⟩
abbrev S1x2x1024 : Shape := ⟨3, ![1, 2, 1024]⟩
abbrev S2x1x1024 : Shape := ⟨3, ![2, 1, 1024]⟩
abbrev S1x1024 : Shape := ⟨2, ![1, 1024]⟩
abbrev S1024 : Shape := ⟨1, ![1024]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x8x6144, .f32⟩
  | .hbm, ⟨3, _⟩ => ⟨S2x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S2x4096x2816, .f32⟩
  | .hbm, ⟨11, _⟩ => ⟨S2x4096x2816, .f32⟩
  | .hbm, ⟨12, _⟩ => ⟨S2x4096x2816, .f32⟩
  | .hbm, ⟨13, _⟩ => ⟨S_, .f32⟩
  | .hbm, ⟨14, _⟩ => ⟨S2x4096x2816, .f32⟩
  | .hbm, ⟨15, _⟩ => ⟨S2x4096x2816, .f32⟩
  | .hbm, ⟨16, _⟩ => ⟨S_, .f32⟩
  | .hbm, ⟨17, _⟩ => ⟨S2x4096x2816, .f32⟩
  | .hbm, ⟨18, _⟩ => ⟨S2x4096x2816, .f32⟩
  | .hbm, ⟨19, _⟩ => ⟨S2x4096x2816, .f32⟩
  | .hbm, ⟨20, _⟩ => ⟨S2x4096x2816, .f32⟩
  | .hbm, ⟨21, _⟩ => ⟨S2x4096x2816, .f32⟩
  | .hbm, ⟨22, _⟩ => ⟨S2x4096x1024, .f32⟩
  | .hbm, ⟨23, _⟩ => ⟨S1x2x1024, .f32⟩
  | .hbm, ⟨24, _⟩ => ⟨S2x1024, .f32⟩
  | .hbm, ⟨25, _⟩ => ⟨S2x1x1024, .f32⟩
  | .hbm, ⟨26, _⟩ => ⟨S1x1024, .f32⟩
  | .hbm, ⟨27, _⟩ => ⟨S1024, .f32⟩
  | .hbm, ⟨28, _⟩ => ⟨S2x4096x1024, .f32⟩
  | .hbm, ⟨29, _⟩ => ⟨S_, .f32⟩
  | .hbm, ⟨30, _⟩ => ⟨S2x4096, .f32⟩
  | .hbm, ⟨31, _⟩ => ⟨S2x4096x1, .f32⟩
  | .hbm, ⟨32, _⟩ => ⟨S_, .f32⟩
  | .hbm, ⟨33, _⟩ => ⟨S2x4096x1, .f32⟩
  | .hbm, ⟨34, _⟩ => ⟨S2x4096x1, .f32⟩
  | .hbm, ⟨35, _⟩ => ⟨S_, .f32⟩
  | .hbm, ⟨36, _⟩ => ⟨S2x4096x1, .f32⟩
  | .hbm, ⟨37, _⟩ => ⟨S2x4096x1, .f32⟩
  | .hbm, ⟨38, _⟩ => ⟨S2x4096x1, .f32⟩
  | .hbm, ⟨39, _⟩ => ⟨S2x4096x1024, .f32⟩
  | .hbm, ⟨40, _⟩ => ⟨S2x4096x1024, .f32⟩
  | .hbm, ⟨41, _⟩ => ⟨S1x1x1024, .f32⟩
  | .hbm, ⟨42, _⟩ => ⟨S2x4096x1024, .f32⟩
  | .hbm, ⟨43, _⟩ => ⟨S2x4096x1024, .f32⟩
  | .hbm, ⟨44, _⟩ => ⟨S2x4096x1024, .f32⟩
  | .hbm, ⟨45, _⟩ => ⟨S2x4096x1024, .f32⟩
  | .hbm, ⟨46, _⟩ => ⟨S2x4096x1024, .f32⟩
  | .hbm, ⟨47, _⟩ => ⟨S8192x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== Kernel3.lean ====
abbrev S30208x1024 : Shape := ⟨2, ![30208, 1024]⟩
abbrev S59 : Shape := ⟨1, ![59]⟩
abbrev S1x8x1024x1024 : Shape := ⟨4, ![1, 8, 1024, 1024]⟩
abbrev S8x1024x1024 : Shape := ⟨3, ![8, 1024, 1024]⟩
abbrev S512x1024 : Shape := ⟨2, ![512, 1024]⟩
abbrev S1x1024x1024 : Shape := ⟨3, ![1, 1024, 1024]⟩
abbrev S1 : Shape := ⟨1, ![1]⟩
abbrev S1024x1024 : Shape := ⟨2, ![1024, 1024]⟩

abbrev nBuf : Space → Nat
  | .hbm => 8
  | .vmem => 13
  | .smem => 2
  | _ => 0

abbrev bufTy : (tb : Table) → Fin (tcTables nBuf tb) → BufTy
  | .hbm, ⟨0, _⟩ => ⟨S30208x1024, .f32⟩
  | .hbm, ⟨1, _⟩ => ⟨S1x8x1024x1024, .f32⟩
  | .hbm, ⟨2, _⟩ => ⟨S1x8x1024x1024, .f32⟩
  | .hbm, ⟨3, _⟩ => ⟨S1x8x1024x1024, .f32⟩
  | .hbm, ⟨4, _⟩ => ⟨S8x1024x1024, .f32⟩
  | .hbm, ⟨5, _⟩ => ⟨S8x1024x1024, .f32⟩
  | .hbm, ⟨6, _⟩ => ⟨S8x1024x1024, .f32⟩
  | .hbm, ⟨7, _⟩ => ⟨S30208x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .smem, ⟨0, _⟩ => ⟨S59, .i32⟩
  | .local _ .smem, ⟨1, _⟩ => ⟨S59, .i32⟩
  | _, _ => ⟨S30208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![59], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v11 : Index := Scalar.indexCast arg0
  ![v11.toNat]
def k0_cond2 (v12 : BitVec 32) : BitVec 1 :=
  let c0_i32_2 : BitVec 32 := 0#32
  let v13 : BitVec 1 := Scalar.cmpi .sgt v12 c0_i32_2
  let v14 : BitVec 32 := Scalar.extui v13
  let c0_i32_3 : BitVec 32 := 0#32
  let v15 : BitVec 1 := Scalar.cmpi .ne v14 c0_i32_3
  v15

def k0_cond3 (v12 : BitVec 32) : BitVec 1 :=
  let c0_i32_4 : BitVec 32 := 0#32
  let v16 : BitVec 1 := Scalar.cmpi .eq v12 c0_i32_4
  let v17 : BitVec 32 := Scalar.extui v16
  let c0_i32_5 : BitVec 32 := 0#32
  let v18 : BitVec 1 := Scalar.cmpi .ne v17 c0_i32_5
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S59.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S59) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S59.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S59) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S59.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S59) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S30208x1024 : Shape := ⟨2, ![30208, 1024]⟩
abbrev S59 : Shape := ⟨1, ![59]⟩
abbrev S1x8x1024x1024 : Shape := ⟨4, ![1, 8, 1024, 1024]⟩
abbrev S59x512x1024 : Shape := ⟨3, ![59, 512, 1024]⟩
abbrev S_ : Shape := ⟨0, ![]⟩
abbrev S59x1x1 : Shape := ⟨3, ![59, 1, 1]⟩
abbrev S1x1x1024x1024 : Shape := ⟨4, ![1, 1, 1024, 1024]⟩
abbrev S1024x1024 : Shape := ⟨2, ![1024, 1024]⟩

abbrev nBuf : Space → Nat
  | .hbm => 242
  | .vmem => 0
  | .smem => 0
  | _ => 0

abbrev hbmTy0_0 (i : Nat) : BufTy := match i % 128 with
  | 0 => ⟨S30208x1024, .f32⟩
  | 1 => ⟨S59, .i32⟩
  | 2 => ⟨S59, .i32⟩
  | 3 => ⟨S1x8x1024x1024, .f32⟩
  | 4 => ⟨S1x8x1024x1024, .f32⟩
  | 5 => ⟨S1x8x1024x1024, .f32⟩
  | 6 => ⟨S59x512x1024, .f32⟩
  | 7 => ⟨S_, .f32⟩
  | 8 => ⟨S59x512x1024, .f32⟩
  | 9 => ⟨S_, .i32⟩
  | 10 => ⟨S59, .i32⟩
  | 11 => ⟨S59, .i1⟩
  | 12 => ⟨S_, .i32⟩
  | 13 => ⟨S59, .i32⟩
  | 14 => ⟨S59, .i1⟩
  | 15 => ⟨S59, .i1⟩
  | 16 => ⟨S59x1x1, .i1⟩
  | 17 => ⟨S1x1x1024x1024, .f32⟩
  | 18 => ⟨S1024x1024, .f32⟩
  | 19 => ⟨S1x1x1024x1024, .f32⟩
  | 20 => ⟨S1024x1024, .f32⟩
  | 21 => ⟨S1x1x1024x1024, .f32⟩
  | 22 => ⟨S1024x1024, .f32⟩
  | 23 => ⟨S59x512x1024, .f32⟩
  | 24 => ⟨S59x512x1024, .f32⟩
  | 25 => ⟨S59x512x1024, .f32⟩
  | 26 => ⟨S_, .f32⟩
  | 27 => ⟨S59x512x1024, .f32⟩
  | 28 => ⟨S59x512x1024, .f32⟩
  | 29 => ⟨S_, .f32⟩
  | 30 => ⟨S59x512x1024, .f32⟩
  | 31 => ⟨S59x512x1024, .f32⟩
  | 32 => ⟨S59x512x1024, .f32⟩
  | 33 => ⟨S59x512x1024, .f32⟩
  | 34 => ⟨S59x512x1024, .f32⟩
  | 35 => ⟨S59x512x1024, .f32⟩
  | 36 => ⟨S59x512x1024, .i1⟩
  | 37 => ⟨S59x512x1024, .f32⟩
  | 38 => ⟨S_, .i32⟩
  | 39 => ⟨S59, .i32⟩
  | 40 => ⟨S59, .i1⟩
  | 41 => ⟨S_, .i32⟩
  | 42 => ⟨S59, .i32⟩
  | 43 => ⟨S59, .i1⟩
  | 44 => ⟨S59, .i1⟩
  | 45 => ⟨S59x1x1, .i1⟩
  | 46 => ⟨S1x1x1024x1024, .f32⟩
  | 47 => ⟨S1024x1024, .f32⟩
  | 48 => ⟨S1x1x1024x1024, .f32⟩
  | 49 => ⟨S1024x1024, .f32⟩
  | 50 => ⟨S1x1x1024x1024, .f32⟩
  | 51 => ⟨S1024x1024, .f32⟩
  | 52 => ⟨S59x512x1024, .f32⟩
  | 53 => ⟨S59x512x1024, .f32⟩
  | 54 => ⟨S59x512x1024, .f32⟩
  | 55 => ⟨S_, .f32⟩
  | 56 => ⟨S59x512x1024, .f32⟩
  | 57 => ⟨S59x512x1024, .f32⟩
  | 58 => ⟨S_, .f32⟩
  | 59 => ⟨S59x512x1024, .f32⟩
  | 60 => ⟨S59x512x1024, .f32⟩
  | 61 => ⟨S59x512x1024, .f32⟩
  | 62 => ⟨S59x512x1024, .f32⟩
  | 63 => ⟨S59x512x1024, .f32⟩
  | 64 => ⟨S59x512x1024, .f32⟩
  | 65 => ⟨S59x512x1024, .i1⟩
  | 66 => ⟨S59x512x1024, .f32⟩
  | 67 => ⟨S_, .i32⟩
  | 68 => ⟨S59, .i32⟩
  | 69 => ⟨S59, .i1⟩
  | 70 => ⟨S_, .i32⟩
  | 71 => ⟨S59, .i32⟩
  | 72 => ⟨S59, .i1⟩
  | 73 => ⟨S59, .i1⟩
  | 74 => ⟨S59x1x1, .i1⟩
  | 75 => ⟨S1x1x1024x1024, .f32⟩
  | 76 => ⟨S1024x1024, .f32⟩
  | 77 => ⟨S1x1x1024x1024, .f32⟩
  | 78 => ⟨S1024x1024, .f32⟩
  | 79 => ⟨S1x1x1024x1024, .f32⟩
  | 80 => ⟨S1024x1024, .f32⟩
  | 81 => ⟨S59x512x1024, .f32⟩
  | 82 => ⟨S59x512x1024, .f32⟩
  | 83 => ⟨S59x512x1024, .f32⟩
  | 84 => ⟨S_, .f32⟩
  | 85 => ⟨S59x512x1024, .f32⟩
  | 86 => ⟨S59x512x1024, .f32⟩
  | 87 => ⟨S_, .f32⟩
  | 88 => ⟨S59x512x1024, .f32⟩
  | 89 => ⟨S59x512x1024, .f32⟩
  | 90 => ⟨S59x512x1024, .f32⟩
  | 91 => ⟨S59x512x1024, .f32⟩
  | 92 => ⟨S59x512x1024, .f32⟩
  | 93 => ⟨S59x512x1024, .f32⟩
  | 94 => ⟨S59x512x1024, .i1⟩
  | 95 => ⟨S59x512x1024, .f32⟩
  | 96 => ⟨S_, .i32⟩
  | 97 => ⟨S59, .i32⟩
  | 98 => ⟨S59, .i1⟩
  | 99 => ⟨S_, .i32⟩
  | 100 => ⟨S59, .i32⟩
  | 101 => ⟨S59, .i1⟩
  | 102 => ⟨S59, .i1⟩
  | 103 => ⟨S59x1x1, .i1⟩
  | 104 => ⟨S1x1x1024x1024, .f32⟩
  | 105 => ⟨S1024x1024, .f32⟩
  | 106 => ⟨S1x1x1024x1024, .f32⟩
  | 107 => ⟨S1024x1024, .f32⟩
  | 108 => ⟨S1x1x1024x1024, .f32⟩
  | 109 => ⟨S1024x1024, .f32⟩
  | 110 => ⟨S59x512x1024, .f32⟩
  | 111 => ⟨S59x512x1024, .f32⟩
  | 112 => ⟨S59x512x1024, .f32⟩
  | 113 => ⟨S_, .f32⟩
  | 114 => ⟨S59x512x1024, .f32⟩
  | 115 => ⟨S59x512x1024, .f32⟩
  | 116 => ⟨S_, .f32⟩
  | 117 => ⟨S59x512x1024, .f32⟩
  | 118 => ⟨S59x512x1024, .f32⟩
  | 119 => ⟨S59x512x1024, .f32⟩
  | 120 => ⟨S59x512x1024, .f32⟩
  | 121 => ⟨S59x512x1024, .f32⟩
  | 122 => ⟨S59x512x1024, .f32⟩
  | 123 => ⟨S59x512x1024, .i1⟩
  | 124 => ⟨S59x512x1024, .f32⟩
  | 125 => ⟨S_, .i32⟩
  | 126 => ⟨S59, .i32⟩
  | 127 => ⟨S59, .i1⟩
  | _ => ⟨S30208x1024, .f32⟩

abbrev hbmTy0_1 (i : Nat) : BufTy := match i % 128 with
  | 0 => ⟨S_, .i32⟩
  | 1 => ⟨S59, .i32⟩
  | 2 => ⟨S59, .i1⟩
  | 3 => ⟨S59, .i1⟩
  | 4 => ⟨S59x1x1, .i1⟩
  | 5 => ⟨S1x1x1024x1024, .f32⟩
  | 6 => ⟨S1024x1024, .f32⟩
  | 7 => ⟨S1x1x1024x1024, .f32⟩
  | 8 => ⟨S1024x1024, .f32⟩
  | 9 => ⟨S1x1x1024x1024, .f32⟩
  | 10 => ⟨S1024x1024, .f32⟩
  | 11 => ⟨S59x512x1024, .f32⟩
  | 12 => ⟨S59x512x1024, .f32⟩
  | 13 => ⟨S59x512x1024, .f32⟩
  | 14 => ⟨S_, .f32⟩
  | 15 => ⟨S59x512x1024, .f32⟩
  | 16 => ⟨S59x512x1024, .f32⟩
  | 17 => ⟨S_, .f32⟩
  | 18 => ⟨S59x512x1024, .f32⟩
  | 19 => ⟨S59x512x1024, .f32⟩
  | 20 => ⟨S59x512x1024, .f32⟩
  | 21 => ⟨S59x512x1024, .f32⟩
  | 22 => ⟨S59x512x1024, .f32⟩
  | 23 => ⟨S59x512x1024, .f32⟩
  | 24 => ⟨S59x512x1024, .i1⟩
  | 25 => ⟨S59x512x1024, .f32⟩
  | 26 => ⟨S_, .i32⟩
  | 27 => ⟨S59, .i32⟩
  | 28 => ⟨S59, .i1⟩
  | 29 => ⟨S_, .i32⟩
  | 30 => ⟨S59, .i32⟩
  | 31 => ⟨S59, .i1⟩
  | 32 => ⟨S59, .i1⟩
  | 33 => ⟨S59x1x1, .i1⟩
  | 34 => ⟨S1x1x1024x1024, .f32⟩
  | 35 => ⟨S1024x1024, .f32⟩
  | 36 => ⟨S1x1x1024x1024, .f32⟩
  | 37 => ⟨S1024x1024, .f32⟩
  | 38 => ⟨S1x1x1024x1024, .f32⟩
  | 39 => ⟨S1024x1024, .f32⟩
  | 40 => ⟨S59x512x1024, .f32⟩
  | 41 => ⟨S59x512x1024, .f32⟩
  | 42 => ⟨S59x512x1024, .f32⟩
  | 43 => ⟨S_, .f32⟩
  | 44 => ⟨S59x512x1024, .f32⟩
  | 45 => ⟨S59x512x1024, .f32⟩
  | 46 => ⟨S_, .f32⟩
  | 47 => ⟨S59x512x1024, .f32⟩
  | 48 => ⟨S59x512x1024, .f32⟩
  | 49 => ⟨S59x512x1024, .f32⟩
  | 50 => ⟨S59x512x1024, .f32⟩
  | 51 => ⟨S59x512x1024, .f32⟩
  | 52 => ⟨S59x512x1024, .f32⟩
  | 53 => ⟨S59x512x1024, .i1⟩
  | 54 => ⟨S59x512x1024, .f32⟩
  | 55 => ⟨S_, .i32⟩
  | 56 => ⟨S59, .i32⟩
  | 57 => ⟨S59, .i1⟩
  | 58 => ⟨S_, .i32⟩
  | 59 => ⟨S59, .i32⟩
  | 60 => ⟨S59, .i1⟩
  | 61 => ⟨S59, .i1⟩
  | 62 => ⟨S59x1x1, .i1⟩
  | 63 => ⟨S1x1x1024x1024, .f32⟩
  | 64 => ⟨S1024x1024, .f32⟩
  | 65 => ⟨S1x1x1024x1024, .f32⟩
  | 66 => ⟨S1024x1024, .f32⟩
  | 67 => ⟨S1x1x1024x1024, .f32⟩
  | 68 => ⟨S1024x1024, .f32⟩
  | 69 => ⟨S59x512x1024, .f32⟩
  | 70 => ⟨S59x512x1024, .f32⟩
  | 71 => ⟨S59x512x1024, .f32⟩
  | 72 => ⟨S_, .f32⟩
  | 73 => ⟨S59x512x1024, .f32⟩
  | 74 => ⟨S59x512x1024, .f32⟩
  | 75 => ⟨S_, .f32⟩
  | 76 => ⟨S59x512x1024, .f32⟩
  | 77 => ⟨S59x512x1024, .f32⟩
  | 78 => ⟨S59x512x1024, .f32⟩
  | 79 => ⟨S59x512x1024, .f32⟩
  | 80 => ⟨S59x512x1024, .f32⟩
  | 81 => ⟨S59x512x1024, .f32⟩
  | 82 => ⟨S59x512x1024, .i1⟩
  | 83 => ⟨S59x512x1024, .f32⟩
  | 84 => ⟨S_, .i32⟩
  | 85 => ⟨S59, .i32⟩
  | 86 => ⟨S59, .i1⟩
  | 87 => ⟨S_, .i32⟩
  | 88 => ⟨S59, .i32⟩
  | 89 => ⟨S59, .i1⟩
  | 90 => ⟨S59, .i1⟩
  | 91 => ⟨S59x1x1, .i1⟩
  | 92 => ⟨S1x1x1024x1024, .f32⟩
  | 93 => ⟨S1024x1024, .f32⟩
  | 94 => ⟨S1x1x1024x1024, .f32⟩
  | 95 => ⟨S1024x1024, .f32⟩
  | 96 => ⟨S1x1x1024x1024, .f32⟩
  | 97 => ⟨S1024x1024, .f32⟩
  | 98 => ⟨S59x512x1024, .f32⟩
  | 99 => ⟨S59x512x1024, .f32⟩
  | 100 => ⟨S59x512x1024, .f32⟩
  | 101 => ⟨S_, .f32⟩
  | 102 => ⟨S59x512x1024, .f32⟩
  | 103 => ⟨S59x512x1024, .f32⟩
  | 104 => ⟨S_, .f32⟩
  | 105 => ⟨S59x512x1024, .f32⟩
  | 106 => ⟨S59x512x1024, .f32⟩
  | 107 => ⟨S59x512x1024, .f32⟩
  | 108 => ⟨S59x512x1024, .f32⟩
  | 109 => ⟨S59x512x1024, .f32⟩
  | 110 => ⟨S59x512x1024, .f32⟩
  | 111 => ⟨S59x512x1024, .i1⟩
  | 112 => ⟨S59x512x1024, .f32⟩
  | 113 => ⟨S30208x1024, .f32⟩
  | _ => ⟨S30208x1024, .f32⟩

abbrev hbmTy (i : Nat) : BufTy := match i / 128 with
  | 0 => hbmTy0_0 i
  | 1 => hbmTy0_1 i
  | _ => ⟨S30208x1024, .f32⟩

abbrev bufTy : (tb : Table) → Fin (tcTables nBuf tb) → BufTy
  | .hbm, ⟨i, _⟩ => hbmTy i
  | _, _ => ⟨S30208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call1_v0 : Ref sig .tc := ⟨.hbm, 36, rfl⟩
abbrev main_v19 : Ref sig .tc := ⟨.hbm, 37, rfl⟩
abbrev main_c_1 : Ref sig .tc := ⟨.hbm, 38, rfl⟩
abbrev main_v20 : Ref sig .tc := ⟨.hbm, 39, rfl⟩
abbrev main_v21 : Ref sig .tc := ⟨.hbm, 40, rfl⟩
abbrev main_c_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call2_v0 : Ref sig .tc := ⟨.hbm, 53, rfl⟩
abbrev main_call2_v1 : Ref sig .tc := ⟨.hbm, 54, rfl⟩
abbrev main_call2_cst : Ref sig .tc := ⟨.hbm, 55, rfl⟩
abbrev main_call2_v2 : Ref sig .tc := ⟨.hbm, 56, rfl⟩
abbrev main_call2_v3 : Ref sig .tc := ⟨.hbm, 57, rfl⟩
abbrev main_call2_cst_0 : Ref sig .tc := ⟨.hbm, 58, rfl⟩
abbrev main_call2_v4 : Ref sig .tc := ⟨.hbm, 59, rfl⟩
abbrev main_call2_v5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_call3_v0 : Ref sig .tc := ⟨.hbm, 65, rfl⟩
abbrev main_v37 : Ref sig .tc := ⟨.hbm, 66, rfl⟩
abbrev main_c_3 : Ref sig .tc := ⟨.hbm, 67, rfl⟩
abbrev main_v38 : Ref sig .tc := ⟨.hbm, 68, rfl⟩
abbrev main_v39 : Ref sig .tc := ⟨.hbm, 69, rfl⟩
abbrev main_c_4 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_call4_v0 : Ref sig .tc := ⟨.hbm, 82, rfl⟩
abbrev main_call4_v1 : Ref sig .tc := ⟨.hbm, 83, rfl⟩
abbrev main_call4_cst : Ref sig .tc := ⟨.hbm, 84, rfl⟩
abbrev main_call4_v2 : Ref sig .tc := ⟨.hbm, 85, rfl⟩
abbrev main_call4_v3 : Ref sig .tc := ⟨.hbm, 86, rfl⟩
abbrev main_call4_cst_0 : Ref sig .tc := ⟨.hbm, 87, rfl⟩
abbrev main_call4_v4 : Ref sig .tc := ⟨.hbm, 88, rfl⟩
abbrev main_call4_v5 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_call5_v0 : Ref sig .tc := ⟨.hbm, 94, rfl⟩
abbrev main_v55 : Ref sig .tc := ⟨.hbm, 95, rfl⟩
abbrev main_c_5 : Ref sig .tc := ⟨.hbm, 96, rfl⟩
abbrev main_v56 : Ref sig .tc := ⟨.hbm, 97, rfl⟩
abbrev main_v57 : Ref sig .tc := ⟨.hbm, 98, rfl⟩
abbrev main_c_6 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_call6_v0 : Ref sig .tc := ⟨.hbm, 111, rfl⟩
abbrev main_call6_v1 : Ref sig .tc := ⟨.hbm, 112, rfl⟩
abbrev main_call6_cst : Ref sig .tc := ⟨.hbm, 113, rfl⟩
abbrev main_call6_v2 : Ref sig .tc := ⟨.hbm, 114, rfl⟩
abbrev main_call6_v3 : Ref sig .tc := ⟨.hbm, 115, rfl⟩
abbrev main_call6_cst_0 : Ref sig .tc := ⟨.hbm, 116, rfl⟩
abbrev main_call6_v4 : Ref sig .tc := ⟨.hbm, 117, rfl⟩
abbrev main_call6_v5 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_call7_v0 : Ref sig .tc := ⟨.hbm, 123, rfl⟩
abbrev main_v73 : Ref sig .tc := ⟨.hbm, 124, rfl⟩
abbrev main_c_7 : Ref sig .tc := ⟨.hbm, 125, rfl⟩
abbrev main_v74 : Ref sig .tc := ⟨.hbm, 126, rfl⟩
abbrev main_v75 : Ref sig .tc := ⟨.hbm, 127, rfl⟩
abbrev main_c_8 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_call8_v0 : Ref sig .tc := ⟨.hbm, 140, rfl⟩
abbrev main_call8_v1 : Ref sig .tc := ⟨.hbm, 141, rfl⟩
abbrev main_call8_cst : Ref sig .tc := ⟨.hbm, 142, rfl⟩
abbrev main_call8_v2 : Ref sig .tc := ⟨.hbm, 143, rfl⟩
abbrev main_call8_v3 : Ref sig .tc := ⟨.hbm, 144, rfl⟩
abbrev main_call8_cst_0 : Ref sig .tc := ⟨.hbm, 145, rfl⟩
abbrev main_call8_v4 : Ref sig .tc := ⟨.hbm, 146, rfl⟩
abbrev main_call8_v5 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_call9_v0 : Ref sig .tc := ⟨.hbm, 152, rfl⟩
abbrev main_v91 : Ref sig .tc := ⟨.hbm, 153, rfl⟩
abbrev main_c_9 : Ref sig .tc := ⟨.hbm, 154, rfl⟩
abbrev main_v92 : Ref sig .tc := ⟨.hbm, 155, rfl⟩
abbrev main_v93 : Ref sig .tc := ⟨.hbm, 156, rfl⟩
abbrev main_c_10 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_call10_v0 : Ref sig .tc := ⟨.hbm, 169, rfl⟩
abbrev main_call10_v1 : Ref sig .tc := ⟨.hbm, 170, rfl⟩
abbrev main_call10_cst : Ref sig .tc := ⟨.hbm, 171, rfl⟩
abbrev main_call10_v2 : Ref sig .tc := ⟨.hbm, 172, rfl⟩
abbrev main_call10_v3 : Ref sig .tc := ⟨.hbm, 173, rfl⟩
abbrev main_call10_cst_0 : Ref sig .tc := ⟨.hbm, 174, rfl⟩
abbrev main_call10_v4 : Ref sig .tc := ⟨.hbm, 175, rfl⟩
abbrev main_call10_v5 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_call11_v0 : Ref sig .tc := ⟨.hbm, 181, rfl⟩
abbrev main_v109 : Ref sig .tc := ⟨.hbm, 182, rfl⟩
abbrev main_c_11 : Ref sig .tc := ⟨.hbm, 183, rfl⟩
abbrev main_v110 : Ref sig .tc := ⟨.hbm, 184, rfl⟩
abbrev main_v111 : Ref sig .tc := ⟨.hbm, 185, rfl⟩
abbrev main_c_12 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_call12_v0 : Ref sig .tc := ⟨.hbm, 198, rfl⟩
abbrev main_call12_v1 : Ref sig .tc := ⟨.hbm, 199, rfl⟩
abbrev main_call12_cst : Ref sig .tc := ⟨.hbm, 200, rfl⟩
abbrev main_call12_v2 : Ref sig .tc := ⟨.hbm, 201, rfl⟩
abbrev main_call12_v3 : Ref sig .tc := ⟨.hbm, 202, rfl⟩
abbrev main_call12_cst_0 : Ref sig .tc := ⟨.hbm, 203, rfl⟩
abbrev main_call12_v4 : Ref sig .tc := ⟨.hbm, 204, rfl⟩
abbrev main_call12_v5 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_call13_v0 : Ref sig .tc := ⟨.hbm, 210, rfl⟩
abbrev main_v127 : Ref sig .tc := ⟨.hbm, 211, rfl⟩
abbrev main_c_13 : Ref sig .tc := ⟨.hbm, 212, rfl⟩
abbrev main_v128 : Ref sig .tc := ⟨.hbm, 213, rfl⟩
abbrev main_v129 : Ref sig .tc := ⟨.hbm, 214, rfl⟩
abbrev main_c_14 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_call14_v0 : Ref sig .tc := ⟨.hbm, 227, rfl⟩
abbrev main_call14_v1 : Ref sig .tc := ⟨.hbm, 228, rfl⟩
abbrev main_call14_cst : Ref sig .tc := ⟨.hbm, 229, rfl⟩
abbrev main_call14_v2 : Ref sig .tc := ⟨.hbm, 230, rfl⟩
abbrev main_call14_v3 : Ref sig .tc := ⟨.hbm, 231, rfl⟩
abbrev main_call14_cst_0 : Ref sig .tc := ⟨.hbm, 232, rfl⟩
abbrev main_call14_v4 : Ref sig .tc := ⟨.hbm, 233, rfl⟩
abbrev main_call14_v5 : Ref sig .tc := ⟨.hbm, 234, rfl⟩
abbrev main_v141 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_call15_v0 : Ref sig .tc := ⟨.hbm, 239, rfl⟩
abbrev main_v145 : Ref sig .tc := ⟨.hbm, 240, rfl⟩
abbrev main_v146 : Ref sig .tc := ⟨.hbm, 241, rfl⟩

abbrev nD : Nat := 1
abbrev τ : Topo := Topo.v7x

variable {F : FTy → Type} [FloatOps F]
-- ==== Kernel4.lean ====
abbrev S16x256x1024 : Shape := ⟨3, ![16, 256, 1024]⟩
abbrev S2x8x6144 : Shape := ⟨3, ![2, 8, 6144]⟩
abbrev S2x1024 : Shape := ⟨2, ![2, 1024]⟩
abbrev S1x1024x2816 : Shape := ⟨3, ![1, 1024, 2816]⟩
abbrev S1x2816x1024 : Shape := ⟨3, ![1, 2816, 1024]⟩
abbrev S4096x1024 : Shape := ⟨2, ![4096, 1024]⟩
abbrev S1x1024 : Shape := ⟨2, ![1, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1x8x1024 : Shape := ⟨3, ![1, 8, 1024]⟩
abbrev S512x2816 : Shape := ⟨2, ![512, 2816]⟩
abbrev S1x1x1024 : Shape := ⟨3, ![1, 1, 1024]⟩
abbrev S512 : Shape := ⟨1, ![512]⟩
abbrev S512x1 : Shape := ⟨2, ![512, 1]⟩

abbrev nBuf : Space → Nat
  | .hbm => 20
  | .vmem => 11
  | .smem => 0
  | _ => 0

abbrev bufTy : (tb : Table) → Fin (tcTables nBuf tb) → BufTy
  | .hbm, ⟨0, _⟩ => ⟨S16x256x1024, .f32⟩
  | .hbm, ⟨1, _⟩ => ⟨S16x256x1024, .f32⟩
  | .hbm, ⟨2, _⟩ => ⟨S2x8x6144, .f32⟩
  | .hbm, ⟨3, _⟩ => ⟨S2x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S4096x1024, .f32⟩
  | .hbm, ⟨8, _⟩ => ⟨S4096x1024, .bf16⟩
  | .hbm, ⟨9, _⟩ => ⟨S4096x1024, .f32⟩
  | .hbm, ⟨10, _⟩ => ⟨S1x1024, .f32⟩
  | .hbm, ⟨11, _⟩ => ⟨S1024, .f32⟩
  | .hbm, ⟨12, _⟩ => ⟨S1024x2816, .f32⟩
  | .hbm, ⟨13, _⟩ => ⟨S1024x2816, .bf16⟩
  | .hbm, ⟨14, _⟩ => ⟨S1024x2816, .f32⟩
  | .hbm, ⟨15, _⟩ => ⟨S1024x2816, .bf16⟩
  | .hbm, ⟨16, _⟩ => ⟨S2816x1024, .f32⟩
  | .hbm, ⟨17, _⟩ => ⟨S2816x1024, .bf16⟩
  | .hbm, ⟨18, _⟩ => ⟨S1x1024, .f32⟩
  | .hbm, ⟨19, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x8x1024, .f32⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16x256x1024 : Shape := ⟨3, ![16, 256, 1024]⟩
abbrev S2x8x6144 : Shape := ⟨3, ![2, 8, 6144]⟩
abbrev S2x1024 : Shape := ⟨2, ![2, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S16x256x2816 : Shape := ⟨3, ![16, 256, 2816]⟩
abbrev S_ : Shape := ⟨0, ![]⟩
abbrev S1x1x1024 : Shape := ⟨3, ![1, 1, 1024]⟩
abbrev S1x1024 : Shape := ⟨2, ![1, 1024]⟩
abbrev S1024 : Shape := ⟨1, ![1024]⟩
abbrev S16x256 : Shape := ⟨2, ![16, 256]⟩
abbrev S16x256x1 : Shape := ⟨3, ![16, 256, 1]⟩
abbrev S4096x1024 : Shape := ⟨2, ![4096, 1024]⟩

abbrev nBuf : Space → Nat
  | .hbm => 48
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S16x256x1024, .f32⟩
  | .hbm, ⟨2, _⟩ => ⟨S2x8x6144, .f32⟩
  | .hbm, ⟨3, _⟩ => ⟨S2x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S16x256x2816, .f32⟩
  | .hbm, ⟨11, _⟩ => ⟨S16x256x2816, .f32⟩
  | .hbm, ⟨12, _⟩ => ⟨S16x256x2816, .f32⟩
  | .hbm, ⟨13, _⟩ => ⟨S_, .f32⟩
  | .hbm, ⟨14, _⟩ => ⟨S16x256x2816, .f32⟩
  | .hbm, ⟨15, _⟩ => ⟨S16x256x2816, .f32⟩
  | .hbm, ⟨16, _⟩ => ⟨S_, .f32⟩
  | .hbm, ⟨17, _⟩ => ⟨S16x256x2816, .f32⟩
  | .hbm, ⟨18, _⟩ => ⟨S16x256x2816, .f32⟩
  | .hbm, ⟨19, _⟩ => ⟨S16x256x2816, .f32⟩
  | .hbm, ⟨20, _⟩ => ⟨S16x256x2816, .f32⟩
  | .hbm, ⟨21, _⟩ => ⟨S16x256x2816, .f32⟩
  | .hbm, ⟨22, _⟩ => ⟨S16x256x1024, .f32⟩
  | .hbm, ⟨23, _⟩ => ⟨S1x1x1024, .f32⟩
  | .hbm, ⟨24, _⟩ => ⟨S1x1024, .f32⟩
  | .hbm, ⟨25, _⟩ => ⟨S1x1x1024, .f32⟩
  | .hbm, ⟨26, _⟩ => ⟨S1x1024, .f32⟩
  | .hbm, ⟨27, _⟩ => ⟨S1024, .f32⟩
  | .hbm, ⟨28, _⟩ => ⟨S16x256x1024, .f32⟩
  | .hbm, ⟨29, _⟩ => ⟨S_, .f32⟩
  | .hbm, ⟨30, _⟩ => ⟨S16x256, .f32⟩
  | .hbm, ⟨31, _⟩ => ⟨S16x256x1, .f32⟩
  | .hbm, ⟨32, _⟩ => ⟨S_, .f32⟩
  | .hbm, ⟨33, _⟩ => ⟨S16x256x1, .f32⟩
  | .hbm, ⟨34, _⟩ => ⟨S16x256x1, .f32⟩
  | .hbm, ⟨35, _⟩ => ⟨S_, .f32⟩
  | .hbm, ⟨36, _⟩ => ⟨S16x256x1, .f32⟩
  | .hbm, ⟨37, _⟩ => ⟨S16x256x1, .f32⟩
  | .hbm, ⟨38, _⟩ => ⟨S16x256x1, .f32⟩
  | .hbm, ⟨39, _⟩ => ⟨S16x256x1024, .f32⟩
  | .hbm, ⟨40, _⟩ => ⟨S16x256x1024, .f32⟩
  | .hbm, ⟨41, _⟩ => ⟨S1x1x1024, .f32⟩
  | .hbm, ⟨42, _⟩ => ⟨S16x256x1024, .f32⟩
  | .hbm, ⟨43, _⟩ => ⟨S16x256x1024, .f32⟩
  | .hbm, ⟨44, _⟩ => ⟨S16x256x1024, .f32⟩
  | .hbm, ⟨45, _⟩ => ⟨S16x256x1024, .f32⟩
  | .hbm, ⟨46, _⟩ => ⟨S16x256x1024, .f32⟩
  | .hbm, ⟨47, _⟩ => ⟨S4096x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]
-- ==== Kernel5.lean ====
abbrev S2x4096x1024 : Shape := ⟨3, ![2, 4096, 1024]⟩
abbrev S2x8x6144 : Shape := ⟨3, ![2, 8, 6144]⟩
abbrev S2x1024 : Shape := ⟨2, ![2, 1024]⟩
abbrev S2x1024x2048 : Shape := ⟨3, ![2, 1024, 2048]⟩
abbrev S4096x64 : Shape := ⟨2, ![4096, 64]⟩
abbrev S_ : Shape := ⟨0, ![]⟩
abbrev S16 : Shape := ⟨1, ![16]⟩
abbrev S64 : Shape := ⟨1, ![64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x64 : Shape := ⟨2, ![1, 64]⟩
abbrev S8192x1024 : Shape := ⟨2, ![8192, 1024]⟩
abbrev S1x1024 : Shape := ⟨2, ![1, 1024]⟩
abbrev S1024 : Shape := ⟨1, ![1024]⟩
abbrev S1x1024x2048 : Shape := ⟨3, ![1, 1024, 2048]⟩
abbrev S1024x2048 : Shape := ⟨2, ![1024, 2048]⟩
abbrev S8192x1536 : Shape := ⟨2, ![8192, 1536]⟩
abbrev S8192x512 : Shape := ⟨2, ![8192, 512]⟩
abbrev S512x1024 : Shape := ⟨2, ![512, 1024]⟩
abbrev S1x8x1024 : Shape := ⟨3, ![1, 8, 1024]⟩
abbrev S512x128 : Shape := ⟨2, ![512, 128]⟩
abbrev S512x1536 : Shape := ⟨2, ![512, 1536]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩
abbrev S512x2048 : Shape := ⟨2, ![512, 2048]⟩

abbrev nBuf : Space → Nat
  | .hbm => 29
  | .vmem => 14
  | .smem => 0
  | _ => 0

abbrev bufTy : (tb : Table) → Fin (tcTables nBuf tb) → BufTy
  | .hbm, ⟨0, _⟩ => ⟨S2x4096x1024, .f32⟩
  | .hbm, ⟨1, _⟩ => ⟨S2x8x6144, .f32⟩
  | .hbm, ⟨2, _⟩ => ⟨S2x1024, .f32⟩
  | .hbm, ⟨3, _⟩ => ⟨S2x1024x2048, .f32⟩
  | .hbm, ⟨4, _⟩ => ⟨S4096x64, .f32⟩
  | .hbm, ⟨5, _⟩ => ⟨S4096x64, .f32⟩
  | .hbm, ⟨6, _⟩ => ⟨S_, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S64, .f32⟩
  | .hbm, ⟨11, _⟩ => ⟨S1x4096x1x64, .f32⟩
  | .hbm, ⟨12, _⟩ => ⟨S1x4096x2x64, .f32⟩
  | .hbm, ⟨13, _⟩ => ⟨S4096x128, .f32⟩
  | .hbm, ⟨14, _⟩ => ⟨S1x64, .f32⟩
  | .hbm, ⟨15, _⟩ => ⟨S4096x64, .f32⟩
  | .hbm, ⟨16, _⟩ => ⟨S4096x64, .f32⟩
  | .hbm, ⟨17, _⟩ => ⟨S1x4096x1x64, .f32⟩
  | .hbm, ⟨18, _⟩ => ⟨S1x4096x2x64, .f32⟩
  | .hbm, ⟨19, _⟩ => ⟨S4096x128, .f32⟩
  | .hbm, ⟨20, _⟩ => ⟨S8192x1024, .f32⟩
  | .hbm, ⟨21, _⟩ => ⟨S1x1024, .f32⟩
  | .hbm, ⟨22, _⟩ => ⟨S1024, .f32⟩
  | .hbm, ⟨23, _⟩ => ⟨S1x1024x2048, .f32⟩
  | .hbm, ⟨24, _⟩ => ⟨S1024x2048, .f32⟩
  | .hbm, ⟨25, _⟩ => ⟨S1024x2048, .bf16⟩
  | .hbm, ⟨26, _⟩ => ⟨S1x1024, .f32⟩
  | .hbm, ⟨27, _⟩ => ⟨S8192x1536, .bf16⟩
  | .hbm, ⟨28, _⟩ => ⟨S8192x512, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x2048, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1536, .bf16⟩
  | .local _ .vmem, ⟨11, _⟩ => ⟨S512x1536, .bf16⟩
  | .local _ .vmem, ⟨12, _⟩ => ⟨S512x512, .f32⟩
  | .local _ .vmem, ⟨13, _⟩ => ⟨S512x512, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let c0 : Index := 0#32
  let c1_i32 : BitVec 32 := 1#32
  let arg0 : BitVec 32 := BitVec.ofNat 32 (i 0).val
  let c8_i32 : BitVec 32 := 8#32
  let v0 : BitVec 32 := Scalar.divsi arg0 c8_i32
  let v1 : BitVec 32 := Scalar.addi c1_i32 v0
  let v2 : Index := Scalar.indexCast v1
  let c0_0 : Index := 0#32
  ![0, v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S2x4096x1024 : Shape := ⟨3, ![2, 4096, 1024]⟩
abbrev S2x8x6144 : Shape := ⟨3, ![2, 8, 6144]⟩
abbrev S2x1024 : Shape := ⟨2, ![2, 1024]⟩
abbrev S2x1024x2048 : Shape := ⟨3, ![2, 1024, 2048]⟩
abbrev S4096x64 : Shape := ⟨2, ![4096, 64]⟩
abbrev S1x2x1024 : Shape := ⟨3, ![1, 2, 1024]⟩
abbrev S2x1x1024 : Shape := ⟨3, ![2, 1, 1024]⟩
abbrev S1x1024 : Shape := ⟨2, ![1, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1x1024x2048 : Shape := ⟨3, ![1, 1024, 2048]⟩
abbrev S1024x2048 : Shape := ⟨2, ![1024, 2048]⟩
abbrev S2x4096x2048 : Shape := ⟨3, ![2, 4096, 2048]⟩
abbrev S2x4096x512 : Shape := ⟨3, ![2, 4096, 512]⟩
abbrev S2x4096x4x2x64 : Shape := ⟨5, ![2, 4096, 4, 2, 64]⟩
abbrev S2x4096x4x2x2x2x16 : Shape := ⟨7, ![2, 4096, 4, 2, 2, 2, 16]⟩
abbrev S2x4096x4x2x2x1x16 : Shape := ⟨7, ![2, 4096, 4, 2, 2, 1, 16]⟩
abbrev S2x4096x4x2x2x16 : Shape := ⟨6, ![2, 4096, 4, 2, 2, 16]⟩
abbrev S1x4096x1x1x64 : Shape := ⟨5, ![1, 4096, 1, 1, 64]⟩
abbrev S8192x512 : Shape := ⟨2, ![8192, 512]⟩
abbrev S8192x1536 : Shape := ⟨2, ![8192, 1536]⟩

abbrev nBuf : Space → Nat
  | .hbm => 86
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x8x6144, .f32⟩
  | .hbm, ⟨2, _⟩ => ⟨S2x1024, .f32⟩
  | .hbm, ⟨3, _⟩ => ⟨S2x1024x2048, .f32⟩
  | .hbm, ⟨4, _⟩ => ⟨S4096x64, .f32⟩
  | .hbm, ⟨5, _⟩ => ⟨S4096x64, .f32⟩
  | .hbm, ⟨6, _⟩ => ⟨S1x2x1024, .f32⟩
  | .hbm, ⟨7, _⟩ => ⟨S2x1024, .f32⟩
  | .hbm, ⟨8, _⟩ => ⟨S2x1x1024, .f32⟩
  | .hbm, ⟨9, _⟩ => ⟨S1x2x1024, .f32⟩
  | .hbm, ⟨10, _⟩ => ⟨S2x1024, .f32⟩
  | .hbm, ⟨11, _⟩ => ⟨S2x1x1024, .f32⟩
  | .hbm, ⟨12, _⟩ => ⟨S1x1024, .f32⟩
  | .hbm, ⟨13, _⟩ => ⟨S1024, .f32⟩
  | .hbm, ⟨14, _⟩ => ⟨S2x4096x1024, .f32⟩
  | .hbm, ⟨15, _⟩ => ⟨S_, .f32⟩
  | .hbm, ⟨16, _⟩ => ⟨S2x4096, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S2x4096x1, .f32⟩
  | .hbm, ⟨25, _⟩ => ⟨S2x4096x1024, .f32⟩
  | .hbm, ⟨26, _⟩ => ⟨S2x4096x1024, .f32⟩
  | .hbm, ⟨27, _⟩ => ⟨S1x1x1024, .f32⟩
  | .hbm, ⟨28, _⟩ => ⟨S2x4096x1024, .f32⟩
  | .hbm, ⟨29, _⟩ => ⟨S2x4096x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S2x4096x1024, .f32⟩
  | .hbm, ⟨37, _⟩ => ⟨S1x1024x2048, .f32⟩
  | .hbm, ⟨38, _⟩ => ⟨S1024x2048, .f32⟩
  | .hbm, ⟨39, _⟩ => ⟨S2x4096x2048, .f32⟩
  | .hbm, ⟨40, _⟩ => ⟨S2x4096x512, .f32⟩
  | .hbm, ⟨41, _⟩ => ⟨S2x4096x4x2x64, .f32⟩
  | .hbm, ⟨42, _⟩ => ⟨S2x4096x512, .f32⟩
  | .hbm, ⟨43, _⟩ => ⟨S2x4096x4x2x64, .f32⟩
  | .hbm, ⟨44, _⟩ => ⟨S2x4096x4x2x2x2x16, .f32⟩
  | .hbm, ⟨45, _⟩ => ⟨S2x4096x4x2x2x1x16, .f32⟩
  | .hbm, ⟨46, _⟩ => ⟨S2x4096x4x2x2x16, .f32⟩
  | .hbm, ⟨47, _⟩ => ⟨S2x4096x4x2x2x16, .f32⟩
  | .hbm, ⟨48, _⟩ => ⟨S2x4096x4x2x2x1x16, .f32⟩
  | .hbm, ⟨49, _⟩ => ⟨S2x4096x4x2x2x16, .f32⟩
  | .hbm, ⟨50, _⟩ => ⟨S2x4096x4x2x2x1x16, .f32⟩
  | .hbm, ⟨51, _⟩ => ⟨S2x4096x4x2x2x1x16, .f32⟩
  | .hbm, ⟨52, _⟩ => ⟨S2x4096x4x2x2x2x16, .f32⟩
  | .hbm, ⟨53, _⟩ => ⟨S2x4096x4x2x64, .f32⟩
  | .hbm, ⟨54, _⟩ => ⟨S1x4096x1x1x64, .f32⟩
  | .hbm, ⟨55, _⟩ => ⟨S2x4096x4x2x64, .f32⟩
  | .hbm, ⟨56, _⟩ => ⟨S2x4096x4x2x64, .f32⟩
  | .hbm, ⟨57, _⟩ => ⟨S1x4096x1x1x64, .f32⟩
  | .hbm, ⟨58, _⟩ => ⟨S2x4096x4x2x64, .f32⟩
  | .hbm, ⟨59, _⟩ => ⟨S2x4096x4x2x64, .f32⟩
  | .hbm, ⟨60, _⟩ => ⟨S2x4096x4x2x64, .f32⟩
  | .hbm, ⟨61, _⟩ => ⟨S8192x512, .f32⟩
  | .hbm, ⟨62, _⟩ => ⟨S2x4096x4x2x2x2x16, .f32⟩
  | .hbm, ⟨63, _⟩ => ⟨S2x4096x4x2x2x1x16, .f32⟩
  | .hbm, ⟨64, _⟩ => ⟨S2x4096x4x2x2x16, .f32⟩
  | .hbm, ⟨65, _⟩ => ⟨S2x4096x4x2x2x16, .f32⟩
  | .hbm, ⟨66, _⟩ => ⟨S2x4096x4x2x2x1x16, .f32⟩
  | .hbm, ⟨67, _⟩ => ⟨S2x4096x4x2x2x16, .f32⟩
  | .hbm, ⟨68, _⟩ => ⟨S2x4096x4x2x2x1x16, .f32⟩
  | .hbm, ⟨69, _⟩ => ⟨S2x4096x4x2x2x1x16, .f32⟩
  | .hbm, ⟨70, _⟩ => ⟨S2x4096x4x2x2x2x16, .f32⟩
  | .hbm, ⟨71, _⟩ => ⟨S2x4096x4x2x64, .f32⟩
  | .hbm, ⟨72, _⟩ => ⟨S1x4096x1x1x64, .f32⟩
  | .hbm, ⟨73, _⟩ => ⟨S2x4096x4x2x64, .f32⟩
  | .hbm, ⟨74, _⟩ => ⟨S2x4096x4x2x64, .f32⟩
  | .hbm, ⟨75, _⟩ => ⟨S1x4096x1x1x64, .f32⟩
  | .hbm, ⟨76, _⟩ => ⟨S2x4096x4x2x64, .f32⟩
  | .hbm, ⟨77, _⟩ => ⟨S2x4096x4x2x64, .f32⟩
  | .hbm, ⟨78, _⟩ => ⟨S2x4096x4x2x64, .f32⟩
  | .hbm, ⟨79, _⟩ => ⟨S8192x512, .f32⟩
  | .hbm, ⟨80, _⟩ => ⟨S2x4096x512, .f32⟩
  | .hbm, ⟨81, _⟩ => ⟨S8192x512, .f32⟩
  | .hbm, ⟨82, _⟩ => ⟨S8192x1536, .f32⟩
  | .hbm, ⟨83, _⟩ => ⟨S8192x1536, .bf16⟩
  | .hbm, ⟨84, _⟩ => ⟨S2x4096x512, .f32⟩
  | .hbm, ⟨85, _⟩ => ⟨S8192x512, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩

abbrev nD : Nat := 1
abbrev τ : Topo := Topo.v7x

variable {F : FTy → Type} [FloatOps F]
-- ==== Kernel6.lean ====
abbrev S2x4096x512 : Shape := ⟨3, ![2, 4096, 512]⟩
abbrev S2x4096x1024 : Shape := ⟨3, ![2, 4096, 1024]⟩
abbrev S2x8x6144 : Shape := ⟨3, ![2, 8, 6144]⟩
abbrev S2x1024 : Shape := ⟨2, ![2, 1024]⟩
abbrev S2x1024x1024 : Shape := ⟨3, ![2, 1024, 1024]⟩
abbrev S8192x512 : Shape := ⟨2, ![8192, 512]⟩
abbrev S8192x1024 : Shape := ⟨2, ![8192, 1024]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S1024x512 : Shape := ⟨2, ![1024, 512]⟩
abbrev S1x8x1024 : Shape := ⟨3, ![1, 8, 1024]⟩
abbrev S1x1x1024 : Shape := ⟨3, ![1, 1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 22
  | .vmem => 16
  | .smem => 0
  | _ => 0

abbrev bufTy : (tb : Table) → Fin (tcTables nBuf tb) → BufTy
  | .hbm, ⟨0, _⟩ => ⟨S2x4096x512, .f32⟩
  | .hbm, ⟨1, _⟩ => ⟨S2x4096x512, .f32⟩
  | .hbm, ⟨2, _⟩ => ⟨S2x4096x1024, .f32⟩
  | .hbm, ⟨3, _⟩ => ⟨S2x8x6144, .f32⟩
  | .hbm, ⟨4, _⟩ => ⟨S2x1024, .f32⟩
  | .hbm, ⟨5, _⟩ => ⟨S2x1024, .f32⟩
  | .hbm, ⟨6, _⟩ => ⟨S2x1024x1024, .f32⟩
  | .hbm, ⟨7, _⟩ => ⟨S8192x512, .f32⟩
  | .hbm, ⟨8, _⟩ => ⟨S8192x512, .bf16⟩
  | .hbm, ⟨9, _⟩ => ⟨S8192x512, .f32⟩
  | .hbm, ⟨10, _⟩ => ⟨S8192x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024x1024, .f32⟩
  | .hbm, ⟨16, _⟩ => ⟨S1024x1024, .f32⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S8192x1024, .f32⟩
  | .hbm, ⟨21, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S1024x1024, .f32⟩
  | .local _ .vmem, ⟨5, _⟩ => ⟨S1024x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x8x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let c0 : Index := 0#32
  let c1_i32 : BitVec 32 := 1#32
  let arg0 : BitVec 32 := BitVec.ofNat 32 (i 0).val
  let c4_i32 : BitVec 32 := 4#32
  let v0 : BitVec 32 := Scalar.divsi arg0 c4_i32
  let v1 : BitVec 32 := Scalar.addi c1_i32 v0
  let v2 : Index := Scalar.indexCast v1
  let c0_0 : Index := 0#32
  ![0, v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S2x4096x512 : Shape := ⟨3, ![2, 4096, 512]⟩
abbrev S2x4096x1024 : Shape := ⟨3, ![2, 4096, 1024]⟩
abbrev S2x8x6144 : Shape := ⟨3, ![2, 8, 6144]⟩
abbrev S2x1024 : Shape := ⟨2, ![2, 1024]⟩
abbrev S2x1024x1024 : Shape := ⟨3, ![2, 1024, 1024]⟩
abbrev S1x2x1024 : Shape := ⟨3, ![1, 2, 1024]⟩
abbrev S2x1x1024 : Shape := ⟨3, ![2, 1, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S2x4096x512, .f32⟩
  | .hbm, ⟨2, _⟩ => ⟨S2x4096x1024, .f32⟩
  | .hbm, ⟨3, _⟩ => ⟨S2x8x6144, .f32⟩
  | .hbm, ⟨4, _⟩ => ⟨S2x1024, .f32⟩
  | .hbm, ⟨5, _⟩ => ⟨S2x1024, .f32⟩
  | .hbm, ⟨6, _⟩ => ⟨S2x1024x1024, .f32⟩
  | .hbm, ⟨7, _⟩ => ⟨S1x2x1024, .f32⟩
  | .hbm, ⟨8, _⟩ => ⟨S2x1024, .f32⟩
  | .hbm, ⟨9, _⟩ => ⟨S2x1x1024, .f32⟩
  | .hbm, ⟨10, _⟩ => ⟨S1x2x1024, .f32⟩
  | .hbm, ⟨11, _⟩ => ⟨S2x1024, .f32⟩
  | .hbm, ⟨12, _⟩ => ⟨S2x1x1024, .f32⟩
  | .hbm, ⟨13, _⟩ => ⟨S1x2x1024, .f32⟩
  | .hbm, ⟨14, _⟩ => ⟨S2x1024, .f32⟩
  | .hbm, ⟨15, _⟩ => ⟨S2x1x1024, .f32⟩
  | .hbm, ⟨16, _⟩ => ⟨S2x4096x1024, .f32⟩
  | .hbm, ⟨17, _⟩ => ⟨S1x1024x1024, .f32⟩
  | .hbm, ⟨18, _⟩ => ⟨S1024x1024, .f32⟩
  | .hbm, ⟨19, _⟩ => ⟨S2x4096x1024, .f32⟩
  | .hbm, ⟨20, _⟩ => ⟨S1x1024, .f32⟩
  | .hbm, ⟨21, _⟩ => ⟨S1024, .f32⟩
  | .hbm, ⟨22, _⟩ => ⟨S2x4096x1024, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S_, .f32⟩
  | .hbm, ⟨27, _⟩ => ⟨S2x4096x1, .f32⟩
  | .hbm, ⟨28, _⟩ => ⟨S2x4096x1, .f32⟩
  | .hbm, ⟨29, _⟩ => ⟨S_, .f32⟩
  | .hbm, ⟨30, _⟩ => ⟨S2x4096x1, .f32⟩
  | .hbm, ⟨31, _⟩ => ⟨S2x4096x1, .f32⟩
  | .hbm, ⟨32, _⟩ => ⟨S2x4096x1, .f32⟩
  | .hbm, ⟨33, _⟩ => ⟨S2x4096x1024, .f32⟩
  | .hbm, ⟨34, _⟩ => ⟨S2x4096x1024, .f32⟩
  | .hbm, ⟨35, _⟩ => ⟨S1x1x1024, .f32⟩
  | .hbm, ⟨36, _⟩ => ⟨S2x4096x1024, .f32⟩
  | .hbm, ⟨37, _⟩ => ⟨S2x4096x1024, .f32⟩
  | .hbm, ⟨38, _⟩ => ⟨S2x4096x1024, .f32⟩
  | .hbm, ⟨39, _⟩ => ⟨S2x4096x1024, .f32⟩
  | .hbm, ⟨40, _⟩ => ⟨S2x4096x1024, .f32⟩
  | .hbm, ⟨41, _⟩ => ⟨S1x1024, .f32⟩
  | .hbm, ⟨42, _⟩ => ⟨S1024, .f32⟩
  | .hbm, ⟨43, _⟩ => ⟨S2x4096x1024, .f32⟩
  | .hbm, ⟨44, _⟩ => ⟨S_, .f32⟩
  | .hbm, ⟨45, _⟩ => ⟨S2x4096, .f32⟩
  | .hbm, ⟨46, _⟩ => ⟨S2x4096x1, .f32⟩
  | .hbm, ⟨47, _⟩ => ⟨S_, .f32⟩
  | .hbm, ⟨48, _⟩ => ⟨S2x4096x1, .f32⟩
  | .hbm, ⟨49, _⟩ => ⟨S2x4096x1, .f32⟩
  | .hbm, ⟨50, _⟩ => ⟨S_, .f32⟩
  | .hbm, ⟨51, _⟩ => ⟨S2x4096x1, .f32⟩
  | .hbm, ⟨52, _⟩ => ⟨S2x4096x1, .f32⟩
  | .hbm, ⟨53, _⟩ => ⟨S2x4096x1, .f32⟩
  | .hbm, ⟨54, _⟩ => ⟨S2x4096x1024, .f32⟩
  | .hbm, ⟨55, _⟩ => ⟨S2x4096x1024, .f32⟩
  | .hbm, ⟨56, _⟩ => ⟨S1x1x1024, .f32⟩
  | .hbm, ⟨57, _⟩ => ⟨S2x4096x1024, .f32⟩
  | .hbm, ⟨58, _⟩ => ⟨S2x4096x1024, .f32⟩
  | .hbm, ⟨59, _⟩ => ⟨S_, .f32⟩
  | .hbm, ⟨60, _⟩ => ⟨S2x1x1024, .f32⟩
  | .hbm, ⟨61, _⟩ => ⟨S2x1x1024, .f32⟩
  | .hbm, ⟨62, _⟩ => ⟨S2x4096x1024, .f32⟩
  | .hbm, ⟨63, _⟩ => ⟨S2x4096x1024, .f32⟩
  | .hbm, ⟨64, _⟩ => ⟨S2x4096x1024, .f32⟩
  | .hbm, ⟨65, _⟩ => ⟨S2x4096x1024, .f32⟩
  | .hbm, ⟨66, _⟩ => ⟨S8192x1024, .f32⟩
  | .hbm, ⟨67, _⟩ => ⟨S8192x1024, .f32⟩
  | .hbm, ⟨68, _⟩ => ⟨S8192x1024, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Proof.Lat.Half.lean ====
/- One half of a grid point's block (512 query rows), as one function of its queries, keys and values: the online softmax
   over three blocks of 1536 keys for the two stacked maps, their difference, and the normalisation of its rows. -/
module

public import proofs.«01_k».proof.Proof.Gen.KernelIdeal.Frame
public import Idealize.ShloMosaic.Lib.Pipeline.Value
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.Lat

open Cert.KernelIdeal Cert.KernelIdeal.Gen

/-- One number for each stacked row. -/
abbrev Rows1 := FVec Ideal S1024x1 .f32
/-- One number for each stacked row and each key of a chunk. -/
abbrev RowsK := FVec Ideal S1024x1536 .f32
/-- One number for each stacked row and each lane of the values. -/
abbrev RowsV := FVec Ideal S1024x128 .f32

/-- The scores of the stacked queries against one block of keys. -/
def score (qq : FVec Ideal S1024x128 .bf16) (k : Vec Ideal S1536x128 .bf16) : RowsK :=
  matmul (φ₂ := .bf16) dot_S1024x128_S1536x128_S1024x1536_1_1_0_0_n_n none qq k (constant S1024x1536 .f32 0x00000000#32)

/-- The running maximum after a block with scores `s`. -/
def mStep (m : Rows1) (s : RowsK) : Rows1 :=
  maximumf m (shapeCast S1024x1 (multiReduction .maximumf [1] S1024 s 0xFF800000#32 reduces_S1024x1536_S1024 (.inl rfl) rfl) shapeCasts_S1024_S1024x1)

/-- The factor that rescales what was summed under the maximum `m` to the maximum `m'`. -/
def aStep (m m' : Rows1) : Rows1 := exp2 (subf m m')

/-- The weights of a block under the maximum `m'`. -/
def pStep (s : RowsK) (m' : Rows1) : RowsK := exp2 (subf s (broadcastTo S1024x1536 m' broadcasts_S1024x1_S1024x1536))

/-- The running sum of the weights after a block. -/
def lStep (a l : Rows1) (p : RowsK) : Rows1 :=
  addf (mulf a l) (shapeCast S1024x1 (multiReduction .add [1] S1024 p 0x00000000#32 reduces_S1024x1536_S1024 (.inl rfl) rfl) shapeCasts_S1024_S1024x1)

/-- The running weighted sum of the values after a block. -/
def accStep (a : Rows1) (acc : RowsV) (p : RowsK) (v : Vec Ideal S1536x128 .bf16) : RowsV :=
  addf (mulf (broadcastTo S1024x128 a broadcasts_S1024x1_S1024x128) acc)
    (matmul (φ₂ := .bf16) dot_S1024x1536_S1536x128_S1024x128_1_0_0_1_n_n none (truncf .bf16 p bitsLt_bf16_f32) v (constant S1024x128 .f32 0x00000000#32))

/-- The online softmax of the stacked queries over three blocks of keys and values: the weighted sums over the sums. -/
def soft (qq : FVec Ideal S1024x128 .bf16) (k0 k1 k2 v0 v1 v2 : Vec Ideal S1536x128 .bf16) : RowsV :=
  let m0 := mStep k0_pay8 (score qq k0)
  let a0 := aStep k0_pay8 m0
  let p0 := pStep (score qq k0) m0
  let m1 := mStep m0 (score qq k1)
  let a1 := aStep m0 m1
  let p1 := pStep (score qq k1) m1
  let m2 := mStep m1 (score qq k2)
  let a2 := aStep m1 m2
  let p2 := pStep (score qq k2) m2
  divf (accStep a2 (accStep a1 (accStep a0 k0_pay26 p0 v0) p1 v1) p2 v2)
    (broadcastTo S1024x128 (lStep a2 (lStep a1 (lStep a0 k0_pay25 p0) p1) p2) broadcasts_S1024x1_S1024x128)

/-- The first map's rows less lambda times the second's. -/
def diffRows (lam : FVec Ideal S1x1 .f32) (o : RowsV) : FVec Ideal S512x128 .f32 :=
  subf (extractStridedSlice S512x128 ![0, 0] o slices_S1024x128_o0_0_S512x128)
    (mulf (broadcastTo S512x128 lam broadcasts_S1x1_S512x128) (extractStridedSlice S512x128 ![512, 0] o slices_S1024x128_o512_0_S512x128))

/-- The sums of the squares of the rows. -/
def sqRows (a : FVec Ideal S512x128 .f32) : FVec Ideal S512x1 .f32 :=
  shapeCast S512x1 (multiReduction .add [1] S512 (mulf a a) 0x00000000#32 reduces_S512x128_S512 (.inl rfl) rfl) shapeCasts_S512_S512x1

/-- One half of a point's block. -/
def half (lam : FVec Ideal S1x1 .f32) (g : Vec Ideal S1x1x128 .f32) (q : Vec Ideal S1x512x128 .bf16) (k0 k1 k2 v0 v1 v2 : Vec Ideal S1536x128 .bf16) :
    FVec Ideal S1x512x128 .bf16 :=
  k0_pay22 (k0_pay19 g) (diffRows lam (soft (k0_pay7 q) k0 k1 k2 v0 v1 v2)) (sqRows (diffRows lam (soft (k0_pay7 q) k0 k1 k2 v0 v1 v2)))
    (Scalar.ofBits .f32 0x43000000#32)

/-- The keys (or values) of the three blocks, out of all 4608. -/
def blk0 (x : Vec Ideal S4608x128 .bf16) : Vec Ideal S1536x128 .bf16 := View.ld x (Rect.unit ![0, 0] ![1536, 128] k0_part2_skel._proof_1)
/-- The second chunk of keys or values. -/
def blk1 (x : Vec Ideal S4608x128 .bf16) : Vec Ideal S1536x128 .bf16 := View.ld x (Rect.unit ![1536, 0] ![1536, 128] k0_part2_skel._proof_3)
/-- The third chunk of keys or values. -/
def blk2 (x : Vec Ideal S4608x128 .bf16) : Vec Ideal S1536x128 .bf16 := View.ld x (Rect.unit ![3072, 0] ![1536, 128] k0_part3_skel._proof_1)

/-- A point's block: the two halves of its query rows, each through `half` over all the keys and values. -/
def block (x0 : Vec Ideal S1x4x64 .f32) (x1 : Vec Ideal S1x1x128 .f32) (x2 : Vec Ideal S1x1024x128 .bf16) (kc vc : Vec Ideal S4608x128 .bf16) :
    Vec Ideal S1x1024x128 .bf16 :=
  View.canon [
    ⟨Rect.unit ![0, 512, 0] ![1, 512, 128] inb_S1x1024x128_S1x512x128_0_512_0,
      half (k0_pay6 x0) x1 (View.ld x2 (Rect.unit ![0, 512, 0] ![1, 512, 128] inb_S1x1024x128_S1x512x128_0_512_0))
        (blk0 kc) (blk1 kc) (blk2 kc) (blk0 vc) (blk1 vc) (blk2 vc)⟩,
    ⟨Rect.unit ![0, 0, 0] ![1, 512, 128] inb_S1x1024x128_S1x512x128_0_0_0,
      half (k0_pay6 x0) x1 (View.ld x2 (Rect.unit ![0, 0, 0] ![1, 512, 128] inb_S1x1024x128_S1x512x128_0_0_0))
        (blk0 kc) (blk1 kc) (blk2 kc) (blk0 vc) (blk1 vc) (blk2 vc)⟩]

/-- The cached block of 512 rows over the 4096 of this call's own. -/
def cat (xc : Vec Ideal S1x512x128 .bf16) (xl : Vec Ideal S1x4096x128 .bf16) : Vec Ideal S4608x128 .bf16 :=
  View.canon [⟨Rect.unit ![512, 0] ![4096, 128] inb_S4608x128_S4096x128_512_0, k0_pay3 xl⟩,
    ⟨Rect.unit ![0, 0] ![512, 128] inb_S4608x128_S512x128_0_0, k0_pay2 xc⟩]

/-- What a point that fills the scratch copies leaves there: the cached rows, then the new ones. -/
theorem cat_def (xc : Vec Ideal S1x512x128 .bf16) (xl : Vec Ideal S1x4096x128 .bf16) :
    View.canon [⟨Rect.unit ![512, 0] ![4096, 128] inb_S4608x128_S4096x128_512_0, k0_pay3 xl⟩,
    ⟨Rect.unit ![0, 0] ![512, 128] inb_S4608x128_S512x128_0_0, k0_pay2 xc⟩] = cat xc xl := rfl

/-- The same, as the second scratch copy states it. -/
theorem cat_def' (xc : Vec Ideal S1x512x128 .bf16) (xl : Vec Ideal S1x4096x128 .bf16) :
    View.canon [⟨Rect.unit ![512, 0] ![4096, 128] inb_S4608x128_S4096x128_512_0, k0_pay5 xl⟩,
    ⟨Rect.unit ![0, 0] ![512, 128] inb_S4608x128_S512x128_0_0, k0_pay4 xc⟩] = cat xc xl := rfl

/-- A block, written as a reading at the placed index. -/
theorem blk0_def (x : Vec Ideal S4608x128 .bf16) :
    (fun j => x ((Rect.unit ![0, 0] ![1536, 128] k0_part2_skel._proof_1).idx j)) = blk0 x := by
  unfold blk0 View.ld; rfl

/-- The second chunk is what the body loads at row 1536. -/
theorem blk1_def (x : Vec Ideal S4608x128 .bf16) :
    (fun j => x ((Rect.unit ![1536, 0] ![1536, 128] k0_part2_skel._proof_3).idx j)) = blk1 x := by
  unfold blk1 View.ld; rfl

/-- The third chunk is what the body loads at row 3072. -/
theorem blk2_def (x : Vec Ideal S4608x128 .bf16) :
    (fun j => x ((Rect.unit ![3072, 0] ![1536, 128] k0_part3_skel._proof_1).idx j)) = blk2 x := by
  unfold blk2 View.ld; rfl

/-- The place of a window's only block is the origin. -/
theorem hz3 : (![0, 0, 0] : Fin 3 → Nat) = fun _ => 0 := funext fun a => by fin_cases a <;> rfl

section
variable (c : Dev nD) (i : grid0.Coords) (arg3 : Memref sig .tc .vmem S1x4x64 .f32) (harg3 : arg3.IsWhole) (arg4 : Memref sig .tc .vmem S1x1x128 .f32) (harg4 : arg4.IsWhole) (arg5 : Memref sig .tc .vmem S1x1024x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S1x4096x128 .bf16) (harg8 : arg8.IsWhole) (arg9 : Memref sig .tc .vmem S1x4096x128 .bf16) (harg9 : arg9.IsWhole) (arg10 : Memref sig .tc .vmem S1x1024x128 .bf16) (harg10 : arg10.IsWhole) (arg11 : Memref sig .tc .vmem S4608x128 .bf16) (harg11 : arg11.IsWhole) (arg12 : Memref sig .tc .vmem S4608x128 .bf16) (harg12 : arg12.IsWhole)
    (x0 : Vec Ideal S1x4x64 .f32) (x1 : Vec Ideal S1x1x128 .f32) (x2 : Vec Ideal S1x1024x128 .bf16) (x3 : Vec Ideal S1x512x128 .bf16) (x4 : Vec Ideal S1x512x128 .bf16) (x5 : Vec Ideal S1x4096x128 .bf16) (x6 : Vec Ideal S1x4096x128 .bf16) (xs0 xs1 : Vec Ideal S4608x128 .bf16)

/-- What a point that does not fill the scratches leaves in the output's block. -/
theorem out_B (hc0 : ¬cond0_0 i) :
    out0_B_7 c i arg3 harg3 arg4 harg4 arg5 harg5 arg6 harg6 arg7 harg7 arg8 harg8 arg9 harg9 arg10 harg10 arg11 harg11 arg12 harg12 hc0 x0 x1 x2 x3 x4 x5 x6 xs0 xs1
      = block x0 x1 x2 xs0 xs1 := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc0 x0 x1 x2 x3 x4 x5 x6 xs0 xs1)]
  unfold kernelRun0_B
  dsimp only
  sl_unfold_words
  simp only [View.readAt_eq_ld, harg3.read_unread, harg4.read_unread, harg5.read_unread, harg11.read_unread, harg12.read_unread,
    View.ld_unit_zero (S := S1x4x64) hz3, View.ld_unit_zero (S := S1x1x128) hz3]
  rfl

/-- What a point that fills the scratches leaves in the output's block: the same, over what it has filled them with. -/
theorem out_A (hc0 : cond0_0 i) :
    out0_A_7 c i arg3 harg3 arg4 harg4 arg5 harg5 arg6 harg6 arg7 harg7 arg8 harg8 arg9 harg9 arg10 harg10 arg11 harg11 arg12 harg12 hc0 x0 x1 x2 x3 x4 x5 x6
      = block x0 x1 x2 (cat x3 x5) (cat x4 x6) := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg3.read_unread, harg4.read_unread, harg5.read_unread, harg6.read_unread, harg7.read_unread, harg8.read_unread, harg9.read_unread,
    View.readCov_eq_canon', View.ld_unit_zero (S := S1x4x64) hz3, View.ld_unit_zero (S := S1x1x128) hz3, View.ld_unit_zero (S := S1x512x128) hz3, View.ld_unit_zero (S := S1x4096x128) hz3]
  simp only [cat_def, cat_def']
  generalize cat x3 x5 = kc
  generalize cat x4 x6 = vc
  simp only [blk0_def, blk1_def, blk2_def]
  rfl

/-- At a first step of queries the first scratch copy ends at the head's keys. -/
theorem sout_A0 (hc0 : cond0_0 i) :
    sout0_A_0 c i arg3 harg3 arg4 harg4 arg5 harg5 arg6 harg6 arg7 harg7 arg8 harg8 arg9 harg9 arg10 harg10 arg11 harg11 arg12 harg12 hc0 x0 x1 x2 x3 x4 x5 x6
      = cat x3 x5 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg6.read_unread, harg8.read_unread,
    View.ld_unit_zero (S := S1x512x128) hz3, View.ld_unit_zero (S := S1x4096x128) hz3]
  rfl

/-- At a first step of queries the second scratch copy ends at the head's values. -/
theorem sout_A1 (hc0 : cond0_0 i) :
    sout0_A_1 c i arg3 harg3 arg4 harg4 arg5 harg5 arg6 harg6 arg7 harg7 arg8 harg8 arg9 harg9 arg10 harg10 arg11 harg11 arg12 harg12 hc0 x0 x1 x2 x3 x4 x5 x6
      = cat x4 x6 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg7.read_unread, harg9.read_unread,
    View.ld_unit_zero (S := S1x512x128) hz3, View.ld_unit_zero (S := S1x4096x128) hz3]
  rfl

/-- At a later step the first scratch copy is left alone. -/
theorem sout_B0 (hc0 : ¬cond0_0 i) :
    sout0_B_0 c i arg3 harg3 arg4 harg4 arg5 harg5 arg6 harg6 arg7 harg7 arg8 harg8 arg9 harg9 arg10 harg10 arg11 harg11 arg12 harg12 hc0 x0 x1 x2 x3 x4 x5 x6 xs0 xs1
      = xs0 := by
  unfold sout0_B_0
  first | rfl | (unfold kernelRun0_B; dsimp only; simp)

/-- At a later step the second scratch copy is left alone. -/
theorem sout_B1 (hc0 : ¬cond0_0 i) :
    sout0_B_1 c i arg3 harg3 arg4 harg4 arg5 harg5 arg6 harg6 arg7 harg7 arg8 harg8 arg9 harg9 arg10 harg10 arg11 harg11 arg12 harg12 hc0 x0 x1 x2 x3 x4 x5 x6 xs0 xs1
      = xs1 := by
  unfold sout0_B_1
  first | rfl | (unfold kernelRun0_B; dsimp only; simp)
end

end Cert.Lat
end
-- ==== Proof.Lits.lean ====
/- The literals of the two programs, as real numbers. -/
module

public import proofs.«01_k».proof.KernelIdeal
public import Idealize.ShloMosaic.Lib.Pipeline.Value
public import Idealize.ShloMosaic.Lib.Tactic
public import Idealize.ShloMosaic.Lib.Pointwise

@[expose] public section

noncomputable section

open Idealize.ShloMosaic Idealize.SL.Sem

namespace Cert.Lat

/-- The start of the running maxima. -/
theorem negInf : Ideal.ofBits .f32 0xFF800000#32 = (⊥ : EReal) := by simp [Ideal.ofBits, Ideal.ieee]

/-- The bound of the precondition. -/
theorem posInf : Ideal.ofBits .f32 0x7F800000#32 = (⊤ : EReal) := by simp [Ideal.ofBits, Ideal.ieee]

/-- The reference's scale of the scores. -/
theorem eighth : Ideal.ofBits .f32 0x3E000000#32 = ((8⁻¹ : ℝ) : EReal) := by
  simp [Ideal.ofBits, Ideal.ieee, -EReal.coe_mul]; norm_num

/-- Lambda's start is a real number. -/
theorem lamInit_real : ∃ x : ℝ, Ideal.ofBits .f32 0x3E4CCCCD#32 = (x : EReal) :=
  ⟨_, by simp [Ideal.ofBits, Ideal.ieee, -EReal.coe_mul]; rfl⟩

/-- The kernel's scale of the queries. -/
theorem scale_eq : Named.named (F := Ideal) (φ := .f32) Cert.KernelIdeal.κ "scale_log2e" 0x3E38AA3B#32 = ((8⁻¹ * (Real.log 2)⁻¹ : ℝ) : EReal) :=
  IdealRules.named_const.ideal_named_scalar _ _ _ _ rfl

end Cert.Lat
end
-- ==== Proof.Lat.Read.lean ====
/- Each stage of a half of a grid point's block, read at one entry. -/
module

public import proofs.«01_k».proof.Proof.Lat.Half
public import proofs.«01_k».proof.Proof.Lits

@[expose] public section

set_option maxRecDepth 16384

noncomputable section

open Idealize.ShloMosaic Idealize.ShloMosaic.TcCoe Idealize.SL.Sem

namespace Cert.Lat

open Cert.KernelIdeal Cert.KernelIdeal.Gen

/-- A chunk's scores at an entry: the products of the query's row with the keys. -/
theorem score_apply (qq : FVec Ideal S1024x128 .bf16) (k : Vec Ideal S1536x128 .bf16) (r : Fin 1024) (j : Fin 1536) :
    score qq k (ix2 r j) = ∑ l : Fin 128, qq (ix2 r l) * k (ix2 j l) := by
  pointwise [score]

/-- The running maximum after a chunk. -/
theorem mStep_apply (m : Rows1) (s : RowsK) (r : Fin 1024) :
    mStep m s (ix2 r 0) = max (m (ix2 r 0)) (Finset.univ.fold max ⊥ fun j : Fin 1536 => s (ix2 r j)) := by
  pointwise [mStep]; rw [negInf]

/-- The factor by which a chunk rescales what came before. -/
theorem aStep_apply (m m' : Rows1) (r : Fin 1024) :
    aStep m m' (ix2 r 0) = Ideal.exp2 (m (ix2 r 0) - m' (ix2 r 0)) := by
  pointwise [aStep]; rfl

/-- A chunk's weights relative to the new maximum. -/
theorem pStep_apply (s : RowsK) (m' : Rows1) (r : Fin 1024) (j : Fin 1536) :
    pStep s m' (ix2 r j) = Ideal.exp2 (s (ix2 r j) - m' (ix2 r 0)) := by
  pointwise [pStep]; rfl

/-- The running sum of weights after a chunk. -/
theorem lStep_apply (a l : Rows1) (p : RowsK) (r : Fin 1024) :
    lStep a l p (ix2 r 0) = a (ix2 r 0) * l (ix2 r 0) + ∑ j : Fin 1536, p (ix2 r j) := by
  pointwise [lStep]

/-- The running weighted sum of the values after a chunk. -/
theorem accStep_apply (a : Rows1) (acc : RowsV) (p : RowsK) (v : Vec Ideal S1536x128 .bf16) (r : Fin 1024) (d : Fin 128) :
    accStep a acc p v (ix2 r d) = a (ix2 r 0) * acc (ix2 r d) + ∑ j : Fin 1536, p (ix2 r j) * v (ix2 j d) := by
  pointwise [accStep]

/-- The running maximum starts at -∞. -/
theorem pay8_apply (r : Fin 1024) : (k0_pay8 (F := Ideal)) (ix2 r 0) = ⊥ := by
  pointwise [k0_pay8]; rw [negInf]

/-- The running sum of weights starts at zero. -/
theorem pay25_apply (r : Fin 1024) : (k0_pay25 (F := Ideal)) (ix2 r 0) = 0 := by
  pointwise [k0_pay25]

/-- The running weighted sum starts at zero. -/
theorem pay26_apply (r : Fin 1024) (d : Fin 128) : (k0_pay26 (F := Ideal)) (ix2 r d) = 0 := by
  pointwise [k0_pay26]

/-- The first map's average less lambda times the second's. -/
theorem diffRows_apply (lam : FVec Ideal S1x1 .f32) (o : RowsV) (r : Fin 512) (d : Fin 128) :
    diffRows lam o (ix2 r d) = o (ix2 ⟨r, by omega⟩ d) - lam (ix2 0 0) * o (ix2 ⟨512 + r, by omega⟩ d) := by
  pointwise [diffRows]

/-- The mean square of a row. -/
theorem sqRows_apply (a : FVec Ideal S512x128 .f32) (r : Fin 512) :
    sqRows a (ix2 r 0) = ∑ d : Fin 128, a (ix2 r d) * a (ix2 r d) := by
  pointwise [sqRows]

/-- The comparison that keeps the lower half of the lanes. -/
theorem lane_lt : ∀ l : Fin 128, IntOp.cmpi .slt (BitVec.ofNat 32 l.val) 64#32 = if l.val < 64 then 1#1 else 0#1 := by decide +kernel

/-- The comparison that keeps the upper half of the lanes. -/
theorem lane_ge : ∀ l : Fin 128, IntOp.cmpi .sge (BitVec.ofNat 32 l.val) 64#32 = if l.val < 64 then 0#1 else 1#1 := by decide +kernel

/-- The stacked queries: the first 512 rows hold the first map's lanes, scaled, and zero elsewhere; -/
theorem pay7_lo (q : Vec Ideal S1x512x128 .bf16) (r : Fin 512) (l : Fin 128) :
    k0_pay7 (F := Ideal) q (ix2 ⟨r, by omega⟩ l)
      = if l.val < 64 then q (ix3 0 r l) * Named.named (F := Ideal) (φ := .f32) Cert.KernelIdeal.κ "scale_log2e" 0x3E38AA3B#32 else 0 := by
  pointwise [k0_pay7]
  rw [lane_lt]
  split <;> rfl

/-- and the other 512 the second map's. -/
theorem pay7_hi (q : Vec Ideal S1x512x128 .bf16) (r : Fin 512) (l : Fin 128) :
    k0_pay7 (F := Ideal) q (ix2 ⟨512 + r, by omega⟩ l)
      = if l.val < 64 then 0 else q (ix3 0 r l) * Named.named (F := Ideal) (φ := .f32) Cert.KernelIdeal.κ "scale_log2e" 0x3E38AA3B#32 := by
  pointwise [k0_pay7]
  rw [lane_ge]
  split <;> rfl

/-- The normalised row times its gains, at an entry. -/
theorem pay22_apply (g : FVec Ideal S1x128 .f32) (a : FVec Ideal S512x128 .f32) (s : FVec Ideal S512x1 .f32) (n : EReal) (r : Fin 512) (d : Fin 128) :
    k0_pay22 (F := Ideal) g a s n (ix3 0 r d) = a (ix2 r d) * Ideal.rsqrt (Ideal.div (s (ix2 r 0)) n + Ideal.ofBits .f32 0x358637BD#32)
      * g (ix2 0 d) * Ideal.ofBits .f32 0x3F4CCCCD#32 := by
  pointwise [k0_pay22]

/-- The gains as a row. -/
theorem pay19_apply (g : Vec Ideal S1x1x128 .f32) (d : Fin 128) : k0_pay19 (F := Ideal) g (ix2 0 d) = g (ix3 0 0 d) := by
  pointwise [k0_pay19]

/-- Lambda from its parameters. -/
theorem pay6_apply (x : Vec Ideal S1x4x64 .f32) :
    k0_pay6 (F := Ideal) x (ix2 0 0) = Ideal.exp (∑ l : Fin 64, x (ix3 0 0 l) * x (ix3 0 1 l))
      - Ideal.exp (∑ l : Fin 64, x (ix3 0 2 l) * x (ix3 0 3 l)) + Ideal.ofBits .f32 0x3E4CCCCD#32 := by
  pointwise [k0_pay6]
  simp

end Cert.Lat
end
-- ==== Proof.Lat.Online.lean ====
/- The mathematics of the attention over the reals: the online softmax, block by block, is the softmax. -/
module

public import proofs.«01_k».proof.Proof.Lits

@[expose] public section

noncomputable section

open Idealize.ShloMosaic Idealize.SL.Sem
open scoped BigOperators

namespace Cert.Lat

/-- The maximum of finitely many reals, at least one, is a real. -/
theorem fold_max_real {n : Nat} (hn : 0 < n) (s : Fin n → EReal) (hs : ∀ j, ∃ x : ℝ, s j = (x : EReal)) :
    ∃ M : ℝ, Finset.univ.fold max (⊥ : EReal) s = (M : EReal) := by
  set F := Finset.univ.fold max (⊥ : EReal) s with hF
  have hlt : F < ⊤ := by
    rw [hF, Finset.fold_max_lt]
    exact ⟨bot_lt_top, fun j _ => by obtain ⟨x, hx⟩ := hs j; rw [hx]; exact EReal.coe_lt_top x⟩
  have hgt : ⊥ < F := by
    rw [hF, Finset.lt_fold_max]
    refine Or.inr ⟨⟨0, hn⟩, Finset.mem_univ _, ?_⟩
    obtain ⟨x, hx⟩ := hs ⟨0, hn⟩; rw [hx]; exact EReal.bot_lt_coe x
  exact ⟨F.toReal, (EReal.coe_toReal hlt.ne hgt.ne').symm⟩

/-- A sum of reals is a real. -/
theorem sum_coe {ι : Type*} [Fintype ι] (f : ι → ℝ) : (∑ j, (f j : EReal)) = ((∑ j, f j : ℝ) : EReal) := by
  classical
  induction (Finset.univ : Finset ι) using Finset.induction_on with
  | empty => simp
  | insert a S h ih => rw [Finset.sum_insert h, Finset.sum_insert h, ih, EReal.coe_add]

/-- What a running maximum `m`, a running sum `l` and a running weighted sum `acc` hold after blocks whose powers of two sum to
    `A` and whose weighted powers sum to `B`: nothing yet, or both sums scaled by the power of the maximum. -/
def Inv (m l acc : EReal) (A B : ℝ) : Prop :=
  (m = ⊥ ∧ l = 0 ∧ acc = 0 ∧ A = 0 ∧ B = 0) ∨
    ∃ M : ℝ, m = (M : EReal) ∧ l = (((2 : ℝ) ^ (-M) * A : ℝ) : EReal) ∧ acc = (((2 : ℝ) ^ (-M) * B : ℝ) : EReal)

/-- Before any key the running maximum is -∞ and the sums are zero. -/
theorem Inv.start : Inv ⊥ 0 0 0 0 := Or.inl ⟨rfl, rfl, rfl, rfl, rfl⟩

/-- A power of two of a difference, as a product. -/
theorem two_pow_sub (x M : ℝ) : (2 : ℝ) ^ (x - M) = (2 : ℝ) ^ (-M) * (2 : ℝ) ^ x := by
  rw [← Real.rpow_add two_pos]; congr 1; ring

/-- One block. -/
theorem Inv.step {m l acc : EReal} {A B : ℝ} (h : Inv m l acc A B) {n : Nat} (hn : 0 < n) (s v : Fin n → ℝ) (m' : EReal)
    (hm' : m' = max m (Finset.univ.fold max (⊥ : EReal) fun j => (s j : EReal))) :
    Inv m' (Ideal.exp2 (m - m') * l + ∑ j, Ideal.exp2 ((s j : EReal) - m'))
      (Ideal.exp2 (m - m') * acc + ∑ j, Ideal.exp2 ((s j : EReal) - m') * (v j : EReal))
      (A + ∑ j, (2 : ℝ) ^ s j) (B + ∑ j, (2 : ℝ) ^ s j * v j) := by
  obtain ⟨N, hN⟩ := fold_max_real hn (fun j => (s j : EReal)) fun j => ⟨s j, rfl⟩
  rw [hN] at hm'
  have hp : ∀ M' : ℝ, ∀ j, Ideal.exp2 ((s j : EReal) - (M' : EReal)) = (((2 : ℝ) ^ (-M') * (2 : ℝ) ^ s j : ℝ) : EReal) := fun M' j => by
    rw [← EReal.coe_sub, Ideal.exp2_coe, ← two_pow_sub]; rfl
  rcases h with ⟨rfl, rfl, rfl, rfl, rfl⟩ | ⟨M, rfl, rfl, rfl⟩
  · rw [max_eq_right bot_le] at hm'
    subst hm'
    refine Or.inr ⟨N, rfl, ?_, ?_⟩
    · simp only [hp, mul_zero, zero_add, sum_coe, Finset.mul_sum]
    · simp only [hp, mul_zero, zero_add, ← EReal.coe_mul, sum_coe, Finset.mul_sum, mul_assoc]
  · have hM' : m' = ((max M N : ℝ) : EReal) := hm'.trans (EReal.coe_strictMono.monotone.map_max (a := M) (b := N)).symm
    subst hM'
    have ha : Ideal.exp2 ((M : EReal) - ((max M N : ℝ) : EReal)) = (((2 : ℝ) ^ (M - max M N) : ℝ) : EReal) := by
      rw [← EReal.coe_sub, Ideal.exp2_coe]; rfl
    refine Or.inr ⟨max M N, rfl, ?_, ?_⟩
    · simp only [hp, sum_coe, ha, ← EReal.coe_mul, ← EReal.coe_add]
      congr 1
      rw [two_pow_sub, mul_add, Finset.mul_sum, mul_assoc, ← mul_assoc ((2 : ℝ) ^ M), ← Real.rpow_add two_pos, add_neg_cancel, Real.rpow_zero, one_mul]
    · simp only [hp, ha, ← EReal.coe_mul, sum_coe, ← EReal.coe_add]
      congr 1
      rw [two_pow_sub, mul_add, Finset.mul_sum, mul_assoc, ← mul_assoc ((2 : ℝ) ^ M), ← Real.rpow_add two_pos, add_neg_cancel, Real.rpow_zero, one_mul]
      simp only [mul_assoc]

/-- The quotient at the end. -/
theorem Inv.quot {m l acc : EReal} {A B : ℝ} (h : Inv m l acc A B) (hA : 0 < A) : Ideal.div acc l = ((B / A : ℝ) : EReal) := by
  rcases h with ⟨_, _, _, rfl, _⟩ | ⟨M, _, rfl, rfl⟩
  · exact absurd hA (lt_irrefl _)
  · have h2 : (0 : ℝ) < (2 : ℝ) ^ (-M) := Real.rpow_pos_of_pos two_pos _
    rw [Ideal.div_coe (mul_pos h2 hA).ne', ← EReal.coe_mul, mul_one_div, mul_div_mul_left _ _ h2.ne']

/-- 4608 keys in three blocks of 1536. -/
theorem sum_three {M : Type*} [AddCommMonoid M] (f : Fin 4608 → M) :
    ∑ r, f r = (∑ j : Fin 1536, f ⟨j, by omega⟩) + (∑ j : Fin 1536, f ⟨1536 + j, by omega⟩) + ∑ j : Fin 1536, f ⟨3072 + j, by omega⟩ := by
  have e := Fin.sum_univ_add (a := 3072) (b := 1536) (M := M) f
  have e' := Fin.sum_univ_add (a := 1536) (b := 1536) (M := M) (fun j => f (Fin.castAdd 1536 j))
  exact e.trans (congrArg (· + _) e')

/-- 128 lanes in two maps of 64. -/
theorem sum_two {M : Type*} [AddCommMonoid M] (f : Fin 128 → M) :
    ∑ l, f l = (∑ l : Fin 64, f ⟨l, by omega⟩) + ∑ l : Fin 64, f ⟨64 + l, by omega⟩ :=
  Fin.sum_univ_add (a := 64) (b := 64) (M := M) f

/-- The weight of a key for a query: the exponential of an eighth of their product. -/
def wt (q k : Fin 64 → ℝ) : ℝ := Real.exp ((∑ l, q l * k l) * 8⁻¹)

/-- The attention of a query over all keys, at one lane of the values. -/
def att (q : Fin 64 → ℝ) (k : Fin 4608 → Fin 64 → ℝ) (v : Fin 4608 → ℝ) : ℝ := (∑ r, wt q (k r) * v r) / ∑ r, wt q (k r)

/-- The weight of a key is positive. -/
theorem wt_pos (q k : Fin 64 → ℝ) : 0 < wt q k := Real.exp_pos _

/-- The sum of the weights is positive. -/
theorem sum_wt_pos (q : Fin 64 → ℝ) (k : Fin 4608 → Fin 64 → ℝ) : 0 < ∑ r, wt q (k r) :=
  Finset.sum_pos (fun r _ => wt_pos _ _) ⟨⟨0, by omega⟩, Finset.mem_univ _⟩

/-- The kernel's weight: a power of two, the scale holding the logarithm. -/
theorem two_pow_wt (q k : Fin 64 → ℝ) : (2 : ℝ) ^ (∑ l, q l * (8⁻¹ * (Real.log 2)⁻¹) * k l) = wt q k := by
  have h : (Real.log 2) ≠ 0 := (Real.log_pos one_lt_two).ne'
  rw [Real.rpow_def_of_pos two_pos, wt, Finset.mul_sum, Finset.sum_mul]
  congr 1
  refine Finset.sum_congr rfl fun l _ => ?_
  field_simp

/-- The reference's softmax at one key, whatever real is subtracted from the scores. -/
theorem div_wt (q : Fin 64 → ℝ) (k : Fin 4608 → Fin 64 → ℝ) (M : ℝ) (r : Fin 4608) :
    Ideal.div (Ideal.exp ((((∑ l, q l * k r l) * 8⁻¹ : ℝ) : EReal) - (M : EReal)))
      (∑ r, Ideal.exp ((((∑ l, q l * k r l) * 8⁻¹ : ℝ) : EReal) - (M : EReal))) = ((wt q (k r) / ∑ r, wt q (k r) : ℝ) : EReal) := by
  have hM : (0 : ℝ) < Real.exp (-M) := Real.exp_pos _
  have he : ∀ r, Ideal.exp ((((∑ l, q l * k r l) * 8⁻¹ : ℝ) : EReal) - (M : EReal)) = ((Real.exp (-M) * wt q (k r) : ℝ) : EReal) := fun r => by
    rw [← EReal.coe_sub, Ideal.exp_coe, wt, ← Real.exp_add]; congr 2; ring
  simp only [he, sum_coe, ← Finset.mul_sum]
  rw [Ideal.div_coe (mul_pos hM (sum_wt_pos q k)).ne', ← EReal.coe_mul, mul_one_div, mul_div_mul_left _ _ hM.ne']

/-- The normalisation of a row: over the root of its mean square, times the gains, times the closing factor. -/
def normed (o g : Fin 128 → EReal) (d : Fin 128) : EReal :=
  o d * Ideal.rsqrt (Ideal.div (∑ d, o d * o d) (Ideal.ofBits .f32 0x43000000#32) + Ideal.ofBits .f32 0x358637BD#32) * g d * Ideal.ofBits .f32 0x3F4CCCCD#32

/-- The difference of the two maps' attentions, at a lane of the values. -/
def diffAtt (lam : ℝ) (Q : Fin 2 → Fin 64 → ℝ) (K : Fin 2 → Fin 4608 → Fin 64 → ℝ) (V : Fin 4608 → Fin 128 → ℝ) (d : Fin 128) : EReal :=
  ((att (Q 0) (K 0) (fun r => V r d) - lam * att (Q 1) (K 1) (fun r => V r d) : ℝ) : EReal)

end Cert.Lat
end
-- ==== Proof.Lat.Soft.lean ====
/- A half of a grid point's block over real queries, keys and values: the difference of the two maps' attentions. -/
module

public import proofs.«01_k».proof.Proof.Lat.Read
public import proofs.«01_k».proof.Proof.Lat.Online
public import Idealize.ShloMosaic.Lib.Pipeline.ValueKit.Tiles

@[expose] public section

set_option maxRecDepth 16384

noncomputable section

open Idealize.ShloMosaic Idealize.ShloMosaic.TcCoe Idealize.SL.Sem

namespace Cert.Lat

open Cert.KernelIdeal Cert.KernelIdeal.Gen

/-- The blocks of keys, read at an entry. -/
theorem blk0_apply (x : Vec Ideal S4608x128 .bf16) (j : Fin 1536) (l : Fin 128) : blk0 x (ix2 j l) = x (ix2 ⟨j, by omega⟩ l) := by
  unfold blk0
  exact View.ld_unit_apply_of x _ _ _ (ix2 j l) _ fun a => by
    match a with
    | ⟨0, _⟩ => show j.val = 0 + j.val; omega
    | ⟨1, _⟩ => show l.val = 0 + l.val; omega

/-- The second chunk at an entry. -/
theorem blk1_apply (x : Vec Ideal S4608x128 .bf16) (j : Fin 1536) (l : Fin 128) : blk1 x (ix2 j l) = x (ix2 ⟨1536 + j, by omega⟩ l) := by
  unfold blk1
  exact View.ld_unit_apply_of x _ _ _ (ix2 j l) _ fun a => by
    match a with
    | ⟨0, _⟩ => rfl
    | ⟨1, _⟩ => show l.val = 0 + l.val; omega

/-- The third chunk at an entry. -/
theorem blk2_apply (x : Vec Ideal S4608x128 .bf16) (j : Fin 1536) (l : Fin 128) : blk2 x (ix2 j l) = x (ix2 ⟨3072 + j, by omega⟩ l) := by
  unfold blk2
  exact View.ld_unit_apply_of x _ _ _ (ix2 j l) _ fun a => by
    match a with
    | ⟨0, _⟩ => rfl
    | ⟨1, _⟩ => show l.val = 0 + l.val; omega

/-- One block of the online softmax, at a row and a lane of the values. -/
theorem inv_step (m l : Rows1) (acc : RowsV) (s : RowsK) (v : Vec Ideal S1536x128 .bf16) (r : Fin 1024) (d : Fin 128) (A B : ℝ)
    (h : Inv (m (ix2 r 0)) (l (ix2 r 0)) (acc (ix2 r d)) A B) (S V : Fin 1536 → ℝ)
    (hs : ∀ j, s (ix2 r j) = ((S j : ℝ) : EReal)) (hv : ∀ j, v (ix2 j d) = ((V j : ℝ) : EReal)) :
    Inv (mStep m s (ix2 r 0)) (lStep (aStep m (mStep m s)) l (pStep s (mStep m s)) (ix2 r 0))
      (accStep (aStep m (mStep m s)) acc (pStep s (mStep m s)) v (ix2 r d))
      (A + ∑ j, (2 : ℝ) ^ S j) (B + ∑ j, (2 : ℝ) ^ S j * V j) := by
  rw [lStep_apply, accStep_apply, aStep_apply]
  simp only [pStep_apply, hs, hv]
  exact h.step (by omega) S V _ (by rw [mStep_apply]; simp only [hs])

/-- The weighted sums over the sums of the weights, at an entry. -/
theorem quot_apply (acc : RowsV) (l : Rows1) (r : Fin 1024) (d : Fin 128) :
    divf acc (broadcastTo S1024x128 l broadcasts_S1024x1_S1024x128) (ix2 r d) = Ideal.div (acc (ix2 r d)) (l (ix2 r 0)) := by
  pointwise []

/-- The online softmax at a row whose scores are the reals `S` and a lane where the values are the reals `V`. -/
theorem soft_apply (qq : FVec Ideal S1024x128 .bf16) (k v : Vec Ideal S4608x128 .bf16) (r : Fin 1024) (d : Fin 128) (S V : Fin 4608 → ℝ)
    (hs : ∀ j, ∑ l : Fin 128, qq (ix2 r l) * k (ix2 j l) = ((S j : ℝ) : EReal)) (hv : ∀ j, v (ix2 j d) = ((V j : ℝ) : EReal)) :
    soft qq (blk0 k) (blk1 k) (blk2 k) (blk0 v) (blk1 v) (blk2 v) (ix2 r d) = (((∑ j, (2 : ℝ) ^ S j * V j) / ∑ j, (2 : ℝ) ^ S j : ℝ) : EReal) := by
  have h0 : Inv ((k0_pay8 (F := Ideal)) (ix2 r 0)) ((k0_pay25 (F := Ideal)) (ix2 r 0)) ((k0_pay26 (F := Ideal)) (ix2 r d)) 0 0 := by
    rw [pay8_apply, pay25_apply, pay26_apply]; exact Inv.start
  have h1 := inv_step _ _ _ (score qq (blk0 k)) (blk0 v) r d 0 0 h0 (fun j => S ⟨j, by omega⟩) (fun j => V ⟨j, by omega⟩)
    (fun j => by rw [score_apply]; simp only [blk0_apply]; exact hs _) (fun j => by rw [blk0_apply]; exact hv _)
  have h2 := inv_step _ _ _ (score qq (blk1 k)) (blk1 v) r d _ _ h1 (fun j => S ⟨1536 + j, by omega⟩) (fun j => V ⟨1536 + j, by omega⟩)
    (fun j => by rw [score_apply]; simp only [blk1_apply]; exact hs _) (fun j => by rw [blk1_apply]; exact hv _)
  have h3 := inv_step _ _ _ (score qq (blk2 k)) (blk2 v) r d _ _ h2 (fun j => S ⟨3072 + j, by omega⟩) (fun j => V ⟨3072 + j, by omega⟩)
    (fun j => by rw [score_apply]; simp only [blk2_apply]; exact hs _) (fun j => by rw [blk2_apply]; exact hv _)
  rw [zero_add, zero_add, ← sum_three (fun j => (2 : ℝ) ^ S j), ← sum_three (fun j => (2 : ℝ) ^ S j * V j)] at h3
  have hq := h3.quot (Finset.sum_pos (fun j _ => Real.rpow_pos_of_pos two_pos _) ⟨⟨0, by omega⟩, Finset.mem_univ _⟩)
  rw [← hq]
  exact quot_apply _ _ r d

/-- The first map's scores. -/
theorem score_lo (q : Vec Ideal S1x512x128 .bf16) (k : Vec Ideal S4608x128 .bf16) (r : Fin 512) (Q : Fin 64 → ℝ) (K : Fin 4608 → Fin 64 → ℝ)
    (hq : ∀ l : Fin 64, q (ix3 0 r ⟨l, by omega⟩) = ((Q l : ℝ) : EReal)) (hk : ∀ j (l : Fin 64), k (ix2 j ⟨l, by omega⟩) = ((K j l : ℝ) : EReal)) (j : Fin 4608) :
    ∑ l : Fin 128, k0_pay7 (F := Ideal) q (ix2 ⟨r, by omega⟩ l) * k (ix2 j l) = ((∑ l, Q l * (8⁻¹ * (Real.log 2)⁻¹) * K j l : ℝ) : EReal) := by
  rw [sum_two, ← sum_coe]
  refine (congrArg₂ (· + ·) (Finset.sum_congr rfl fun l _ => ?_) (Finset.sum_eq_zero fun l _ => ?_)).trans (add_zero _)
  · rw [pay7_lo, if_pos (by exact l.isLt), hq, hk, scale_eq, ← EReal.coe_mul, ← EReal.coe_mul]
  · rw [pay7_lo, if_neg (by show ¬ 64 + l.val < 64; omega), zero_mul]

/-- The second map's scores. -/
theorem score_hi (q : Vec Ideal S1x512x128 .bf16) (k : Vec Ideal S4608x128 .bf16) (r : Fin 512) (Q : Fin 64 → ℝ) (K : Fin 4608 → Fin 64 → ℝ)
    (hq : ∀ l : Fin 64, q (ix3 0 r ⟨64 + l, by omega⟩) = ((Q l : ℝ) : EReal)) (hk : ∀ j (l : Fin 64), k (ix2 j ⟨64 + l, by omega⟩) = ((K j l : ℝ) : EReal)) (j : Fin 4608) :
    ∑ l : Fin 128, k0_pay7 (F := Ideal) q (ix2 ⟨512 + r, by omega⟩ l) * k (ix2 j l) = ((∑ l, Q l * (8⁻¹ * (Real.log 2)⁻¹) * K j l : ℝ) : EReal) := by
  rw [sum_two, ← sum_coe]
  refine (congrArg₂ (· + ·) (Finset.sum_eq_zero fun l _ => ?_) (Finset.sum_congr rfl fun l _ => ?_)).trans (zero_add _)
  · rw [pay7_hi, if_pos (by exact l.isLt), zero_mul]
  · rw [pay7_hi, if_neg (by show ¬ 64 + l.val < 64; omega), hq, hk, scale_eq, ← EReal.coe_mul, ← EReal.coe_mul]

/-- A half of a grid point's block, at a row with real queries, over real keys, values and lambda. -/
theorem half_apply (lam : FVec Ideal S1x1 .f32) (g : Vec Ideal S1x1x128 .f32) (q : Vec Ideal S1x512x128 .bf16) (k v : Vec Ideal S4608x128 .bf16)
    (r : Fin 512) (L : ℝ) (Q : Fin 2 → Fin 64 → ℝ) (K : Fin 2 → Fin 4608 → Fin 64 → ℝ) (V : Fin 4608 → Fin 128 → ℝ)
    (hL : lam (ix2 0 0) = (L : EReal))
    (hq0 : ∀ l : Fin 64, q (ix3 0 r ⟨l, by omega⟩) = ((Q 0 l : ℝ) : EReal)) (hq1 : ∀ l : Fin 64, q (ix3 0 r ⟨64 + l, by omega⟩) = ((Q 1 l : ℝ) : EReal))
    (hk0 : ∀ j (l : Fin 64), k (ix2 j ⟨l, by omega⟩) = ((K 0 j l : ℝ) : EReal)) (hk1 : ∀ j (l : Fin 64), k (ix2 j ⟨64 + l, by omega⟩) = ((K 1 j l : ℝ) : EReal))
    (hv : ∀ j d, v (ix2 j d) = ((V j d : ℝ) : EReal)) (d : Fin 128) :
    half lam g q (blk0 k) (blk1 k) (blk2 k) (blk0 v) (blk1 v) (blk2 v) (ix3 0 r d)
      = normed (diffAtt L Q K V) (fun d => g (ix3 0 0 d)) d := by
  have hd : ∀ d, diffRows lam (soft (k0_pay7 q) (blk0 k) (blk1 k) (blk2 k) (blk0 v) (blk1 v) (blk2 v)) (ix2 r d) = diffAtt L Q K V d := fun d => by
    rw [diffRows_apply, hL, soft_apply _ k v _ d _ _ (score_lo q k r (Q 0) (K 0) hq0 hk0) (fun j => hv j d),
      soft_apply _ k v _ d _ _ (score_hi q k r (Q 1) (K 1) hq1 hk1) (fun j => hv j d), ← EReal.coe_mul, ← EReal.coe_sub]
    simp only [two_pow_wt]
    rfl
  unfold half
  rw [pay22_apply, sqRows_apply]
  simp only [hd, pay19_apply]
  rfl

end Cert.Lat
end
-- ==== Proof.Lat.Host.lean ====
/- What the attention's windows read: the arrays the host prepares, at one entry. -/
module

public import proofs.«01_k».proof.Proof.Gen.KernelIdeal.Frame
public import Idealize.ShloMosaic.Lib.Pointwise

@[expose] public section

set_option maxRecDepth 16384

noncomputable section

open Idealize.ShloMosaic Idealize.ShloMosaic.TcCoe Idealize.SL.Sem

namespace Cert.Lat

open Cert.KernelIdeal Cert.KernelIdeal.Gen

variable (m : (ℓ : Loc nD τ sig) → Buf (Elt Ideal) ℓ) (c : Dev nD)

/-- The host's packed rows: queries, keys and values side by side. -/
def packed (x0 x1 : FVec Ideal S2x4096x4x2x64 .f32) (x2 : FVec Ideal S2x4096x4x128 .f32) : FVec Ideal S2x4096x1536 .bf16 :=
  shapeCast S2x4096x1536 (concatenate S8192x1536 1
    [⟨S8192x512, truncf (φ := .f32) .bf16 (shapeCast S8192x512 x0 shapeCasts_S2x4096x4x2x64_S8192x512) bitsLt_bf16_f32⟩,
     ⟨S8192x512, truncf (φ := .f32) .bf16 (shapeCast S8192x512 x1 shapeCasts_S2x4096x4x2x64_S8192x512) bitsLt_bf16_f32⟩,
     ⟨S8192x512, truncf (φ := .f32) .bf16 (shapeCast S8192x512 x2 shapeCasts_S2x4096x4x128_S8192x512) bitsLt_bf16_f32⟩]
    concatenates_S8192x512_S8192x512_S8192x512_S8192x1536_d1) shapeCasts_S8192x1536_S2x4096x1536

/-- The host's rows of the cached keys, of the first of the two layers. -/
def cachedK (x : FVec Ideal S2x2x512x4x2x64 .f32) : FVec Ideal S2x512x512 .bf16 :=
  shapeCast S2x512x512 (extractStridedSlice S2x1x512x512 ![0, 0, 0, 0]
    (truncf (φ := .f32) .bf16 (shapeCast S2x2x512x512 x shapeCasts_S2x2x512x4x2x64_S2x2x512x512) bitsLt_bf16_f32)
    slices_S2x2x512x512_S2x1x512x512_0_0_0_0) shapeCasts_S2x1x512x512_S2x512x512

/-- The host's rows of the cached values, of the first of the two layers. -/
def cachedV (x : FVec Ideal S2x2x512x4x128 .f32) : FVec Ideal S2x512x512 .bf16 :=
  shapeCast S2x512x512 (extractStridedSlice S2x1x512x512 ![0, 0, 0, 0]
    (truncf (φ := .f32) .bf16 (shapeCast S2x2x512x512 x shapeCasts_S2x2x512x4x128_S2x2x512x512) bitsLt_bf16_f32)
    slices_S2x2x512x512_S2x1x512x512_0_0_0_0) shapeCasts_S2x1x512x512_S2x512x512

/-- The packed queries, keys and values at the launch. -/
theorem V_v15 : V m c main_v15 = packed (m ((c : Thread nD τ).loc main_arg0)) (m ((c : Thread nD τ).loc main_arg1)) (m ((c : Thread nD τ).loc main_arg2)) := by
  show StableHlo.after hostOps0 _ (Proc.devRef .tc main_v15) = _
  after_results
  rfl

/-- The gains at the launch. -/
theorem V_v16 : V m c main_v16 = shapeCast S2x1x128 (m ((c : Thread nD τ).loc main_arg6)) shapeCasts_S2x128_S2x1x128 := by
  show StableHlo.after hostOps0 _ (Proc.devRef .tc main_v16) = _
  after_results
  rfl

/-- The cached keys at the launch. -/
theorem V_v12 : V m c main_v12 = cachedK (m ((c : Thread nD τ).loc main_arg3)) := by
  show StableHlo.after hostOps0 _ (Proc.devRef .tc main_v12) = _
  after_results
  rfl

/-- The cached values at the launch. -/
theorem V_v14 : V m c main_v14 = cachedV (m ((c : Thread nD τ).loc main_arg4)) := by
  show StableHlo.after hostOps0 _ (Proc.devRef .tc main_v14) = _
  after_results
  rfl

/-- The packed array holds the queries in its first third of lanes. -/
theorem packed_q (x0 x1 : FVec Ideal S2x4096x4x2x64 .f32) (x2 : FVec Ideal S2x4096x4x128 .f32) (b : Fin 2) (r : Fin 4096) (h : Fin 4) (k : Fin 2) (l : Fin 64) :
    packed x0 x1 x2 (ix3 b r ⟨h.val * 128 + k.val * 64 + l.val, by omega⟩) = x0 (ix5 b r h k l) := by
  pointwise [packed]
  rw [dif_pos (by omega)]

/-- The packed array holds the keys in its second third of lanes. -/
theorem packed_k (x0 x1 : FVec Ideal S2x4096x4x2x64 .f32) (x2 : FVec Ideal S2x4096x4x128 .f32) (b : Fin 2) (r : Fin 4096) (h : Fin 4) (k : Fin 2) (l : Fin 64) :
    packed x0 x1 x2 (ix3 b r ⟨512 + h.val * 128 + k.val * 64 + l.val, by omega⟩) = x1 (ix5 b r h k l) := by
  pointwise [packed]
  rw [dif_neg (by omega), dif_pos (by omega)]
  refine congrArg x1 ?_
  congr 1 <;> (apply Fin.ext; simp only []; omega)

/-- The packed array holds the values in its last third of lanes. -/
theorem packed_v (x0 x1 : FVec Ideal S2x4096x4x2x64 .f32) (x2 : FVec Ideal S2x4096x4x128 .f32) (b : Fin 2) (r : Fin 4096) (h : Fin 4) (d : Fin 128) :
    packed x0 x1 x2 (ix3 b r ⟨1024 + h.val * 128 + d.val, by omega⟩) = x2 (ix4 b r h d) := by
  pointwise [packed]
  rw [dif_neg (by omega), dif_neg (by omega)]
  refine congrArg x2 ?_
  congr 1 <;> (apply Fin.ext; simp only []; omega)

/-- The cached keys of layer 0 at an entry. -/
theorem cachedK_apply (x : FVec Ideal S2x2x512x4x2x64 .f32) (b : Fin 2) (r : Fin 512) (h : Fin 4) (k : Fin 2) (l : Fin 64) :
    cachedK x (ix3 b r ⟨h.val * 128 + k.val * 64 + l.val, by omega⟩) = x (ix6 b 0 r h k l) := by
  pointwise [cachedK]

/-- The cached values of layer 0 at an entry. -/
theorem cachedV_apply (x : FVec Ideal S2x2x512x4x128 .f32) (b : Fin 2) (r : Fin 512) (h : Fin 4) (d : Fin 128) :
    cachedV x (ix3 b r ⟨h.val * 128 + d.val, by omega⟩) = x (ix5 b 0 r h d) := by
  pointwise [cachedV]

/-- The gains at an entry. -/
theorem gains_apply (x : FVec Ideal S2x128 .f32) (b : Fin 2) (d : Fin 128) : shapeCast S2x1x128 x shapeCasts_S2x128_S2x1x128 (ix3 b 0 d) = x (ix2 b d) := by
  pointwise []

end Cert.Lat
end
-- ==== Proof.Lat.Ref.lean ====
/- The reference of the attention, read at one entry, stage by stage. -/
module

public import proofs.«01_k».proof.Proof.Gen.ReferenceIdeal.Read
public import proofs.«01_k».proof.Proof.Lits

@[expose] public section

set_option maxRecDepth 16384

noncomputable section

open Idealize.ShloMosaic Idealize.ShloMosaic.TcCoe Idealize.SL.Sem

namespace Cert.Lat.Ref

open Cert.ReferenceIdeal Cert.ReferenceIdeal.Gen Cert.ReferenceIdeal.Read

variable (x0 x1 : FVec Ideal S2x4096x4x2x64 .f32) (x2 : FVec Ideal S2x4096x4x128 .f32)
  (x3 : FVec Ideal S2x2x512x4x2x64 .f32) (x4 : FVec Ideal S2x2x512x4x128 .f32) (x5 : FVec Ideal S2x4x64 .f32) (x6 : FVec Ideal S2x128 .f32)

/-- The first 512 keys are the cached ones. -/
theorem key_lo (b : Fin 2) (r : Fin 512) (h : Fin 4) (m : Fin 2) (l : Fin 64) :
    val_main_v2 (F := Ideal) x1 x3 (ix5 b ⟨r.val, by omega⟩ h m l) = x3 (ix6 b 0 r h m l) := by
  pointwise [val_main_v2, val_main_v1, val_main_v0]

/-- The others are the new ones. -/
theorem key_hi (b : Fin 2) (r : Fin 4096) (h : Fin 4) (m : Fin 2) (l : Fin 64) :
    val_main_v2 (F := Ideal) x1 x3 (ix5 b ⟨512 + r.val, by omega⟩ h m l) = x1 (ix5 b r h m l) := by
  pointwise [val_main_v2, val_main_v1, val_main_v0]

/-- The first 512 values are the cached ones. -/
theorem val_lo (b : Fin 2) (r : Fin 512) (h : Fin 4) (d : Fin 128) :
    val_main_v5 (F := Ideal) x2 x4 (ix4 b ⟨r.val, by omega⟩ h d) = x4 (ix5 b 0 r h d) := by
  pointwise [val_main_v5, val_main_v4, val_main_v3]

/-- The others are the new ones. -/
theorem val_hi (b : Fin 2) (r : Fin 4096) (h : Fin 4) (d : Fin 128) :
    val_main_v5 (F := Ideal) x2 x4 (ix4 b ⟨512 + r.val, by omega⟩ h d) = x2 (ix4 b r h d) := by
  pointwise [val_main_v5, val_main_v4, val_main_v3]

/-- Lambda from its parameters. -/
theorem lam_apply :
    val_main_v23 (F := Ideal) x5 ix0 = Ideal.exp (∑ l : Fin 64, x5 (ix3 0 0 l) * x5 (ix3 0 1 l))
      - Ideal.exp (∑ l : Fin 64, x5 (ix3 0 2 l) * x5 (ix3 0 3 l)) + Ideal.ofBits .f32 0x3E4CCCCD#32 := by
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_cst, val_main_cst_0, val_main_cst_1]

/-- A scaled score. -/
theorem score_apply (b : Fin 2) (m : Fin 2) (h : Fin 4) (t : Fin 4096) (r : Fin 4608) :
    val_main_v26 (F := Ideal) x0 x1 x3 (ix5 b m h t r)
      = (∑ l : Fin 64, x0 (ix5 b t h m l) * val_main_v2 (F := Ideal) x1 x3 (ix5 b r h m l)) * ((8⁻¹ : ℝ) : EReal) := by
  pointwise [val_main_v26, val_main_v25, val_main_v24, val_main_cst_2]
  rw [eighth]

/-- The exponential of a score less its row's maximum. -/
theorem exp_apply (b : Fin 2) (m : Fin 2) (h : Fin 4) (t : Fin 4096) (r : Fin 4608) :
    val_main_v33 (F := Ideal) x0 x1 x3 (ix5 b m h t r)
      = Ideal.exp (val_main_v26 (F := Ideal) x0 x1 x3 (ix5 b m h t r) - val_main_v29 (F := Ideal) x0 x1 x3 (ix4 b m h t)) := by
  pointwise [val_main_v33, val_main_v32, val_main_v31, val_main_v30]

/-- A weight of the softmax. -/
theorem soft_apply (b : Fin 2) (m : Fin 2) (h : Fin 4) (t : Fin 4096) (r : Fin 4608) :
    val_main_v37 (F := Ideal) x0 x1 x3 (ix5 b m h t r)
      = Ideal.div (val_main_v33 (F := Ideal) x0 x1 x3 (ix5 b m h t r)) (∑ r : Fin 4608, val_main_v33 (F := Ideal) x0 x1 x3 (ix5 b m h t r)) := by
  pointwise [val_main_v37, val_main_v36, val_main_v35, val_main_v34, val_main_cst_5]

/-- The difference of the maps applied to the values. -/
theorem out_apply (b : Fin 2) (t : Fin 4096) (h : Fin 4) (d : Fin 128) :
    val_main_v46 (F := Ideal) x0 x1 x2 x3 x4 x5 (ix4 b t h d)
      = ∑ r : Fin 4608, val_main_v5 (F := Ideal) x2 x4 (ix4 b r h d) * val_main_v44 (F := Ideal) x0 x1 x3 x5 (ix4 b h t r) := by
  pointwise [val_main_v46, val_main_v45]

/-- The normalised average with its gains. -/
theorem norm_apply (b : Fin 2) (t : Fin 4096) (h : Fin 4) (d : Fin 128) :
    val_main_v63 (F := Ideal) x0 x1 x2 x3 x4 x5 x6 (ix4 b t h d)
      = val_main_v46 (F := Ideal) x0 x1 x2 x3 x4 x5 (ix4 b t h d)
        * Ideal.rsqrt (Ideal.div (∑ d : Fin 128, val_main_v46 (F := Ideal) x0 x1 x2 x3 x4 x5 (ix4 b t h d) * val_main_v46 (F := Ideal) x0 x1 x2 x3 x4 x5 (ix4 b t h d))
            (Ideal.ofBits .f32 0x43000000#32) + Ideal.ofBits .f32 0x358637BD#32)
        * x6 (ix2 0 d) * Ideal.ofBits .f32 0x3F4CCCCD#32 := by
  pointwise [val_main_v63, val_main_v62, val_main_v61, val_main_v60, val_main_v59, val_main_v58, val_main_v57, val_main_v56, val_main_v55, val_main_v54,
    val_main_v53, val_main_v52, val_main_v51, val_main_v50, val_main_v49, val_main_v48, val_main_v47, val_main_cst_6, val_main_cst_7, val_main_cst_8, val_main_cst_9]

/-- The result at an entry. -/
theorem res_apply (b : Fin 2) (t : Fin 4096) (c : Fin 512) :
    val_main_v65 (F := Ideal) x0 x1 x2 x3 x4 x5 x6 (ix3 b t c)
      = val_main_v63 (F := Ideal) x0 x1 x2 x3 x4 x5 x6 (ix4 b t ⟨c / 128, by omega⟩ ⟨c % 128, by omega⟩) := by
  pointwise [val_main_v65, val_main_v64]

end Cert.Lat.Ref
end
-- ==== Proof.Lat.RefMax.lean ====
/- The reference of the attention, read at one entry, stage by stage: its maxima and the difference of its maps. -/
module

public import proofs.«01_k».proof.Proof.Gen.ReferenceIdeal.Read
public import proofs.«01_k».proof.Proof.Lits
public import proofs.«01_k».proof.Proof.Lat.Online

@[expose] public section

set_option maxRecDepth 16384

noncomputable section

open Idealize.ShloMosaic Idealize.ShloMosaic.TcCoe Idealize.SL.Sem

namespace Cert.Lat.Ref

open Cert.ReferenceIdeal Cert.ReferenceIdeal.Gen Cert.ReferenceIdeal.Read

variable (x0 x1 : FVec Ideal S2x4096x4x2x64 .f32) (x2 : FVec Ideal S2x4096x4x128 .f32)
  (x3 : FVec Ideal S2x2x512x4x2x64 .f32) (x4 : FVec Ideal S2x2x512x4x128 .f32) (x5 : FVec Ideal S2x4x64 .f32) (x6 : FVec Ideal S2x128 .f32)

/-- The weights of the first map less lambda times those of the second. -/
theorem diff_apply (b : Fin 2) (h : Fin 4) (t : Fin 4096) (r : Fin 4608) :
    val_main_v44 (F := Ideal) x0 x1 x3 x5 (ix4 b h t r)
      = val_main_v37 (F := Ideal) x0 x1 x3 (ix5 b 0 h t r) - val_main_v23 (F := Ideal) x5 ix0 * val_main_v37 (F := Ideal) x0 x1 x3 (ix5 b 1 h t r) := by
  have e0 : idx_main_v38 (idx_main_v39 (ix4 b h t r)) = ix5 b 0 h t r := by
    funext a
    apply Fin.ext
    match a with
    | ⟨0, _⟩ => show (((b.val * 4 + h.val) * 4096 + t.val) * 4608 + r.val) / 75497472 = b.val; omega
    | ⟨1, _⟩ => rfl
    | ⟨2, _⟩ => show (((b.val * 4 + h.val) * 4096 + t.val) * 4608 + r.val) / 18874368 % 4 = h.val; omega
    | ⟨3, _⟩ => show (((b.val * 4 + h.val) * 4096 + t.val) * 4608 + r.val) / 4608 % 4096 = t.val; omega
    | ⟨4, _⟩ => show (((b.val * 4 + h.val) * 4096 + t.val) * 4608 + r.val) % 4608 = r.val; omega
  have e1 : idx_main_v40 (idx_main_v41 (ix4 b h t r)) = ix5 b 1 h t r := by
    funext a
    apply Fin.ext
    match a with
    | ⟨0, _⟩ => show (((b.val * 4 + h.val) * 4096 + t.val) * 4608 + r.val) / 75497472 = b.val; omega
    | ⟨1, _⟩ => rfl
    | ⟨2, _⟩ => show (((b.val * 4 + h.val) * 4096 + t.val) * 4608 + r.val) / 18874368 % 4 = h.val; omega
    | ⟨3, _⟩ => show (((b.val * 4 + h.val) * 4096 + t.val) * 4608 + r.val) / 4608 % 4096 = t.val; omega
    | ⟨4, _⟩ => show (((b.val * 4 + h.val) * 4096 + t.val) * 4608 + r.val) % 4608 = r.val; omega
  have e2 : idx_main_v42 (ix4 b h t r) = ix0 := funext fun a => a.elim0
  rw [val_main_v44_apply, val_main_v43_apply, val_main_v42_apply, val_main_v41_apply, val_main_v40_apply, val_main_v39_apply, val_main_v38_apply, e0, e1, e2]
  rfl

/-- The largest of finitely many reals along the last axis, from `⊥`, is a real. -/
theorem reduce_max_real {n0 n1 n2 n3 n4 : Nat} {t u : Shape} (hn : 0 < n4) (x : FVec Ideal ⟨5, ![n0, n1, n2, n3, n4]⟩ .f32) (init : FVec Ideal u .f32)
    (h : (⟨5, ![n0, n1, n2, n3, n4]⟩ : Shape).ReducesTo [4] t) (hu : 0 < u.numel) (hi : ∀ i, init i = (⊥ : EReal))
    (hx : ∀ i, ∃ r : ℝ, x i = (r : EReal)) (j : t.Idx) :
    ∃ M : ℝ, Host.reduce (FloatOps.maximumf (F := Ideal) (φ := .f32)) x init h hu j = (M : EReal) := by
  rw [Host.reduce_eq_fold, Shape.ReducesTo.fold_fiber_r5_a4, hi]
  exact fold_max_real hn _ fun _ => hx _

/-- The number the scores of a query are reduced by is a real. -/
theorem max_real (hx : ∀ i, ∃ r : ℝ, val_main_v26 (F := Ideal) x0 x1 x3 i = (r : EReal)) (i : S2x2x4x4096.Idx) :
    ∃ M : ℝ, val_main_v29 (F := Ideal) x0 x1 x3 i = (M : EReal) := by
  obtain ⟨M, hM⟩ := reduce_max_real (by omega) (val_main_v26 (F := Ideal) x0 x1 x3) (val_main_cst_3 (F := Ideal))
    reducesTo_S2x2x4x4096x4608_S2x2x4x4096_d4 h_S_ (fun i => negInf) hx i
  refine ⟨M, ?_⟩
  rw [val_main_v29_apply, val_main_v28_apply, val_main_cst_4_apply]
  unfold val_main_v27
  rw [hM]
  show max (Ideal.ofBits .f32 0xFF800000#32) (M : EReal) = _
  rw [negInf]
  exact max_eq_right bot_le

end Cert.Lat.Ref
end
-- ==== Proof.Lat.RefRow.lean ====
/- The reference of the attention at one entry, over real arguments: the difference of two softmaxes' averages of the values, normalised. -/
module

public import proofs.«01_k».proof.Proof.Lat.Ref
public import proofs.«01_k».proof.Proof.Lat.RefMax

@[expose] public section

set_option maxRecDepth 16384

noncomputable section

open Idealize.ShloMosaic Idealize.ShloMosaic.TcCoe Idealize.SL.Sem

namespace Cert.Lat

open Cert.ReferenceIdeal

/-- The key rows of a head's map: the cached rows, then the new ones. -/
def keyRow (y1 : S2x4096x4x2x64.Idx → ℝ) (y3 : S2x2x512x4x2x64.Idx → ℝ) (b : Fin 2) (h : Fin 4) (m : Fin 2) (r : Fin 4608) (l : Fin 64) : ℝ :=
  if hr : r.val < 512 then y3 (ix6 b 0 ⟨r.val, hr⟩ h m l) else y1 (ix5 b ⟨r.val - 512, by omega⟩ h m l)

/-- The value rows of a head: the cached rows, then the new ones. -/
def valRow (y2 : S2x4096x4x128.Idx → ℝ) (y4 : S2x2x512x4x128.Idx → ℝ) (b : Fin 2) (h : Fin 4) (r : Fin 4608) (d : Fin 128) : ℝ :=
  if hr : r.val < 512 then y4 (ix5 b 0 ⟨r.val, hr⟩ h d) else y2 (ix4 b ⟨r.val - 512, by omega⟩ h d)

/-- Lambda, from the learned vectors of the first of the two layers. -/
def lambda (x : FVec Ideal S2x4x64 .f32) : EReal :=
  Ideal.exp (∑ l : Fin 64, x (ix3 0 0 l) * x (ix3 0 1 l)) - Ideal.exp (∑ l : Fin 64, x (ix3 0 2 l) * x (ix3 0 3 l)) + Ideal.ofBits .f32 0x3E4CCCCD#32

/-- Over real vectors lambda is real. -/
theorem lambda_real (x : FVec Ideal S2x4x64 .f32) (y : S2x4x64.Idx → ℝ) (hx : ∀ i, x i = (y i : EReal)) : ∃ L : ℝ, lambda x = (L : EReal) := by
  obtain ⟨z, hz⟩ := lamInit_real
  unfold lambda
  simp only [hx, ← EReal.coe_mul, sum_coe, Ideal.exp_coe, hz, ← EReal.coe_sub, ← EReal.coe_add]
  exact ⟨_, rfl⟩

namespace Ref

open Cert.ReferenceIdeal.Gen Cert.ReferenceIdeal.Read

variable (x0 x1 : FVec Ideal S2x4096x4x2x64 .f32) (x2 : FVec Ideal S2x4096x4x128 .f32)
  (x3 : FVec Ideal S2x2x512x4x2x64 .f32) (x4 : FVec Ideal S2x2x512x4x128 .f32) (x5 : FVec Ideal S2x4x64 .f32) (x6 : FVec Ideal S2x128 .f32)
  (y0 y1 : S2x4096x4x2x64.Idx → ℝ) (y2 : S2x4096x4x128.Idx → ℝ) (y3 : S2x2x512x4x2x64.Idx → ℝ) (y4 : S2x2x512x4x128.Idx → ℝ)

/-- The reference's keys at a row. -/
theorem key_real (h1 : ∀ i, x1 i = (y1 i : EReal)) (h3 : ∀ i, x3 i = (y3 i : EReal)) (b : Fin 2) (r : Fin 4608) (h : Fin 4) (m : Fin 2) (l : Fin 64) :
    val_main_v2 (F := Ideal) x1 x3 (ix5 b r h m l) = (keyRow y1 y3 b h m r l : EReal) := by
  unfold keyRow
  by_cases hr : r.val < 512
  · rw [dif_pos hr, ← h3]; exact key_lo x1 x3 b ⟨r.val, hr⟩ h m l
  · rw [dif_neg hr, ← h1, ← key_hi x1 x3 b ⟨r.val - 512, by omega⟩ h m l]
    congr 2; apply Fin.ext; simp only []; omega

/-- The reference's values at a row. -/
theorem val_real (h2 : ∀ i, x2 i = (y2 i : EReal)) (h4 : ∀ i, x4 i = (y4 i : EReal)) (b : Fin 2) (r : Fin 4608) (h : Fin 4) (d : Fin 128) :
    val_main_v5 (F := Ideal) x2 x4 (ix4 b r h d) = (valRow y2 y4 b h r d : EReal) := by
  unfold valRow
  by_cases hr : r.val < 512
  · rw [dif_pos hr, ← h4]; exact val_lo x2 x4 b ⟨r.val, hr⟩ h d
  · rw [dif_neg hr, ← h2, ← val_hi x2 x4 b ⟨r.val - 512, by omega⟩ h d]
    congr 2; apply Fin.ext; simp only []; omega

/-- The reference's scores. -/
theorem score_real (h0 : ∀ i, x0 i = (y0 i : EReal)) (h1 : ∀ i, x1 i = (y1 i : EReal)) (h3 : ∀ i, x3 i = (y3 i : EReal))
    (b : Fin 2) (m : Fin 2) (h : Fin 4) (t : Fin 4096) (r : Fin 4608) :
    val_main_v26 (F := Ideal) x0 x1 x3 (ix5 b m h t r) = (((∑ l, y0 (ix5 b t h m l) * keyRow y1 y3 b h m r l) * 8⁻¹ : ℝ) : EReal) := by
  rw [score_apply]
  simp only [h0, key_real x1 x3 y1 y3 h1 h3, ← EReal.coe_mul, sum_coe]

/-- The reference's weights: a softmax over the key rows. -/
theorem soft_real (h0 : ∀ i, x0 i = (y0 i : EReal)) (h1 : ∀ i, x1 i = (y1 i : EReal)) (h3 : ∀ i, x3 i = (y3 i : EReal))
    (b : Fin 2) (m : Fin 2) (h : Fin 4) (t : Fin 4096) (r : Fin 4608) :
    val_main_v37 (F := Ideal) x0 x1 x3 (ix5 b m h t r)
      = ((wt (fun l => y0 (ix5 b t h m l)) (keyRow y1 y3 b h m r) / ∑ r, wt (fun l => y0 (ix5 b t h m l)) (keyRow y1 y3 b h m r) : ℝ) : EReal) := by
  obtain ⟨M, hM⟩ := max_real x0 x1 x3 (fun i => by
    rw [← ix5_eta i]; exact ⟨_, score_real x0 x1 x3 y0 y1 y3 h0 h1 h3 _ _ _ _ _⟩) (ix4 b m h t)
  rw [soft_apply]
  simp only [exp_apply, hM, score_real x0 x1 x3 y0 y1 y3 h0 h1 h3]
  exact div_wt (fun l => y0 (ix5 b t h m l)) (keyRow y1 y3 b h m) M r

/-- The reference's difference of attentions. -/
theorem out_real (h0 : ∀ i, x0 i = (y0 i : EReal)) (h1 : ∀ i, x1 i = (y1 i : EReal)) (h2 : ∀ i, x2 i = (y2 i : EReal))
    (h3 : ∀ i, x3 i = (y3 i : EReal)) (h4 : ∀ i, x4 i = (y4 i : EReal)) (L : ℝ) (hL : lambda x5 = (L : EReal))
    (b : Fin 2) (t : Fin 4096) (h : Fin 4) (d : Fin 128) :
    val_main_v46 (F := Ideal) x0 x1 x2 x3 x4 x5 (ix4 b t h d)
      = diffAtt L (fun m l => y0 (ix5 b t h m l)) (keyRow y1 y3 b h) (valRow y2 y4 b h) d := by
  have hl : val_main_v23 (F := Ideal) x5 ix0 = (L : EReal) := (lam_apply x5).trans hL
  rw [out_apply]
  simp only [diff_apply, hl, soft_real x0 x1 x3 y0 y1 y3 h0 h1 h3, val_real x2 x4 y2 y4 h2 h4, ← EReal.coe_mul, ← EReal.coe_sub, sum_coe]
  unfold diffAtt att
  congr 1
  rw [Finset.sum_div, Finset.sum_div, Finset.mul_sum, ← Finset.sum_sub_distrib]
  refine Finset.sum_congr rfl fun r _ => ?_
  ring

/-- The reference's result at one entry. -/
theorem result_real (h0 : ∀ i, x0 i = (y0 i : EReal)) (h1 : ∀ i, x1 i = (y1 i : EReal)) (h2 : ∀ i, x2 i = (y2 i : EReal))
    (h3 : ∀ i, x3 i = (y3 i : EReal)) (h4 : ∀ i, x4 i = (y4 i : EReal)) (L : ℝ) (hL : lambda x5 = (L : EReal))
    (b : Fin 2) (t : Fin 4096) (h : Fin 4) (d : Fin 128) :
    val_main_v65 (F := Ideal) x0 x1 x2 x3 x4 x5 x6 (ix3 b t ⟨h.val * 128 + d.val, by omega⟩)
      = normed (diffAtt L (fun m l => y0 (ix5 b t h m l)) (keyRow y1 y3 b h) (valRow y2 y4 b h)) (fun d => x6 (ix2 0 d)) d := by
  rw [res_apply, show (⟨(h.val * 128 + d.val) / 128, by omega⟩ : Fin 4) = h from Fin.ext (by simp only []; omega),
    show (⟨(h.val * 128 + d.val) % 128, by omega⟩ : Fin 128) = d from Fin.ext (by simp only []; omega), norm_apply]
  simp only [out_real x0 x1 x2 x3 x4 x5 y0 y1 y2 y3 y4 h0 h1 h2 h3 h4 L hL]
  rfl

end Ref

end Cert.Lat
end
-- ==== Proof.Lat.Blocks.lean ====
/- The attention's grid points: the blocks each reads, the keys and values it attends over, and the block it leaves. -/
module

public import proofs.«01_k».proof.Proof.Gen.KernelIdeal.Value
public import proofs.«01_k».proof.Proof.Lat.Half
public import proofs.«01_k».proof.Proof.Lat.Soft
public import proofs.«01_k».proof.Proof.Lat.Host
public import proofs.«01_k».proof.Proof.Lat.RefRow

@[expose] public section

set_option maxRecDepth 16384

noncomputable section

open Idealize.ShloMosaic Idealize.ShloMosaic.TcCoe Idealize.SL.Sem

namespace Cert.Lat

open Cert.KernelIdeal Cert.KernelIdeal.Gen

variable (m : (ℓ : Loc nD τ sig) → Buf (Elt Ideal) ℓ) (c : Dev nD)

/-! ## The block indices at a grid point -/

/-- The block index of the lambda parameters' window at every point. -/
theorem index0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)
/-- The block index of the gains' window. -/
theorem index1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
/-- The block index of the queries' window: batch, step of queries, head. -/
theorem index2 : ∀ t : Fin cfg0.N, win0_2.index t 0 = t.val / 16 ∧ win0_2.index t 1 = t.val % 4 ∧ win0_2.index t 2 = t.val / 4 % 4 :=
  (by decide +kernel : ∀ t : Fin grid0.N, win0_2.index t 0 = t.val / 16 ∧ win0_2.index t 1 = t.val % 4 ∧ win0_2.index t 2 = t.val / 4 % 4)
/-- The block index of the cached keys' window: batch and head. -/
theorem index3 : ∀ t : Fin cfg0.N, win0_3.index t 0 = t.val / 16 ∧ win0_3.index t 1 = 0 ∧ win0_3.index t 2 = t.val / 4 % 4 :=
  (by decide +kernel : ∀ t : Fin grid0.N, win0_3.index t 0 = t.val / 16 ∧ win0_3.index t 1 = 0 ∧ win0_3.index t 2 = t.val / 4 % 4)
/-- The block index of the cached values' window: batch and head. -/
theorem index4 : ∀ t : Fin cfg0.N, win0_4.index t 0 = t.val / 16 ∧ win0_4.index t 1 = 0 ∧ win0_4.index t 2 = t.val / 4 % 4 :=
  (by decide +kernel : ∀ t : Fin grid0.N, win0_4.index t 0 = t.val / 16 ∧ win0_4.index t 1 = 0 ∧ win0_4.index t 2 = t.val / 4 % 4)
/-- The block index of the new keys' window: batch, and the head's lanes after the queries'. -/
theorem index5 : ∀ t : Fin cfg0.N, win0_5.index t 0 = t.val / 16 ∧ win0_5.index t 1 = 0 ∧ win0_5.index t 2 = 4 + t.val / 4 % 4 :=
  (by decide +kernel : ∀ t : Fin grid0.N, win0_5.index t 0 = t.val / 16 ∧ win0_5.index t 1 = 0 ∧ win0_5.index t 2 = 4 + t.val / 4 % 4)
/-- The block index of the new values' window: batch, and the head's lanes after the keys'. -/
theorem index6 : ∀ t : Fin cfg0.N, win0_6.index t 0 = t.val / 16 ∧ win0_6.index t 1 = 0 ∧ win0_6.index t 2 = 8 + t.val / 4 % 4 :=
  (by decide +kernel : ∀ t : Fin grid0.N, win0_6.index t 0 = t.val / 16 ∧ win0_6.index t 1 = 0 ∧ win0_6.index t 2 = 8 + t.val / 4 % 4)
/-- The block index of the result's window: batch, step of queries, head. -/
theorem index7 : ∀ t : Fin cfg0.N, win0_7.index t 0 = t.val / 16 ∧ win0_7.index t 1 = t.val % 4 ∧ win0_7.index t 2 = t.val / 4 % 4 :=
  (by decide +kernel : ∀ t : Fin grid0.N, win0_7.index t 0 = t.val / 16 ∧ win0_7.index t 1 = t.val % 4 ∧ win0_7.index t 2 = t.val / 4 % 4)

/-! ## A block of an array, read at an entry -/

/-- Window 0 holds the first layer's lambda vectors. -/
theorem read0 (X : S2x4x64.Idx → Elt Ideal .f32) (t : Fin cfg0.N) (j : Fin 4) (l : Fin 64) :
    (((cfg0.win 0).blk t).view.read (Elt Ideal) X : Vec Ideal S1x4x64 .f32) (ix3 0 j l) = X (ix3 0 j l) := by
  rw [View.read_apply]
  show X _ = X _
  refine congrArg X ?_
  funext a
  apply Fin.ext
  match a with
  | ⟨0, _⟩ => show win0_0.index t 0 * 1 + 1 * 0 = 0; rw [(index0 t).1]
  | ⟨1, _⟩ => show win0_0.index t 1 * 4 + 1 * j.val = j.val; rw [(index0 t).2.1]; omega
  | ⟨2, _⟩ => show win0_0.index t 2 * 64 + 1 * l.val = l.val; rw [(index0 t).2.2]; omega

/-- Window 1 holds the first layer's gains. -/
theorem read1 (X : S2x1x128.Idx → Elt Ideal .f32) (t : Fin cfg0.N) (d : Fin 128) :
    (((cfg0.win 1).blk t).view.read (Elt Ideal) X : Vec Ideal S1x1x128 .f32) (ix3 0 0 d) = X (ix3 0 0 d) := by
  rw [View.read_apply]
  show X _ = X _
  refine congrArg X ?_
  funext a
  apply Fin.ext
  match a with
  | ⟨0, _⟩ => show win0_1.index t 0 * 1 + 1 * 0 = 0; rw [(index1 t).1]
  | ⟨1, _⟩ => show win0_1.index t 1 * 1 + 1 * 0 = 0; rw [(index1 t).2.1]
  | ⟨2, _⟩ => show win0_1.index t 2 * 128 + 1 * d.val = d.val; rw [(index1 t).2.2]; omega

/-- Window 2 holds a head's block of query rows. -/
theorem read2 (X : S2x4096x1536.Idx → Elt Ideal .bf16) (t : Fin cfg0.N) (b : Fin 2) (h : Fin 4) (i : Fin 4) (ht : t.val = b.val * 16 + h.val * 4 + i.val) (r : Fin 1024) (l : Fin 128) :
    (((cfg0.win 2).blk t).view.read (Elt Ideal) X : Vec Ideal S1x1024x128 .bf16) (ix3 0 r l) = X (ix3 b ⟨i.val * 1024 + r.val, by omega⟩ ⟨h.val * 128 + l.val, by omega⟩) := by
  rw [View.read_apply]
  show X _ = X _
  refine congrArg X ?_
  funext a
  apply Fin.ext
  match a with
  | ⟨0, _⟩ => show win0_2.index t 0 * 1 + 1 * 0 = b.val; rw [(index2 t).1]; omega
  | ⟨1, _⟩ => show win0_2.index t 1 * 1024 + 1 * r.val = i.val * 1024 + r.val; rw [(index2 t).2.1]; omega
  | ⟨2, _⟩ => show win0_2.index t 2 * 128 + 1 * l.val = h.val * 128 + l.val; rw [(index2 t).2.2]; omega

/-- Window 3 holds a head's cached keys. -/
theorem read3 (X : S2x512x512.Idx → Elt Ideal .bf16) (t : Fin cfg0.N) (b : Fin 2) (h : Fin 4) (i : Fin 4) (ht : t.val = b.val * 16 + h.val * 4 + i.val) (r : Fin 512) (l : Fin 128) :
    (((cfg0.win 3).blk t).view.read (Elt Ideal) X : Vec Ideal S1x512x128 .bf16) (ix3 0 r l) = X (ix3 b r ⟨h.val * 128 + l.val, by omega⟩) := by
  rw [View.read_apply]
  show X _ = X _
  refine congrArg X ?_
  funext a
  apply Fin.ext
  match a with
  | ⟨0, _⟩ => show win0_3.index t 0 * 1 + 1 * 0 = b.val; rw [(index3 t).1]; omega
  | ⟨1, _⟩ => show win0_3.index t 1 * 512 + 1 * r.val = r.val; rw [(index3 t).2.1]; omega
  | ⟨2, _⟩ => show win0_3.index t 2 * 128 + 1 * l.val = h.val * 128 + l.val; rw [(index3 t).2.2]; omega

/-- Window 4 holds a head's cached values. -/
theorem read4 (X : S2x512x512.Idx → Elt Ideal .bf16) (t : Fin cfg0.N) (b : Fin 2) (h : Fin 4) (i : Fin 4) (ht : t.val = b.val * 16 + h.val * 4 + i.val) (r : Fin 512) (l : Fin 128) :
    (((cfg0.win 4).blk t).view.read (Elt Ideal) X : Vec Ideal S1x512x128 .bf16) (ix3 0 r l) = X (ix3 b r ⟨h.val * 128 + l.val, by omega⟩) := by
  rw [View.read_apply]
  show X _ = X _
  refine congrArg X ?_
  funext a
  apply Fin.ext
  match a with
  | ⟨0, _⟩ => show win0_4.index t 0 * 1 + 1 * 0 = b.val; rw [(index4 t).1]; omega
  | ⟨1, _⟩ => show win0_4.index t 1 * 512 + 1 * r.val = r.val; rw [(index4 t).2.1]; omega
  | ⟨2, _⟩ => show win0_4.index t 2 * 128 + 1 * l.val = h.val * 128 + l.val; rw [(index4 t).2.2]; omega

/-- Window 5 holds a head's new keys. -/
theorem read5 (X : S2x4096x1536.Idx → Elt Ideal .bf16) (t : Fin cfg0.N) (b : Fin 2) (h : Fin 4) (i : Fin 4) (ht : t.val = b.val * 16 + h.val * 4 + i.val) (r : Fin 4096) (l : Fin 128) :
    (((cfg0.win 5).blk t).view.read (Elt Ideal) X : Vec Ideal S1x4096x128 .bf16) (ix3 0 r l) = X (ix3 b r ⟨512 + h.val * 128 + l.val, by omega⟩) := by
  rw [View.read_apply]
  show X _ = X _
  refine congrArg X ?_
  funext a
  apply Fin.ext
  match a with
  | ⟨0, _⟩ => show win0_5.index t 0 * 1 + 1 * 0 = b.val; rw [(index5 t).1]; omega
  | ⟨1, _⟩ => show win0_5.index t 1 * 4096 + 1 * r.val = r.val; rw [(index5 t).2.1]; omega
  | ⟨2, _⟩ => show win0_5.index t 2 * 128 + 1 * l.val = 512 + h.val * 128 + l.val; rw [(index5 t).2.2]; omega

/-- Window 6 holds a head's new values. -/
theorem read6 (X : S2x4096x1536.Idx → Elt Ideal .bf16) (t : Fin cfg0.N) (b : Fin 2) (h : Fin 4) (i : Fin 4) (ht : t.val = b.val * 16 + h.val * 4 + i.val) (r : Fin 4096) (l : Fin 128) :
    (((cfg0.win 6).blk t).view.read (Elt Ideal) X : Vec Ideal S1x4096x128 .bf16) (ix3 0 r l) = X (ix3 b r ⟨1024 + h.val * 128 + l.val, by omega⟩) := by
  rw [View.read_apply]
  show X _ = X _
  refine congrArg X ?_
  funext a
  apply Fin.ext
  match a with
  | ⟨0, _⟩ => show win0_6.index t 0 * 1 + 1 * 0 = b.val; rw [(index6 t).1]; omega
  | ⟨1, _⟩ => show win0_6.index t 1 * 4096 + 1 * r.val = r.val; rw [(index6 t).2.1]; omega
  | ⟨2, _⟩ => show win0_6.index t 2 * 128 + 1 * l.val = 1024 + h.val * 128 + l.val; rw [(index6 t).2.2]; omega

/-- Window 7's block in the result: the head's lanes of a block of rows. -/
theorem read7 (X : S2x4096x512.Idx → Elt Ideal .bf16) (t : Fin cfg0.N) (b : Fin 2) (h : Fin 4) (i : Fin 4) (ht : t.val = b.val * 16 + h.val * 4 + i.val) (r : Fin 1024) (l : Fin 128) :
    (((cfg0.win 7).blk t).view.read (Elt Ideal) X : Vec Ideal S1x1024x128 .bf16) (ix3 0 r l) = X (ix3 b ⟨i.val * 1024 + r.val, by omega⟩ ⟨h.val * 128 + l.val, by omega⟩) := by
  rw [View.read_apply]
  show X _ = X _
  refine congrArg X ?_
  funext a
  apply Fin.ext
  match a with
  | ⟨0, _⟩ => show win0_7.index t 0 * 1 + 1 * 0 = b.val; rw [(index7 t).1]; omega
  | ⟨1, _⟩ => show win0_7.index t 1 * 1024 + 1 * r.val = i.val * 1024 + r.val; rw [(index7 t).2.1]; omega
  | ⟨2, _⟩ => show win0_7.index t 2 * 128 + 1 * l.val = h.val * 128 + l.val; rw [(index7 t).2.2]; omega

/-! ## The input blocks, read at an entry -/

/-- The lambda vectors a point reads. -/
theorem blk_lam (t : Fin cfg0.N) (j : Fin 4) (l : Fin 64) : (iblk m c 0 t : Vec Ideal S1x4x64 .f32) (ix3 0 j l) = (m ((c : Thread nD τ).loc main_arg5)) (ix3 0 j l) :=
  (read0 (V m c main_arg5) t j l).trans (congrFun (V_main_arg5 m c) _)

/-- The gains a point reads. -/
theorem blk_g (t : Fin cfg0.N) (d : Fin 128) : (iblk m c 1 t : Vec Ideal S1x1x128 .f32) (ix3 0 0 d) = (m ((c : Thread nD τ).loc main_arg6)) (ix2 0 d) :=
  (read1 (V m c main_v16) t d).trans ((congrFun (V_v16 m c) _).trans (gains_apply (m ((c : Thread nD τ).loc main_arg6)) 0 d))

/-- The queries a point reads. -/
theorem blk_q (t : Fin cfg0.N) (b : Fin 2) (h : Fin 4) (i : Fin 4) (ht : t.val = b.val * 16 + h.val * 4 + i.val) (r : Fin 1024) (k : Fin 2) (l : Fin 64) :
    (iblk m c 2 t : Vec Ideal S1x1024x128 .bf16) (ix3 0 r ⟨k.val * 64 + l.val, by omega⟩) = (m ((c : Thread nD τ).loc main_arg0)) (ix5 b ⟨i.val * 1024 + r.val, by omega⟩ h k l) :=
  (read2 (V m c main_v15) t b h i ht r ⟨k.val * 64 + l.val, by omega⟩).trans ((congrFun (V_v15 m c) _).trans (Eq.trans (congrArg (fun x : Fin 1536 => packed (m ((c : Thread nD τ).loc main_arg0)) (m ((c : Thread nD τ).loc main_arg1)) (m ((c : Thread nD τ).loc main_arg2)) (ix3 b ⟨i.val * 1024 + r.val, by omega⟩ x)) (Fin.ext (by simp only []; omega))) (packed_q (m ((c : Thread nD τ).loc main_arg0)) (m ((c : Thread nD τ).loc main_arg1)) (m ((c : Thread nD τ).loc main_arg2)) b ⟨i.val * 1024 + r.val, by omega⟩ h k l)))

/-- The cached keys a point reads. -/
theorem blk_kc (t : Fin cfg0.N) (b : Fin 2) (h : Fin 4) (i : Fin 4) (ht : t.val = b.val * 16 + h.val * 4 + i.val) (r : Fin 512) (k : Fin 2) (l : Fin 64) :
    (iblk m c 3 t : Vec Ideal S1x512x128 .bf16) (ix3 0 r ⟨k.val * 64 + l.val, by omega⟩) = (m ((c : Thread nD τ).loc main_arg3)) (ix6 b 0 r h k l) :=
  (read3 (V m c main_v12) t b h i ht r ⟨k.val * 64 + l.val, by omega⟩).trans ((congrFun (V_v12 m c) _).trans (Eq.trans (congrArg (fun x : Fin 512 => cachedK (m ((c : Thread nD τ).loc main_arg3)) (ix3 b r x)) (Fin.ext (by simp only []; omega))) (cachedK_apply (m ((c : Thread nD τ).loc main_arg3)) b r h k l)))

/-- The cached values a point reads. -/
theorem blk_vc (t : Fin cfg0.N) (b : Fin 2) (h : Fin 4) (i : Fin 4) (ht : t.val = b.val * 16 + h.val * 4 + i.val) (r : Fin 512) (l : Fin 128) :
    (iblk m c 4 t : Vec Ideal S1x512x128 .bf16) (ix3 0 r l) = (m ((c : Thread nD τ).loc main_arg4)) (ix5 b 0 r h l) :=
  (read4 (V m c main_v14) t b h i ht r l).trans ((congrFun (V_v14 m c) _).trans (Eq.trans rfl (cachedV_apply (m ((c : Thread nD τ).loc main_arg4)) b r h l)))

/-- The new keys a point reads. -/
theorem blk_kl (t : Fin cfg0.N) (b : Fin 2) (h : Fin 4) (i : Fin 4) (ht : t.val = b.val * 16 + h.val * 4 + i.val) (r : Fin 4096) (k : Fin 2) (l : Fin 64) :
    (iblk m c 5 t : Vec Ideal S1x4096x128 .bf16) (ix3 0 r ⟨k.val * 64 + l.val, by omega⟩) = (m ((c : Thread nD τ).loc main_arg1)) (ix5 b r h k l) :=
  (read5 (V m c main_v15) t b h i ht r ⟨k.val * 64 + l.val, by omega⟩).trans ((congrFun (V_v15 m c) _).trans (Eq.trans (congrArg (fun x : Fin 1536 => packed (m ((c : Thread nD τ).loc main_arg0)) (m ((c : Thread nD τ).loc main_arg1)) (m ((c : Thread nD τ).loc main_arg2)) (ix3 b r x)) (Fin.ext (by simp only []; omega))) (packed_k (m ((c : Thread nD τ).loc main_arg0)) (m ((c : Thread nD τ).loc main_arg1)) (m ((c : Thread nD τ).loc main_arg2)) b r h k l)))

/-- The new values a point reads. -/
theorem blk_vl (t : Fin cfg0.N) (b : Fin 2) (h : Fin 4) (i : Fin 4) (ht : t.val = b.val * 16 + h.val * 4 + i.val) (r : Fin 4096) (l : Fin 128) :
    (iblk m c 6 t : Vec Ideal S1x4096x128 .bf16) (ix3 0 r l) = (m ((c : Thread nD τ).loc main_arg2)) (ix4 b r h l) :=
  (read6 (V m c main_v15) t b h i ht r l).trans ((congrFun (V_v15 m c) _).trans (Eq.trans rfl (packed_v (m ((c : Thread nD τ).loc main_arg0)) (m ((c : Thread nD τ).loc main_arg1)) (m ((c : Thread nD τ).loc main_arg2)) b r h l)))

end Cert.Lat
end
-- ==== Proof.Lat.Cat.lean ====
/- The attention's grid points: the blocks each reads, the keys and values it attends over, and the block it leaves. -/
module

public import proofs.«01_k».proof.Proof.Gen.KernelIdeal.Value
public import proofs.«01_k».proof.Proof.Lat.Half
public import proofs.«01_k».proof.Proof.Lat.Soft
public import proofs.«01_k».proof.Proof.Lat.Host
public import proofs.«01_k».proof.Proof.Lat.RefRow

@[expose] public section

set_option maxRecDepth 16384

noncomputable section

open Idealize.ShloMosaic Idealize.ShloMosaic.TcCoe Idealize.SL.Sem

namespace Cert.Lat

open Cert.KernelIdeal Cert.KernelIdeal.Gen

variable (m : (ℓ : Loc nD τ sig) → Buf (Elt Ideal) ℓ) (c : Dev nD)

/-! ## The keys and values of a point, out of the cached rows and the new ones -/

/-- The cached rows as the body stores them, at an entry. -/
theorem pay2_apply (x : Vec Ideal S1x512x128 .bf16) (r : Fin 512) (l : Fin 128) : k0_pay2 (F := Ideal) x (ix2 r l) = x (ix3 0 r l) := by
  pointwise [k0_pay2]

/-- The new rows as the body stores them, at an entry. -/
theorem pay3_apply (x : Vec Ideal S1x4096x128 .bf16) (r : Fin 4096) (l : Fin 128) : k0_pay3 (F := Ideal) x (ix2 r l) = x (ix3 0 r l) := by
  pointwise [k0_pay3]

/-- The first 512 rows: the cached ones. -/
theorem cat_lo (xc : Vec Ideal S1x512x128 .bf16) (xl : Vec Ideal S1x4096x128 .bf16) (r : Fin 4608) (hr : r.val < 512) (l : Fin 128) :
    cat xc xl (ix2 r l) = xc (ix3 0 ⟨r.val, hr⟩ l) := by
  rw [← pay2_apply xc ⟨r.val, hr⟩ l]
  unfold cat
  rw [View.canon_cons_of_not_mem]
  · have e : (ix2 r l : S4608x128.Idx) = (Rect.unit (s := S4608x128) ![0, 0] ![512, 128] inb_S4608x128_S512x128_0_0).emb (ix2 ⟨r.val, hr⟩ l) := by
      funext a; apply Fin.ext
      match a with
      | ⟨0, _⟩ => show r.val = 0 + 1 * r.val; omega
      | ⟨1, _⟩ => show l.val = 0 + 1 * l.val; omega
    rw [e]
    exact View.canon_cons_emb _ _ _ _
  · rw [Rect.mem_set_unit]
    intro hm
    have := (hm 0).1
    have h2 : (512 : Nat) ≤ r.val := this
    omega

/-- The rows from 512 on: the new ones. -/
theorem cat_hi (xc : Vec Ideal S1x512x128 .bf16) (xl : Vec Ideal S1x4096x128 .bf16) (r : Fin 4608) (hr : ¬ r.val < 512) (l : Fin 128) :
    cat xc xl (ix2 r l) = xl (ix3 0 ⟨r.val - 512, by omega⟩ l) := by
  rw [← pay3_apply xl ⟨r.val - 512, by omega⟩ l]
  unfold cat
  have e : (ix2 r l : S4608x128.Idx) = (Rect.unit (s := S4608x128) ![512, 0] ![4096, 128] inb_S4608x128_S4096x128_512_0).emb (ix2 ⟨r.val - 512, by omega⟩ l) := by
    funext a; apply Fin.ext
    match a with
    | ⟨0, _⟩ => show r.val = 512 + 1 * (r.val - 512); omega
    | ⟨1, _⟩ => show l.val = 0 + 1 * l.val; omega
  rw [e]
  exact View.canon_cons_emb _ _ _ _

end Cert.Lat
end
-- ==== Proof.Lat.Point.lean ====
/- A grid point of the attention: the keys and values it holds, and every entry of the block it leaves. -/
module

public import proofs.«01_k».proof.Proof.Lat.Blocks
public import proofs.«01_k».proof.Proof.Lat.Cat

@[expose] public section

set_option maxRecDepth 16384

noncomputable section

open Idealize.ShloMosaic Idealize.ShloMosaic.TcCoe Idealize.SL.Sem

namespace Cert.Lat

open Cert.KernelIdeal Cert.KernelIdeal.Gen

/-- The first 512 rows of a point's block. -/
theorem block_lo (x0 : Vec Ideal S1x4x64 .f32) (x1 : Vec Ideal S1x1x128 .f32) (x2 : Vec Ideal S1x1024x128 .bf16) (kc vc : Vec Ideal S4608x128 .bf16)
    (r : Fin 512) (d : Fin 128) :
    block x0 x1 x2 kc vc (ix3 0 ⟨r.val, by omega⟩ d)
      = half (k0_pay6 x0) x1 (View.ld x2 (Rect.unit ![0, 0, 0] ![1, 512, 128] inb_S1x1024x128_S1x512x128_0_0_0))
        (blk0 kc) (blk1 kc) (blk2 kc) (blk0 vc) (blk1 vc) (blk2 vc) (ix3 0 r d) := by
  unfold block
  rw [View.canon_cons_of_not_mem]
  · have e : (ix3 0 ⟨r.val, by omega⟩ d : S1x1024x128.Idx) = (Rect.unit (s := S1x1024x128) ![0, 0, 0] ![1, 512, 128] inb_S1x1024x128_S1x512x128_0_0_0).emb (ix3 0 r d) := by
      funext a; apply Fin.ext
      match a with
      | ⟨0, _⟩ => rfl
      | ⟨1, _⟩ => show r.val = 0 + 1 * r.val; omega
      | ⟨2, _⟩ => show d.val = 0 + 1 * d.val; omega
    rw [e]
    exact View.canon_cons_emb _ _ _ _
  · rw [Rect.mem_set_unit]
    intro hm
    have h2 : (512 : Nat) ≤ r.val := (hm 1).1
    omega

/-- The last 512 rows of a point's block. -/
theorem block_hi (x0 : Vec Ideal S1x4x64 .f32) (x1 : Vec Ideal S1x1x128 .f32) (x2 : Vec Ideal S1x1024x128 .bf16) (kc vc : Vec Ideal S4608x128 .bf16)
    (r : Fin 512) (d : Fin 128) :
    block x0 x1 x2 kc vc (ix3 0 ⟨512 + r.val, by omega⟩ d)
      = half (k0_pay6 x0) x1 (View.ld x2 (Rect.unit ![0, 512, 0] ![1, 512, 128] inb_S1x1024x128_S1x512x128_0_512_0))
        (blk0 kc) (blk1 kc) (blk2 kc) (blk0 vc) (blk1 vc) (blk2 vc) (ix3 0 r d) := by
  unfold block
  have e : (ix3 0 ⟨512 + r.val, by omega⟩ d : S1x1024x128.Idx) = (Rect.unit (s := S1x1024x128) ![0, 512, 0] ![1, 512, 128] inb_S1x1024x128_S1x512x128_0_512_0).emb (ix3 0 r d) := by
    funext a; apply Fin.ext
    match a with
    | ⟨0, _⟩ => rfl
    | ⟨1, _⟩ => show 512 + r.val = 512 + 1 * r.val; omega
    | ⟨2, _⟩ => show d.val = 0 + 1 * d.val; omega
  rw [e]
  exact View.canon_cons_emb _ _ _ _

/-- The first 512 query rows of a point. -/
theorem q_lo (x2 : Vec Ideal S1x1024x128 .bf16) (r : Fin 512) (l : Fin 128) :
    View.ld x2 (Rect.unit ![0, 0, 0] ![1, 512, 128] inb_S1x1024x128_S1x512x128_0_0_0) (ix3 0 r l) = x2 (ix3 0 ⟨r.val, by omega⟩ l) :=
  View.ld_unit_apply_of x2 _ _ _ (ix3 0 r l) _ fun a => by
    match a with
    | ⟨0, _⟩ => rfl
    | ⟨1, _⟩ => show r.val = 0 + r.val; omega
    | ⟨2, _⟩ => show l.val = 0 + l.val; omega

/-- The last 512 query rows of a point. -/
theorem q_hi (x2 : Vec Ideal S1x1024x128 .bf16) (r : Fin 512) (l : Fin 128) :
    View.ld x2 (Rect.unit ![0, 512, 0] ![1, 512, 128] inb_S1x1024x128_S1x512x128_0_512_0) (ix3 0 r l) = x2 (ix3 0 ⟨512 + r.val, by omega⟩ l) :=
  View.ld_unit_apply_of x2 _ _ _ (ix3 0 r l) _ fun a => by
    match a with
    | ⟨0, _⟩ => rfl
    | ⟨1, _⟩ => rfl
    | ⟨2, _⟩ => show l.val = 0 + l.val; omega

/-- Every entry of a point's block, over real queries, keys and values. -/
theorem block_apply (x0 : Vec Ideal S1x4x64 .f32) (x1 : Vec Ideal S1x1x128 .f32) (x2 : Vec Ideal S1x1024x128 .bf16) (kc vc : Vec Ideal S4608x128 .bf16)
    (r : Fin 1024) (d : Fin 128) (L : ℝ) (Q : Fin 2 → Fin 64 → ℝ) (K : Fin 2 → Fin 4608 → Fin 64 → ℝ) (V : Fin 4608 → Fin 128 → ℝ)
    (hL : k0_pay6 (F := Ideal) x0 (ix2 0 0) = (L : EReal))
    (hq : ∀ (k : Fin 2) (l : Fin 64), x2 (ix3 0 r ⟨k.val * 64 + l.val, by omega⟩) = (Q k l : EReal))
    (hk : ∀ (j : Fin 4608) (k : Fin 2) (l : Fin 64), kc (ix2 j ⟨k.val * 64 + l.val, by omega⟩) = (K k j l : EReal))
    (hv : ∀ (j : Fin 4608) (d : Fin 128), vc (ix2 j d) = (V j d : EReal)) :
    block x0 x1 x2 kc vc (ix3 0 r d) = normed (diffAtt L Q K V) (fun d => x1 (ix3 0 0 d)) d := by
  have hk0 : ∀ j (l : Fin 64), kc (ix2 j ⟨l.val, by omega⟩) = (K 0 j l : EReal) := fun j l =>
    (congrArg (fun x : Fin 128 => kc (ix2 j x)) (Fin.ext (show l.val = 0 * 64 + l.val by omega))).trans (hk j 0 l)
  have hk1 : ∀ j (l : Fin 64), kc (ix2 j ⟨64 + l.val, by omega⟩) = (K 1 j l : EReal) := fun j l =>
    (congrArg (fun x : Fin 128 => kc (ix2 j x)) (Fin.ext (show 64 + l.val = 1 * 64 + l.val by omega))).trans (hk j 1 l)
  have hq0 : ∀ l : Fin 64, x2 (ix3 0 r ⟨l.val, by omega⟩) = (Q 0 l : EReal) := fun l =>
    (congrArg (fun x : Fin 128 => x2 (ix3 0 r x)) (Fin.ext (show l.val = 0 * 64 + l.val by omega))).trans (hq 0 l)
  have hq1 : ∀ l : Fin 64, x2 (ix3 0 r ⟨64 + l.val, by omega⟩) = (Q 1 l : EReal) := fun l =>
    (congrArg (fun x : Fin 128 => x2 (ix3 0 r x)) (Fin.ext (show 64 + l.val = 1 * 64 + l.val by omega))).trans (hq 1 l)
  by_cases hr : r.val < 512
  · rw [show r = ⟨(⟨r.val, hr⟩ : Fin 512).val, by omega⟩ from rfl, block_lo]
    exact half_apply _ _ _ _ _ _ L Q K V hL (fun l => (q_lo x2 _ _).trans (hq0 l)) (fun l => (q_lo x2 _ _).trans (hq1 l)) hk0 hk1 hv d
  · have e : r = ⟨512 + (⟨r.val - 512, by omega⟩ : Fin 512).val, by omega⟩ := Fin.ext (show r.val = 512 + (r.val - 512) by omega)
    have e' : ∀ l, x2 (ix3 0 r l) = x2 (ix3 0 ⟨512 + (⟨r.val - 512, by omega⟩ : Fin 512).val, by omega⟩ l) := fun l =>
      congrArg (fun x : Fin 1024 => x2 (ix3 0 x l)) e
    refine (congrArg (fun x : Fin 1024 => block x0 x1 x2 kc vc (ix3 0 x d)) e).trans ?_
    show block x0 x1 x2 kc vc (ix3 0 ⟨512 + (⟨r.val - 512, by omega⟩ : Fin 512).val, by omega⟩ d) = _
    rw [block_hi]
    exact half_apply _ _ _ _ _ _ L Q K V hL (fun l => (q_hi x2 _ _).trans ((e' _).symm.trans (hq0 l)))
      (fun l => (q_hi x2 _ _).trans ((e' _).symm.trans (hq1 l))) hk0 hk1 hv d

variable (m : (ℓ : Loc nD τ sig) → Buf (Elt Ideal) ℓ) (c : Dev nD)
  (y0 y1 : S2x4096x4x2x64.Idx → ℝ) (y2 : S2x4096x4x128.Idx → ℝ) (y3 : S2x2x512x4x2x64.Idx → ℝ) (y4 : S2x2x512x4x128.Idx → ℝ)

/-- The keys a point puts together: the cached rows, then the new ones. -/
theorem cat_keys (h1 : ∀ i, m ((c : Thread nD τ).loc main_arg1) i = (y1 i : EReal)) (h3 : ∀ i, m ((c : Thread nD τ).loc main_arg3) i = (y3 i : EReal))
    (t : Fin cfg0.N) (b : Fin 2) (h : Fin 4) (i : Fin 4) (ht : t.val = b.val * 16 + h.val * 4 + i.val) (j : Fin 4608) (k : Fin 2) (l : Fin 64) :
    cat (iblk m c 3 t) (iblk m c 5 t) (ix2 j ⟨k.val * 64 + l.val, by omega⟩) = (keyRow y1 y3 b h k j l : EReal) := by
  unfold keyRow
  by_cases hj : j.val < 512
  · rw [dif_pos hj, ← h3, cat_lo _ _ _ hj]; exact blk_kc m c t b h i ht _ k l
  · rw [dif_neg hj, ← h1, cat_hi _ _ _ hj]; exact blk_kl m c t b h i ht _ k l

/-- The values a point puts together: the cached rows, then the new ones. -/
theorem cat_vals (h2 : ∀ i, m ((c : Thread nD τ).loc main_arg2) i = (y2 i : EReal)) (h4 : ∀ i, m ((c : Thread nD τ).loc main_arg4) i = (y4 i : EReal))
    (t : Fin cfg0.N) (b : Fin 2) (h : Fin 4) (i : Fin 4) (ht : t.val = b.val * 16 + h.val * 4 + i.val) (j : Fin 4608) (d : Fin 128) :
    cat (iblk m c 4 t) (iblk m c 6 t) (ix2 j d) = (valRow y2 y4 b h j d : EReal) := by
  unfold valRow
  by_cases hj : j.val < 512
  · rw [dif_pos hj, ← h4, cat_lo _ _ _ hj]; exact blk_vc m c t b h i ht _ d
  · rw [dif_neg hj, ← h2, cat_hi _ _ _ hj]; exact blk_vl m c t b h i ht _ d

/-- After any point the key scratch holds the keys of its batch row and head. -/
theorem scr_keys (h1 : ∀ i, m ((c : Thread nD τ).loc main_arg1) i = (y1 i : EReal)) (h3 : ∀ i, m ((c : Thread nD τ).loc main_arg3) i = (y3 i : EReal)) :
    ∀ (n : Nat) (hn : n < cfg0.N) (b : Fin 2) (h : Fin 4) (i : Fin 4), n = b.val * 16 + h.val * 4 + i.val → ∀ (j : Fin 4608) (k : Fin 2) (l : Fin 64),
      (outsAt0 m c n hn).2.1 (ix2 j ⟨k.val * 64 + l.val, by omega⟩) = (keyRow y1 y3 b h k j l : EReal) := by
  intro n
  induction n using Nat.strong_induction_on with
  | _ n ih =>
    intro hn b h i ht j k l
    by_cases h0 : n % 4 = 0
    · rw [outsAt0_A m c ⟨n, hn⟩ h0]; simp only []; rw [sout_A0]; exact cat_keys m c y1 y3 h1 h3 ⟨n, hn⟩ b h i ht j k l
    · rw [outsAt0_B m c ⟨n, hn⟩ h0]; simp only []; rw [sout_B0]
      exact ih (n - 1) (by omega) _ b h ⟨i.val - 1, by omega⟩ (show n - 1 = b.val * 16 + h.val * 4 + (i.val - 1) by omega) j k l

/-- After any point the value scratch holds the values of its batch row and head. -/
theorem scr_vals (h2 : ∀ i, m ((c : Thread nD τ).loc main_arg2) i = (y2 i : EReal)) (h4 : ∀ i, m ((c : Thread nD τ).loc main_arg4) i = (y4 i : EReal)) :
    ∀ (n : Nat) (hn : n < cfg0.N) (b : Fin 2) (h : Fin 4) (i : Fin 4), n = b.val * 16 + h.val * 4 + i.val → ∀ (j : Fin 4608) (d : Fin 128),
      (outsAt0 m c n hn).2.2 (ix2 j d) = (valRow y2 y4 b h j d : EReal) := by
  intro n
  induction n using Nat.strong_induction_on with
  | _ n ih =>
    intro hn b h i ht j d
    by_cases h0 : n % 4 = 0
    · rw [outsAt0_A m c ⟨n, hn⟩ h0]; simp only []; rw [sout_A1]; exact cat_vals m c y2 y4 h2 h4 ⟨n, hn⟩ b h i ht j d
    · rw [outsAt0_B m c ⟨n, hn⟩ h0]; simp only []; rw [sout_B1]
      exact ih (n - 1) (by omega) _ b h ⟨i.val - 1, by omega⟩ (show n - 1 = b.val * 16 + h.val * 4 + (i.val - 1) by omega) j d

/-- A point's lambda. -/
theorem point_lam (t : Fin cfg0.N) : k0_pay6 (F := Ideal) (iblk m c 0 t) (ix2 0 0) = lambda (m ((c : Thread nD τ).loc main_arg5)) := by
  rw [pay6_apply]
  simp only [blk_lam]
  rfl

/-- Every entry of the block a point leaves. -/
theorem point_apply (h0 : ∀ i, m ((c : Thread nD τ).loc main_arg0) i = (y0 i : EReal)) (h1 : ∀ i, m ((c : Thread nD τ).loc main_arg1) i = (y1 i : EReal))
    (h2 : ∀ i, m ((c : Thread nD τ).loc main_arg2) i = (y2 i : EReal)) (h3 : ∀ i, m ((c : Thread nD τ).loc main_arg3) i = (y3 i : EReal))
    (h4 : ∀ i, m ((c : Thread nD τ).loc main_arg4) i = (y4 i : EReal)) (L : ℝ) (hL : lambda (m ((c : Thread nD τ).loc main_arg5)) = (L : EReal))
    (t : Fin cfg0.N) (b : Fin 2) (h : Fin 4) (i : Fin 4) (ht : t.val = b.val * 16 + h.val * 4 + i.val) (r : Fin 1024) (d : Fin 128) :
    (outsAt0 m c t.val t.isLt).1 (ix3 0 r d)
      = normed (diffAtt L (fun k l => y0 (ix5 b ⟨i.val * 1024 + r.val, by omega⟩ h k l)) (keyRow y1 y3 b h) (valRow y2 y4 b h))
          (fun d => m ((c : Thread nD τ).loc main_arg6) (ix2 0 d)) d := by
  have hg : (fun d => (iblk m c 1 t : Vec Ideal S1x1x128 .f32) (ix3 0 0 d)) = fun d => m ((c : Thread nD τ).loc main_arg6) (ix2 0 d) := funext fun d => blk_g m c t d
  rw [← hg]
  have hq : ∀ (k : Fin 2) (l : Fin 64), (iblk m c 2 t : Vec Ideal S1x1024x128 .bf16) (ix3 0 r ⟨k.val * 64 + l.val, by omega⟩)
      = (y0 (ix5 b ⟨i.val * 1024 + r.val, by omega⟩ h k l) : EReal) := fun k l => (blk_q m c t b h i ht r k l).trans (h0 _)
  by_cases hz : t.val % 4 = 0
  · rw [outsAt0_A m c t hz]; simp only []; rw [out_A]
    exact block_apply _ _ _ _ _ r d L _ _ _ ((point_lam m c t).trans hL) hq (cat_keys m c y1 y3 h1 h3 t b h i ht) (cat_vals m c y2 y4 h2 h4 t b h i ht)
  · rw [outsAt0_B m c t hz]; simp only []; rw [out_B]
    have hp : t.val - 1 = b.val * 16 + h.val * 4 + (⟨i.val - 1, by omega⟩ : Fin 4).val := by
      show t.val - 1 = b.val * 16 + h.val * 4 + (i.val - 1); omega
    exact block_apply _ _ _ _ _ r d L _ _ _ ((point_lam m c t).trans hL) hq (scr_keys m c y1 y3 h1 h3 _ _ b h _ hp) (scr_vals m c y2 y4 h2 h4 _ _ b h _ hp)

/-- Every entry of the kernel's result. -/
theorem final_apply (h0 : ∀ i, m ((c : Thread nD τ).loc main_arg0) i = (y0 i : EReal)) (h1 : ∀ i, m ((c : Thread nD τ).loc main_arg1) i = (y1 i : EReal))
    (h2 : ∀ i, m ((c : Thread nD τ).loc main_arg2) i = (y2 i : EReal)) (h3 : ∀ i, m ((c : Thread nD τ).loc main_arg3) i = (y3 i : EReal))
    (h4 : ∀ i, m ((c : Thread nD τ).loc main_arg4) i = (y4 i : EReal)) (L : ℝ) (hL : lambda (m ((c : Thread nD τ).loc main_arg5)) = (L : EReal))
    (b : Fin 2) (t : Fin 4096) (h : Fin 4) (d : Fin 128) :
    ((dats m 0 c).arrAt 7 cfg0.N : Vec Ideal S2x4096x512 .bf16) (ix3 b t ⟨h.val * 128 + d.val, by omega⟩)
      = normed (diffAtt L (fun k l => y0 (ix5 b t h k l)) (keyRow y1 y3 b h) (valRow y2 y4 b h))
          (fun d => m ((c : Thread nD τ).loc main_arg6) (ix2 0 d)) d := by
  obtain ⟨i, r, rfl⟩ : ∃ (i : Fin 4) (r : Fin 1024), t = ⟨i.val * 1024 + r.val, by omega⟩ :=
    ⟨⟨t.val / 1024, by omega⟩, ⟨t.val % 1024, by omega⟩, Fin.ext (show t.val = t.val / 1024 * 1024 + t.val % 1024 by omega)⟩
  have hN : b.val * 16 + h.val * 4 + i.val < cfg0.N := Nat.lt_of_lt_of_eq (by omega) N_0.symm
  rw [← read7 ((dats m 0 c).arrAt 7 cfg0.N) ⟨b.val * 16 + h.val * 4 + i.val, hN⟩ b h i rfl r d, Value.blocks7 m c _ (flush0_7 _), Value.flushed7]
  exact point_apply m c y0 y1 y2 y3 y4 h0 h1 h2 h3 h4 L hL ⟨b.val * 16 + h.val * 4 + i.val, hN⟩ b h i rfl r d

end Cert.Lat
end
-- ==== Proof.Lat.Claim.lean ====
/- The attention's claims: the reference's frame, what the precondition gives, and the two results set side by side. -/
module

public import proofs.«01_k».proof.Defs
public import proofs.«01_k».proof.Proof.Gen.Kernel.Frame
public import proofs.«01_k».proof.Proof.Gen.ReferenceIdeal.Run
public import proofs.«01_k».proof.Proof.Lat.Point
public import Idealize.ShloMosaic.Adequacy
public import Idealize.ShloMosaic.Init

@[expose] public section

set_option maxRecDepth 16384

noncomputable section

open Idealize.ShloMosaic Idealize.ShloMosaic.TcCoe Idealize.SL.Sem

namespace Cert.Lat

/-- The shapes of the precondition's constants broadcast to those of its arguments. -/
theorem preFacts : Cert.Pre_finite.Facts where
  bcast_S_S2x4096x4x2x64 := by decide
  bcast_S_S2x4096x4x128 := by decide
  bcast_S_S2x2x512x4x2x64 := by decide
  bcast_S_S2x2x512x4x128 := by decide
  bcast_S_S2x4x64 := by decide

/-- An extended real whose magnitude is below infinity is a real. -/
theorem real_of_abs_lt (x : Ideal .f32) (h : FloatOps.cmpf (F := Ideal) (φ := .f32) .olt (FloatOps.absf (F := Ideal) (φ := .f32) x) (Ideal.ofBits .f32 0x7F800000#32) = 1#1) :
    ∃ r : ℝ, x = (r : EReal) := by
  rw [posInf] at h
  change BitVec.ofBool (decide (max (x : EReal) (-x) < ⊤)) = 1#1 at h
  have hlt : max (x : EReal) (-x) < ⊤ := by
    by_contra hn
    rw [decide_eq_false hn] at h
    exact absurd h (by decide)
  have h1 := (max_lt_iff.1 hlt).1
  have h2 := (max_lt_iff.1 hlt).2
  revert h1 h2
  induction x using EReal.rec with
  | bot => intro _ h2; exact absurd h2 (by simp)
  | coe r => exact fun _ _ => ⟨r, rfl⟩
  | top => intro h1; exact absurd h1 (by simp)

/-- An array whose entries all pass the precondition's test holds reals. -/
theorem reals_of_pre {s u : Shape} (x : FVec Ideal s .f32) (z : FVec Ideal s .f32) (hz : ∀ i, z i = Ideal.ofBits .f32 0x7F800000#32)
    (h : cmpf .olt (Host.absf x) z = (fun _ => 1#1)) : ∃ y : s.Idx → ℝ, ∀ i, x i = (y i : EReal) := by
  have hx : ∀ i, ∃ r : ℝ, x i = (r : EReal) := fun i => real_of_abs_lt (x i) (by rw [← hz i]; exact congrFun h i)
  exact ⟨fun i => (hx i).choose, fun i => (hx i).choose_spec⟩

/-- The reference terminates, keeps its arguments, and leaves its counters at zero. -/
theorem refFrame : Cert.quiescent_ReferenceIdeal (hReferenceIdeal := Cert.ReferenceIdeal.Gen.facts) := fun m ρ _ =>
  (θ_run (Cert.ReferenceIdeal.defs (F := Ideal)) _ _).mono (fun r h => ⟨fun c => (h c).2, sem_eq_zero_of_no_sems (by decide) r.2⟩)
    (Cert.ReferenceIdeal.Value.run m ρ)

/-- The kernel's result is the reference's, for real arguments. -/
theorem results_eq (m : (ℓ : Loc Cert.KernelIdeal.nD Cert.KernelIdeal.τ Cert.KernelIdeal.sig) → Buf (Elt Ideal) ℓ) (c : Dev Cert.KernelIdeal.nD)
    [Cert.Pre_finite.Facts] (hp : Cert.Pre_KernelIdeal_finite m) :
    ((Cert.KernelIdeal.Gen.dats m 0 c).arrAt 7 Cert.KernelIdeal.cfg0.N : Vec Ideal Cert.KernelIdeal.S2x4096x512 .bf16)
      = Cert.ReferenceIdeal.Read.val_main_v65 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg1)) (m ((c : Thread Cert.KernelIdeal.nD Cert.KernelIdeal.τ).loc Cert.KernelIdeal.main_arg2))
          (m ((c : Thread Cert.KernelIdeal.nD Cert.KernelIdeal.τ).loc Cert.KernelIdeal.main_arg3)) (m ((c : Thread Cert.KernelIdeal.nD Cert.KernelIdeal.τ).loc Cert.KernelIdeal.main_arg4))
          (m ((c : Thread Cert.KernelIdeal.nD Cert.KernelIdeal.τ).loc Cert.KernelIdeal.main_arg5)) (m ((c : Thread Cert.KernelIdeal.nD Cert.KernelIdeal.τ).loc Cert.KernelIdeal.main_arg6)) := by
  obtain ⟨p0, p1, p2, p3, p4, p5⟩ := hp c
  obtain ⟨y0, h0⟩ := reals_of_pre (u := Cert.Pre_finite.S_) _ _ (fun _ => rfl) p0
  obtain ⟨y1, h1⟩ := reals_of_pre (u := Cert.Pre_finite.S_) _ _ (fun _ => rfl) p1
  obtain ⟨y2, h2⟩ := reals_of_pre (u := Cert.Pre_finite.S_) _ _ (fun _ => rfl) p2
  obtain ⟨y3, h3⟩ := reals_of_pre (u := Cert.Pre_finite.S_) _ _ (fun _ => rfl) p3
  obtain ⟨y4, h4⟩ := reals_of_pre (u := Cert.Pre_finite.S_) _ _ (fun _ => rfl) p4
  obtain ⟨y5, h5⟩ := reals_of_pre (u := Cert.Pre_finite.S_) _ _ (fun _ => rfl) p5
  obtain ⟨L, hL⟩ := lambda_real _ y5 h5
  funext j
  rw [← ix3_eta j]
  generalize hb : j 0 = b
  generalize ht : j 1 = t
  generalize hl : j 2 = l
  clear hb ht hl
  change Fin 512 at l
  obtain ⟨h, d, rfl⟩ : ∃ (h : Fin 4) (d : Fin 128), l = ⟨h.val * 128 + d.val, by have := h.isLt; have := d.isLt; omega⟩ :=
    ⟨⟨l.val / 128, by have := l.isLt; omega⟩, ⟨l.val % 128, by omega⟩, Fin.ext (show l.val = l.val / 128 * 128 + l.val % 128 by omega)⟩
  exact (final_apply m c y0 y1 y2 y3 y4 h0 h1 h2 h3 h4 L hL b t h d).trans
    (Ref.result_real _ _ _ _ _ _ _ y0 y1 y2 y3 y4 h0 h1 h2 h3 h4 L hL b t h d).symm

instance : Cert.Pre_finite.Facts := preFacts

/-- The kernel and the reference end with equal results, for real arguments. -/
theorem algebraic : Cert.algebraic_KernelIdeal_ReferenceIdeal_pre_finite (hPre_finite := preFacts) := by
  intro m g m' g' hp hm
  refine ⟨fun c => (Cert.KernelIdeal.Gen.dats m 0 c).arrAt 7 Cert.KernelIdeal.cfg0.N, Cert.KernelIdeal.Value.run_blocks m g, ?_⟩
  refine (θ_run (Cert.ReferenceIdeal.defs (F := Ideal)) _ _).mono (fun r h c => ⟨(h c).1.trans ?_, (h c).2⟩) (Cert.ReferenceIdeal.Value.run m' g')
  obtain ⟨e0, e1, e2, e3, e4, e5, e6⟩ := hm c
  rw [Cert.ReferenceIdeal.Read.val_main_v65_eq, e0, e1, e2, e3, e4, e5, e6]
  exact (results_eq m c hp).symm

end Cert.Lat

end
-- ==== Proof.Ffn.Row.lean ====
/- The gated feed-forward of one row, and the row it leaves in the stream: what the kernels' blocks and the references'
   arrays hold, entry by entry. -/
module

public import Idealize.ShloMosaic.Lib.Pointwise

@[expose] public section

noncomputable section

open Idealize.ShloMosaic

namespace Cert.Ffn

/-- The gate: `x` over `1 + exp (-x)`. -/
def silu (x : EReal) : EReal := x * Ideal.div 1 (1 + Ideal.exp (-x))

/-- A row's hidden lane: its gate projection through `silu`, times its up projection. -/
def hidden {D H : Nat} (a : Fin D → EReal) (wg wu : Fin D → Fin H → EReal) (j : Fin H) : EReal :=
  silu (∑ k, a k * wg k j) * ∑ k, a k * wu k j

/-- A row's feed-forward: its hidden lanes, projected down. -/
def swiglu {D H : Nat} (a : Fin D → EReal) (wg wu : Fin D → Fin H → EReal) (wd : Fin H → Fin D → EReal) (d : Fin D) : EReal :=
  ∑ j, hidden a wg wu j * wd j d

/-- A row of the stream after the feed-forward: the row, plus the gain of its group times the normalised feed-forward. -/
def added (x gt f g : Fin 1024 → EReal) (d : Fin 1024) : EReal :=
  x d + gt d * (f d * Ideal.rsqrt (Ideal.div (∑ k, f k * f k) (Ideal.ofBits .f32 0x44800000#32) + Ideal.ofBits .f32 0x358637BD#32) * g d)

end Cert.Ffn
end
-- ==== Proof.Ffn.Point.lean ====
/- The feed-forward's grid points: what each reads and the block of rows it leaves. -/
module

public import proofs.«01_k».proof.Proof.Gen.Kernel2Ideal.Value
public import proofs.«01_k».proof.Proof.Ffn.Row
public import Idealize.ShloMosaic.Lib.Pipeline.Value
public import Idealize.ShloMosaic.Lib.Pipeline.ValueKit.Tiles
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.Ffn

open Cert.Kernel2Ideal Cert.Kernel2Ideal.Gen

/-- A point's feed-forward, at an entry. -/
theorem pay2_apply (a : Vec Ideal S512x1024 .bf16) (wg wu : Vec Ideal S1024x2816 .bf16) (wd : Vec Ideal S2816x1024 .bf16) (r : Fin 512) (d : Fin 1024) :
    k0_pay2 (F := Ideal) a wg wu wd (ix2 r d)
      = swiglu (fun k => a (ix2 r k)) (fun k j => wg (ix2 k j)) (fun k j => wu (ix2 k j)) (fun j d => wd (ix2 j d)) d := by
  pointwise [k0_pay2]
  simp only [zero_sub]
  rfl

/-- The mean square of a row of the feed-forward. -/
theorem pay6_apply (a : Vec Ideal S512x1024 .bf16) (wg wu : Vec Ideal S1024x2816 .bf16) (wd : Vec Ideal S2816x1024 .bf16) (r : Fin 512) :
    k0_pay6 (F := Ideal) a wg wu wd (ix2 r 0)
      = Ideal.div (∑ k, k0_pay2 (F := Ideal) a wg wu wd (ix2 r k) * k0_pay2 (F := Ideal) a wg wu wd (ix2 r k)) (Ideal.ofBits .f32 0x44800000#32) := by
  unfold k0_pay6
  generalize k0_pay2 (F := Ideal) a wg wu wd = f
  pointwise []

/-- The row a point stores. -/
theorem pay1_apply (f x : FVec Ideal S512x1024 .f32) (gt g : FVec Ideal S1x1024 .f32) (v : FVec Ideal S512x1 .f32) (r : Fin 512) (d : Fin 1024) :
    k0_pay1 (F := Ideal) f x gt g v (ix2 r d)
      = x (ix2 r d) + gt (ix2 0 d) * (f (ix2 r d) * Ideal.rsqrt (v (ix2 r 0) + Ideal.ofBits .f32 0x358637BD#32) * g (ix2 0 d)) := by
  pointwise [k0_pay1]

/-- The group's gains, as a row. -/
theorem pay4_apply (gt : Vec Ideal S1x1x1024 .f32) (d : Fin 1024) : k0_pay4 (F := Ideal) gt (ix2 0 d) = gt (ix3 0 0 d) := by
  pointwise [k0_pay4]

variable (m : (ℓ : Loc nD τ sig) → Buf (Elt Ideal) ℓ) (c : Dev nD)

/-! ## The block indices at a grid point -/

/-- Window 0's block index. -/
theorem index0 : ∀ t : Fin cfg0.N, win0_0.index t 0 = t.val ∧ win0_0.index t 1 = 0 := (by decide +kernel : ∀ t : Fin grid0.N, win0_0.index t 0 = t.val ∧ win0_0.index t 1 = 0)
/-- Window 1's block index. -/
theorem index1 : ∀ t : Fin cfg0.N, win0_1.index t 0 = t.val ∧ win0_1.index t 1 = 0 := (by decide +kernel : ∀ t : Fin grid0.N, win0_1.index t 0 = t.val ∧ win0_1.index t 1 = 0)
/-- Window 3's block index. -/
theorem index3 : ∀ t : Fin cfg0.N, win0_3.index t 0 = 0 ∧ win0_3.index t 1 = 0 := (by decide +kernel : ∀ t : Fin grid0.N, win0_3.index t 0 = 0 ∧ win0_3.index t 1 = 0)
/-- Window 4's block index. -/
theorem index4 : ∀ t : Fin cfg0.N, win0_4.index t 0 = 0 ∧ win0_4.index t 1 = 0 := (by decide +kernel : ∀ t : Fin grid0.N, win0_4.index t 0 = 0 ∧ win0_4.index t 1 = 0)
/-- Window 5's block index. -/
theorem index5 : ∀ t : Fin cfg0.N, win0_5.index t 0 = 0 ∧ win0_5.index t 1 = 0 := (by decide +kernel : ∀ t : Fin grid0.N, win0_5.index t 0 = 0 ∧ win0_5.index t 1 = 0)
/-- Window 6's block index. -/
theorem index6 : ∀ t : Fin cfg0.N, win0_6.index t 0 = 0 ∧ win0_6.index t 1 = 0 := (by decide +kernel : ∀ t : Fin grid0.N, win0_6.index t 0 = 0 ∧ win0_6.index t 1 = 0)
/-- Window 7's block index. -/
theorem index7 : ∀ t : Fin cfg0.N, win0_7.index t 0 = t.val ∧ win0_7.index t 1 = 0 := (by decide +kernel : ∀ t : Fin grid0.N, win0_7.index t 0 = t.val ∧ win0_7.index t 1 = 0)
/-- Window 2's block index. -/
theorem index2 : ∀ t : Fin cfg0.N, win0_2.index t 0 = 0 ∧ win0_2.index t 1 = 0 ∧ win0_2.index t 2 = 5 := (by decide +kernel : ∀ t : Fin grid0.N, win0_2.index t 0 = 0 ∧ win0_2.index t 1 = 0 ∧ win0_2.index t 2 = 5)
/-- The place of the group's row of gains. -/
theorem off1 : ∀ t : Fin cfg0.N, k0_off1 (grid0.coords t) 0 = 0 ∧ k0_off1 (grid0.coords t) 1 = 1 + t.val / 8 ∧ k0_off1 (grid0.coords t) 2 = 0 := (by decide +kernel : ∀ t : Fin grid0.N, k0_off1 (grid0.coords t) 0 = 0 ∧ k0_off1 (grid0.coords t) 1 = 1 + t.val / 8 ∧ k0_off1 (grid0.coords t) 2 = 0)

/-! ## A block of an array, read at an entry -/

/-- Window 0's block at an entry. -/
theorem read0 (X : S8192x1024.Idx → Elt Ideal .bf16) (t : Fin cfg0.N) (r : Fin 512) (d : Fin 1024) :
    (((cfg0.win 0).blk t).view.read (Elt Ideal) X : Vec Ideal S512x1024 .bf16) (ix2 r d) = X (ix2 ⟨t.val * 512 + r.val, by have := Nat.lt_of_lt_of_eq t.isLt N_0; omega⟩ d) := by
  rw [View.read_apply]
  show X _ = X _
  refine congrArg X ?_
  funext a
  apply Fin.ext
  match a with
  | ⟨0, _⟩ => show win0_0.index t 0 * 512 + 1 * r.val = t.val * 512 + r.val; rw [(index0 t).1]; omega
  | ⟨1, _⟩ => show win0_0.index t 1 * 1024 + 1 * d.val = d.val; rw [(index0 t).2]; omega

/-- Window 1's block at an entry. -/
theorem read1 (X : S8192x1024.Idx → Elt Ideal .f32) (t : Fin cfg0.N) (r : Fin 512) (d : Fin 1024) :
    (((cfg0.win 1).blk t).view.read (Elt Ideal) X : Vec Ideal S512x1024 .f32) (ix2 r d) = X (ix2 ⟨t.val * 512 + r.val, by have := Nat.lt_of_lt_of_eq t.isLt N_0; omega⟩ d) := by
  rw [View.read_apply]
  show X _ = X _
  refine congrArg X ?_
  funext a
  apply Fin.ext
  match a with
  | ⟨0, _⟩ => show win0_1.index t 0 * 512 + 1 * r.val = t.val * 512 + r.val; rw [(index1 t).1]; omega
  | ⟨1, _⟩ => show win0_1.index t 1 * 1024 + 1 * d.val = d.val; rw [(index1 t).2]; omega

/-- Window 3's block at an entry. -/
theorem read3 (X : S1x1024.Idx → Elt Ideal .f32) (t : Fin cfg0.N) (r : Fin 1) (d : Fin 1024) :
    (((cfg0.win 3).blk t).view.read (Elt Ideal) X : Vec Ideal S1x1024 .f32) (ix2 r d) = X (ix2 r d) := by
  rw [View.read_apply]
  show X _ = X _
  refine congrArg X ?_
  funext a
  apply Fin.ext
  match a with
  | ⟨0, _⟩ => show win0_3.index t 0 * 1 + 1 * r.val = r.val; rw [(index3 t).1]; omega
  | ⟨1, _⟩ => show win0_3.index t 1 * 1024 + 1 * d.val = d.val; rw [(index3 t).2]; omega

/-- Window 4's block at an entry. -/
theorem read4 (X : S1024x2816.Idx → Elt Ideal .bf16) (t : Fin cfg0.N) (r : Fin 1024) (d : Fin 2816) :
    (((cfg0.win 4).blk t).view.read (Elt Ideal) X : Vec Ideal S1024x2816 .bf16) (ix2 r d) = X (ix2 r d) := by
  rw [View.read_apply]
  show X _ = X _
  refine congrArg X ?_
  funext a
  apply Fin.ext
  match a with
  | ⟨0, _⟩ => show win0_4.index t 0 * 1024 + 1 * r.val = r.val; rw [(index4 t).1]; omega
  | ⟨1, _⟩ => show win0_4.index t 1 * 2816 + 1 * d.val = d.val; rw [(index4 t).2]; omega

/-- Window 5's block at an entry. -/
theorem read5 (X : S1024x2816.Idx → Elt Ideal .bf16) (t : Fin cfg0.N) (r : Fin 1024) (d : Fin 2816) :
    (((cfg0.win 5).blk t).view.read (Elt Ideal) X : Vec Ideal S1024x2816 .bf16) (ix2 r d) = X (ix2 r d) := by
  rw [View.read_apply]
  show X _ = X _
  refine congrArg X ?_
  funext a
  apply Fin.ext
  match a with
  | ⟨0, _⟩ => show win0_5.index t 0 * 1024 + 1 * r.val = r.val; rw [(index5 t).1]; omega
  | ⟨1, _⟩ => show win0_5.index t 1 * 2816 + 1 * d.val = d.val; rw [(index5 t).2]; omega

/-- Window 6's block at an entry. -/
theorem read6 (X : S2816x1024.Idx → Elt Ideal .bf16) (t : Fin cfg0.N) (r : Fin 2816) (d : Fin 1024) :
    (((cfg0.win 6).blk t).view.read (Elt Ideal) X : Vec Ideal S2816x1024 .bf16) (ix2 r d) = X (ix2 r d) := by
  rw [View.read_apply]
  show X _ = X _
  refine congrArg X ?_
  funext a
  apply Fin.ext
  match a with
  | ⟨0, _⟩ => show win0_6.index t 0 * 2816 + 1 * r.val = r.val; rw [(index6 t).1]; omega
  | ⟨1, _⟩ => show win0_6.index t 1 * 1024 + 1 * d.val = d.val; rw [(index6 t).2]; omega

/-- Window 7's block at an entry. -/
theorem read7 (X : S8192x1024.Idx → Elt Ideal .f32) (t : Fin cfg0.N) (r : Fin 512) (d : Fin 1024) :
    (((cfg0.win 7).blk t).view.read (Elt Ideal) X : Vec Ideal S512x1024 .f32) (ix2 r d) = X (ix2 ⟨t.val * 512 + r.val, by have := Nat.lt_of_lt_of_eq t.isLt N_0; omega⟩ d) := by
  rw [View.read_apply]
  show X _ = X _
  refine congrArg X ?_
  funext a
  apply Fin.ext
  match a with
  | ⟨0, _⟩ => show win0_7.index t 0 * 512 + 1 * r.val = t.val * 512 + r.val; rw [(index7 t).1]; omega
  | ⟨1, _⟩ => show win0_7.index t 1 * 1024 + 1 * d.val = d.val; rw [(index7 t).2]; omega

/-- Window 2's block at an entry: the last sixth of the first layer's modulations. -/
theorem read2 (X : S2x8x6144.Idx → Elt Ideal .f32) (t : Fin cfg0.N) (r : Fin 8) (d : Fin 1024) :
    (((cfg0.win 2).blk t).view.read (Elt Ideal) X : Vec Ideal S1x8x1024 .f32) (ix3 0 r d) = X (ix3 0 r ⟨5120 + d.val, by omega⟩) := by
  rw [View.read_apply]
  show X _ = X _
  refine congrArg X ?_
  funext a
  apply Fin.ext
  match a with
  | ⟨0, _⟩ => show win0_2.index t 0 * 1 + 1 * 0 = 0; rw [(index2 t).1]
  | ⟨1, _⟩ => show win0_2.index t 1 * 8 + 1 * r.val = r.val; rw [(index2 t).2.1]; omega
  | ⟨2, _⟩ => show win0_2.index t 2 * 1024 + 1 * d.val = 5120 + d.val; rw [(index2 t).2.2]; omega

/-! ## What the region finds in its arrays -/

/-- The rows, flattened and narrowed. -/
def rows16 (x : FVec Ideal S2x4096x1024 .f32) : FVec Ideal S8192x1024 .bf16 := truncf .bf16 (shapeCast S8192x1024 x shapeCasts_S2x4096x1024_S8192x1024) bitsLt_bf16_f32
/-- The rows, flattened. -/
def rows (x : FVec Ideal S2x4096x1024 .f32) : FVec Ideal S8192x1024 .f32 := shapeCast S8192x1024 x shapeCasts_S2x4096x1024_S8192x1024
/-- The first layer's gains, as a row. -/
def gains (x : FVec Ideal S2x1024 .f32) : FVec Ideal S1x1024 .f32 :=
  shapeCast S1x1024 (shapeCast S1024 (extractStridedSlice S1x1024 ![0, 0] x slices_S2x1024_S1x1024_0_0) shapeCasts_S1x1024_S1024) shapeCasts_S1024_S1x1024
/-- The weights into the hidden lanes, narrowed. -/
def wide (x : FVec Ideal S1x1024x2816 .f32) : FVec Ideal S1024x2816 .bf16 := truncf .bf16 (shapeCast S1024x2816 x shapeCasts_S1x1024x2816_S1024x2816) bitsLt_bf16_f32
/-- The weights out of the hidden lanes, narrowed. -/
def narrow (x : FVec Ideal S1x2816x1024 .f32) : FVec Ideal S2816x1024 .bf16 := truncf .bf16 (shapeCast S2816x1024 x shapeCasts_S1x2816x1024_S2816x1024) bitsLt_bf16_f32

/-- The rows' normalised inputs, flattened. -/
theorem V_v1 : V m c main_v1 = rows16 (m ((c : Thread nD τ).loc main_arg0)) := by
  show StableHlo.after hostOps0 _ (Proc.devRef .tc main_v1) = _
  after_results
  rfl
/-- The stream's rows, flattened. -/
theorem V_v2 : V m c main_v2 = rows (m ((c : Thread nD τ).loc main_arg1)) := by
  show StableHlo.after hostOps0 _ (Proc.devRef .tc main_v2) = _
  after_results
  rfl
/-- The modulations. -/
theorem V_arg2 : V m c main_arg2 = m ((c : Thread nD τ).loc main_arg2) := by
  show StableHlo.after hostOps0 _ (Proc.devRef .tc main_arg2) = _
  after_results
/-- The first layer's gains of the closing normalisation. -/
theorem V_v11 : V m c main_v11 = gains (m ((c : Thread nD τ).loc main_arg3)) := by
  show StableHlo.after hostOps0 _ (Proc.devRef .tc main_v11) = _
  after_results
  rfl
/-- The gate's weights. -/
theorem V_v6 : V m c main_v6 = wide (m ((c : Thread nD τ).loc main_arg4)) := by
  show StableHlo.after hostOps0 _ (Proc.devRef .tc main_v6) = _
  after_results
  rfl
/-- The up projection's weights. -/
theorem V_v8 : V m c main_v8 = wide (m ((c : Thread nD τ).loc main_arg5)) := by
  show StableHlo.after hostOps0 _ (Proc.devRef .tc main_v8) = _
  after_results
  rfl
/-- The down projection's weights. -/
theorem V_v10 : V m c main_v10 = narrow (m ((c : Thread nD τ).loc main_arg6)) := by
  show StableHlo.after hostOps0 _ (Proc.devRef .tc main_v10) = _
  after_results
  rfl

/-- A flattened array of rows, at a row of a batch. -/
theorem rows_apply (x : FVec Ideal S2x4096x1024 .f32) (b : Fin 2) (q : Fin 4096) (k : Fin 1024) : rows x (ix2 ⟨b.val * 4096 + q.val, by omega⟩ k) = x (ix3 b q k) := by
  pointwise [rows]
/-- The same at the narrower format. -/
theorem rows16_apply (x : FVec Ideal S2x4096x1024 .f32) (b : Fin 2) (q : Fin 4096) (k : Fin 1024) : rows16 x (ix2 ⟨b.val * 4096 + q.val, by omega⟩ k) = x (ix3 b q k) := by
  pointwise [rows16]
/-- The first layer's gains at a lane. -/
theorem gains_apply (x : FVec Ideal S2x1024 .f32) (d : Fin 1024) : gains x (ix2 0 d) = x (ix2 0 d) := by
  pointwise [gains]
/-- The weights into the hidden lanes, at an entry. -/
theorem wide_apply (x : FVec Ideal S1x1024x2816 .f32) (k : Fin 1024) (j : Fin 2816) : wide x (ix2 k j) = x (ix3 0 k j) := by
  pointwise [wide]
/-- The weights out of the hidden lanes, at an entry. -/
theorem narrow_apply (x : FVec Ideal S1x2816x1024 .f32) (j : Fin 2816) (d : Fin 1024) : narrow x (ix2 j d) = x (ix3 0 j d) := by
  pointwise [narrow]

/-! ## The block a point leaves -/

/-- The place of a window's only block is the origin. -/
theorem hz2 : (![0, 0] : Fin 2 → Nat) = fun _ => 0 := funext fun a => by fin_cases a <;> rfl

/-- A point's block of rows, from what it reads. -/
def block (i : grid0.Coords) (x0 : Vec Ideal S512x1024 .bf16) (x1 : Vec Ideal S512x1024 .f32) (x2 : Vec Ideal S1x8x1024 .f32) (x3 : Vec Ideal S1x1024 .f32)
    (x4 x5 : Vec Ideal S1024x2816 .bf16) (x6 : Vec Ideal S2816x1024 .bf16) : Vec Ideal S512x1024 .f32 :=
  k0_pay1 (k0_pay2 x0 x4 x5 x6) (k0_pay3 x1) (k0_pay4 (View.ld x2 (Rect.unit (s := S1x8x1024) (k0_off1 i) S1x1x1024.size (k0_off1_inb i)))) (k0_pay5 x3) (k0_pay6 x0 x4 x5 x6)

section
variable (i : grid0.Coords) (arg1 : Memref sig .tc .vmem S512x1024 .bf16) (harg1 : arg1.IsWhole) (arg2 : Memref sig .tc .vmem S512x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x2816 .bf16) (harg5 : arg5.IsWhole) (arg6 : Memref sig .tc .vmem S1024x2816 .bf16) (harg6 : arg6.IsWhole) (arg7 : Memref sig .tc .vmem S2816x1024 .bf16) (harg7 : arg7.IsWhole) (arg8 : Memref sig .tc .vmem S512x1024 .f32) (harg8 : arg8.IsWhole)
    (x0 : Vec Ideal S512x1024 .bf16) (x1 : Vec Ideal S512x1024 .f32) (x2 : Vec Ideal S1x8x1024 .f32) (x3 : Vec Ideal S1x1024 .f32) (x4 x5 : Vec Ideal S1024x2816 .bf16) (x6 : Vec Ideal S2816x1024 .bf16)

/-- What a point leaves in the output's block. -/
theorem out_eq : out0_A_7 c i arg1 harg1 arg2 harg2 arg3 harg3 arg4 harg4 arg5 harg5 arg6 harg6 arg7 harg7 arg8 harg8 x0 x1 x2 x3 x4 x5 x6 = block i x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread,
    View.ld_unit_zero (S := S512x1024) hz2, View.ld_unit_zero (S := S1x1024) hz2, View.ld_unit_zero (S := S1024x2816) hz2, View.ld_unit_zero (S := S2816x1024) hz2]
  rw [View.canon_unit_zero hz2]
  rfl
end

/-- The group's row of gains, as a point loads it. -/
theorem ld_gt (x2 : Vec Ideal S1x8x1024 .f32) (t : Fin cfg0.N) (b : Fin 2) (hb : b.val = t.val / 8) (d : Fin 1024) :
    View.ld x2 (Rect.unit (s := S1x8x1024) (k0_off1 (grid0.coords t)) S1x1x1024.size (k0_off1_inb (grid0.coords t))) (ix3 0 0 d) = x2 (ix3 0 ⟨1 + b.val, by omega⟩ d) := by
  show x2 _ = x2 _
  refine congrArg x2 ?_
  funext a
  apply Fin.ext
  match a with
  | ⟨0, _⟩ => show k0_off1 (grid0.coords t) 0 + 1 * 0 = 0; rw [(off1 t).1]
  | ⟨1, _⟩ => show k0_off1 (grid0.coords t) 1 + 1 * 0 = 1 + b.val; rw [(off1 t).2.1]; omega
  | ⟨2, _⟩ => show k0_off1 (grid0.coords t) 2 + 1 * d.val = d.val; rw [(off1 t).2.2]; omega

/-- Every entry of the block a point leaves: the row it adds to, and what it adds. -/
theorem point_apply (t : Fin cfg0.N) (b : Fin 2) (q : Fin 4096) (r : Fin 512) (hb : b.val = t.val / 8) (hq : q.val = t.val % 8 * 512 + r.val) (d : Fin 1024) :
    (outsAt0 m c t : Vec Ideal S512x1024 .f32) (ix2 r d)
      = added (fun d => m ((c : Thread nD τ).loc main_arg1) (ix3 b q d)) (fun d => m ((c : Thread nD τ).loc main_arg2) (ix3 0 ⟨1 + b.val, by omega⟩ ⟨5120 + d.val, by omega⟩))
          (swiglu (fun k => m ((c : Thread nD τ).loc main_arg0) (ix3 b q k)) (fun k j => m ((c : Thread nD τ).loc main_arg4) (ix3 0 k j))
            (fun k j => m ((c : Thread nD τ).loc main_arg5) (ix3 0 k j)) (fun j d => m ((c : Thread nD τ).loc main_arg6) (ix3 0 j d)))
          (fun d => m ((c : Thread nD τ).loc main_arg3) (ix2 0 d)) d := by
  have ht := Nat.lt_of_lt_of_eq t.isLt N_0
  have hR : (⟨t.val * 512 + r.val, by omega⟩ : Fin 8192) = ⟨b.val * 4096 + q.val, by omega⟩ := Fin.ext (by show t.val * 512 + r.val = b.val * 4096 + q.val; omega)
  have e0 : ∀ k, (iblk m c 0 t : Vec Ideal S512x1024 .bf16) (ix2 r k) = m ((c : Thread nD τ).loc main_arg0) (ix3 b q k) := fun k => by
    refine (read0 (V m c main_v1) t r k).trans ((congrFun (V_v1 m c) _).trans ?_); rw [hR]; exact rows16_apply _ b q k
  have e1 : ∀ k, (iblk m c 1 t : Vec Ideal S512x1024 .f32) (ix2 r k) = m ((c : Thread nD τ).loc main_arg1) (ix3 b q k) := fun k => by
    refine (read1 (V m c main_v2) t r k).trans ((congrFun (V_v2 m c) _).trans ?_); rw [hR]; exact rows_apply _ b q k
  have e2 : ∀ d : Fin 1024, (iblk m c 2 t : Vec Ideal S1x8x1024 .f32) (ix3 0 ⟨1 + b.val, by omega⟩ d) = m ((c : Thread nD τ).loc main_arg2) (ix3 0 ⟨1 + b.val, by omega⟩ ⟨5120 + d.val, by omega⟩) := fun d =>
    (read2 (V m c main_arg2) t _ d).trans (congrFun (V_arg2 m c) _)
  have e3 : ∀ d, (iblk m c 3 t : Vec Ideal S1x1024 .f32) (ix2 0 d) = m ((c : Thread nD τ).loc main_arg3) (ix2 0 d) := fun d =>
    (read3 (V m c main_v11) t 0 d).trans ((congrFun (V_v11 m c) _).trans (gains_apply _ d))
  have e4 : ∀ k j, (iblk m c 4 t : Vec Ideal S1024x2816 .bf16) (ix2 k j) = m ((c : Thread nD τ).loc main_arg4) (ix3 0 k j) := fun k j =>
    (read4 (V m c main_v6) t k j).trans ((congrFun (V_v6 m c) _).trans (wide_apply _ k j))
  have e5 : ∀ k j, (iblk m c 5 t : Vec Ideal S1024x2816 .bf16) (ix2 k j) = m ((c : Thread nD τ).loc main_arg5) (ix3 0 k j) := fun k j =>
    (read5 (V m c main_v8) t k j).trans ((congrFun (V_v8 m c) _).trans (wide_apply _ k j))
  have e6 : ∀ j d, (iblk m c 6 t : Vec Ideal S2816x1024 .bf16) (ix2 j d) = m ((c : Thread nD τ).loc main_arg6) (ix3 0 j d) := fun j d =>
    (read6 (V m c main_v10) t j d).trans ((congrFun (V_v10 m c) _).trans (narrow_apply _ j d))
  unfold outsAt0
  rw [out_eq]
  generalize (iblk m c 0 t : Vec Ideal S512x1024 .bf16) = a at *
  generalize (iblk m c 1 t : Vec Ideal S512x1024 .f32) = x at *
  generalize (iblk m c 2 t : Vec Ideal S1x8x1024 .f32) = gt at *
  generalize (iblk m c 3 t : Vec Ideal S1x1024 .f32) = g at *
  generalize (iblk m c 4 t : Vec Ideal S1024x2816 .bf16) = wg at *
  generalize (iblk m c 5 t : Vec Ideal S1024x2816 .bf16) = wu at *
  generalize (iblk m c 6 t : Vec Ideal S2816x1024 .bf16) = wd at *
  unfold block
  rw [pay1_apply, pay6_apply, pay4_apply, ld_gt gt t b hb]
  simp only [pay2_apply, e0, e4, e5, e6, e2]
  rw [show k0_pay3 x = x from shapeCast_self _ _, show k0_pay5 g = g from shapeCast_self _ _, e1, e3]
  rfl

/-- Every entry of the kernel's result. -/
theorem final_apply (b : Fin 2) (q : Fin 4096) (d : Fin 1024) :
    ((dats m 0 c).arrAt 7 cfg0.N : Vec Ideal S8192x1024 .f32) (ix2 ⟨b.val * 4096 + q.val, by omega⟩ d)
      = added (fun d => m ((c : Thread nD τ).loc main_arg1) (ix3 b q d)) (fun d => m ((c : Thread nD τ).loc main_arg2) (ix3 0 ⟨1 + b.val, by omega⟩ ⟨5120 + d.val, by omega⟩))
          (swiglu (fun k => m ((c : Thread nD τ).loc main_arg0) (ix3 b q k)) (fun k j => m ((c : Thread nD τ).loc main_arg4) (ix3 0 k j))
            (fun k j => m ((c : Thread nD τ).loc main_arg5) (ix3 0 k j)) (fun j d => m ((c : Thread nD τ).loc main_arg6) (ix3 0 j d)))
          (fun d => m ((c : Thread nD τ).loc main_arg3) (ix2 0 d)) d := by
  have hN : b.val * 8 + q.val / 512 < cfg0.N := Nat.lt_of_lt_of_eq (by omega) N_0.symm
  have hR : (⟨b.val * 4096 + q.val, by omega⟩ : Fin 8192) = ⟨(b.val * 8 + q.val / 512) * 512 + q.val % 512, by omega⟩ :=
    Fin.ext (by show b.val * 4096 + q.val = (b.val * 8 + q.val / 512) * 512 + q.val % 512; omega)
  rw [hR, ← read7 ((dats m 0 c).arrAt 7 cfg0.N) ⟨b.val * 8 + q.val / 512, hN⟩ ⟨q.val % 512, by omega⟩ d, Value.blocks7 m c _ (flush0_7 _), Value.flushed7]
  exact point_apply m c ⟨b.val * 8 + q.val / 512, hN⟩ b q ⟨q.val % 512, by omega⟩ (by show b.val = (b.val * 8 + q.val / 512) / 8; omega)
    (by show q.val = (b.val * 8 + q.val / 512) % 8 * 512 + q.val % 512; omega) d

end Cert.Ffn
end
-- ==== Proof.Ffn.Ref.lean ====
/- The feed-forward's reference, at an entry. -/
module

public import proofs.«01_k».proof.Proof.Gen.Reference2Ideal.Read
public import proofs.«01_k».proof.Proof.Ffn.Row
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.Ffn.Ref

open Cert.Reference2Ideal Cert.Reference2Ideal.Gen Cert.Reference2Ideal.Read

variable (x0 x1 : FVec Ideal S2x4096x1024 .f32) (x2 : FVec Ideal S2x8x6144 .f32) (x3 : FVec Ideal S2x1024 .f32)
  (x4 x5 : FVec Ideal S1x1024x2816 .f32) (x6 : FVec Ideal S1x2816x1024 .f32)

/-- The gate's projection. -/
theorem v3_apply (b : Fin 2) (q : Fin 4096) (j : Fin 2816) : val_main_v3 (F := Ideal) x0 x4 (ix3 b q j) = ∑ k, x0 (ix3 b q k) * x4 (ix3 0 k j) := by
  pointwise [val_main_v3, val_main_v0]

/-- The up projection. -/
theorem v5_apply (b : Fin 2) (q : Fin 4096) (j : Fin 2816) : val_main_v5 (F := Ideal) x0 x5 (ix3 b q j) = ∑ k, x0 (ix3 b q k) * x5 (ix3 0 k j) := by
  pointwise [val_main_v5, val_main_v1]

/-- The gate. -/
theorem v4_apply (b : Fin 2) (q : Fin 4096) (j : Fin 2816) : val_main_v4 (F := Ideal) x0 x4 (ix3 b q j) = silu (∑ k, x0 (ix3 b q k) * x4 (ix3 0 k j)) := by
  rw [← v3_apply]
  unfold val_main_v4 val_main_call0_v5 val_main_call0_v4 val_main_call0_v3 val_main_call0_v2 val_main_call0_v1 val_main_call0_v0 val_main_call0_cst val_main_call0_cst_0
  generalize val_main_v3 (F := Ideal) x0 x4 = y
  pointwise [silu]

/-- The feed-forward. -/
theorem v7_apply (b : Fin 2) (q : Fin 4096) (d : Fin 1024) :
    val_main_v7 (F := Ideal) x0 x4 x5 x6 (ix3 b q d)
      = swiglu (fun k => x0 (ix3 b q k)) (fun k j => x4 (ix3 0 k j)) (fun k j => x5 (ix3 0 k j)) (fun j d => x6 (ix3 0 j d)) d := by
  have h : ∀ j, val_main_v6 (F := Ideal) x0 x4 x5 (ix3 b q j) = hidden (fun k => x0 (ix3 b q k)) (fun k j => x4 (ix3 0 k j)) (fun k j => x5 (ix3 0 k j)) j := fun j => by
    rw [val_main_v6_apply, v4_apply, v5_apply]; rfl
  unfold val_main_v7
  generalize val_main_v6 (F := Ideal) x0 x4 x5 = y at *
  pointwise [val_main_v2]
  simp only [h]
  rfl

/-- The result at an entry. -/
theorem v29_apply (b : Fin 2) (q : Fin 4096) (d : Fin 1024) :
    val_main_v29 (F := Ideal) x0 x1 x2 x3 x4 x5 x6 (ix2 ⟨b.val * 4096 + q.val, by omega⟩ d)
      = added (fun d => x1 (ix3 b q d)) (fun d => x2 (ix3 0 ⟨1 + b.val, by omega⟩ ⟨5120 + d.val, by omega⟩))
          (swiglu (fun k => x0 (ix3 b q k)) (fun k j => x4 (ix3 0 k j)) (fun k j => x5 (ix3 0 k j)) (fun j d => x6 (ix3 0 j d)))
          (fun d => x3 (ix2 0 d)) d := by
  unfold added
  simp only [← v7_apply]
  unfold val_main_v29 val_main_v28 val_main_v27 val_main_v26 val_main_v25 val_main_v24 val_main_v23 val_main_v22 val_main_v21 val_main_v20 val_main_v19 val_main_v18 val_main_v17 val_main_v16 val_main_v15 val_main_v14 val_main_v13
    val_main_v12 val_main_v11 val_main_v10 val_main_v9 val_main_v8 val_main_cst val_main_cst_0 val_main_cst_1
  generalize val_main_v7 (F := Ideal) x0 x4 x5 x6 = y
  pointwise []

end Cert.Ffn.Ref
end
-- ==== Proof.Ffn.Claim.lean ====
/- The feed-forward's claims: the reference's frame, and the two results set side by side. -/
module

public import proofs.«01_k».proof.Defs
public import proofs.«01_k».proof.Proof.Gen.Kernel2.Frame
public import proofs.«01_k».proof.Proof.Gen.Reference2Ideal.Run
public import proofs.«01_k».proof.Proof.Ffn.Point
public import proofs.«01_k».proof.Proof.Ffn.Ref
public import Idealize.ShloMosaic.Adequacy
public import Idealize.ShloMosaic.Init

@[expose] public section

set_option maxRecDepth 16384

noncomputable section

open Idealize.ShloMosaic Idealize.ShloMosaic.TcCoe Idealize.SL.Sem

namespace Cert.Ffn

/-- The reference terminates, keeps its arguments, and leaves its counters at zero. -/
theorem refFrame : Cert.quiescent_Reference2Ideal (hReference2Ideal := Cert.Reference2Ideal.Gen.facts) := fun m ρ _ =>
  (θ_run (Cert.Reference2Ideal.defs (F := Ideal)) _ _).mono (fun r h => ⟨fun c => (h c).2, sem_eq_zero_of_no_sems (by decide) r.2⟩)
    (Cert.Reference2Ideal.Value.run m ρ)

/-- The kernel's result is the reference's. -/
theorem results_eq (m : (ℓ : Loc Cert.Kernel2Ideal.nD Cert.Kernel2Ideal.τ Cert.Kernel2Ideal.sig) → Buf (Elt Ideal) ℓ) (c : Dev Cert.Kernel2Ideal.nD) :
    ((Cert.Kernel2Ideal.Gen.dats m 0 c).arrAt 7 Cert.Kernel2Ideal.cfg0.N : Vec Ideal Cert.Kernel2Ideal.S8192x1024 .f32)
      = Cert.Reference2Ideal.Read.val_main_v29 (F := Ideal) (m ((c : Thread Cert.Kernel2Ideal.nD Cert.Kernel2Ideal.τ).loc Cert.Kernel2Ideal.main_arg0))
          (m ((c : Thread Cert.Kernel2Ideal.nD Cert.Kernel2Ideal.τ).loc Cert.Kernel2Ideal.main_arg1)) (m ((c : Thread Cert.Kernel2Ideal.nD Cert.Kernel2Ideal.τ).loc Cert.Kernel2Ideal.main_arg2))
          (m ((c : Thread Cert.Kernel2Ideal.nD Cert.Kernel2Ideal.τ).loc Cert.Kernel2Ideal.main_arg3)) (m ((c : Thread Cert.Kernel2Ideal.nD Cert.Kernel2Ideal.τ).loc Cert.Kernel2Ideal.main_arg4))
          (m ((c : Thread Cert.Kernel2Ideal.nD Cert.Kernel2Ideal.τ).loc Cert.Kernel2Ideal.main_arg5)) (m ((c : Thread Cert.Kernel2Ideal.nD Cert.Kernel2Ideal.τ).loc Cert.Kernel2Ideal.main_arg6)) := by
  funext j
  rw [← ix2_eta j]
  generalize hl : j 0 = l
  generalize hd : j 1 = d
  clear hl hd
  change Fin 8192 at l
  obtain ⟨b, q, rfl⟩ : ∃ (b : Fin 2) (q : Fin 4096), l = ⟨b.val * 4096 + q.val, by have := b.isLt; have := q.isLt; omega⟩ :=
    ⟨⟨l.val / 4096, by have := l.isLt; omega⟩, ⟨l.val % 4096, by omega⟩, Fin.ext (show l.val = l.val / 4096 * 4096 + l.val % 4096 by omega)⟩
  exact (final_apply m c b q d).trans (Ref.v29_apply _ _ _ _ _ _ _ b q d).symm

/-- The kernel and the reference end with equal results. -/
theorem algebraic : Cert.algebraic_Kernel2Ideal_Reference2Ideal := by
  intro m g m' g' _ hm
  refine ⟨fun c => (Cert.Kernel2Ideal.Gen.dats m 0 c).arrAt 7 Cert.Kernel2Ideal.cfg0.N, Cert.Kernel2Ideal.Value.run_blocks m g, ?_⟩
  refine (θ_run (Cert.Reference2Ideal.defs (F := Ideal)) _ _).mono (fun r h c => ⟨(h c).1.trans ?_, (h c).2⟩) (Cert.Reference2Ideal.Value.run m' g')
  obtain ⟨e0, e1, e2, e3, e4, e5, e6⟩ := hm c
  rw [Cert.Reference2Ideal.Read.val_main_v29_eq, e0, e1, e2, e3, e4, e5, e6]
  exact (results_eq m c).symm

end Cert.Ffn

end
-- ==== Proof.Moe.Run.lean ====
/- The experts' kernel at one grid point: what its body leaves in the output block and in the three scratch buffers, in
   each of the four combinations of its conditions (the tile's expert is new or not; the tile has rows or none). -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.Value
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the run is stated over. -/
abbrev Res (F : FTy → Type) [FloatOps F] : Type := MT nD τ sig Unit (Elt F) ℕ (UR sig nD τ) ℕ

/-- The table of the tiles' experts, as the body is handed it, -/
abbrev tabE : Memref sig .tc .smem S59 .i32 := Memref.whole main_arg1
/-- and the table of the tiles' row counts. -/
abbrev tabN : Memref sig .tc .smem S59 .i32 := Memref.whole main_arg2
/-- The contents of a table's buffer on core `c`. -/
abbrev TabBuf (F : FTy → Type) (c : Dev nD) (M : Memref sig .tc .smem S59 .i32) : Type := Buf (Elt F) (M.view.loc (c : Thread nD τ))
/-- A table held at half the full share: the body only reads it. -/
abbrev tabHeld (c : Dev nD) (M : Memref sig .tc .smem S59 .i32) (f : TabBuf F c M) : sProp (Res F) :=
  M.view.loc (c : Thread nD τ) ↦{fullShare.right} f

/-- The expert of the tile at grid point `i`, -/
abbrev expertAt (c : Dev nD) (i : grid0.Coords) (f : TabBuf F c tabE) : BitVec 32 :=
  tabE.view.readAt (Elt F) (Rect.unit (s := S59) (k0_off1 i) S1.size (k0_off1_inb i)).toLoadRect f (Shape.Idx.first (numel1_S1.symm ▸ Nat.one_pos))
/-- of the tile before it, -/
abbrev expertBefore (c : Dev nD) (i : grid0.Coords) (f : TabBuf F c tabE) : BitVec 32 :=
  tabE.view.readAt (Elt F) (Rect.unit (s := S59) (k0_off2 i) S1.size (k0_off2_inb i)).toLoadRect f (Shape.Idx.first (numel1_S1.symm ▸ Nat.one_pos))
/-- and the number of rows of the tile at `i`. -/
abbrev rowsAt (c : Dev nD) (i : grid0.Coords) (f : TabBuf F c tabN) : BitVec 32 :=
  tabN.view.readAt (Elt F) (Rect.unit (s := S59) (k0_off3 i) S1.size (k0_off3_inb i)).toLoadRect f (Shape.Idx.first (numel1_S1.symm ▸ Nat.one_pos))

/-- The kernel's test for a new expert: the first tile, or an expert other than the tile before's. -/
abbrev Fresh (i : grid0.Coords) (e e' : BitVec 32) : Prop :=
  Scalar.cmpi .ne (Scalar.extui (Scalar.ori (Scalar.cmpi .eq (BitVec.ofNat 32 (i 0).val) 0#32) (Scalar.cmpi .ne e e'))) 0#32 = 1#1

/-- The zero offset of a rank-2 buffer, -/
theorem off2 : (![0, 0] : Fin 2 → Nat) = fun _ => 0 := by funext a; fin_cases a <;> rfl
/-- and of a rank-3 one. -/
theorem off3 : (![0, 0, 0] : Fin 3 → Nat) = fun _ => 0 := by funext a; fin_cases a <;> rfl

set_option maxHeartbeats 1600000 in
/-- A new expert and a tile with rows: the scratch buffers take the rounded weights and the output block the
    feed-forward of the tile under them. -/
theorem run_new_rows (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole)
    (x0 : Vec F S512x1024 .f32) (x1 : Vec F S1x1024x1024 .f32) (x2 : Vec F S1x1024x1024 .f32) (x3 : Vec F S1x1024x1024 .f32) (te : TabBuf F c tabE) (tn : TabBuf F c tabN)
    (hf : Fresh i (expertAt c i te) (expertBefore c i te)) (hp : k0_cond2 (rowsAt c i tn) = 1#1) (hz : ¬ k0_cond3 (rowsAt c i tn) = 1#1)
    (E : Set ℕ) (K : PUnit → sProp (Res F)) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tabHeld c tabE te ∗ tabHeld c tabN tn
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay4 x0 (k0_pay1 x1) (k0_pay2 x2) (k0_pay3 x3)) ∗ owns (c : Thread nD τ) arg8 fullShare (k0_pay1 x1) ∗ owns (c : Thread nD τ) arg9 fullShare (k0_pay2 x2) ∗ owns (c : Thread nD τ) arg10 fullShare (k0_pay3 x3) ∗ tabHeld c tabE te ∗ tabHeld c tabN tn) -∗ K ⟨⟩))
      ⊢ wp frame (wpE (defs₀ (F := F)) Variants.none c none) E (cc0_moe_experts i tabE (Memref.isWhole_whole _) tabN (Memref.isWhole_whole _) arg3 harg3 arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, HT1, Hk⟩
  obtain rfl := harg3.eq_unread hf0; obtain rfl := harg4.eq_unread hf1; obtain rfl := harg5.eq_unread hf2; obtain rfl := harg6.eq_unread hf3
  sl_exec (disch := first | sl_exact hf | sl_exact hp | sl_exact hz)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro; try sl_unfold_words
    rw [View.read_writes_full]
    simp only [View.readCov_unit_zero (S := S1024x1024) _ off2, View.readAt_eq_ld, harg3.read_unread, harg4.read_unread, harg5.read_unread, harg6.read_unread, View.ld_unit_zero (S := S512x1024) off2, View.ld_unit_zero (S := S1024x1024) off2, View.ld_unit_zero (S := S1x1024x1024) off3]
  isplitl [HS0]
  · iexists _; isplitr; swap; · iexact HS0
    ipureintro; sl_unfold_words; rw [View.read_writes_full]
    simp only [View.readAt_eq_ld, harg4.read_unread, View.ld_unit_zero (S := S1x1024x1024) off3]
  isplitl [HS1]
  · iexists _; isplitr; swap; · iexact HS1
    ipureintro; sl_unfold_words; rw [View.read_writes_full]
    simp only [View.readAt_eq_ld, harg5.read_unread, View.ld_unit_zero (S := S1x1024x1024) off3]
  isplitl [HS2]
  · iexists _; isplitr; swap; · iexact HS2
    ipureintro; sl_unfold_words; rw [View.read_writes_full]
    simp only [View.readAt_eq_ld, harg6.read_unread, View.ld_unit_zero (S := S1x1024x1024) off3]
  isplitl [HT0]; · iexact HT0
  iexact HT1

set_option maxHeartbeats 1600000 in
/-- A new expert and a tile without rows: the scratch buffers take the rounded weights and the output block is zero. -/
theorem run_new_none (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole)
    (x0 : Vec F S512x1024 .f32) (x1 : Vec F S1x1024x1024 .f32) (x2 : Vec F S1x1024x1024 .f32) (x3 : Vec F S1x1024x1024 .f32) (te : TabBuf F c tabE) (tn : TabBuf F c tabN)
    (hf : Fresh i (expertAt c i te) (expertBefore c i te)) (hp : ¬ k0_cond2 (rowsAt c i tn) = 1#1) (hz : k0_cond3 (rowsAt c i tn) = 1#1)
    (E : Set ℕ) (K : PUnit → sProp (Res F)) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ tabHeld c tabE te ∗ tabHeld c tabN tn
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay5 (F := F)) ∗ owns (c : Thread nD τ) arg8 fullShare (k0_pay1 x1) ∗ owns (c : Thread nD τ) arg9 fullShare (k0_pay2 x2) ∗ owns (c : Thread nD τ) arg10 fullShare (k0_pay3 x3) ∗ tabHeld c tabE te ∗ tabHeld c tabN tn) -∗ K ⟨⟩))
      ⊢ wp frame (wpE (defs₀ (F := F)) Variants.none c none) E (cc0_moe_experts i tabE (Memref.isWhole_whole _) tabN (Memref.isWhole_whole _) arg3 harg3 arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, HT0, HT1, Hk⟩
  obtain rfl := harg3.eq_unread hf0; obtain rfl := harg4.eq_unread hf1; obtain rfl := harg5.eq_unread hf2; obtain rfl := harg6.eq_unread hf3
  sl_exec (disch := first | sl_exact hf | sl_exact hp | sl_exact hz)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro; try sl_unfold_words
    rw [View.read_writes_full]
  isplitl [HS0]
  · iexists _; isplitr; swap; · iexact HS0
    ipureintro; sl_unfold_words; rw [View.read_writes_full]
    simp only [View.readAt_eq_ld, harg4.read_unread, View.ld_unit_zero (S := S1x1024x1024) off3]
  isplitl [HS1]
  · iexists _; isplitr; swap; · iexact HS1
    ipureintro; sl_unfold_words; rw [View.read_writes_full]
    simp only [View.readAt_eq_ld, harg5.read_unread, View.ld_unit_zero (S := S1x1024x1024) off3]
  isplitl [HS2]
  · iexists _; isplitr; swap; · iexact HS2
    ipureintro; sl_unfold_words; rw [View.read_writes_full]
    simp only [View.readAt_eq_ld, harg6.read_unread, View.ld_unit_zero (S := S1x1024x1024) off3]
  isplitl [HT0]; · iexact HT0
  iexact HT1

set_option maxHeartbeats 1600000 in
/-- The expert of the tile before and a tile with rows: the scratch buffers stay and the output block takes the
    feed-forward of the tile under them. -/
theorem run_same_rows (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole)
    (x0 : Vec F S512x1024 .f32) (x1 : Vec F S1x1024x1024 .f32) (x2 : Vec F S1x1024x1024 .f32) (x3 : Vec F S1x1024x1024 .f32) (s0 : Vec F S1024x1024 .bf16) (s1 : Vec F S1024x1024 .bf16) (s2 : Vec F S1024x1024 .bf16) (te : TabBuf F c tabE) (tn : TabBuf F c tabN)
    (hf : ¬ Fresh i (expertAt c i te) (expertBefore c i te)) (hp : k0_cond2 (rowsAt c i tn) = 1#1) (hz : ¬ k0_cond3 (rowsAt c i tn) = 1#1)
    (E : Set ℕ) (K : PUnit → sProp (Res F)) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare s0 ∗ owns (c : Thread nD τ) arg9 fullShare s1 ∗ owns (c : Thread nD τ) arg10 fullShare s2 ∗ tabHeld c tabE te ∗ tabHeld c tabN tn
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay4 x0 s0 s1 s2) ∗ owns (c : Thread nD τ) arg8 fullShare s0 ∗ owns (c : Thread nD τ) arg9 fullShare s1 ∗ owns (c : Thread nD τ) arg10 fullShare s2 ∗ tabHeld c tabE te ∗ tabHeld c tabN tn) -∗ K ⟨⟩))
      ⊢ wp frame (wpE (defs₀ (F := F)) Variants.none c none) E (cc0_moe_experts i tabE (Memref.isWhole_whole _) tabN (Memref.isWhole_whole _) arg3 harg3 arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
  obtain rfl := harg3.eq_unread hf0; obtain rfl := harg4.eq_unread hf1; obtain rfl := harg5.eq_unread hf2; obtain rfl := harg6.eq_unread hf3
  obtain rfl := harg8.eq_unread hs0; obtain rfl := harg9.eq_unread hs1; obtain rfl := harg10.eq_unread hs2
  sl_exec (disch := first | sl_exact hf | sl_exact hp | sl_exact hz)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro; try sl_unfold_words
    rw [View.read_writes_full]
    simp only [View.readCov_unit_zero (S := S1024x1024) _ off2, View.readAt_eq_ld, harg3.read_unread, harg8.read_unread, harg9.read_unread, harg10.read_unread, View.ld_unit_zero (S := S512x1024) off2, View.ld_unit_zero (S := S1024x1024) off2, View.ld_unit_zero (S := S1x1024x1024) off3]
  isplitl [HS0]
  · iexists _; isplitr; · ipureintro; exact harg8.read_unread _
    iexact HS0
  isplitl [HS1]
  · iexists _; isplitr; · ipureintro; exact harg9.read_unread _
    iexact HS1
  isplitl [HS2]
  · iexists _; isplitr; · ipureintro; exact harg10.read_unread _
    iexact HS2
  isplitl [HT0]; · iexact HT0
  iexact HT1

set_option maxHeartbeats 1600000 in
/-- The expert of the tile before and a tile without rows: the scratch buffers stay and the output block is zero. -/
theorem run_same_none (c : Dev nD) (i : grid0.Coords) (arg3 : Memref sig .tc .vmem S512x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S512x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole)
    (x0 : Vec F S512x1024 .f32) (x1 : Vec F S1x1024x1024 .f32) (x2 : Vec F S1x1024x1024 .f32) (x3 : Vec F S1x1024x1024 .f32) (s0 : Vec F S1024x1024 .bf16) (s1 : Vec F S1024x1024 .bf16) (s2 : Vec F S1024x1024 .bf16) (te : TabBuf F c tabE) (tn : TabBuf F c tabN)
    (hf : ¬ Fresh i (expertAt c i te) (expertBefore c i te)) (hp : ¬ k0_cond2 (rowsAt c i tn) = 1#1) (hz : k0_cond3 (rowsAt c i tn) = 1#1)
    (E : Set ℕ) (K : PUnit → sProp (Res F)) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare s0 ∗ owns (c : Thread nD τ) arg9 fullShare s1 ∗ owns (c : Thread nD τ) arg10 fullShare s2 ∗ tabHeld c tabE te ∗ tabHeld c tabN tn
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (k0_pay5 (F := F)) ∗ owns (c : Thread nD τ) arg8 fullShare s0 ∗ owns (c : Thread nD τ) arg9 fullShare s1 ∗ owns (c : Thread nD τ) arg10 fullShare s2 ∗ tabHeld c tabE te ∗ tabHeld c tabN tn) -∗ K ⟨⟩))
      ⊢ wp frame (wpE (defs₀ (F := F)) Variants.none c none) E (cc0_moe_experts i tabE (Memref.isWhole_whole _) tabN (Memref.isWhole_whole _) arg3 harg3 arg4 harg4 arg5 harg5 arg6 harg6 arg7 harg7 arg8 harg8 arg9 harg9 arg10 harg10) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, ⟨%fs2, %hs2, HS2⟩, HT0, HT1, Hk⟩
  obtain rfl := harg3.eq_unread hf0; obtain rfl := harg4.eq_unread hf1; obtain rfl := harg5.eq_unread hf2; obtain rfl := harg6.eq_unread hf3
  obtain rfl := harg8.eq_unread hs0; obtain rfl := harg9.eq_unread hs1; obtain rfl := harg10.eq_unread hs2
  sl_exec (disch := first | sl_exact hf | sl_exact hp | sl_exact hz)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; swap; · iexact H4
    ipureintro; try sl_unfold_words
    rw [View.read_writes_full]
  isplitl [HS0]
  · iexists _; isplitr; · ipureintro; exact harg8.read_unread _
    iexact HS0
  isplitl [HS1]
  · iexists _; isplitr; · ipureintro; exact harg9.read_unread _
    iexact HS1
  isplitl [HS2]
  · iexists _; isplitr; · ipureintro; exact harg10.read_unread _
    iexact HS2
  isplitl [HT0]; · iexact HT0
  iexact HT1

end Cert.Moe

end
-- ==== Proof.Moe.Setup.lean ====
/- The experts' launch: what its arrays and tables hold at its start, and the blocks its windows read. -/
module

public import proofs.«01_k».proof.Proof.Moe.Run
public import Idealize.ShloMosaic.Lib.Pointwise

@[expose] public section

set_option maxRecDepth 16384

noncomputable section

namespace Cert.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The buffers of core `c` once the host operations before the launch have run. -/
abbrev V (c : Dev nD) (b : Ref sig .tc) : Buf (Elt F) ((c : Thread nD τ).loc b) := StableHlo.after hostOps0 (fun b => m (c, b)) b

/-- No host operation starts a transfer. -/
theorem host_fresh : (hostOps0 : List (HloOp τ sig (Elt F))).Forall fun op => op.fresh = ∅ := by
  simp only [List.Forall]; repeat' constructor

set_option maxHeartbeats 800000 in
/-- The program is its host operations followed by the launch. -/
theorem host_prefix (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- Argument 0 is as launched when the region is entered. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.reshape_writes, Finset.mem_singleton]
    repeat' apply And.intro
    all_goals exact StableHlo.devRef_ne_of_ne (by decide)))
/-- Argument 1 is as launched when the region is entered. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.reshape_writes, Finset.mem_singleton]
    repeat' apply And.intro
    all_goals exact StableHlo.devRef_ne_of_ne (by decide)))
/-- Argument 2 is as launched when the region is entered. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.reshape_writes, Finset.mem_singleton]
    repeat' apply And.intro
    all_goals exact StableHlo.devRef_ne_of_ne (by decide)))
/-- Argument 3 is as launched when the region is entered. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.reshape_writes, Finset.mem_singleton]
    repeat' apply And.intro
    all_goals exact StableHlo.devRef_ne_of_ne (by decide)))
/-- Argument 4 is as launched when the region is entered. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.reshape_writes, Finset.mem_singleton]
    repeat' apply And.intro
    all_goals exact StableHlo.devRef_ne_of_ne (by decide)))
/-- Argument 5 is as launched when the region is entered. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.reshape_writes, Finset.mem_singleton]
    repeat' apply And.intro
    all_goals exact StableHlo.devRef_ne_of_ne (by decide)))

/-! ## The two tables -/

/-- The tables' contents at the launch. -/
def tbl : pre0.Contents (Elt F) := fun j => V m (0 : Dev nD) (pre0.ref j)
/-- Every device holds them: there is one. -/
theorem V_tbl (c : Dev nD) (j : Fin 2) : V m c (pre0.ref j) = tbl m j := by
  obtain rfl : c = 0 := Subsingleton.elim _ _; rfl
/-- The tables' experts name blocks inside the weights. -/
abbrev Ok : Prop := ok0 (F := F) (tbl m)
/-- Every tile's count is positive or zero: one of the body's two branches writes its block. -/
def Counted : Prop := ∀ (c : Dev nD) (t : Fin grid0.N), k0_cond2 (rowsAt c (grid0.coords t) (tbl m 1)) = 1#1 ∨ k0_cond3 (rowsAt c (grid0.coords t) (tbl m 1)) = 1#1
/-- The tables as admissible contents, -/
abbrev adm (hO : Ok m) : (pcfg0 (F := F)).Adm := ⟨tbl m, hO⟩
/-- and the pipeline at them. -/
abbrev cfgM (hO : Ok m) : Pipeline.Cfg sig Λ₀ := cfg0 (adm m hO)

/-- What the launch holds of the tables, table by table. -/
theorem tables_eq (c : Dev nD) : (Pipeline.ΦT pre0 (tbl m) c : sProp (Res F)) = iprop(tabHeld c tabE (tbl m 0) ∗ tabHeld c tabN (tbl m 1)) := by
  unfold Pipeline.ΦT Pipeline.prefHeld
  rw [show (Finset.univ : Finset (Fin 2)) = insert (0 : Fin 2) {(1 : Fin 2)} from by decide, bigSep_insert (by decide), bigSep_singleton]
  rfl

/-- A tile with rows is not a tile without. -/
theorem not_none_of_rows (w : BitVec 32) (h : k0_cond2 w = 1#1) : ¬ k0_cond3 w = 1#1 := by
  unfold k0_cond2 at h; unfold k0_cond3
  intro h'
  by_cases e : w = 0#32
  · subst e; exact absurd h (by decide)
  · simp only [Scalar.cmpi, Scalar.extui, IntOp.cmpi] at h'
    rw [show (w == 0#32) = false by simpa using e] at h'
    exact absurd h' (by decide)

/-- A tile whose expert is not new is not the first, -/
theorem pos_of_stale (t : Fin grid0.N) (e e' : BitVec 32) (h : ¬ Fresh (grid0.coords t) e e') : t.val ≠ 0 := by
  intro h0
  apply h
  have e0 : (grid0.coords t 0).val = t.val / 1 % 59 := Pipeline.Grid.coords_val t 0 (by decide) rfl
  unfold Fresh
  rw [e0, h0]
  simp only [Scalar.cmpi, Scalar.extui, Scalar.ori, IntOp.cmpi, IntOp.ori]
  generalize (e != e') = b
  cases b <;> decide

/-- and has the expert of the tile before it. -/
theorem eq_of_stale (i : grid0.Coords) (e e' : BitVec 32) (h : ¬ Fresh i e e') : e = e' := by
  by_contra q
  apply h
  unfold Fresh
  simp only [Scalar.cmpi, Scalar.extui, Scalar.ori, IntOp.cmpi, IntOp.ori]
  rw [show (e != e') = true by simpa using q]
  generalize (BitVec.ofNat 32 (i 0).val == 0#32) = b
  cases b <;> decide

/-- The tile before, by its place in the table. -/
theorem off2_eq_off1 : ∀ t : Fin grid0.N, ∀ h : t.val ≠ 0, k0_off2 (grid0.coords t) = k0_off1 (grid0.coords ⟨t.val - 1, lt_of_le_of_lt (Nat.sub_le _ _) t.isLt⟩) := by decide +kernel

/-- A word of the table depends on its place alone. -/
theorem word_congr (c : Dev nD) (f : TabBuf F c tabE) (o o' : Fin 1 → Nat) (h : ∀ a, o a + S1.size a ≤ S59.size a) (h' : ∀ a, o' a + S1.size a ≤ S59.size a) (e : o = o') :
    tabE.view.readAt (Elt F) (Rect.unit (s := S59) o S1.size h).toLoadRect f (Shape.Idx.first (numel1_S1.symm ▸ Nat.one_pos))
      = tabE.view.readAt (Elt F) (Rect.unit (s := S59) o' S1.size h').toLoadRect f (Shape.Idx.first (numel1_S1.symm ▸ Nat.one_pos)) := by
  subst e; rfl

/-- The expert before a tile is the expert at the tile before. -/
theorem expertBefore_eq (c : Dev nD) (f : TabBuf F c tabE) (t : Fin grid0.N) (h : t.val ≠ 0) :
    expertBefore c (grid0.coords t) f = expertAt c (grid0.coords ⟨t.val - 1, lt_of_le_of_lt (Nat.sub_le _ _) t.isLt⟩) f :=
  word_congr c f _ _ _ _ (off2_eq_off1 t h)

/-! ## The windows' blocks -/

/-- Window `w`'s block at point `t`. -/
def blockAt (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Window 1 reads the expert its tile names. -/
theorem map1_eq (c : Dev nD) (pf : pre0.Contents (Elt F)) (i : grid0.Coords) : cc0_transform_1 k0_off1_inb numel1_S1 pf i = ![(expertAt c i (pf 0)).toNat, 0, 0] := rfl
/-- Window 2 reads the expert its tile names. -/
theorem map2_eq (c : Dev nD) (pf : pre0.Contents (Elt F)) (i : grid0.Coords) : cc0_transform_2 k0_off1_inb numel1_S1 pf i = ![(expertAt c i (pf 0)).toNat, 0, 0] := rfl
/-- Window 3 reads the expert its tile names. -/
theorem map3_eq (c : Dev nD) (pf : pre0.Contents (Elt F)) (i : grid0.Coords) : cc0_transform_3 k0_off1_inb numel1_S1 pf i = ![(expertAt c i (pf 0)).toNat, 0, 0] := rfl
/-- Every tile's expert is one of the eight. -/
theorem expert_lt (hO : Ok m) (c : Dev nD) (i : grid0.Coords) : (expertAt c i (tbl m 0)).toNat < 8 := by
  obtain ⟨h, -⟩ := hO.1 i
  have h0 := h 0
  rw [map1_eq c] at h0
  have h1 : ((expertAt c i (tbl m 0)).toNat + 1) * 1 ≤ 8 := h0
  omega

/-- Window 1's block at an entry: the named expert's weights. -/
theorem read1 (hO : Ok m) (c : Dev nD) (X : S8x1024x1024.Idx → Elt F .f32) (t : Fin (cfgM m hO).N) (j : S1x1024x1024.Idx) :
    ((((cfgM m hO).win 1).blk t).view.read (Elt F) X : Vec F S1x1024x1024 .f32) j = X (ix3 ⟨(expertAt c (grid0.coords t) (tbl m 0)).toNat, expert_lt m hO c _⟩ (j 1) (j 2)) := by
  refine (View.read_apply (v := (((cfgM m hO).win 1).blk t).view) (Val := Elt F) X j).trans ?_
  show X _ = X _
  refine congrArg X ?_
  have hj : (j 0).val < 1 := (j 0).isLt
  funext a
  apply Fin.ext
  match a with
  | ⟨0, _⟩ => show (expertAt c (grid0.coords t) (tbl m 0)).toNat * 1 + 1 * (j 0).val = (expertAt c (grid0.coords t) (tbl m 0)).toNat; omega
  | ⟨1, _⟩ => show 0 * 1024 + 1 * (j 1).val = (j 1).val; omega
  | ⟨2, _⟩ => show 0 * 1024 + 1 * (j 2).val = (j 2).val; omega

/-- A tile whose expert is not new reads, off any array, the block the tile before read. -/
theorem staleRead1 (hO : Ok m) (c : Dev nD) (X : S8x1024x1024.Idx → Elt F .f32) (t : Fin (cfgM m hO).N) (h : ¬ Fresh (grid0.coords t) (expertAt c (grid0.coords t) (tbl m 0)) (expertBefore c (grid0.coords t) (tbl m 0))) (h' : t.val - 1 < (cfgM m hO).N) :
    ((((cfgM m hO).win 1).blk t).view.read (Elt F) X : Vec F S1x1024x1024 .f32) = (((cfgM m hO).win 1).blk ⟨t.val - 1, h'⟩).view.read (Elt F) X := by
  have e : expertAt c (grid0.coords t) (tbl m 0) = expertAt c (grid0.coords ⟨t.val - 1, h'⟩) (tbl m 0) :=
    (eq_of_stale _ _ _ h).trans (expertBefore_eq c (tbl m 0) t (pos_of_stale t _ _ h))
  funext (j : S1x1024x1024.Idx)
  refine (read1 m hO c X t j).trans ((congrArg (fun q => X (ix3 q (j 1) (j 2))) (Fin.ext ?_)).trans (read1 m hO c X _ j).symm)
  exact congrArg BitVec.toNat e

/-- So does the launch. -/
theorem stale1 (hO : Ok m) (c : Dev nD) (t : Fin (cfgM m hO).N) (h : ¬ Fresh (grid0.coords t) (expertAt c (grid0.coords t) (tbl m 0)) (expertBefore c (grid0.coords t) (tbl m 0))) (h' : t.val - 1 < (cfgM m hO).N) :
    (blockAt m hO c 1 t : Vec F S1x1024x1024 .f32) = blockAt m hO c 1 ⟨t.val - 1, h'⟩ := by
  unfold blockAt
  exact staleRead1 m hO c _ t h h'

/-- Window 2's block at an entry: the named expert's weights. -/
theorem read2 (hO : Ok m) (c : Dev nD) (X : S8x1024x1024.Idx → Elt F .f32) (t : Fin (cfgM m hO).N) (j : S1x1024x1024.Idx) :
    ((((cfgM m hO).win 2).blk t).view.read (Elt F) X : Vec F S1x1024x1024 .f32) j = X (ix3 ⟨(expertAt c (grid0.coords t) (tbl m 0)).toNat, expert_lt m hO c _⟩ (j 1) (j 2)) := by
  refine (View.read_apply (v := (((cfgM m hO).win 2).blk t).view) (Val := Elt F) X j).trans ?_
  show X _ = X _
  refine congrArg X ?_
  have hj : (j 0).val < 1 := (j 0).isLt
  funext a
  apply Fin.ext
  match a with
  | ⟨0, _⟩ => show (expertAt c (grid0.coords t) (tbl m 0)).toNat * 1 + 1 * (j 0).val = (expertAt c (grid0.coords t) (tbl m 0)).toNat; omega
  | ⟨1, _⟩ => show 0 * 1024 + 1 * (j 1).val = (j 1).val; omega
  | ⟨2, _⟩ => show 0 * 1024 + 1 * (j 2).val = (j 2).val; omega

/-- A tile whose expert is not new reads, off any array, the block the tile before read. -/
theorem staleRead2 (hO : Ok m) (c : Dev nD) (X : S8x1024x1024.Idx → Elt F .f32) (t : Fin (cfgM m hO).N) (h : ¬ Fresh (grid0.coords t) (expertAt c (grid0.coords t) (tbl m 0)) (expertBefore c (grid0.coords t) (tbl m 0))) (h' : t.val - 1 < (cfgM m hO).N) :
    ((((cfgM m hO).win 2).blk t).view.read (Elt F) X : Vec F S1x1024x1024 .f32) = (((cfgM m hO).win 2).blk ⟨t.val - 1, h'⟩).view.read (Elt F) X := by
  have e : expertAt c (grid0.coords t) (tbl m 0) = expertAt c (grid0.coords ⟨t.val - 1, h'⟩) (tbl m 0) :=
    (eq_of_stale _ _ _ h).trans (expertBefore_eq c (tbl m 0) t (pos_of_stale t _ _ h))
  funext (j : S1x1024x1024.Idx)
  refine (read2 m hO c X t j).trans ((congrArg (fun q => X (ix3 q (j 1) (j 2))) (Fin.ext ?_)).trans (read2 m hO c X _ j).symm)
  exact congrArg BitVec.toNat e

/-- So does the launch. -/
theorem stale2 (hO : Ok m) (c : Dev nD) (t : Fin (cfgM m hO).N) (h : ¬ Fresh (grid0.coords t) (expertAt c (grid0.coords t) (tbl m 0)) (expertBefore c (grid0.coords t) (tbl m 0))) (h' : t.val - 1 < (cfgM m hO).N) :
    (blockAt m hO c 2 t : Vec F S1x1024x1024 .f32) = blockAt m hO c 2 ⟨t.val - 1, h'⟩ := by
  unfold blockAt
  exact staleRead2 m hO c _ t h h'

/-- Window 3's block at an entry: the named expert's weights. -/
theorem read3 (hO : Ok m) (c : Dev nD) (X : S8x1024x1024.Idx → Elt F .f32) (t : Fin (cfgM m hO).N) (j : S1x1024x1024.Idx) :
    ((((cfgM m hO).win 3).blk t).view.read (Elt F) X : Vec F S1x1024x1024 .f32) j = X (ix3 ⟨(expertAt c (grid0.coords t) (tbl m 0)).toNat, expert_lt m hO c _⟩ (j 1) (j 2)) := by
  refine (View.read_apply (v := (((cfgM m hO).win 3).blk t).view) (Val := Elt F) X j).trans ?_
  show X _ = X _
  refine congrArg X ?_
  have hj : (j 0).val < 1 := (j 0).isLt
  funext a
  apply Fin.ext
  match a with
  | ⟨0, _⟩ => show (expertAt c (grid0.coords t) (tbl m 0)).toNat * 1 + 1 * (j 0).val = (expertAt c (grid0.coords t) (tbl m 0)).toNat; omega
  | ⟨1, _⟩ => show 0 * 1024 + 1 * (j 1).val = (j 1).val; omega
  | ⟨2, _⟩ => show 0 * 1024 + 1 * (j 2).val = (j 2).val; omega

/-- A tile whose expert is not new reads, off any array, the block the tile before read. -/
theorem staleRead3 (hO : Ok m) (c : Dev nD) (X : S8x1024x1024.Idx → Elt F .f32) (t : Fin (cfgM m hO).N) (h : ¬ Fresh (grid0.coords t) (expertAt c (grid0.coords t) (tbl m 0)) (expertBefore c (grid0.coords t) (tbl m 0))) (h' : t.val - 1 < (cfgM m hO).N) :
    ((((cfgM m hO).win 3).blk t).view.read (Elt F) X : Vec F S1x1024x1024 .f32) = (((cfgM m hO).win 3).blk ⟨t.val - 1, h'⟩).view.read (Elt F) X := by
  have e : expertAt c (grid0.coords t) (tbl m 0) = expertAt c (grid0.coords ⟨t.val - 1, h'⟩) (tbl m 0) :=
    (eq_of_stale _ _ _ h).trans (expertBefore_eq c (tbl m 0) t (pos_of_stale t _ _ h))
  funext (j : S1x1024x1024.Idx)
  refine (read3 m hO c X t j).trans ((congrArg (fun q => X (ix3 q (j 1) (j 2))) (Fin.ext ?_)).trans (read3 m hO c X _ j).symm)
  exact congrArg BitVec.toNat e

/-- So does the launch. -/
theorem stale3 (hO : Ok m) (c : Dev nD) (t : Fin (cfgM m hO).N) (h : ¬ Fresh (grid0.coords t) (expertAt c (grid0.coords t) (tbl m 0)) (expertBefore c (grid0.coords t) (tbl m 0))) (h' : t.val - 1 < (cfgM m hO).N) :
    (blockAt m hO c 3 t : Vec F S1x1024x1024 .f32) = blockAt m hO c 3 ⟨t.val - 1, h'⟩ := by
  unfold blockAt
  exact staleRead3 m hO c _ t h h'

end Cert.Moe

end
-- ==== Proof.Moe.Frame.lean ====
/- The experts' launch: its proof data, point by point, and the run of the whole program. -/
module

public import proofs.«01_k».proof.Proof.Moe.Setup
public import Idealize.ShloMosaic.Lib.Claim

@[expose] public section

set_option maxRecDepth 16384

noncomputable section

namespace Cert.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Window 0's buffer holds its block at every point, for proof data that leave it in place. -/
theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = blockAt m hO c 0 t) (t : Fin (cfgM m hO).N) (d) : dat.before 0 t d = blockAt m hO c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Window 1's buffer holds its block at every point, for proof data that leave it in place. -/
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = blockAt m hO c 1 t) (t : Fin (cfgM m hO).N) (d) : dat.before 1 t d = blockAt m hO c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Window 2's buffer holds its block at every point, for proof data that leave it in place. -/
theorem before2_of (hO : Ok m) {c : Dev nD} (dat : Dat τ (Elt F) Unit ℕ (UR sig nD τ) ℕ (cfgM m hO) c) (hA : dat.A 2 = V m c (Pipeline.arrRef spec0 2))
    (hafter : ∀ t, dat.after 2 t = blockAt m hO c 2 t) (t : Fin (cfgM m hO).N) (d) : dat.before 2 t d = blockAt m hO c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Window 3's buffer holds its block at every point, for proof data that leave it in place. -/
theorem before3_of (hO : Ok m) {c : Dev nD} (dat : Dat τ (Elt F) Unit ℕ (UR sig nD τ) ℕ (cfgM m hO) c) (hA : dat.A 3 = V m c (Pipeline.arrRef spec0 3))
    (hafter : ∀ t, dat.after 3 t = blockAt m hO c 3 t) (t : Fin (cfgM m hO).N) (d) : dat.before 3 t d = blockAt m hO c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Window 0's buffer at point `t`. -/
abbrev stg0 (hO : Ok m) (t : Fin (cfgM m hO).N) : Memref sig .tc .vmem S512x1024 .f32 := spec0_0.stage ((cfgM m hO).slots t 0)
/-- Window 1's buffer at point `t`. -/
abbrev stg1 (hO : Ok m) (t : Fin (cfgM m hO).N) : Memref sig .tc .vmem S1x1024x1024 .f32 := spec0_1.stage ((cfgM m hO).slots t 1)
/-- Window 2's buffer at point `t`. -/
abbrev stg2 (hO : Ok m) (t : Fin (cfgM m hO).N) : Memref sig .tc .vmem S1x1024x1024 .f32 := spec0_2.stage ((cfgM m hO).slots t 2)
/-- Window 3's buffer at point `t`. -/
abbrev stg3 (hO : Ok m) (t : Fin (cfgM m hO).N) : Memref sig .tc .vmem S1x1024x1024 .f32 := spec0_3.stage ((cfgM m hO).slots t 3)
/-- Window 4's buffer at point `t`. -/
abbrev stg4 (hO : Ok m) (t : Fin (cfgM m hO).N) : Memref sig .tc .vmem S512x1024 .f32 := spec0_4.stage ((cfgM m hO).slots t 4)
/-- Scratch buffer 0. -/
abbrev scr0 : Memref sig .tc .vmem S1024x1024 .bf16 := Memref.whole cc0_scratch0
/-- Scratch buffer 1. -/
abbrev scr1 : Memref sig .tc .vmem S1024x1024 .bf16 := Memref.whole cc0_scratch1
/-- Scratch buffer 2. -/
abbrev scr2 : Memref sig .tc .vmem S1024x1024 .bf16 := Memref.whole cc0_scratch2

/-- The launch's own buffers, as memrefs held at some contents, beside the generator's register. -/
theorem rest_eq (c : Dev nD) : (Pipeline.ΦA spec0 c : sProp (Res F))
    = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- The output block of point `t`: the tile's feed-forward under its expert's rounded weights, or zero where the tile has no rows. -/
def outAt (hO : Ok m) (c : Dev nD) (t : Fin (cfgM m hO).N) : Vec F S512x1024 .f32 :=
  if k0_cond2 (rowsAt c (grid0.coords t) (tbl m 1)) = 1#1 then
    k0_pay4 (blockAt m hO c 0 t) (k0_pay1 (blockAt m hO c 1 t)) (k0_pay2 (blockAt m hO c 2 t)) (k0_pay3 (blockAt m hO c 3 t))
  else k0_pay5

/-- The scratch buffers after point `t`: its expert's weights, rounded. -/
abbrev held (hO : Ok m) (c : Dev nD) (t : Fin (cfgM m hO).N) : sProp (Res F) :=
  iprop(owns (c : Thread nD τ) scr0 fullShare (k0_pay1 (blockAt m hO c 1 t)) ∗ owns (c : Thread nD τ) scr1 fullShare (k0_pay2 (blockAt m hO c 2 t)) ∗ owns (c : Thread nD τ) scr2 fullShare (k0_pay3 (blockAt m hO c 3 t)))

/-- Between points: at first the launch's own buffers hold anything; afterwards the scratch buffers hold the weights of the expert just seen. -/
def PhiS (hO : Ok m) (c : Dev nD) : (n : ℕ) → n ≤ (cfgM m hO).N → sProp (Res F)
  | 0, _ => iprop(Pipeline.ΦA spec0 c ∗ Pipeline.ΦT pre0 (tbl m) c)
  | n + 1, hn => iprop(iprop(held m hO c ⟨n, hn⟩ ∗ (∃ r, prngReg c r)) ∗ Pipeline.ΦT pre0 (tbl m) c)

/-- Before the first point. -/
theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After a point. -/
theorem PhiS_succ (hO : Ok m) (c : Dev nD) (n : ℕ) (hn : n < (cfgM m hO).N) :
    PhiS m hO c (n + 1) hn = iprop(iprop(held m hO c ⟨n, hn⟩ ∗ (∃ r, prngReg c r)) ∗ Pipeline.ΦT pre0 (tbl m) c) := rfl

/-- Before a later point. -/
theorem PhiS_pos (hO : Ok m) (c : Dev nD) (n : ℕ) (h : n ≤ (cfgM m hO).N) (hz : n ≠ 0) (h' : n - 1 < (cfgM m hO).N) :
    PhiS m hO c n h = iprop(iprop(held m hO c ⟨n - 1, h'⟩ ∗ (∃ r, prngReg c r)) ∗ Pipeline.ΦT pre0 (tbl m) c) := by
  cases n with
  | zero => exact absurd rfl hz
  | succ n => rfl

/-- The launch's proof data on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => blockAt m hO c 0 t
    | ⟨1, _⟩ => blockAt m hO c 1 t
    | ⟨2, _⟩ => blockAt m hO c 2 t
    | ⟨3, _⟩ => blockAt m hO c 3 t
    | ⟨4, _⟩ => outAt m hO c t
  Φ t := PhiS m hO c t.val (Nat.le_of_lt_succ t.isLt)
  q _ := fullShare
  owed _ := 0

/-- Its arrays are what the launch finds. -/
theorem A_eq (hO : Ok m) (c : Dev nD) (w : Fin (cfgM m hO).W) : (dats m hO 0 c).A w = V m c (Pipeline.arrRef spec0 w) := by
  dsimp only [dats]

/-- What holds at a point's start. -/
theorem Phi_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What a point leaves in window 0's buffer. -/
theorem after0 (hO : Ok m) (c : Dev nD) (t : Fin (cfgM m hO).N) : (dats m hO 0 c).after 0 t = blockAt m hO c 0 t := by dsimp only [dats]; try rfl
/-- What a point leaves in window 1's buffer. -/
theorem after1 (hO : Ok m) (c : Dev nD) (t : Fin (cfgM m hO).N) : (dats m hO 0 c).after 1 t = blockAt m hO c 1 t := by dsimp only [dats]; try rfl
/-- What a point leaves in window 2's buffer. -/
theorem after2 (hO : Ok m) (c : Dev nD) (t : Fin (cfgM m hO).N) : (dats m hO 0 c).after 2 t = blockAt m hO c 2 t := by dsimp only [dats]; try rfl
/-- What a point leaves in window 3's buffer. -/
theorem after3 (hO : Ok m) (c : Dev nD) (t : Fin (cfgM m hO).N) : (dats m hO 0 c).after 3 t = blockAt m hO c 3 t := by dsimp only [dats]; try rfl
/-- What a point leaves in window 4's buffer. -/
theorem after4 (hO : Ok m) (c : Dev nD) (t : Fin (cfgM m hO).N) : (dats m hO 0 c).after 4 t = outAt m hO c t := by dsimp only [dats]; try rfl
/-- What a point finds in window 0's buffer. -/
theorem before0 (hO : Ok m) (c : Dev nD) (t : Fin (cfgM m hO).N) (d) : (dats m hO 0 c).before 0 t d = blockAt m hO c 0 t :=
  before0_of m hO (dats m hO 0 c) (A_eq m hO c 0) (after0 m hO c) t d
/-- What a point finds in window 1's buffer. -/
theorem before1 (hO : Ok m) (c : Dev nD) (t : Fin (cfgM m hO).N) (d) : (dats m hO 0 c).before 1 t d = blockAt m hO c 1 t :=
  before1_of m hO (dats m hO 0 c) (A_eq m hO c 1) (after1 m hO c) t d
/-- What a point finds in window 2's buffer. -/
theorem before2 (hO : Ok m) (c : Dev nD) (t : Fin (cfgM m hO).N) (d) : (dats m hO 0 c).before 2 t d = blockAt m hO c 2 t :=
  before2_of m hO (dats m hO 0 c) (A_eq m hO c 2) (after2 m hO c) t d
/-- What a point finds in window 3's buffer. -/
theorem before3 (hO : Ok m) (c : Dev nD) (t : Fin (cfgM m hO).N) (d) : (dats m hO 0 c).before 3 t d = blockAt m hO c 3 t :=
  before3_of m hO (dats m hO 0 c) (A_eq m hO c 3) (after3 m hO c) t d

/-- The body of point `t` on its windows' buffers. -/
abbrev bodyAt (a : (pcfg0 (F := F)).Adm) (t : Fin (cfg0 a).N) : Prog (TpuEff nD τ sig (Elt F) Λ₀ .tc) PUnit :=
  cc0_moe_experts (grid0.coords t) (Memref.whole main_arg1) (Memref.isWhole_whole _) (Memref.whole main_arg2) (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))
    (Memref.whole cc0_scratch0) (Memref.isWhole_whole _) (Memref.whole cc0_scratch1) (Memref.isWhole_whole _) (Memref.whole cc0_scratch2) (Memref.isWhole_whole _)

/-- What point `t` starts with, -/
def bodyPre (hO : Ok m) (c : Dev nD) (t : Fin (cfgM m hO).N) : sProp (Res F) :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d)))
/-- and what it ends with. -/
def bodyPost (hO : Ok m) (c : Dev nD) (t : Fin (cfgM m hO).N) : sProp (Res F) :=
  iprop((dats m hO 0 c).Φ t.succ ∗ (dats m hO 0 c).owesAt () t.succ
    ∗ owns (c : Thread nD τ) (stg0 m hO t) fullShare ((dats m hO 0 c).after 0 t)
    ∗ owns (c : Thread nD τ) (stg1 m hO t) fullShare ((dats m hO 0 c).after 1 t)
    ∗ owns (c : Thread nD τ) (stg2 m hO t) fullShare ((dats m hO 0 c).after 2 t)
    ∗ owns (c : Thread nD τ) (stg3 m hO t) fullShare ((dats m hO 0 c).after 3 t)
    ∗ owns (c : Thread nD τ) (stg4 m hO t) fullShare ((dats m hO 0 c).after 4 t))

set_option maxHeartbeats 1600000 in
/-- The first point, its tile with rows. -/
theorem sound_first_rows (hO : Ok m) (c : Dev nD) (t : Fin (cfgM m hO).N) (h0 : t.val = 0) (hf : Fresh (grid0.coords t) (expertAt c (grid0.coords t) (tbl m 0)) (expertBefore c (grid0.coords t) (tbl m 0))) (hp : k0_cond2 (rowsAt c (grid0.coords t) (tbl m 1)) = 1#1) (hz : ¬ k0_cond3 (rowsAt c (grid0.coords t) (tbl m 1)) = 1#1) :
    bodyPre m hO c t ⊢ wp frame (wpE (defs₀ (F := F)) Variants.none c none) Set.univ (bodyAt (adm m hO) t) (fun _ => bodyPost m hO c t) := by
  unfold bodyPre bodyPost bodyAt
  simp only [before0, before1, before2, before3]
  rw [show (dats m hO 0 c).owesAt () t.succ = (dats m hO 0 c).owesAt () t.castSucc from rfl, after0, after1, after2, after3, after4]
  rw [show (dats m hO 0 c).Φ t.succ = PhiS m hO c (t.val + 1) t.isLt from rfl, PhiS_succ, tables_eq]
  rw [show outAt m hO c t = _ from if_pos hp]
  rw [Phi_castSucc m hO c t, PhiS_zero m hO c _ _ h0, tables_eq, rest_eq]
  unfold held
  iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
  iapply (run_new_rows c (grid0.coords t) _ _ _ _ _ _ _ _ _ _ _ _ _ _ _ _ (blockAt m hO c 0 t) (blockAt m hO c 1 t) (blockAt m hO c 2 t) (blockAt m hO c 3 t)  (tbl m 0) (tbl m 1) hf hp hz Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HT0]; · iexact HT0
  isplitl [HT1]; · iexact HT1
  iintro ⟨H0, H1, H2, H3, H4, HS0, HS1, HS2, HT0, HT1⟩
  isplitl [HS0 HS1 HS2 Hg HT0 HT1]
  · isplitl [HS0 HS1 HS2 Hg]
    · isplitl [HS0 HS1 HS2]
      · isplitl [HS0]; · iexact HS0
        isplitl [HS1]; · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

set_option maxHeartbeats 1600000 in
/-- A later point with a new expert, its tile with rows. -/
theorem sound_new_rows (hO : Ok m) (c : Dev nD) (t : Fin (cfgM m hO).N) (h0 : t.val ≠ 0) (hf : Fresh (grid0.coords t) (expertAt c (grid0.coords t) (tbl m 0)) (expertBefore c (grid0.coords t) (tbl m 0))) (hp : k0_cond2 (rowsAt c (grid0.coords t) (tbl m 1)) = 1#1) (hz : ¬ k0_cond3 (rowsAt c (grid0.coords t) (tbl m 1)) = 1#1) :
    bodyPre m hO c t ⊢ wp frame (wpE (defs₀ (F := F)) Variants.none c none) Set.univ (bodyAt (adm m hO) t) (fun _ => bodyPost m hO c t) := by
  unfold bodyPre bodyPost bodyAt
  simp only [before0, before1, before2, before3]
  rw [show (dats m hO 0 c).owesAt () t.succ = (dats m hO 0 c).owesAt () t.castSucc from rfl, after0, after1, after2, after3, after4]
  rw [show (dats m hO 0 c).Φ t.succ = PhiS m hO c (t.val + 1) t.isLt from rfl, PhiS_succ, tables_eq]
  rw [show outAt m hO c t = _ from if_pos hp]
  rw [Phi_castSucc m hO c t, PhiS_pos m hO c _ _ h0 (lt_of_le_of_lt (Nat.sub_le _ _) t.isLt), tables_eq]
  unfold held
  iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
  iapply (run_new_rows c (grid0.coords t) _ _ _ _ _ _ _ _ _ _ _ _ _ _ _ _ (blockAt m hO c 0 t) (blockAt m hO c 1 t) (blockAt m hO c 2 t) (blockAt m hO c 3 t)  (tbl m 0) (tbl m 1) hf hp hz Set.univ _)
  isplitl [H0]; · iexact H0
  isplitl [H1]; · iexact H1
  isplitl [H2]; · iexact H2
  isplitl [H3]; · iexact H3
  isplitl [H4]; · iexists _; iexact H4
  isplitl [HS0]; · iexists _; iexact HS0
  isplitl [HS1]; · iexists _; iexact HS1
  isplitl [HS2]; · iexists _; iexact HS2
  isplitl [HT0]; · iexact HT0
  isplitl [HT1]; · iexact HT1
  iintro ⟨H0, H1, H2, H3, H4, HS0, HS1, HS2, HT0, HT1⟩
  isplitl [HS0 HS1 HS2 Hg HT0 HT1]
  · isplitl [HS0 HS1 HS2 Hg]
    · isplitl [HS0 HS1 HS2]
      · isplitl [HS0]; · iexact HS0
        isplitl [HS1]; · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

set_option maxHeartbeats 1600000 in
/-- A point with the expert of the point before, its tile with rows. -/
theorem sound_same_rows (hO : Ok m) (c : Dev nD) (t : Fin (cfgM m hO).N) (hf : ¬ Fresh (grid0.coords t) (expertAt c (grid0.coords t) (tbl m 0)) (expertBefore c (grid0.coords t) (tbl m 0))) (hp : k0_cond2 (rowsAt c (grid0.coords t) (tbl m 1)) = 1#1) (hz : ¬ k0_cond3 (rowsAt c (grid0.coords t) (tbl m 1)) = 1#1) :
    bodyPre m hO c t ⊢ wp frame (wpE (defs₀ (F := F)) Variants.none c none) Set.univ (bodyAt (adm m hO) t) (fun _ => bodyPost m hO c t) := by
  unfold bodyPre bodyPost bodyAt
  simp only [before0, before1, before2, before3]
  rw [show (dats m hO 0 c).owesAt () t.succ = (dats m hO 0 c).owesAt () t.castSucc from rfl, after0, after1, after2, after3, after4]
  rw [show (dats m hO 0 c).Φ t.succ = PhiS m hO c (t.val + 1) t.isLt from rfl, PhiS_succ, tables_eq]
  rw [show outAt m hO c t = _ from if_pos hp]
  rw [Phi_castSucc m hO c t, PhiS_pos m hO c _ _ (pos_of_stale t _ _ hf) (lt_of_le_of_lt (Nat.sub_le _ _) t.isLt), tables_eq]
  unfold held
  have e1 := stale1 m hO c t hf (lt_of_le_of_lt (Nat.sub_le _ _) t.isLt)
  have e2 := stale2 m hO c t hf (lt_of_le_of_lt (Nat.sub_le _ _) t.isLt)
  have e3 := stale3 m hO c t hf (lt_of_le_of_lt (Nat.sub_le _ _) t.isLt)
  rw [← e1, ← e2, ← e3]
  iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
  iapply (run_same_rows c (grid0.coords t) _ _ _ _ _ _ _ _ _ _ _ _ _ _ _ _ (blockAt m hO c 0 t) (blockAt m hO c 1 t) (blockAt m hO c 2 t) (blockAt m hO c 3 t) (k0_pay1 (blockAt m hO c 1 t)) (k0_pay2 (blockAt m hO c 2 t)) (k0_pay3 (blockAt m hO c 3 t)) (tbl m 0) (tbl m 1) hf hp hz Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HT0]; · iexact HT0
  isplitl [HT1]; · iexact HT1
  iintro ⟨H0, H1, H2, H3, H4, HS0, HS1, HS2, HT0, HT1⟩
  isplitl [HS0 HS1 HS2 Hg HT0 HT1]
  · isplitl [HS0 HS1 HS2 Hg]
    · isplitl [HS0 HS1 HS2]
      · isplitl [HS0]; · iexact HS0
        isplitl [HS1]; · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

set_option maxHeartbeats 1600000 in
/-- The first point, its tile without rows. -/
theorem sound_first_none (hO : Ok m) (c : Dev nD) (t : Fin (cfgM m hO).N) (h0 : t.val = 0) (hf : Fresh (grid0.coords t) (expertAt c (grid0.coords t) (tbl m 0)) (expertBefore c (grid0.coords t) (tbl m 0))) (hp : ¬ k0_cond2 (rowsAt c (grid0.coords t) (tbl m 1)) = 1#1) (hz : k0_cond3 (rowsAt c (grid0.coords t) (tbl m 1)) = 1#1) :
    bodyPre m hO c t ⊢ wp frame (wpE (defs₀ (F := F)) Variants.none c none) Set.univ (bodyAt (adm m hO) t) (fun _ => bodyPost m hO c t) := by
  unfold bodyPre bodyPost bodyAt
  simp only [before0, before1, before2, before3]
  rw [show (dats m hO 0 c).owesAt () t.succ = (dats m hO 0 c).owesAt () t.castSucc from rfl, after0, after1, after2, after3, after4]
  rw [show (dats m hO 0 c).Φ t.succ = PhiS m hO c (t.val + 1) t.isLt from rfl, PhiS_succ, tables_eq]
  rw [show outAt m hO c t = _ from if_neg hp]
  rw [Phi_castSucc m hO c t, PhiS_zero m hO c _ _ h0, tables_eq, rest_eq]
  unfold held
  iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
  iapply (run_new_none c (grid0.coords t) _ _ _ _ _ _ _ _ _ _ _ _ _ _ _ _ (blockAt m hO c 0 t) (blockAt m hO c 1 t) (blockAt m hO c 2 t) (blockAt m hO c 3 t)  (tbl m 0) (tbl m 1) hf hp hz Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HT0]; · iexact HT0
  isplitl [HT1]; · iexact HT1
  iintro ⟨H0, H1, H2, H3, H4, HS0, HS1, HS2, HT0, HT1⟩
  isplitl [HS0 HS1 HS2 Hg HT0 HT1]
  · isplitl [HS0 HS1 HS2 Hg]
    · isplitl [HS0 HS1 HS2]
      · isplitl [HS0]; · iexact HS0
        isplitl [HS1]; · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

set_option maxHeartbeats 1600000 in
/-- A later point with a new expert, its tile without rows. -/
theorem sound_new_none (hO : Ok m) (c : Dev nD) (t : Fin (cfgM m hO).N) (h0 : t.val ≠ 0) (hf : Fresh (grid0.coords t) (expertAt c (grid0.coords t) (tbl m 0)) (expertBefore c (grid0.coords t) (tbl m 0))) (hp : ¬ k0_cond2 (rowsAt c (grid0.coords t) (tbl m 1)) = 1#1) (hz : k0_cond3 (rowsAt c (grid0.coords t) (tbl m 1)) = 1#1) :
    bodyPre m hO c t ⊢ wp frame (wpE (defs₀ (F := F)) Variants.none c none) Set.univ (bodyAt (adm m hO) t) (fun _ => bodyPost m hO c t) := by
  unfold bodyPre bodyPost bodyAt
  simp only [before0, before1, before2, before3]
  rw [show (dats m hO 0 c).owesAt () t.succ = (dats m hO 0 c).owesAt () t.castSucc from rfl, after0, after1, after2, after3, after4]
  rw [show (dats m hO 0 c).Φ t.succ = PhiS m hO c (t.val + 1) t.isLt from rfl, PhiS_succ, tables_eq]
  rw [show outAt m hO c t = _ from if_neg hp]
  rw [Phi_castSucc m hO c t, PhiS_pos m hO c _ _ h0 (lt_of_le_of_lt (Nat.sub_le _ _) t.isLt), tables_eq]
  unfold held
  iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
  iapply (run_new_none c (grid0.coords t) _ _ _ _ _ _ _ _ _ _ _ _ _ _ _ _ (blockAt m hO c 0 t) (blockAt m hO c 1 t) (blockAt m hO c 2 t) (blockAt m hO c 3 t)  (tbl m 0) (tbl m 1) hf hp hz Set.univ _)
  isplitl [H0]; · iexact H0
  isplitl [H1]; · iexact H1
  isplitl [H2]; · iexact H2
  isplitl [H3]; · iexact H3
  isplitl [H4]; · iexists _; iexact H4
  isplitl [HS0]; · iexists _; iexact HS0
  isplitl [HS1]; · iexists _; iexact HS1
  isplitl [HS2]; · iexists _; iexact HS2
  isplitl [HT0]; · iexact HT0
  isplitl [HT1]; · iexact HT1
  iintro ⟨H0, H1, H2, H3, H4, HS0, HS1, HS2, HT0, HT1⟩
  isplitl [HS0 HS1 HS2 Hg HT0 HT1]
  · isplitl [HS0 HS1 HS2 Hg]
    · isplitl [HS0 HS1 HS2]
      · isplitl [HS0]; · iexact HS0
        isplitl [HS1]; · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

set_option maxHeartbeats 1600000 in
/-- A point with the expert of the point before, its tile without rows. -/
theorem sound_same_none (hO : Ok m) (c : Dev nD) (t : Fin (cfgM m hO).N) (hf : ¬ Fresh (grid0.coords t) (expertAt c (grid0.coords t) (tbl m 0)) (expertBefore c (grid0.coords t) (tbl m 0))) (hp : ¬ k0_cond2 (rowsAt c (grid0.coords t) (tbl m 1)) = 1#1) (hz : k0_cond3 (rowsAt c (grid0.coords t) (tbl m 1)) = 1#1) :
    bodyPre m hO c t ⊢ wp frame (wpE (defs₀ (F := F)) Variants.none c none) Set.univ (bodyAt (adm m hO) t) (fun _ => bodyPost m hO c t) := by
  unfold bodyPre bodyPost bodyAt
  simp only [before0, before1, before2, before3]
  rw [show (dats m hO 0 c).owesAt () t.succ = (dats m hO 0 c).owesAt () t.castSucc from rfl, after0, after1, after2, after3, after4]
  rw [show (dats m hO 0 c).Φ t.succ = PhiS m hO c (t.val + 1) t.isLt from rfl, PhiS_succ, tables_eq]
  rw [show outAt m hO c t = _ from if_neg hp]
  rw [Phi_castSucc m hO c t, PhiS_pos m hO c _ _ (pos_of_stale t _ _ hf) (lt_of_le_of_lt (Nat.sub_le _ _) t.isLt), tables_eq]
  unfold held
  have e1 := stale1 m hO c t hf (lt_of_le_of_lt (Nat.sub_le _ _) t.isLt)
  have e2 := stale2 m hO c t hf (lt_of_le_of_lt (Nat.sub_le _ _) t.isLt)
  have e3 := stale3 m hO c t hf (lt_of_le_of_lt (Nat.sub_le _ _) t.isLt)
  rw [← e1, ← e2, ← e3]
  iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩⟩
  iapply (run_same_none c (grid0.coords t) _ _ _ _ _ _ _ _ _ _ _ _ _ _ _ _ (blockAt m hO c 0 t) (blockAt m hO c 1 t) (blockAt m hO c 2 t) (blockAt m hO c 3 t) (k0_pay1 (blockAt m hO c 1 t)) (k0_pay2 (blockAt m hO c 2 t)) (k0_pay3 (blockAt m hO c 3 t)) (tbl m 0) (tbl m 1) hf hp hz Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  isplitl [HT0]; · iexact HT0
  isplitl [HT1]; · iexact HT1
  iintro ⟨H0, H1, H2, H3, H4, HS0, HS1, HS2, HT0, HT1⟩
  isplitl [HS0 HS1 HS2 Hg HT0 HT1]
  · isplitl [HS0 HS1 HS2 Hg]
    · isplitl [HS0 HS1 HS2]
      · isplitl [HS0]; · iexact HS0
        isplitl [HS1]; · iexact HS1
        iexact HS2
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- Any point. -/
theorem sound_body (hO : Ok m) (hR : Counted m) (c : Dev nD) (t : Fin (cfgM m hO).N) :
    bodyPre m hO c t ⊢ wp frame (wpE (defs₀ (F := F)) Variants.none c none) Set.univ (bodyAt (adm m hO) t) (fun _ => bodyPost m hO c t) := by
  by_cases hp : k0_cond2 (rowsAt c (grid0.coords t) (tbl m 1)) = 1#1
  · have hz := not_none_of_rows _ hp
    by_cases hf : Fresh (grid0.coords t) (expertAt c (grid0.coords t) (tbl m 0)) (expertBefore c (grid0.coords t) (tbl m 0))
    · by_cases h0 : t.val = 0
      · exact sound_first_rows m hO c t h0 hf hp hz
      · exact sound_new_rows m hO c t h0 hf hp hz
    · exact sound_same_rows m hO c t hf hp hz
  · have hz := (hR c t).resolve_left hp
    by_cases hf : Fresh (grid0.coords t) (expertAt c (grid0.coords t) (tbl m 0)) (expertBefore c (grid0.coords t) (tbl m 0))
    · by_cases h0 : t.val = 0
      · exact sound_first_none m hO c t h0 hf hp hz
      · exact sound_new_none m hO c t h0 hf hp hz
    · exact sound_same_none m hO c t hf hp hz

/-- Every point's body is the kernel's on the point's buffers. -/
theorem body_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The output's block is written back at every point. -/
theorem flush4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- A buffer written back at a point ends at what the body leaves, whether or not the point is idle. -/
theorem leaves_eq {M : Type} [URA M] (P Q : sProp M) : ∀ b f : Bool, f = true →
    (Q ⊢ (match b with | true => (match f with | false => P | true => Q) | false => Q)) := by
  intro b f hf
  subst hf; cases b <;> exact .rfl

/-- The body's obligation, at every point. -/
theorem body_obligation (hO : Ok m) (hR : Counted m) (c : Dev nD) : BodyObligation (dats (F := F) m hO 0 c) (defs₀ (F := F)) Variants.none () Set.univ := fun t => by
  rw [bigSep_W0, bigSep_W0, body_row m hO]
  exact triple_restated (sound_body m hO hR c t) rfl .rfl fun _ =>
    sep_mono .rfl (sep_mono .rfl (sep_mono .rfl (sep_mono .rfl (sep_mono .rfl (sep_mono .rfl (leaves_eq _ _ _ _ (flush4 (adm m hO) t)))))))

/-- The launch hands over what holds before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- What holds after the last point gives back the launch's own buffers. -/
theorem hout (hO : Ok m) (c : Dev nD) : (dats m hO 0 c).Φ (Fin.last (cfgM m hO).N) ⊢ Pipeline.ΦA spec0 c := by
  have hN : (cfgM m hO).N = 59 := N_0
  have ht : (Fin.last (cfgM m hO).N).val ≠ 0 := by rw [Fin.val_last]; omega
  have hl : (Fin.last (cfgM m hO).N).val - 1 < (cfgM m hO).N := by rw [Fin.val_last]; omega
  rw [show (dats m hO 0 c).Φ (Fin.last (cfgM m hO).N) = PhiS m hO c (Fin.last (cfgM m hO).N).val (Nat.le_of_lt_succ (Fin.last (cfgM m hO).N).isLt) from rfl, PhiS_pos m hO c _ _ ht hl, rest_eq]
  unfold held
  iintro ⟨⟨⟨HS0, HS1, HS2⟩, Hg⟩, -⟩
  isplitl [HS0 HS1 HS2]
  · isplitl [HS0]; · iexists _; iexact HS0
    isplitl [HS1]; · iexists _; iexact HS1
    iexists _; iexact HS2
  iexact Hg

set_option backward.isDefEq.respectTransparency.types false in
/-- The program terminates with every array at what the proof data give, every other buffer as the launch found it, and its counters at zero. -/
theorem run_main (hO : Ok m) (hR : Counted m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hR c).loose) (hshare := fun c => (dats m hO 0 c).share_full fun _ => rfl)
    (howed := fun _ _ => rfl) (V := V m) (hmain := host_prefix m Variants.none) (hA := A_eq m hO) (hpf := V_tbl m)
    (hin := hin m hO) (hout := hout m hO)

/-- An argument array ends as launched. -/
theorem kept (hO : Ok m) (r) (h : Pipeline.FramePost (Pipeline.pin pcfgs fun _ => adm m hO) (dats m hO) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m hO 0 c).arrAt_in 0 rfl _).trans ((A_eq m hO c 0).trans (V_arg0 m c))),
      ((h c).2 main_arg1 (by decide : main_arg1 ∈ Pipeline.restRefs sig spec0)).trans (V_arg1 m c),
      ((h c).2 main_arg2 (by decide : main_arg2 ∈ Pipeline.restRefs sig spec0)).trans (V_arg2 m c),
      ((h c).2 main_arg3 (by decide : main_arg3 ∈ Pipeline.restRefs sig spec0)).trans (V_arg3 m c),
      ((h c).2 main_arg4 (by decide : main_arg4 ∈ Pipeline.restRefs sig spec0)).trans (V_arg4 m c),
      ((h c).2 main_arg5 (by decide : main_arg5 ∈ Pipeline.restRefs sig spec0)).trans (V_arg5 m c)⟩

end Cert.Moe

end
-- ==== Proof.Moe.Tables.lean ====
/- The experts' tables under the precondition: every tile names one of the eight experts and counts no fewer than zero rows; with it, the frame of the program. -/
module

public import proofs.«01_k».proof.Defs
public import proofs.«01_k».proof.Proof.Moe.Frame

@[expose] public section

set_option maxRecDepth 16384

noncomputable section

namespace Cert.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The tables name experts and count rows: no tile names an expert past the eighth, none a negative count. -/
def Named (te tn : IVec S59 32) : Prop := ∀ j, (te j).toNat < 8 ∧ 0 ≤ (tn j).toInt

/-- The precondition's own side conditions. -/
theorem preFacts : Cert.Pre_experts_named.Facts where
  bcast_S_S59 := by decide

/-- The precondition is that the tables are so. -/
theorem named_of_pre [Cert.Pre_experts_named.Facts] (x : FVec F S30208x1024 .f32) (te tn : IVec S59 32) (g u d : FVec F S1x8x1024x1024 .f32)
    (h : (Cert.Pre_experts_named.fn (F := F) x te tn g u d).1 = (fun _ => 1#1)
      ∧ (Cert.Pre_experts_named.fn (F := F) x te tn g u d).2.1 = (fun _ => 1#1)
      ∧ (Cert.Pre_experts_named.fn (F := F) x te tn g u d).2.2 = (fun _ => 1#1)) : Named te tn := by
  intro j
  have h1 : IntOp.cmpi .sge (te j) 0#32 = 1#1 := congrFun h.1 j
  have h2 : IntOp.cmpi .slt (te j) 8#32 = 1#1 := congrFun h.2.1 j
  have h3 : IntOp.cmpi .sge (tn j) 0#32 = 1#1 := congrFun h.2.2 j
  generalize te j = a at h1 h2
  generalize tn j = b at h3
  unfold IntOp.cmpi at h1 h2 h3
  have e1 : (0#32 : BitVec 32).sle a = true := by cases q : (0#32 : BitVec 32).sle a <;> simp_all
  have e2 : a.slt 8#32 = true := by cases q : a.slt 8#32 <;> simp_all
  have e3 : (0#32 : BitVec 32).sle b = true := by cases q : (0#32 : BitVec 32).sle b <;> simp_all
  rw [BitVec.sle_iff_toInt_le] at e1 e3
  rw [BitVec.slt_iff_toInt_lt] at e2
  have z : (0#32 : BitVec 32).toInt = 0 := by decide
  have k : (8#32 : BitVec 32).toInt = 8 := by decide
  rw [z] at e1 e3; rw [k] at e2
  refine ⟨?_, e3⟩
  rw [BitVec.toInt_eq_toNat_cond] at e1 e2
  split at e1 <;> omega

/-- A tile's expert is the table's word at the tile. -/
theorem expertAt_eq (c : Dev nD) (i : grid0.Coords) (f : TabBuf F c tabE) : expertAt c i f = (f : IVec S59 32) (ix1 (i 0)) := by
  show (f : IVec S59 32) _ = _
  refine congrArg (f : IVec S59 32) ?_
  funext a
  apply Fin.ext
  match a with
  | ⟨0, _⟩ => show k0_off1 i 0 + 1 * 0 = (i 0).val; rw [k0_off1_eq]; rfl

/-- A tile's count is the table's word at the tile. -/
theorem rowsAt_eq (c : Dev nD) (i : grid0.Coords) (f : TabBuf F c tabN) : rowsAt c i f = (f : IVec S59 32) (ix1 (i 0)) := by
  show (f : IVec S59 32) _ = _
  refine congrArg (f : IVec S59 32) ?_
  funext a
  apply Fin.ext
  match a with
  | ⟨0, _⟩ => show k0_off3 i 0 + 1 * 0 = (i 0).val; rw [k0_off3_eq]; rfl

/-- The words of a count say that there are rows just when it is positive, -/
theorem rows_iff (w : BitVec 32) : k0_cond2 w = 1#1 ↔ 0 < w.toInt := by
  unfold k0_cond2
  simp only [Scalar.cmpi, Scalar.extui, IntOp.cmpi]
  have : (0#32 : BitVec 32).slt w = true ↔ 0 < w.toInt := by rw [BitVec.slt_iff_toInt_lt]; exact Iff.rfl
  rw [← this]
  generalize (0#32 : BitVec 32).slt w = b
  cases b <;> decide

/-- and that there are none just when it is zero. -/
theorem none_iff (w : BitVec 32) : k0_cond3 w = 1#1 ↔ w = 0#32 := by
  unfold k0_cond3
  simp only [Scalar.cmpi, Scalar.extui, IntOp.cmpi]
  have : (w == 0#32) = true ↔ w = 0#32 := by simp
  rw [← this]
  generalize (w == 0#32) = b
  cases b <;> decide

/-- The tables at the launch are the arguments. -/
theorem tbl0 : (tbl m 0 : IVec S59 32) = m (((0 : Dev nD) : Thread nD τ).loc main_arg1) := V_arg1 m 0
/-- The tables at the launch are the arguments. -/
theorem tbl1 : (tbl m 1 : IVec S59 32) = m (((0 : Dev nD) : Thread nD τ).loc main_arg2) := V_arg2 m 0

/-- Named experts have their blocks inside the weights. -/
theorem ok_of_named (te tn : IVec S59 32) (h : Named te tn) (pf : pre0.Contents (Elt F)) (e : (pf 0 : IVec S59 32) = te) : ok0 (F := F) pf := by
  have b : ∀ i : grid0.Coords, (expertAt (0 : Dev nD) i (pf 0)).toNat < 8 := fun i =>
    lt_of_eq_of_lt (congrArg BitVec.toNat ((expertAt_eq (0 : Dev nD) i (pf 0)).trans (congrFun e _))) (h _).1
  refine ⟨fun i => ⟨?_, .inl rfl⟩, fun i => ⟨?_, .inl rfl⟩, fun i => ⟨?_, .inl rfl⟩⟩ <;>
  · intro a
    have := b i
    match a with
    | ⟨0, _⟩ => show ((expertAt (0 : Dev nD) i (pf 0)).toNat + 1) * 1 ≤ 8; omega
    | ⟨1, _⟩ => show (0 + 1) * 1024 ≤ 1024; omega
    | ⟨2, _⟩ => show (0 + 1) * 1024 ≤ 1024; omega

/-- Counts that are not negative are positive or zero. -/
theorem counted_of_named (te tn : IVec S59 32) (h : Named te tn) (e : (tbl m 1 : IVec S59 32) = tn) : Counted m := by
  intro c t
  have hw : rowsAt c (grid0.coords t) (tbl m 1) = tn (ix1 (grid0.coords t 0)) := (rowsAt_eq c (grid0.coords t) (tbl m 1)).trans (congrFun e _)
  rw [rows_iff, none_iff]
  have := (h (ix1 (grid0.coords t 0))).2
  rw [← hw] at this
  clear hw
  generalize rowsAt c (grid0.coords t) (tbl m 1) = w at this
  rcases Int.lt_or_eq_of_le this with q | q
  · exact .inl q
  · exact .inr (BitVec.eq_of_toInt_eq (q.symm.trans (by decide)))

/-- With named experts the program terminates, keeps its arguments and leaves its counters at zero. -/
theorem frame_of_named (te tn : IVec S59 32) (h : Named te tn) (e0 : (tbl m 0 : IVec S59 32) = te) (e1 : (tbl m 1 : IVec S59 32) = tn) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r q => ⟨kept m (ok_of_named te tn h _ e0) r q.1, q.2⟩) (run_main m ρ (ok_of_named te tn h _ e0) (counted_of_named m te tn h e1))

/-- The idealized program's frame. -/
theorem frameIdeal : Cert.quiescent_Kernel3Ideal (hKernel3Ideal := Cert.Kernel3Ideal.Gen.facts) (hPre_experts_named := preFacts) := fun m ρ h =>
  haveI := preFacts
  frame_of_named m ρ _ _ (named_of_pre _ _ _ _ _ _ (h 0)) (tbl0 m) (tbl1 m)

end Cert.Moe

end
-- ==== Proof.Moe.Word.lean ====
/- The frame of the experts' program at words: it has the idealized program's text. -/
module

public import proofs.«01_k».proof.Proof.Gen.Kernel3
public import proofs.«01_k».proof.Proof.Moe.Tables

@[expose] public section

set_option maxRecDepth 16384

noncomputable section

namespace Cert.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The program at words, kept apart from the idealized one by its names alone, runs as it does. -/
theorem run_eq (m : (ℓ : Loc Cert.Kernel3.nD Cert.Kernel3.τ Cert.Kernel3.sig) → Buf (Elt Bits) ℓ) (g : Dev Cert.Kernel3.nD → PrngReg) :
    (θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0))
    = (θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)) := by
  sl_kernel_rfl

/-- Its frame. -/
theorem frameWord : Cert.quiescent_Kernel3 (hKernel3 := Cert.Kernel3.Gen.facts) (hPre_experts_named := preFacts) := fun m g h =>
  haveI := preFacts
  (run_eq m g).mpr (frame_of_named (F := Bits) m g _ _ (named_of_pre _ _ _ _ _ _ (h 0)) (tbl0 m) (tbl1 m))

end Cert.Moe

end
-- ==== Proof.Moe.Point.lean ====
/- The experts' grid points at exact values: what each reads, the block of rows it leaves, and the launch's result entry by entry. -/
module

public import proofs.«01_k».proof.Proof.Moe.Tables
public import proofs.«01_k».proof.Proof.Ffn.Row
public import Idealize.ShloMosaic.Lib.Pipeline.Value
public import Idealize.ShloMosaic.Lib.Tactic
public import Idealize.ShloMosaic.Lib.Pointwise

@[expose] public section

set_option maxRecDepth 16384

noncomputable section

namespace Cert.Moe

open Cert.Kernel3Ideal Cert.Kernel3Ideal.Gen
open Idealize.ShloMosaic Idealize.ShloMosaic.TcCoe
open Idealize.SL.Sem
open Idealize.ShloMosaic.Pipeline (Dat Cfg Window)
open Cert.Ffn (silu hidden swiglu)

/-! ## A point's arithmetic -/

/-- The gate's weights as the scratch buffer holds them. -/
theorem pay1_apply (w : Vec Ideal S1x1024x1024 .f32) (k j : Fin 1024) : k0_pay1 (F := Ideal) w (ix2 k j) = w (ix3 0 k j) := by
  pointwise [k0_pay1]

/-- The up projection's weights as the scratch buffer holds them. -/
theorem pay2_apply (w : Vec Ideal S1x1024x1024 .f32) (k j : Fin 1024) : k0_pay2 (F := Ideal) w (ix2 k j) = w (ix3 0 k j) := by
  pointwise [k0_pay2]

/-- The down projection's weights as the scratch buffer holds them. -/
theorem pay3_apply (w : Vec Ideal S1x1024x1024 .f32) (k j : Fin 1024) : k0_pay3 (F := Ideal) w (ix2 k j) = w (ix3 0 k j) := by
  pointwise [k0_pay3]

/-- A tile's feed-forward at an entry. -/
theorem pay4_apply (a : Vec Ideal S512x1024 .f32) (wg wu wd : Vec Ideal S1024x1024 .bf16) (r : Fin 512) (d : Fin 1024) :
    k0_pay4 (F := Ideal) a wg wu wd (ix2 r d)
      = swiglu (fun k => a (ix2 r k)) (fun k j => wg (ix2 k j)) (fun k j => wu (ix2 k j)) (fun j d => wd (ix2 j d)) d := by
  pointwise [k0_pay4]
  simp only [zero_sub]
  rfl

/-- A tile without rows holds zeros. -/
theorem pay5_apply (r : Fin 512) (d : Fin 1024) : k0_pay5 (F := Ideal) (ix2 r d) = 0 := by
  pointwise [k0_pay5]

variable (m : (ℓ : Loc nD τ sig) → Buf (Elt Ideal) ℓ)

/-! ## The blocks -/

/-- Point `t` reads and writes the `t`-th tile. -/
theorem map0_eq : ∀ t : Fin grid0.N, cc0_transform_0 (grid0.coords t) 0 = t.val ∧ cc0_transform_0 (grid0.coords t) 1 = 0 := by decide +kernel
/-- Point `t` reads and writes the `t`-th tile. -/
theorem map4_eq : ∀ t : Fin grid0.N, cc0_transform_4 (grid0.coords t) 0 = t.val ∧ cc0_transform_4 (grid0.coords t) 1 = 0 := by decide +kernel
/-- Point `t` is at coordinate `t`. -/
theorem coord_eq : ∀ t : Fin grid0.N, (grid0.coords t 0).val = t.val := by decide +kernel

/-- Window 0's block at an entry: the tile's rows. -/
theorem read0 (hO : Ok m) (X : S30208x1024.Idx → Elt Ideal .f32) (t : Fin (cfgM m hO).N) (ht : t.val < 59) (r : Fin 512) (d : Fin 1024) :
    ((((cfgM m hO).win 0).blk t).view.read (Elt Ideal) X : Vec Ideal S512x1024 .f32) (ix2 r d) = X (ix2 ⟨t.val * 512 + r.val, by omega⟩ d) := by
  refine (View.read_apply (v := (((cfgM m hO).win 0).blk t).view) (Val := Elt Ideal) X (ix2 r d)).trans ?_
  show X _ = X _
  refine congrArg X ?_
  funext a
  apply Fin.ext
  match a with
  | ⟨0, _⟩ => show cc0_transform_0 (grid0.coords t) 0 * 512 + 1 * r.val = t.val * 512 + r.val; rw [(map0_eq t).1]; omega
  | ⟨1, _⟩ => show cc0_transform_0 (grid0.coords t) 1 * 1024 + 1 * d.val = d.val; rw [(map0_eq t).2]; omega

/-- Window 4's block at an entry: the tile's rows. -/
theorem read4 (hO : Ok m) (X : S30208x1024.Idx → Elt Ideal .f32) (t : Fin (cfgM m hO).N) (ht : t.val < 59) (r : Fin 512) (d : Fin 1024) :
    ((((cfgM m hO).win 4).blk t).view.read (Elt Ideal) X : Vec Ideal S512x1024 .f32) (ix2 r d) = X (ix2 ⟨t.val * 512 + r.val, by omega⟩ d) := by
  refine (View.read_apply (v := (((cfgM m hO).win 4).blk t).view) (Val := Elt Ideal) X (ix2 r d)).trans ?_
  show X _ = X _
  refine congrArg X ?_
  funext a
  apply Fin.ext
  match a with
  | ⟨0, _⟩ => show cc0_transform_4 (grid0.coords t) 0 * 512 + 1 * r.val = t.val * 512 + r.val; rw [(map4_eq t).1]; omega
  | ⟨1, _⟩ => show cc0_transform_4 (grid0.coords t) 1 * 1024 + 1 * d.val = d.val; rw [(map4_eq t).2]; omega

/-- The experts' matrices, stacked. -/
def stacked (x : FVec Ideal S1x8x1024x1024 .f32) : FVec Ideal S8x1024x1024 .f32 := shapeCast S8x1024x1024 x shapeCasts_S1x8x1024x1024_S8x1024x1024

/-- An expert's matrix at an entry. -/
theorem stacked_apply (x : FVec Ideal S1x8x1024x1024 .f32) (e : Fin 8) (k j : Fin 1024) : stacked x (ix3 e k j) = x (ix4 0 e k j) := by
  pointwise [stacked]

variable (c : Dev nD)

/-- The gate's weights at the launch. -/
theorem V_v0 : V m c main_v0 = stacked (m ((c : Thread nD τ).loc main_arg3)) := by
  show StableHlo.after hostOps0 _ (Proc.devRef .tc main_v0) = _
  after_results
  rfl
/-- The up projection's weights at the launch. -/
theorem V_v1 : V m c main_v1 = stacked (m ((c : Thread nD τ).loc main_arg4)) := by
  show StableHlo.after hostOps0 _ (Proc.devRef .tc main_v1) = _
  after_results
  rfl
/-- The down projection's weights at the launch. -/
theorem V_v2 : V m c main_v2 = stacked (m ((c : Thread nD τ).loc main_arg5)) := by
  show StableHlo.after hostOps0 _ (Proc.devRef .tc main_v2) = _
  after_results
  rfl

/-! ## The result -/

/-- A tile's rows under an expert's weights, or zero where the tile has no rows. -/
def tileAt (x : FVec Ideal S30208x1024 .f32) (tn : IVec S59 32) (g u d : FVec Ideal S1x8x1024x1024 .f32) (e : Fin 8) (t : Fin 59) (r : Fin 512) (j : Fin 1024) : EReal :=
  if 0 < (tn (ix1 t)).toInt then
    swiglu (fun k => x (ix2 ⟨t.val * 512 + r.val, by omega⟩ k)) (fun k j => g (ix4 0 e k j)) (fun k j => u (ix4 0 e k j)) (fun j k => d (ix4 0 e j k)) j
  else 0

/-- The block a point leaves, entry by entry. -/
theorem out_apply (hO : Ok m) (te tn : IVec S59 32) (e0 : (tbl m 0 : IVec S59 32) = te) (e1 : (tbl m 1 : IVec S59 32) = tn)
    (t : Fin (cfgM m hO).N) (ht : t.val < 59) (he : (te (ix1 ⟨t.val, ht⟩)).toNat < 8) (r : Fin 512) (d : Fin 1024) :
    outAt m hO c t (ix2 r d)
      = tileAt (m ((c : Thread nD τ).loc main_arg0)) tn (m ((c : Thread nD τ).loc main_arg3)) (m ((c : Thread nD τ).loc main_arg4)) (m ((c : Thread nD τ).loc main_arg5))
          ⟨_, he⟩ ⟨t.val, ht⟩ r d := by
  have hc : (grid0.coords t 0 : Fin 59) = ⟨t.val, ht⟩ := Fin.ext (coord_eq t)
  have hE : expertAt c (grid0.coords t) (tbl m 0) = te (ix1 ⟨t.val, ht⟩) :=
    (expertAt_eq c (grid0.coords t) (tbl m 0)).trans ((congrFun e0 _).trans (congrArg (fun q => te (ix1 q)) hc))
  have hN : rowsAt c (grid0.coords t) (tbl m 1) = tn (ix1 ⟨t.val, ht⟩) :=
    (rowsAt_eq c (grid0.coords t) (tbl m 1)).trans ((congrFun e1 _).trans (congrArg (fun q => tn (ix1 q)) hc))
  have hF : (⟨(expertAt c (grid0.coords t) (tbl m 0)).toNat, expert_lt m hO c _⟩ : Fin 8) = ⟨_, he⟩ := Fin.ext (congrArg BitVec.toNat hE)
  have b0 : ∀ k, (blockAt m hO c 0 t : Vec Ideal S512x1024 .f32) (ix2 r k) = m ((c : Thread nD τ).loc main_arg0) (ix2 ⟨t.val * 512 + r.val, by omega⟩ k) := fun k =>
    (read0 m hO (V m c main_arg0) t ht r k).trans (congrFun (V_arg0 m c) _)
  have b1 : ∀ k j, (blockAt m hO c 1 t : Vec Ideal S1x1024x1024 .f32) (ix3 0 k j) = m ((c : Thread nD τ).loc main_arg3) (ix4 0 ⟨_, he⟩ k j) := fun k j =>
    (read1 m hO c (V m c main_v0) t (ix3 0 k j)).trans ((congrFun (V_v0 m c) _).trans ((congrArg (fun q => stacked (m ((c : Thread nD τ).loc main_arg3)) (ix3 q k j)) hF).trans (stacked_apply _ _ k j)))
  have b2 : ∀ k j, (blockAt m hO c 2 t : Vec Ideal S1x1024x1024 .f32) (ix3 0 k j) = m ((c : Thread nD τ).loc main_arg4) (ix4 0 ⟨_, he⟩ k j) := fun k j =>
    (read2 m hO c (V m c main_v1) t (ix3 0 k j)).trans ((congrFun (V_v1 m c) _).trans ((congrArg (fun q => stacked (m ((c : Thread nD τ).loc main_arg4)) (ix3 q k j)) hF).trans (stacked_apply _ _ k j)))
  have b3 : ∀ k j, (blockAt m hO c 3 t : Vec Ideal S1x1024x1024 .f32) (ix3 0 k j) = m ((c : Thread nD τ).loc main_arg5) (ix4 0 ⟨_, he⟩ k j) := fun k j =>
    (read3 m hO c (V m c main_v2) t (ix3 0 k j)).trans ((congrFun (V_v2 m c) _).trans ((congrArg (fun q => stacked (m ((c : Thread nD τ).loc main_arg5)) (ix3 q k j)) hF).trans (stacked_apply _ _ k j)))
  have hv : k0_pay4 (F := Ideal) (blockAt m hO c 0 t) (k0_pay1 (blockAt m hO c 1 t)) (k0_pay2 (blockAt m hO c 2 t)) (k0_pay3 (blockAt m hO c 3 t)) (ix2 r d)
      = swiglu (fun k => m ((c : Thread nD τ).loc main_arg0) (ix2 ⟨t.val * 512 + r.val, by omega⟩ k)) (fun k j => m ((c : Thread nD τ).loc main_arg3) (ix4 0 ⟨_, he⟩ k j))
          (fun k j => m ((c : Thread nD τ).loc main_arg4) (ix4 0 ⟨_, he⟩ k j)) (fun j k => m ((c : Thread nD τ).loc main_arg5) (ix4 0 ⟨_, he⟩ j k)) d := by
    refine (pay4_apply (blockAt m hO c 0 t) _ _ _ r d).trans ?_
    rw [show (fun k => (blockAt m hO c 0 t : Vec Ideal S512x1024 .f32) (ix2 r k)) = _ from funext b0,
      show (fun k j => k0_pay1 (F := Ideal) (blockAt m hO c 1 t) (ix2 k j)) = _ from funext fun k => funext fun j => (pay1_apply _ k j).trans (b1 k j),
      show (fun k j => k0_pay2 (F := Ideal) (blockAt m hO c 2 t) (ix2 k j)) = _ from funext fun k => funext fun j => (pay2_apply _ k j).trans (b2 k j),
      show (fun k j => k0_pay3 (F := Ideal) (blockAt m hO c 3 t) (ix2 k j)) = _ from funext fun k => funext fun j => (pay3_apply _ k j).trans (b3 k j)]
  unfold outAt tileAt
  by_cases q : 0 < (tn (ix1 ⟨t.val, ht⟩)).toInt
  · rw [if_pos ((rows_iff _).mpr (hN ▸ q)), if_pos q]
    exact hv
  · rw [if_neg (fun h => q (hN ▸ (rows_iff _).mp h)), if_neg q]
    exact pay5_apply r d

/-- Two points write no common entry. -/
theorem disjoint4 (hO : Ok m) : ∀ t t' : Fin (cfgM m hO).N, ((cfgM m hO).win 4).flush t = true → ((cfgM m hO).win 4).flush t' = true → t ≠ t' →
    Disjoint (((cfgM m hO).win 4).blk t).view.set (((cfgM m hO).win 4).blk t').view.set :=
  fun t t' _ _ hne => ((cfgM m hO).win 4).disjoint_blk fun h => hne (Fin.ext ((map4_eq t).1.symm.trans ((congrFun h (0 : Fin 2)).trans (map4_eq t').1)))

/-- What a point writes back is the block it leaves. -/
theorem flushed4 (hO : Ok m) (t : Fin (cfgM m hO).N) : (dats m hO 0 c).flushed 4 t = ((cfgM m hO).win 4).cut ((cfgM m hO).grid.coords t) (outAt m hO c t) := by
  show ((cfgM m hO).win 4).cut ((cfgM m hO).grid.coords t) ((dats m hO 0 c).after 4 t) = _
  rw [after4]

/-- Every entry of the launch's result. -/
theorem final_apply (hO : Ok m) (te tn : IVec S59 32) (e0 : (tbl m 0 : IVec S59 32) = te) (e1 : (tbl m 1 : IVec S59 32) = tn)
    (t : Fin 59) (he : (te (ix1 t)).toNat < 8) (r : Fin 512) (d : Fin 1024) :
    ((dats m hO 0 c).arrAt 4 (cfgM m hO).N : Vec Ideal S30208x1024 .f32) (ix2 ⟨t.val * 512 + r.val, by omega⟩ d)
      = tileAt (m ((c : Thread nD τ).loc main_arg0)) tn (m ((c : Thread nD τ).loc main_arg3)) (m ((c : Thread nD τ).loc main_arg4)) (m ((c : Thread nD τ).loc main_arg5)) ⟨_, he⟩ t r d := by
  have hN : t.val < (cfgM m hO).N := Nat.lt_of_lt_of_eq t.isLt N_0.symm
  have h := ((dats m hO 0 c).read_blk_arrAt_eq_flushed 4 (disjoint4 m hO) (cfgM m hO).N ⟨t.val, hN⟩ hN (flush4 (adm m hO) _)).trans (flushed4 m c hO ⟨t.val, hN⟩)
  exact (read4 m hO ((dats m hO 0 c).arrAt 4 (cfgM m hO).N) ⟨t.val, hN⟩ t.isLt r d).symm.trans
    ((congrFun h (ix2 r d)).trans (out_apply m c hO te tn e0 e1 ⟨t.val, hN⟩ t.isLt he r d))

end Cert.Moe

end
-- ==== Proof.Moe.Ref.lean ====
/- The experts' reference, at an entry. -/
module

public import proofs.«01_k».proof.Proof.Gen.Reference3Ideal.Read
public import proofs.«01_k».proof.Proof.Ffn.Row
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.Moe.Ref

open Cert.Reference3Ideal Cert.Reference3Ideal.Gen Cert.Reference3Ideal.Read
open Cert.Ffn (silu hidden swiglu)

/-- Every tile's product with one matrix. -/
def times (x : FVec Ideal S59x512x1024 .f32) (w : FVec Ideal S1024x1024 .f32) : FVec Ideal S59x512x1024 .f32 :=
  Host.dotGeneral dot_S59x512x1024_S1024x1024_S59x512x1024_2_0_01_1_n_n none x w

/-- The array of ones. -/
def ones : FVec Ideal S59x512x1024 .f32 := broadcastInDim S59x512x1024 ![] bcast_S_S59x512x1024 (constant S_ .f32 0x3F800000#32)

/-- Every tile's gate projection under one expert's weights, through the gate. -/
def gated (x : FVec Ideal S59x512x1024 .f32) (wg : FVec Ideal S1024x1024 .f32) : FVec Ideal S59x512x1024 .f32 :=
  mulf (times x wg) (Host.divf ones (addf ones (Host.exp (Host.negf (times x wg)))))

/-- Every tile's feed-forward under one expert's weights. -/
def expertOf (x : FVec Ideal S59x512x1024 .f32) (wg wu wd : FVec Ideal S1024x1024 .f32) : FVec Ideal S59x512x1024 .f32 :=
  times (mulf (gated x wg) (times x wu)) wd

/-- The tiles of one expert that have rows. -/
def maskOf (k : BitVec 32) (te tn : IVec S59 32) : IVec S59x512x1024 1 :=
  broadcastInDim S59x512x1024 ![0, 1, 2] bcast_S59x1x1_S59x512x1024_0_1_2 (broadcastInDim S59x1x1 ![0] bcast_S59_S59x1x1_0
    (andi (cmpi .eq te (broadcastInDim S59 ![] bcast_S_S59 (constantI S_ 32 k))) (cmpi .sgt tn (broadcastInDim S59 ![] bcast_S_S59 (constantI S_ 32 0#32)))))

/-- A product of every tile with one matrix, at an entry. -/
theorem times_apply (x : FVec Ideal S59x512x1024 .f32) (w : FVec Ideal S1024x1024 .f32) (t : Fin 59) (r : Fin 512) (j : Fin 1024) :
    times x w (ix3 t r j) = ∑ k, x (ix3 t r k) * w (ix2 k j) := by
  pointwise [times]

/-- The gate at an entry. -/
theorem gated_apply (x : FVec Ideal S59x512x1024 .f32) (wg : FVec Ideal S1024x1024 .f32) (t : Fin 59) (r : Fin 512) (j : Fin 1024) :
    gated x wg (ix3 t r j) = silu (∑ k, x (ix3 t r k) * wg (ix2 k j)) := by
  rw [← times_apply]
  unfold gated
  generalize times x wg = y
  pointwise [silu, ones]

/-- One expert's feed-forward at an entry. -/
theorem expertOf_apply (x : FVec Ideal S59x512x1024 .f32) (wg wu wd : FVec Ideal S1024x1024 .f32) (t : Fin 59) (r : Fin 512) (d : Fin 1024) :
    expertOf x wg wu wd (ix3 t r d) = swiglu (fun k => x (ix3 t r k)) (fun k j => wg (ix2 k j)) (fun k j => wu (ix2 k j)) (fun j d => wd (ix2 j d)) d := by
  unfold expertOf
  rw [times_apply]
  refine Finset.sum_congr rfl fun j _ => congrArg (· * wd (ix2 j d)) ?_
  show gated x wg (ix3 t r j) * times x wu (ix3 t r j) = _
  rw [gated_apply, times_apply]
  rfl

/-- An expert's tiles at an entry. -/
theorem maskOf_apply (k : BitVec 32) (te tn : IVec S59 32) (t : Fin 59) (r : Fin 512) (d : Fin 1024) :
    maskOf k te tn (ix3 t r d) = IntOp.andi (IntOp.cmpi .eq (te (ix1 t)) k) (IntOp.cmpi .sgt (tn (ix1 t)) 0#32) := by
  pointwise [maskOf]

/-- A tile is an expert's when it names the expert and has rows. -/
theorem mask_iff (w k n : BitVec 32) : IntOp.andi (IntOp.cmpi .eq w k) (IntOp.cmpi .sgt n 0#32) = 1#1 ↔ w = k ∧ 0 < n.toInt := by
  unfold IntOp.andi IntOp.cmpi
  have h : (0#32 : BitVec 32).slt n = true ↔ 0 < n.toInt := by rw [BitVec.slt_iff_toInt_lt]; exact Iff.rfl
  have h' : (w == k) = true ↔ w = k := by simp
  rw [← h, ← h']
  dsimp only
  generalize (0#32 : BitVec 32).slt n = b
  generalize (w == k) = b'
  cases b <;> cases b' <;> decide

variable (x0 : FVec Ideal S30208x1024 .f32) (x1 x2 : IVec S59 32) (x3 x4 x5 : FVec Ideal S1x8x1024x1024 .f32)

/-- The tokens of a tile. -/
theorem tiles_apply (t : Fin 59) (r : Fin 512) (k : Fin 1024) : val_main_v0 (F := Ideal) x0 (ix3 t r k) = x0 (ix2 ⟨t.val * 512 + r.val, by omega⟩ k) := by
  pointwise [val_main_v0]

/-- Expert 0's gate weights. -/
theorem gate0_apply (k j : Fin 1024) : val_main_v9 (F := Ideal) x3 (ix2 k j) = x3 (ix4 0 0 k j) := by
  pointwise [val_main_v9, val_main_v8]

/-- Expert 0's up weights. -/
theorem up0_apply (k j : Fin 1024) : val_main_v11 (F := Ideal) x4 (ix2 k j) = x4 (ix4 0 0 k j) := by
  pointwise [val_main_v11, val_main_v10]

/-- Expert 0's down weights. -/
theorem down0_apply (k j : Fin 1024) : val_main_v13 (F := Ideal) x5 (ix2 k j) = x5 (ix4 0 0 k j) := by
  pointwise [val_main_v13, val_main_v12]

/-- Expert 0's feed-forward of every tile. -/
theorem out0_eq : val_main_v18 (F := Ideal) x0 x3 x4 x5 = expertOf (val_main_v0 (F := Ideal) x0) (val_main_v9 (F := Ideal) x3) (val_main_v11 (F := Ideal) x4) (val_main_v13 (F := Ideal) x5) := by
  unfold val_main_v18 val_main_v17 val_main_v16 val_main_v15 val_main_call0_v5 val_main_call0_v4 val_main_call0_v3 val_main_call0_v2 val_main_call0_v1 val_main_call0_v0 val_main_call0_cst val_main_call0_cst_0 val_main_v14 expertOf gated times ones
  rfl

/-- Expert 0's tiles. -/
theorem mask0_eq : val_main_call1_v0 (F := Ideal) x1 x2 = maskOf 0#32 x1 x2 := by
  unfold val_main_call1_v0 val_main_v7 val_main_v6 val_main_v5 val_main_v4 val_main_v3 val_main_v2 val_main_c val_main_c_0 maskOf
  rfl

/-- After expert 0: its tiles hold its feed-forward, the others what they held. -/
theorem after0_apply (t : Fin 59) (r : Fin 512) (d : Fin 1024) :
    val_main_v19 (F := Ideal) x0 x1 x2 x3 x4 x5 (ix3 t r d)
      = if x1 (ix1 t) = 0#32 ∧ 0 < (x2 (ix1 t)).toInt then
          swiglu (fun k => x0 (ix2 ⟨t.val * 512 + r.val, by omega⟩ k)) (fun k j => x3 (ix4 0 0 k j)) (fun k j => x4 (ix4 0 0 k j)) (fun j d => x5 (ix4 0 0 j d)) d
        else val_main_v1 (F := Ideal) (ix3 t r d) := by
  unfold val_main_v19
  rw [out0_eq, mask0_eq]
  show (if maskOf 0#32 x1 x2 (ix3 t r d) = 1#1 then expertOf _ _ _ _ (ix3 t r d) else _) = _
  simp only [maskOf_apply, mask_iff, expertOf_apply, tiles_apply, gate0_apply, up0_apply, down0_apply]

/-- Expert 1's gate weights. -/
theorem gate1_apply (k j : Fin 1024) : val_main_v27 (F := Ideal) x3 (ix2 k j) = x3 (ix4 0 1 k j) := by
  pointwise [val_main_v27, val_main_v26]

/-- Expert 1's up weights. -/
theorem up1_apply (k j : Fin 1024) : val_main_v29 (F := Ideal) x4 (ix2 k j) = x4 (ix4 0 1 k j) := by
  pointwise [val_main_v29, val_main_v28]

/-- Expert 1's down weights. -/
theorem down1_apply (k j : Fin 1024) : val_main_v31 (F := Ideal) x5 (ix2 k j) = x5 (ix4 0 1 k j) := by
  pointwise [val_main_v31, val_main_v30]

/-- Expert 1's feed-forward of every tile. -/
theorem out1_eq : val_main_v36 (F := Ideal) x0 x3 x4 x5 = expertOf (val_main_v0 (F := Ideal) x0) (val_main_v27 (F := Ideal) x3) (val_main_v29 (F := Ideal) x4) (val_main_v31 (F := Ideal) x5) := by
  unfold val_main_v36 val_main_v35 val_main_v34 val_main_v33 val_main_call2_v5 val_main_call2_v4 val_main_call2_v3 val_main_call2_v2 val_main_call2_v1 val_main_call2_v0 val_main_call2_cst val_main_call2_cst_0 val_main_v32 expertOf gated times ones
  rfl

/-- Expert 1's tiles. -/
theorem mask1_eq : val_main_call3_v0 (F := Ideal) x1 x2 = maskOf 1#32 x1 x2 := by
  unfold val_main_call3_v0 val_main_v25 val_main_v24 val_main_v23 val_main_v22 val_main_v21 val_main_v20 val_main_c_1 val_main_c_2 maskOf
  rfl

/-- After expert 1: its tiles hold its feed-forward, the others what they held. -/
theorem after1_apply (t : Fin 59) (r : Fin 512) (d : Fin 1024) :
    val_main_v37 (F := Ideal) x0 x1 x2 x3 x4 x5 (ix3 t r d)
      = if x1 (ix1 t) = 1#32 ∧ 0 < (x2 (ix1 t)).toInt then
          swiglu (fun k => x0 (ix2 ⟨t.val * 512 + r.val, by omega⟩ k)) (fun k j => x3 (ix4 0 1 k j)) (fun k j => x4 (ix4 0 1 k j)) (fun j d => x5 (ix4 0 1 j d)) d
        else val_main_v19 (F := Ideal) x0 x1 x2 x3 x4 x5 (ix3 t r d) := by
  unfold val_main_v37
  rw [out1_eq, mask1_eq]
  show (if maskOf 1#32 x1 x2 (ix3 t r d) = 1#1 then expertOf _ _ _ _ (ix3 t r d) else _) = _
  simp only [maskOf_apply, mask_iff, expertOf_apply, tiles_apply, gate1_apply, up1_apply, down1_apply]

/-- Expert 2's gate weights. -/
theorem gate2_apply (k j : Fin 1024) : val_main_v45 (F := Ideal) x3 (ix2 k j) = x3 (ix4 0 2 k j) := by
  pointwise [val_main_v45, val_main_v44]

/-- Expert 2's up weights. -/
theorem up2_apply (k j : Fin 1024) : val_main_v47 (F := Ideal) x4 (ix2 k j) = x4 (ix4 0 2 k j) := by
  pointwise [val_main_v47, val_main_v46]

/-- Expert 2's down weights. -/
theorem down2_apply (k j : Fin 1024) : val_main_v49 (F := Ideal) x5 (ix2 k j) = x5 (ix4 0 2 k j) := by
  pointwise [val_main_v49, val_main_v48]

/-- Expert 2's feed-forward of every tile. -/
theorem out2_eq : val_main_v54 (F := Ideal) x0 x3 x4 x5 = expertOf (val_main_v0 (F := Ideal) x0) (val_main_v45 (F := Ideal) x3) (val_main_v47 (F := Ideal) x4) (val_main_v49 (F := Ideal) x5) := by
  unfold val_main_v54 val_main_v53 val_main_v52 val_main_v51 val_main_call4_v5 val_main_call4_v4 val_main_call4_v3 val_main_call4_v2 val_main_call4_v1 val_main_call4_v0 val_main_call4_cst val_main_call4_cst_0 val_main_v50 expertOf gated times ones
  rfl

/-- Expert 2's tiles. -/
theorem mask2_eq : val_main_call5_v0 (F := Ideal) x1 x2 = maskOf 2#32 x1 x2 := by
  unfold val_main_call5_v0 val_main_v43 val_main_v42 val_main_v41 val_main_v40 val_main_v39 val_main_v38 val_main_c_3 val_main_c_4 maskOf
  rfl

/-- After expert 2: its tiles hold its feed-forward, the others what they held. -/
theorem after2_apply (t : Fin 59) (r : Fin 512) (d : Fin 1024) :
    val_main_v55 (F := Ideal) x0 x1 x2 x3 x4 x5 (ix3 t r d)
      = if x1 (ix1 t) = 2#32 ∧ 0 < (x2 (ix1 t)).toInt then
          swiglu (fun k => x0 (ix2 ⟨t.val * 512 + r.val, by omega⟩ k)) (fun k j => x3 (ix4 0 2 k j)) (fun k j => x4 (ix4 0 2 k j)) (fun j d => x5 (ix4 0 2 j d)) d
        else val_main_v37 (F := Ideal) x0 x1 x2 x3 x4 x5 (ix3 t r d) := by
  unfold val_main_v55
  rw [out2_eq, mask2_eq]
  show (if maskOf 2#32 x1 x2 (ix3 t r d) = 1#1 then expertOf _ _ _ _ (ix3 t r d) else _) = _
  simp only [maskOf_apply, mask_iff, expertOf_apply, tiles_apply, gate2_apply, up2_apply, down2_apply]

/-- Expert 3's gate weights. -/
theorem gate3_apply (k j : Fin 1024) : val_main_v63 (F := Ideal) x3 (ix2 k j) = x3 (ix4 0 3 k j) := by
  pointwise [val_main_v63, val_main_v62]

/-- Expert 3's up weights. -/
theorem up3_apply (k j : Fin 1024) : val_main_v65 (F := Ideal) x4 (ix2 k j) = x4 (ix4 0 3 k j) := by
  pointwise [val_main_v65, val_main_v64]

/-- Expert 3's down weights. -/
theorem down3_apply (k j : Fin 1024) : val_main_v67 (F := Ideal) x5 (ix2 k j) = x5 (ix4 0 3 k j) := by
  pointwise [val_main_v67, val_main_v66]

/-- Expert 3's feed-forward of every tile. -/
theorem out3_eq : val_main_v72 (F := Ideal) x0 x3 x4 x5 = expertOf (val_main_v0 (F := Ideal) x0) (val_main_v63 (F := Ideal) x3) (val_main_v65 (F := Ideal) x4) (val_main_v67 (F := Ideal) x5) := by
  unfold val_main_v72 val_main_v71 val_main_v70 val_main_v69 val_main_call6_v5 val_main_call6_v4 val_main_call6_v3 val_main_call6_v2 val_main_call6_v1 val_main_call6_v0 val_main_call6_cst val_main_call6_cst_0 val_main_v68 expertOf gated times ones
  rfl

/-- Expert 3's tiles. -/
theorem mask3_eq : val_main_call7_v0 (F := Ideal) x1 x2 = maskOf 3#32 x1 x2 := by
  unfold val_main_call7_v0 val_main_v61 val_main_v60 val_main_v59 val_main_v58 val_main_v57 val_main_v56 val_main_c_5 val_main_c_6 maskOf
  rfl

/-- After expert 3: its tiles hold its feed-forward, the others what they held. -/
theorem after3_apply (t : Fin 59) (r : Fin 512) (d : Fin 1024) :
    val_main_v73 (F := Ideal) x0 x1 x2 x3 x4 x5 (ix3 t r d)
      = if x1 (ix1 t) = 3#32 ∧ 0 < (x2 (ix1 t)).toInt then
          swiglu (fun k => x0 (ix2 ⟨t.val * 512 + r.val, by omega⟩ k)) (fun k j => x3 (ix4 0 3 k j)) (fun k j => x4 (ix4 0 3 k j)) (fun j d => x5 (ix4 0 3 j d)) d
        else val_main_v55 (F := Ideal) x0 x1 x2 x3 x4 x5 (ix3 t r d) := by
  unfold val_main_v73
  rw [out3_eq, mask3_eq]
  show (if maskOf 3#32 x1 x2 (ix3 t r d) = 1#1 then expertOf _ _ _ _ (ix3 t r d) else _) = _
  simp only [maskOf_apply, mask_iff, expertOf_apply, tiles_apply, gate3_apply, up3_apply, down3_apply]

/-- Expert 4's gate weights. -/
theorem gate4_apply (k j : Fin 1024) : val_main_v81 (F := Ideal) x3 (ix2 k j) = x3 (ix4 0 4 k j) := by
  pointwise [val_main_v81, val_main_v80]

/-- Expert 4's up weights. -/
theorem up4_apply (k j : Fin 1024) : val_main_v83 (F := Ideal) x4 (ix2 k j) = x4 (ix4 0 4 k j) := by
  pointwise [val_main_v83, val_main_v82]

/-- Expert 4's down weights. -/
theorem down4_apply (k j : Fin 1024) : val_main_v85 (F := Ideal) x5 (ix2 k j) = x5 (ix4 0 4 k j) := by
  pointwise [val_main_v85, val_main_v84]

/-- Expert 4's feed-forward of every tile. -/
theorem out4_eq : val_main_v90 (F := Ideal) x0 x3 x4 x5 = expertOf (val_main_v0 (F := Ideal) x0) (val_main_v81 (F := Ideal) x3) (val_main_v83 (F := Ideal) x4) (val_main_v85 (F := Ideal) x5) := by
  unfold val_main_v90 val_main_v89 val_main_v88 val_main_v87 val_main_call8_v5 val_main_call8_v4 val_main_call8_v3 val_main_call8_v2 val_main_call8_v1 val_main_call8_v0 val_main_call8_cst val_main_call8_cst_0 val_main_v86 expertOf gated times ones
  rfl

/-- Expert 4's tiles. -/
theorem mask4_eq : val_main_call9_v0 (F := Ideal) x1 x2 = maskOf 4#32 x1 x2 := by
  unfold val_main_call9_v0 val_main_v79 val_main_v78 val_main_v77 val_main_v76 val_main_v75 val_main_v74 val_main_c_7 val_main_c_8 maskOf
  rfl

/-- After expert 4: its tiles hold its feed-forward, the others what they held. -/
theorem after4_apply (t : Fin 59) (r : Fin 512) (d : Fin 1024) :
    val_main_v91 (F := Ideal) x0 x1 x2 x3 x4 x5 (ix3 t r d)
      = if x1 (ix1 t) = 4#32 ∧ 0 < (x2 (ix1 t)).toInt then
          swiglu (fun k => x0 (ix2 ⟨t.val * 512 + r.val, by omega⟩ k)) (fun k j => x3 (ix4 0 4 k j)) (fun k j => x4 (ix4 0 4 k j)) (fun j d => x5 (ix4 0 4 j d)) d
        else val_main_v73 (F := Ideal) x0 x1 x2 x3 x4 x5 (ix3 t r d) := by
  unfold val_main_v91
  rw [out4_eq, mask4_eq]
  show (if maskOf 4#32 x1 x2 (ix3 t r d) = 1#1 then expertOf _ _ _ _ (ix3 t r d) else _) = _
  simp only [maskOf_apply, mask_iff, expertOf_apply, tiles_apply, gate4_apply, up4_apply, down4_apply]

/-- Expert 5's gate weights. -/
theorem gate5_apply (k j : Fin 1024) : val_main_v99 (F := Ideal) x3 (ix2 k j) = x3 (ix4 0 5 k j) := by
  pointwise [val_main_v99, val_main_v98]

/-- Expert 5's up weights. -/
theorem up5_apply (k j : Fin 1024) : val_main_v101 (F := Ideal) x4 (ix2 k j) = x4 (ix4 0 5 k j) := by
  pointwise [val_main_v101, val_main_v100]

/-- Expert 5's down weights. -/
theorem down5_apply (k j : Fin 1024) : val_main_v103 (F := Ideal) x5 (ix2 k j) = x5 (ix4 0 5 k j) := by
  pointwise [val_main_v103, val_main_v102]

/-- Expert 5's feed-forward of every tile. -/
theorem out5_eq : val_main_v108 (F := Ideal) x0 x3 x4 x5 = expertOf (val_main_v0 (F := Ideal) x0) (val_main_v99 (F := Ideal) x3) (val_main_v101 (F := Ideal) x4) (val_main_v103 (F := Ideal) x5) := by
  unfold val_main_v108 val_main_v107 val_main_v106 val_main_v105 val_main_call10_v5 val_main_call10_v4 val_main_call10_v3 val_main_call10_v2 val_main_call10_v1 val_main_call10_v0 val_main_call10_cst val_main_call10_cst_0 val_main_v104 expertOf gated times ones
  rfl

/-- Expert 5's tiles. -/
theorem mask5_eq : val_main_call11_v0 (F := Ideal) x1 x2 = maskOf 5#32 x1 x2 := by
  unfold val_main_call11_v0 val_main_v97 val_main_v96 val_main_v95 val_main_v94 val_main_v93 val_main_v92 val_main_c_9 val_main_c_10 maskOf
  rfl

/-- After expert 5: its tiles hold its feed-forward, the others what they held. -/
theorem after5_apply (t : Fin 59) (r : Fin 512) (d : Fin 1024) :
    val_main_v109 (F := Ideal) x0 x1 x2 x3 x4 x5 (ix3 t r d)
      = if x1 (ix1 t) = 5#32 ∧ 0 < (x2 (ix1 t)).toInt then
          swiglu (fun k => x0 (ix2 ⟨t.val * 512 + r.val, by omega⟩ k)) (fun k j => x3 (ix4 0 5 k j)) (fun k j => x4 (ix4 0 5 k j)) (fun j d => x5 (ix4 0 5 j d)) d
        else val_main_v91 (F := Ideal) x0 x1 x2 x3 x4 x5 (ix3 t r d) := by
  unfold val_main_v109
  rw [out5_eq, mask5_eq]
  show (if maskOf 5#32 x1 x2 (ix3 t r d) = 1#1 then expertOf _ _ _ _ (ix3 t r d) else _) = _
  simp only [maskOf_apply, mask_iff, expertOf_apply, tiles_apply, gate5_apply, up5_apply, down5_apply]

/-- Expert 6's gate weights. -/
theorem gate6_apply (k j : Fin 1024) : val_main_v117 (F := Ideal) x3 (ix2 k j) = x3 (ix4 0 6 k j) := by
  pointwise [val_main_v117, val_main_v116]

/-- Expert 6's up weights. -/
theorem up6_apply (k j : Fin 1024) : val_main_v119 (F := Ideal) x4 (ix2 k j) = x4 (ix4 0 6 k j) := by
  pointwise [val_main_v119, val_main_v118]

/-- Expert 6's down weights. -/
theorem down6_apply (k j : Fin 1024) : val_main_v121 (F := Ideal) x5 (ix2 k j) = x5 (ix4 0 6 k j) := by
  pointwise [val_main_v121, val_main_v120]

/-- Expert 6's feed-forward of every tile. -/
theorem out6_eq : val_main_v126 (F := Ideal) x0 x3 x4 x5 = expertOf (val_main_v0 (F := Ideal) x0) (val_main_v117 (F := Ideal) x3) (val_main_v119 (F := Ideal) x4) (val_main_v121 (F := Ideal) x5) := by
  unfold val_main_v126 val_main_v125 val_main_v124 val_main_v123 val_main_call12_v5 val_main_call12_v4 val_main_call12_v3 val_main_call12_v2 val_main_call12_v1 val_main_call12_v0 val_main_call12_cst val_main_call12_cst_0 val_main_v122 expertOf gated times ones
  rfl

/-- Expert 6's tiles. -/
theorem mask6_eq : val_main_call13_v0 (F := Ideal) x1 x2 = maskOf 6#32 x1 x2 := by
  unfold val_main_call13_v0 val_main_v115 val_main_v114 val_main_v113 val_main_v112 val_main_v111 val_main_v110 val_main_c_11 val_main_c_12 maskOf
  rfl

/-- After expert 6: its tiles hold its feed-forward, the others what they held. -/
theorem after6_apply (t : Fin 59) (r : Fin 512) (d : Fin 1024) :
    val_main_v127 (F := Ideal) x0 x1 x2 x3 x4 x5 (ix3 t r d)
      = if x1 (ix1 t) = 6#32 ∧ 0 < (x2 (ix1 t)).toInt then
          swiglu (fun k => x0 (ix2 ⟨t.val * 512 + r.val, by omega⟩ k)) (fun k j => x3 (ix4 0 6 k j)) (fun k j => x4 (ix4 0 6 k j)) (fun j d => x5 (ix4 0 6 j d)) d
        else val_main_v109 (F := Ideal) x0 x1 x2 x3 x4 x5 (ix3 t r d) := by
  unfold val_main_v127
  rw [out6_eq, mask6_eq]
  show (if maskOf 6#32 x1 x2 (ix3 t r d) = 1#1 then expertOf _ _ _ _ (ix3 t r d) else _) = _
  simp only [maskOf_apply, mask_iff, expertOf_apply, tiles_apply, gate6_apply, up6_apply, down6_apply]

/-- Expert 7's gate weights. -/
theorem gate7_apply (k j : Fin 1024) : val_main_v135 (F := Ideal) x3 (ix2 k j) = x3 (ix4 0 7 k j) := by
  pointwise [val_main_v135, val_main_v134]

/-- Expert 7's up weights. -/
theorem up7_apply (k j : Fin 1024) : val_main_v137 (F := Ideal) x4 (ix2 k j) = x4 (ix4 0 7 k j) := by
  pointwise [val_main_v137, val_main_v136]

/-- Expert 7's down weights. -/
theorem down7_apply (k j : Fin 1024) : val_main_v139 (F := Ideal) x5 (ix2 k j) = x5 (ix4 0 7 k j) := by
  pointwise [val_main_v139, val_main_v138]

/-- Expert 7's feed-forward of every tile. -/
theorem out7_eq : val_main_v144 (F := Ideal) x0 x3 x4 x5 = expertOf (val_main_v0 (F := Ideal) x0) (val_main_v135 (F := Ideal) x3) (val_main_v137 (F := Ideal) x4) (val_main_v139 (F := Ideal) x5) := by
  unfold val_main_v144 val_main_v143 val_main_v142 val_main_v141 val_main_call14_v5 val_main_call14_v4 val_main_call14_v3 val_main_call14_v2 val_main_call14_v1 val_main_call14_v0 val_main_call14_cst val_main_call14_cst_0 val_main_v140 expertOf gated times ones
  rfl

/-- Expert 7's tiles. -/
theorem mask7_eq : val_main_call15_v0 (F := Ideal) x1 x2 = maskOf 7#32 x1 x2 := by
  unfold val_main_call15_v0 val_main_v133 val_main_v132 val_main_v131 val_main_v130 val_main_v129 val_main_v128 val_main_c_13 val_main_c_14 maskOf
  rfl

/-- After expert 7: its tiles hold its feed-forward, the others what they held. -/
theorem after7_apply (t : Fin 59) (r : Fin 512) (d : Fin 1024) :
    val_main_v145 (F := Ideal) x0 x1 x2 x3 x4 x5 (ix3 t r d)
      = if x1 (ix1 t) = 7#32 ∧ 0 < (x2 (ix1 t)).toInt then
          swiglu (fun k => x0 (ix2 ⟨t.val * 512 + r.val, by omega⟩ k)) (fun k j => x3 (ix4 0 7 k j)) (fun k j => x4 (ix4 0 7 k j)) (fun j d => x5 (ix4 0 7 j d)) d
        else val_main_v127 (F := Ideal) x0 x1 x2 x3 x4 x5 (ix3 t r d) := by
  unfold val_main_v145
  rw [out7_eq, mask7_eq]
  show (if maskOf 7#32 x1 x2 (ix3 t r d) = 1#1 then expertOf _ _ _ _ (ix3 t r d) else _) = _
  simp only [maskOf_apply, mask_iff, expertOf_apply, tiles_apply, gate7_apply, up7_apply, down7_apply]

/-- The result at an entry: the tile's named expert's feed-forward, or zero where the tile has no rows. -/
theorem result_apply (t : Fin 59) (r : Fin 512) (d : Fin 1024) (h : (x1 (ix1 t)).toNat < 8) :
    val_main_v146 (F := Ideal) x0 x1 x2 x3 x4 x5 (ix2 ⟨t.val * 512 + r.val, by omega⟩ d)
      = if 0 < (x2 (ix1 t)).toInt then
          swiglu (fun k => x0 (ix2 ⟨t.val * 512 + r.val, by omega⟩ k)) (fun k j => x3 (ix4 0 ⟨(x1 (ix1 t)).toNat, h⟩ k j)) (fun k j => x4 (ix4 0 ⟨(x1 (ix1 t)).toNat, h⟩ k j))
            (fun j d => x5 (ix4 0 ⟨(x1 (ix1 t)).toNat, h⟩ j d)) d
        else 0 := by
  have e : val_main_v146 (F := Ideal) x0 x1 x2 x3 x4 x5 (ix2 ⟨t.val * 512 + r.val, by omega⟩ d) = val_main_v145 (F := Ideal) x0 x1 x2 x3 x4 x5 (ix3 t r d) := by
    unfold val_main_v146
    generalize val_main_v145 (F := Ideal) x0 x1 x2 x3 x4 x5 = y
    pointwise []
  have z : val_main_v1 (F := Ideal) (ix3 t r d) = 0 := by pointwise [val_main_v1, val_main_cst]
  rw [e, after7_apply, after6_apply, after5_apply, after4_apply, after3_apply, after2_apply, after1_apply, after0_apply, z]
  clear e z
  generalize (fun k => x0 (ix2 (⟨t.val * 512 + r.val, by omega⟩ : Fin 30208) k)) = a
  generalize x2 (ix1 t) = n
  generalize x1 (ix1 t) = w at h
  by_cases hn : 0 < n.toInt
  · simp only [hn, and_true, if_true]
    obtain ⟨k, hk, rfl⟩ : ∃ k < 8, w = BitVec.ofNat 32 k := ⟨w.toNat, h, by simp⟩
    interval_cases k <;> rfl
  · simp only [hn, and_false, if_false]

end Cert.Moe.Ref
end
-- ==== Proof.Moe.Claim.lean ====
/- The experts' claims: the reference's frames, and the two results set side by side. -/
module

public import proofs.«01_k».proof.Defs
public import proofs.«01_k».proof.Proof.Gen.Reference3Ideal.Run
public import proofs.«01_k».proof.Proof.Moe.Point
public import proofs.«01_k».proof.Proof.Moe.Ref
public import Idealize.ShloMosaic.Adequacy
public import Idealize.ShloMosaic.Init

@[expose] public section

set_option maxRecDepth 16384

noncomputable section

open Idealize.ShloMosaic Idealize.ShloMosaic.TcCoe Idealize.SL.Sem

namespace Cert.Moe

/-- The reference terminates, keeps its arguments, and leaves its counters at zero. -/
theorem refFrame : Cert.quiescent_Reference3Ideal (hReference3Ideal := Cert.Reference3Ideal.Gen.facts) := fun m ρ _ =>
  (θ_run (Cert.Reference3Ideal.defs (F := Ideal)) _ _).mono (fun r h => ⟨fun c => (h c).2, sem_eq_zero_of_no_sems (by decide) r.2⟩)
    (Cert.Reference3Ideal.Value.run m ρ)

/-- The kernel's result is the reference's. -/
theorem results_eq (m : (ℓ : Loc Cert.Kernel3Ideal.nD Cert.Kernel3Ideal.τ Cert.Kernel3Ideal.sig) → Buf (Elt Ideal) ℓ) (c : Dev Cert.Kernel3Ideal.nD) (hO : Ok m)
    (te tn : IVec Cert.Kernel3Ideal.S59 32) (h : Named te tn) (e0 : (tbl m 0 : IVec Cert.Kernel3Ideal.S59 32) = te) (e1 : (tbl m 1 : IVec Cert.Kernel3Ideal.S59 32) = tn) :
    ((dats m hO 0 c).arrAt 4 (cfgM m hO).N : Vec Ideal Cert.Kernel3Ideal.S30208x1024 .f32)
      = Cert.Reference3Ideal.Read.val_main_v146 (F := Ideal) (m ((c : Thread Cert.Kernel3Ideal.nD Cert.Kernel3Ideal.τ).loc Cert.Kernel3Ideal.main_arg0)) te tn
          (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4))
          (m ((c : Thread Cert.Kernel3Ideal.nD Cert.Kernel3Ideal.τ).loc Cert.Kernel3Ideal.main_arg5)) := by
  funext (j : Cert.Kernel3Ideal.S30208x1024.Idx)
  obtain ⟨l, d, rfl⟩ : ∃ (l : Fin 30208) (d : Fin 1024), j = ix2 l d := ⟨j 0, j 1, (ix2_eta j).symm⟩
  obtain ⟨t, r, rfl⟩ : ∃ (t : Fin 59) (r : Fin 512), l = ⟨t.val * 512 + r.val, by have := t.isLt; have := r.isLt; omega⟩ :=
    ⟨⟨l.val / 512, by have := l.isLt; omega⟩, ⟨l.val % 512, by omega⟩, Fin.ext (show l.val = l.val / 512 * 512 + l.val % 512 by omega)⟩
  exact (final_apply m c hO te tn e0 e1 t (h (ix1 t)).1 r d).trans (Ref.result_apply _ te tn _ _ _ t r d (h (ix1 t)).1).symm

/-- The same, of arguments equal to the kernel's. -/
theorem results_of (m : (ℓ : Loc Cert.Kernel3Ideal.nD Cert.Kernel3Ideal.τ Cert.Kernel3Ideal.sig) → Buf (Elt Ideal) ℓ) (c : Dev Cert.Kernel3Ideal.nD) (hO : Ok m)
    (te tn : IVec Cert.Kernel3Ideal.S59 32) (h : Named te tn) (e0 : (tbl m 0 : IVec Cert.Kernel3Ideal.S59 32) = te) (e1 : (tbl m 1 : IVec Cert.Kernel3Ideal.S59 32) = tn)
    (x0 : FVec Ideal Cert.Kernel3Ideal.S30208x1024 .f32) (x1 x2 : IVec Cert.Kernel3Ideal.S59 32) (x3 x4 x5 : FVec Ideal Cert.Kernel3Ideal.S1x8x1024x1024 .f32)
    (h0 : x0 = m ((c : Thread Cert.Kernel3Ideal.nD Cert.Kernel3Ideal.τ).loc Cert.Kernel3Ideal.main_arg0)) (h1 : x1 = te) (h2 : x2 = tn) (h3 : x3 = m ((c : Thread Cert.Kernel3Ideal.nD Cert.Kernel3Ideal.τ).loc Cert.Kernel3Ideal.main_arg3)) (h4 : x4 = m ((c : Thread Cert.Kernel3Ideal.nD Cert.Kernel3Ideal.τ).loc Cert.Kernel3Ideal.main_arg4)) (h5 : x5 = m ((c : Thread Cert.Kernel3Ideal.nD Cert.Kernel3Ideal.τ).loc Cert.Kernel3Ideal.main_arg5)) :
    Cert.Reference3Ideal.Read.val_main_v146 (F := Ideal) x0 x1 x2 x3 x4 x5 = ((dats m hO 0 c).arrAt 4 (cfgM m hO).N : Vec Ideal Cert.Kernel3Ideal.S30208x1024 .f32) := by
  subst h0 h1 h2 h3 h4 h5
  exact (results_eq m c hO x1 x2 h e0 e1).symm

/-- The kernel and the reference end with equal results. -/
theorem algebraic : Cert.algebraic_Kernel3Ideal_Reference3Ideal (hPre_experts_named := preFacts) := by
  haveI := preFacts
  intro m g m' g' hp hm
  have hn := named_of_pre _ _ _ _ _ _ (hp 0)
  have hO : Ok m := ok_of_named _ _ hn _ (tbl0 m)
  refine ⟨fun c => (dats m hO 0 c).arrAt 4 (cfgM m hO).N,
    (θ_run Cert.Kernel3Ideal.defs _ _).mono (fun r q c => ⟨(q.1 c).1 4, kept m hO r q.1 c⟩) (run_main m g hO (counted_of_named m _ _ hn (tbl1 m))), ?_⟩
  refine (θ_run (Cert.Reference3Ideal.defs (F := Ideal)) _ _).mono (fun r h c => ⟨(h c).1.trans ?_, (h c).2⟩) (Cert.Reference3Ideal.Value.run m' g')
  obtain ⟨e0, e1, e2, e3, e4, e5⟩ := hm c
  obtain rfl : c = 0 := Subsingleton.elim _ _
  exact (Cert.Reference3Ideal.Read.val_main_v146_eq _).trans (results_of m 0 hO _ _ hn (tbl0 m) (tbl1 m) _ _ _ _ _ _ e0 e1 e2 e3 e4 e5)

end Cert.Moe

end
-- ==== Proof.FfnCtx.Point.lean ====
/- The context tokens' feed-forward: what each grid point reads and the block of rows it leaves. -/
module

public import proofs.«01_k».proof.Proof.Gen.Kernel4Ideal.Value
public import proofs.«01_k».proof.Proof.Ffn.Row
public import Idealize.ShloMosaic.Lib.Pipeline.Value
public import Idealize.ShloMosaic.Lib.Pipeline.ValueKit.Tiles
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.FfnCtx

open Cert.Kernel4Ideal Cert.Kernel4Ideal.Gen Cert.Ffn

/-- A point's feed-forward, at an entry. -/
theorem pay2_apply (a : Vec Ideal S512x1024 .bf16) (wg wu : Vec Ideal S1024x2816 .bf16) (wd : Vec Ideal S2816x1024 .bf16) (r : Fin 512) (d : Fin 1024) :
    k0_pay2 (F := Ideal) a wg wu wd (ix2 r d)
      = swiglu (fun k => a (ix2 r k)) (fun k j => wg (ix2 k j)) (fun k j => wu (ix2 k j)) (fun j d => wd (ix2 j d)) d := by
  pointwise [k0_pay2]
  simp only [zero_sub]
  rfl

/-- What a row of the feed-forward is normalised by. -/
theorem pay6_apply (a : Vec Ideal S512x1024 .bf16) (wg wu : Vec Ideal S1024x2816 .bf16) (wd : Vec Ideal S2816x1024 .bf16) (r : Fin 512) :
    k0_pay6 (F := Ideal) a wg wu wd (ix2 r 0)
      = Ideal.rsqrt (Ideal.div (∑ k, k0_pay2 (F := Ideal) a wg wu wd (ix2 r k) * k0_pay2 (F := Ideal) a wg wu wd (ix2 r k)) (Ideal.ofBits .f32 0x44800000#32) + Ideal.ofBits .f32 0x358637BD#32) := by
  unfold k0_pay6
  generalize k0_pay2 (F := Ideal) a wg wu wd = f
  pointwise []

/-- The row a point stores. -/
theorem pay1_apply (f x : FVec Ideal S512x1024 .f32) (gt g : FVec Ideal S1x1024 .f32) (v : FVec Ideal S512x1 .f32) (r : Fin 512) (d : Fin 1024) :
    k0_pay1 (F := Ideal) f x gt g v (ix2 r d)
      = x (ix2 r d) + gt (ix2 0 d) * (f (ix2 r d) * v (ix2 r 0) * g (ix2 0 d)) := by
  pointwise [k0_pay1]

/-- The group's gains, as a row. -/
theorem pay4_apply (gt : Vec Ideal S1x1x1024 .f32) (d : Fin 1024) : k0_pay4 (F := Ideal) gt (ix2 0 d) = gt (ix3 0 0 d) := by
  pointwise [k0_pay4]

variable (m : (ℓ : Loc nD τ sig) → Buf (Elt Ideal) ℓ) (c : Dev nD)

/-! ## The block indices at a grid point -/

/-- Window 0's block index. -/
theorem index0 : ∀ t : Fin cfg0.N, win0_0.index t 0 = t.val ∧ win0_0.index t 1 = 0 := (by decide +kernel : ∀ t : Fin grid0.N, win0_0.index t 0 = t.val ∧ win0_0.index t 1 = 0)
/-- Window 1's block index. -/
theorem index1 : ∀ t : Fin cfg0.N, win0_1.index t 0 = t.val ∧ win0_1.index t 1 = 0 := (by decide +kernel : ∀ t : Fin grid0.N, win0_1.index t 0 = t.val ∧ win0_1.index t 1 = 0)
/-- Window 3's block index. -/
theorem index3 : ∀ t : Fin cfg0.N, win0_3.index t 0 = 0 ∧ win0_3.index t 1 = 0 := (by decide +kernel : ∀ t : Fin grid0.N, win0_3.index t 0 = 0 ∧ win0_3.index t 1 = 0)
/-- Window 4's block index. -/
theorem index4 : ∀ t : Fin cfg0.N, win0_4.index t 0 = 0 ∧ win0_4.index t 1 = 0 := (by decide +kernel : ∀ t : Fin grid0.N, win0_4.index t 0 = 0 ∧ win0_4.index t 1 = 0)
/-- Window 5's block index. -/
theorem index5 : ∀ t : Fin cfg0.N, win0_5.index t 0 = 0 ∧ win0_5.index t 1 = 0 := (by decide +kernel : ∀ t : Fin grid0.N, win0_5.index t 0 = 0 ∧ win0_5.index t 1 = 0)
/-- Window 6's block index. -/
theorem index6 : ∀ t : Fin cfg0.N, win0_6.index t 0 = 0 ∧ win0_6.index t 1 = 0 := (by decide +kernel : ∀ t : Fin grid0.N, win0_6.index t 0 = 0 ∧ win0_6.index t 1 = 0)
/-- Window 7's block index. -/
theorem index7 : ∀ t : Fin cfg0.N, win0_7.index t 0 = t.val ∧ win0_7.index t 1 = 0 := (by decide +kernel : ∀ t : Fin grid0.N, win0_7.index t 0 = t.val ∧ win0_7.index t 1 = 0)
/-- Window 2's block index. -/
theorem index2 : ∀ t : Fin cfg0.N, win0_2.index t 0 = 0 ∧ win0_2.index t 1 = 0 ∧ win0_2.index t 2 = 5 := (by decide +kernel : ∀ t : Fin grid0.N, win0_2.index t 0 = 0 ∧ win0_2.index t 1 = 0 ∧ win0_2.index t 2 = 5)

/-! ## A block of an array, read at an entry -/

/-- Window 0's block at an entry. -/
theorem read0 (X : S4096x1024.Idx → Elt Ideal .bf16) (t : Fin cfg0.N) (r : Fin 512) (d : Fin 1024) :
    (((cfg0.win 0).blk t).view.read (Elt Ideal) X : Vec Ideal S512x1024 .bf16) (ix2 r d) = X (ix2 ⟨t.val * 512 + r.val, by have := Nat.lt_of_lt_of_eq t.isLt N_0; omega⟩ d) := by
  rw [View.read_apply]
  show X _ = X _
  refine congrArg X ?_
  funext a
  apply Fin.ext
  match a with
  | ⟨0, _⟩ => show win0_0.index t 0 * 512 + 1 * r.val = t.val * 512 + r.val; rw [(index0 t).1]; omega
  | ⟨1, _⟩ => show win0_0.index t 1 * 1024 + 1 * d.val = d.val; rw [(index0 t).2]; omega

/-- Window 1's block at an entry. -/
theorem read1 (X : S4096x1024.Idx → Elt Ideal .f32) (t : Fin cfg0.N) (r : Fin 512) (d : Fin 1024) :
    (((cfg0.win 1).blk t).view.read (Elt Ideal) X : Vec Ideal S512x1024 .f32) (ix2 r d) = X (ix2 ⟨t.val * 512 + r.val, by have := Nat.lt_of_lt_of_eq t.isLt N_0; omega⟩ d) := by
  rw [View.read_apply]
  show X _ = X _
  refine congrArg X ?_
  funext a
  apply Fin.ext
  match a with
  | ⟨0, _⟩ => show win0_1.index t 0 * 512 + 1 * r.val = t.val * 512 + r.val; rw [(index1 t).1]; omega
  | ⟨1, _⟩ => show win0_1.index t 1 * 1024 + 1 * d.val = d.val; rw [(index1 t).2]; omega

/-- Window 3's block at an entry. -/
theorem read3 (X : S1x1024.Idx → Elt Ideal .f32) (t : Fin cfg0.N) (r : Fin 1) (d : Fin 1024) :
    (((cfg0.win 3).blk t).view.read (Elt Ideal) X : Vec Ideal S1x1024 .f32) (ix2 r d) = X (ix2 r d) := by
  rw [View.read_apply]
  show X _ = X _
  refine congrArg X ?_
  funext a
  apply Fin.ext
  match a with
  | ⟨0, _⟩ => show win0_3.index t 0 * 1 + 1 * r.val = r.val; rw [(index3 t).1]; omega
  | ⟨1, _⟩ => show win0_3.index t 1 * 1024 + 1 * d.val = d.val; rw [(index3 t).2]; omega

/-- Window 4's block at an entry. -/
theorem read4 (X : S1024x2816.Idx → Elt Ideal .bf16) (t : Fin cfg0.N) (r : Fin 1024) (d : Fin 2816) :
    (((cfg0.win 4).blk t).view.read (Elt Ideal) X : Vec Ideal S1024x2816 .bf16) (ix2 r d) = X (ix2 r d) := by
  rw [View.read_apply]
  show X _ = X _
  refine congrArg X ?_
  funext a
  apply Fin.ext
  match a with
  | ⟨0, _⟩ => show win0_4.index t 0 * 1024 + 1 * r.val = r.val; rw [(index4 t).1]; omega
  | ⟨1, _⟩ => show win0_4.index t 1 * 2816 + 1 * d.val = d.val; rw [(index4 t).2]; omega

/-- Window 5's block at an entry. -/
theorem read5 (X : S1024x2816.Idx → Elt Ideal .bf16) (t : Fin cfg0.N) (r : Fin 1024) (d : Fin 2816) :
    (((cfg0.win 5).blk t).view.read (Elt Ideal) X : Vec Ideal S1024x2816 .bf16) (ix2 r d) = X (ix2 r d) := by
  rw [View.read_apply]
  show X _ = X _
  refine congrArg X ?_
  funext a
  apply Fin.ext
  match a with
  | ⟨0, _⟩ => show win0_5.index t 0 * 1024 + 1 * r.val = r.val; rw [(index5 t).1]; omega
  | ⟨1, _⟩ => show win0_5.index t 1 * 2816 + 1 * d.val = d.val; rw [(index5 t).2]; omega

/-- Window 6's block at an entry. -/
theorem read6 (X : S2816x1024.Idx → Elt Ideal .bf16) (t : Fin cfg0.N) (r : Fin 2816) (d : Fin 1024) :
    (((cfg0.win 6).blk t).view.read (Elt Ideal) X : Vec Ideal S2816x1024 .bf16) (ix2 r d) = X (ix2 r d) := by
  rw [View.read_apply]
  show X _ = X _
  refine congrArg X ?_
  funext a
  apply Fin.ext
  match a with
  | ⟨0, _⟩ => show win0_6.index t 0 * 2816 + 1 * r.val = r.val; rw [(index6 t).1]; omega
  | ⟨1, _⟩ => show win0_6.index t 1 * 1024 + 1 * d.val = d.val; rw [(index6 t).2]; omega

/-- Window 7's block at an entry. -/
theorem read7 (X : S4096x1024.Idx → Elt Ideal .f32) (t : Fin cfg0.N) (r : Fin 512) (d : Fin 1024) :
    (((cfg0.win 7).blk t).view.read (Elt Ideal) X : Vec Ideal S512x1024 .f32) (ix2 r d) = X (ix2 ⟨t.val * 512 + r.val, by have := Nat.lt_of_lt_of_eq t.isLt N_0; omega⟩ d) := by
  rw [View.read_apply]
  show X _ = X _
  refine congrArg X ?_
  funext a
  apply Fin.ext
  match a with
  | ⟨0, _⟩ => show win0_7.index t 0 * 512 + 1 * r.val = t.val * 512 + r.val; rw [(index7 t).1]; omega
  | ⟨1, _⟩ => show win0_7.index t 1 * 1024 + 1 * d.val = d.val; rw [(index7 t).2]; omega

/-- Window 2's block at an entry: the last sixth of the first layer's modulations. -/
theorem read2 (X : S2x8x6144.Idx → Elt Ideal .f32) (t : Fin cfg0.N) (r : Fin 8) (d : Fin 1024) :
    (((cfg0.win 2).blk t).view.read (Elt Ideal) X : Vec Ideal S1x8x1024 .f32) (ix3 0 r d) = X (ix3 0 r ⟨5120 + d.val, by omega⟩) := by
  rw [View.read_apply]
  show X _ = X _
  refine congrArg X ?_
  funext a
  apply Fin.ext
  match a with
  | ⟨0, _⟩ => show win0_2.index t 0 * 1 + 1 * 0 = 0; rw [(index2 t).1]
  | ⟨1, _⟩ => show win0_2.index t 1 * 8 + 1 * r.val = r.val; rw [(index2 t).2.1]; omega
  | ⟨2, _⟩ => show win0_2.index t 2 * 1024 + 1 * d.val = 5120 + d.val; rw [(index2 t).2.2]; omega

/-! ## What the region finds in its arrays -/

/-- The rows, flattened and narrowed. -/
def rows16 (x : FVec Ideal S16x256x1024 .f32) : FVec Ideal S4096x1024 .bf16 := truncf .bf16 (shapeCast S4096x1024 x shapeCasts_S16x256x1024_S4096x1024) bitsLt_bf16_f32
/-- The rows, flattened. -/
def rows (x : FVec Ideal S16x256x1024 .f32) : FVec Ideal S4096x1024 .f32 := shapeCast S4096x1024 x shapeCasts_S16x256x1024_S4096x1024
/-- The first layer's gains, as a row. -/
def gains (x : FVec Ideal S2x1024 .f32) : FVec Ideal S1x1024 .f32 :=
  shapeCast S1x1024 (shapeCast S1024 (extractStridedSlice S1x1024 ![0, 0] x slices_S2x1024_S1x1024_0_0) shapeCasts_S1x1024_S1024) shapeCasts_S1024_S1x1024
/-- The weights into the hidden lanes, narrowed. -/
def wide (x : FVec Ideal S1x1024x2816 .f32) : FVec Ideal S1024x2816 .bf16 := truncf .bf16 (shapeCast S1024x2816 x shapeCasts_S1x1024x2816_S1024x2816) bitsLt_bf16_f32
/-- The weights out of the hidden lanes, narrowed. -/
def narrow (x : FVec Ideal S1x2816x1024 .f32) : FVec Ideal S2816x1024 .bf16 := truncf .bf16 (shapeCast S2816x1024 x shapeCasts_S1x2816x1024_S2816x1024) bitsLt_bf16_f32

/-- The rows' normalised inputs, flattened. -/
theorem V_v1 : V m c main_v1 = rows16 (m ((c : Thread nD τ).loc main_arg0)) := by
  show StableHlo.after hostOps0 _ (Proc.devRef .tc main_v1) = _
  after_results
  rfl
/-- The stream's rows, flattened. -/
theorem V_v2 : V m c main_v2 = rows (m ((c : Thread nD τ).loc main_arg1)) := by
  show StableHlo.after hostOps0 _ (Proc.devRef .tc main_v2) = _
  after_results
  rfl
/-- The modulations. -/
theorem V_arg2 : V m c main_arg2 = m ((c : Thread nD τ).loc main_arg2) := by
  show StableHlo.after hostOps0 _ (Proc.devRef .tc main_arg2) = _
  after_results
/-- The first layer's gains of the closing normalisation. -/
theorem V_v11 : V m c main_v11 = gains (m ((c : Thread nD τ).loc main_arg3)) := by
  show StableHlo.after hostOps0 _ (Proc.devRef .tc main_v11) = _
  after_results
  rfl
/-- The gate's weights. -/
theorem V_v6 : V m c main_v6 = wide (m ((c : Thread nD τ).loc main_arg4)) := by
  show StableHlo.after hostOps0 _ (Proc.devRef .tc main_v6) = _
  after_results
  rfl
/-- The up projection's weights. -/
theorem V_v8 : V m c main_v8 = wide (m ((c : Thread nD τ).loc main_arg5)) := by
  show StableHlo.after hostOps0 _ (Proc.devRef .tc main_v8) = _
  after_results
  rfl
/-- The down projection's weights. -/
theorem V_v10 : V m c main_v10 = narrow (m ((c : Thread nD τ).loc main_arg6)) := by
  show StableHlo.after hostOps0 _ (Proc.devRef .tc main_v10) = _
  after_results
  rfl

/-- A flattened array of rows, at a row of a batch. -/
theorem rows_apply (x : FVec Ideal S16x256x1024 .f32) (b : Fin 16) (q : Fin 256) (k : Fin 1024) : rows x (ix2 ⟨b.val * 256 + q.val, by omega⟩ k) = x (ix3 b q k) := by
  pointwise [rows]
/-- The same at the narrower format. -/
theorem rows16_apply (x : FVec Ideal S16x256x1024 .f32) (b : Fin 16) (q : Fin 256) (k : Fin 1024) : rows16 x (ix2 ⟨b.val * 256 + q.val, by omega⟩ k) = x (ix3 b q k) := by
  pointwise [rows16]
/-- The first layer's gains at a lane. -/
theorem gains_apply (x : FVec Ideal S2x1024 .f32) (d : Fin 1024) : gains x (ix2 0 d) = x (ix2 0 d) := by
  pointwise [gains]
/-- The weights into the hidden lanes, at an entry. -/
theorem wide_apply (x : FVec Ideal S1x1024x2816 .f32) (k : Fin 1024) (j : Fin 2816) : wide x (ix2 k j) = x (ix3 0 k j) := by
  pointwise [wide]
/-- The weights out of the hidden lanes, at an entry. -/
theorem narrow_apply (x : FVec Ideal S1x2816x1024 .f32) (j : Fin 2816) (d : Fin 1024) : narrow x (ix2 j d) = x (ix3 0 j d) := by
  pointwise [narrow]

/-! ## The block a point leaves -/

/-- The place of a window's only block is the origin. -/
theorem hz2 : (![0, 0] : Fin 2 → Nat) = fun _ => 0 := funext fun a => by fin_cases a <;> rfl

/-- What a point leaves in the output's block, from what it reads. -/
theorem out_eq (x0 : Vec Ideal S512x1024 .bf16) (x1 : Vec Ideal S512x1024 .f32) (x2 : Vec Ideal S1x8x1024 .f32) (x3 : Vec Ideal S1x1024 .f32)
    (x4 x5 : Vec Ideal S1024x2816 .bf16) (x6 : Vec Ideal S2816x1024 .bf16) :
    out0_7 x0 x1 x2 x3 x4 x5 x6 = k0_pay1 (k0_pay2 x0 x4 x5 x6) (k0_pay3 x1) (k0_pay4 (View.ld x2 r0_3)) (k0_pay5 x3) (k0_pay6 x0 x4 x5 x6) := by
  unfold out0_7
  rw [View.canon_unit_zero hz2]
  simp only [View.ld_unit_zero (S := S512x1024) hz2, View.ld_unit_zero (S := S1x1024) hz2, View.ld_unit_zero (S := S1024x2816) hz2, View.ld_unit_zero (S := S2816x1024) hz2]

/-- The first group's row of gains, as a point loads it. -/
theorem ld_gt (x2 : Vec Ideal S1x8x1024 .f32) (d : Fin 1024) : View.ld x2 r0_3 (ix3 0 0 d) = x2 (ix3 0 0 d) := by
  show x2 _ = x2 _
  refine congrArg x2 ?_
  funext a
  apply Fin.ext
  match a with
  | ⟨0, _⟩ => rfl
  | ⟨1, _⟩ => rfl
  | ⟨2, _⟩ => show 0 + 1 * d.val = d.val; omega

/-- Every entry of the block a point leaves: the row it adds to, and what it adds. -/
theorem point_apply (t : Fin cfg0.N) (b : Fin 16) (q : Fin 256) (r : Fin 512) (hq : t.val * 512 + r.val = b.val * 256 + q.val) (d : Fin 1024) :
    (out0_7 (iblk m c 0 t) (iblk m c 1 t) (iblk m c 2 t) (iblk m c 3 t) (iblk m c 4 t) (iblk m c 5 t) (iblk m c 6 t) : Vec Ideal S512x1024 .f32) (ix2 r d)
      = added (fun d => m ((c : Thread nD τ).loc main_arg1) (ix3 b q d)) (fun d => m ((c : Thread nD τ).loc main_arg2) (ix3 0 0 ⟨5120 + d.val, by omega⟩))
          (swiglu (fun k => m ((c : Thread nD τ).loc main_arg0) (ix3 b q k)) (fun k j => m ((c : Thread nD τ).loc main_arg4) (ix3 0 k j))
            (fun k j => m ((c : Thread nD τ).loc main_arg5) (ix3 0 k j)) (fun j d => m ((c : Thread nD τ).loc main_arg6) (ix3 0 j d)))
          (fun d => m ((c : Thread nD τ).loc main_arg3) (ix2 0 d)) d := by
  have ht := Nat.lt_of_lt_of_eq t.isLt N_0
  have hR : (⟨t.val * 512 + r.val, by omega⟩ : Fin 4096) = ⟨b.val * 256 + q.val, by omega⟩ := Fin.ext hq
  have e0 : ∀ k, (iblk m c 0 t : Vec Ideal S512x1024 .bf16) (ix2 r k) = m ((c : Thread nD τ).loc main_arg0) (ix3 b q k) := fun k => by
    refine (read0 (V m c main_v1) t r k).trans ((congrFun (V_v1 m c) _).trans ?_); rw [hR]; exact rows16_apply _ b q k
  have e1 : ∀ k, (iblk m c 1 t : Vec Ideal S512x1024 .f32) (ix2 r k) = m ((c : Thread nD τ).loc main_arg1) (ix3 b q k) := fun k => by
    refine (read1 (V m c main_v2) t r k).trans ((congrFun (V_v2 m c) _).trans ?_); rw [hR]; exact rows_apply _ b q k
  have e2 : ∀ d : Fin 1024, (iblk m c 2 t : Vec Ideal S1x8x1024 .f32) (ix3 0 0 d) = m ((c : Thread nD τ).loc main_arg2) (ix3 0 0 ⟨5120 + d.val, by omega⟩) := fun d =>
    (read2 (V m c main_arg2) t _ d).trans (congrFun (V_arg2 m c) _)
  have e3 : ∀ d, (iblk m c 3 t : Vec Ideal S1x1024 .f32) (ix2 0 d) = m ((c : Thread nD τ).loc main_arg3) (ix2 0 d) := fun d =>
    (read3 (V m c main_v11) t 0 d).trans ((congrFun (V_v11 m c) _).trans (gains_apply _ d))
  have e4 : ∀ k j, (iblk m c 4 t : Vec Ideal S1024x2816 .bf16) (ix2 k j) = m ((c : Thread nD τ).loc main_arg4) (ix3 0 k j) := fun k j =>
    (read4 (V m c main_v6) t k j).trans ((congrFun (V_v6 m c) _).trans (wide_apply _ k j))
  have e5 : ∀ k j, (iblk m c 5 t : Vec Ideal S1024x2816 .bf16) (ix2 k j) = m ((c : Thread nD τ).loc main_arg5) (ix3 0 k j) := fun k j =>
    (read5 (V m c main_v8) t k j).trans ((congrFun (V_v8 m c) _).trans (wide_apply _ k j))
  have e6 : ∀ j d, (iblk m c 6 t : Vec Ideal S2816x1024 .bf16) (ix2 j d) = m ((c : Thread nD τ).loc main_arg6) (ix3 0 j d) := fun j d =>
    (read6 (V m c main_v10) t j d).trans ((congrFun (V_v10 m c) _).trans (narrow_apply _ j d))
  rw [out_eq]
  generalize (iblk m c 0 t : Vec Ideal S512x1024 .bf16) = a at *
  generalize (iblk m c 1 t : Vec Ideal S512x1024 .f32) = x at *
  generalize (iblk m c 2 t : Vec Ideal S1x8x1024 .f32) = gt at *
  generalize (iblk m c 3 t : Vec Ideal S1x1024 .f32) = g at *
  generalize (iblk m c 4 t : Vec Ideal S1024x2816 .bf16) = wg at *
  generalize (iblk m c 5 t : Vec Ideal S1024x2816 .bf16) = wu at *
  generalize (iblk m c 6 t : Vec Ideal S2816x1024 .bf16) = wd at *
  rw [pay1_apply, pay6_apply, pay4_apply, ld_gt gt]
  simp only [pay2_apply, e0, e4, e5, e6, e2]
  rw [show k0_pay3 x = x from shapeCast_self _ _, show k0_pay5 g = g from shapeCast_self _ _, e1, e3]
  rfl

/-- Every entry of the kernel's result. -/
theorem final_apply (b : Fin 16) (q : Fin 256) (d : Fin 1024) :
    ((dats m 0 c).arrAt 7 cfg0.N : Vec Ideal S4096x1024 .f32) (ix2 ⟨b.val * 256 + q.val, by omega⟩ d)
      = added (fun d => m ((c : Thread nD τ).loc main_arg1) (ix3 b q d)) (fun d => m ((c : Thread nD τ).loc main_arg2) (ix3 0 0 ⟨5120 + d.val, by omega⟩))
          (swiglu (fun k => m ((c : Thread nD τ).loc main_arg0) (ix3 b q k)) (fun k j => m ((c : Thread nD τ).loc main_arg4) (ix3 0 k j))
            (fun k j => m ((c : Thread nD τ).loc main_arg5) (ix3 0 k j)) (fun j d => m ((c : Thread nD τ).loc main_arg6) (ix3 0 j d)))
          (fun d => m ((c : Thread nD τ).loc main_arg3) (ix2 0 d)) d := by
  have hN : (b.val * 256 + q.val) / 512 < cfg0.N := Nat.lt_of_lt_of_eq (by omega) N_0.symm
  have hR : (⟨b.val * 256 + q.val, by omega⟩ : Fin 4096) = ⟨(b.val * 256 + q.val) / 512 * 512 + (b.val * 256 + q.val) % 512, by omega⟩ :=
    Fin.ext (by show b.val * 256 + q.val = (b.val * 256 + q.val) / 512 * 512 + (b.val * 256 + q.val) % 512; omega)
  rw [hR, ← read7 ((dats m 0 c).arrAt 7 cfg0.N) ⟨(b.val * 256 + q.val) / 512, hN⟩ ⟨(b.val * 256 + q.val) % 512, by omega⟩ d, Value.blocks7 m c _ (flush0_7 _), Value.flushed7]
  exact point_apply m c ⟨(b.val * 256 + q.val) / 512, hN⟩ b q ⟨(b.val * 256 + q.val) % 512, by omega⟩
    (by show (b.val * 256 + q.val) / 512 * 512 + (b.val * 256 + q.val) % 512 = b.val * 256 + q.val; omega) d

end Cert.FfnCtx
end
-- ==== Proof.FfnCtx.Ref.lean ====
/- The reference of the context tokens' feed-forward, at an entry. -/
module

public import proofs.«01_k».proof.Proof.Gen.Reference4Ideal.Read
public import proofs.«01_k».proof.Proof.Ffn.Row
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.FfnCtx.Ref

open Cert.Reference4Ideal Cert.Reference4Ideal.Gen Cert.Reference4Ideal.Read Cert.Ffn

variable (x0 x1 : FVec Ideal S16x256x1024 .f32) (x2 : FVec Ideal S2x8x6144 .f32) (x3 : FVec Ideal S2x1024 .f32)
  (x4 x5 : FVec Ideal S1x1024x2816 .f32) (x6 : FVec Ideal S1x2816x1024 .f32)

/-- The gate's projection. -/
theorem v3_apply (b : Fin 16) (q : Fin 256) (j : Fin 2816) : val_main_v3 (F := Ideal) x0 x4 (ix3 b q j) = ∑ k, x0 (ix3 b q k) * x4 (ix3 0 k j) := by
  pointwise [val_main_v3, val_main_v0]

/-- The up projection. -/
theorem v5_apply (b : Fin 16) (q : Fin 256) (j : Fin 2816) : val_main_v5 (F := Ideal) x0 x5 (ix3 b q j) = ∑ k, x0 (ix3 b q k) * x5 (ix3 0 k j) := by
  pointwise [val_main_v5, val_main_v1]

/-- The gate. -/
theorem v4_apply (b : Fin 16) (q : Fin 256) (j : Fin 2816) : val_main_v4 (F := Ideal) x0 x4 (ix3 b q j) = silu (∑ k, x0 (ix3 b q k) * x4 (ix3 0 k j)) := by
  rw [← v3_apply]
  unfold val_main_v4 val_main_call0_v5 val_main_call0_v4 val_main_call0_v3 val_main_call0_v2 val_main_call0_v1 val_main_call0_v0 val_main_call0_cst val_main_call0_cst_0
  generalize val_main_v3 (F := Ideal) x0 x4 = y
  pointwise [silu]

/-- The feed-forward. -/
theorem v7_apply (b : Fin 16) (q : Fin 256) (d : Fin 1024) :
    val_main_v7 (F := Ideal) x0 x4 x5 x6 (ix3 b q d)
      = swiglu (fun k => x0 (ix3 b q k)) (fun k j => x4 (ix3 0 k j)) (fun k j => x5 (ix3 0 k j)) (fun j d => x6 (ix3 0 j d)) d := by
  have h : ∀ j, val_main_v6 (F := Ideal) x0 x4 x5 (ix3 b q j) = hidden (fun k => x0 (ix3 b q k)) (fun k j => x4 (ix3 0 k j)) (fun k j => x5 (ix3 0 k j)) j := fun j => by
    rw [val_main_v6_apply, v4_apply, v5_apply]; rfl
  unfold val_main_v7
  generalize val_main_v6 (F := Ideal) x0 x4 x5 = y at *
  pointwise [val_main_v2]
  simp only [h]
  rfl

/-- The result at an entry. -/
theorem v29_apply (b : Fin 16) (q : Fin 256) (d : Fin 1024) :
    val_main_v29 (F := Ideal) x0 x1 x2 x3 x4 x5 x6 (ix2 ⟨b.val * 256 + q.val, by omega⟩ d)
      = added (fun d => x1 (ix3 b q d)) (fun d => x2 (ix3 0 0 ⟨5120 + d.val, by omega⟩))
          (swiglu (fun k => x0 (ix3 b q k)) (fun k j => x4 (ix3 0 k j)) (fun k j => x5 (ix3 0 k j)) (fun j d => x6 (ix3 0 j d)))
          (fun d => x3 (ix2 0 d)) d := by
  unfold added
  simp only [← v7_apply]
  unfold val_main_v29 val_main_v28 val_main_v27 val_main_v26 val_main_v25 val_main_v24 val_main_v23 val_main_v22 val_main_v21 val_main_v20 val_main_v19 val_main_v18 val_main_v17 val_main_v16 val_main_v15 val_main_v14 val_main_v13
    val_main_v12 val_main_v11 val_main_v10 val_main_v9 val_main_v8 val_main_cst val_main_cst_0 val_main_cst_1
  generalize val_main_v7 (F := Ideal) x0 x4 x5 x6 = y
  pointwise []

end Cert.FfnCtx.Ref
end
-- ==== Proof.FfnCtx.Claim.lean ====
/- The claims of the context tokens' feed-forward: the reference's frame, and the two results set side by side. -/
module

public import proofs.«01_k».proof.Defs
public import proofs.«01_k».proof.Proof.Gen.Kernel4.Frame
public import proofs.«01_k».proof.Proof.Gen.Reference4Ideal.Run
public import proofs.«01_k».proof.Proof.FfnCtx.Point
public import proofs.«01_k».proof.Proof.FfnCtx.Ref
public import Idealize.ShloMosaic.Adequacy
public import Idealize.ShloMosaic.Init

@[expose] public section

set_option maxRecDepth 16384

noncomputable section

open Idealize.ShloMosaic Idealize.ShloMosaic.TcCoe Idealize.SL.Sem

namespace Cert.FfnCtx

/-- The reference terminates, keeps its arguments, and leaves its counters at zero. -/
theorem refFrame : Cert.quiescent_Reference4Ideal (hReference4Ideal := Cert.Reference4Ideal.Gen.facts) := fun m ρ _ =>
  (θ_run (Cert.Reference4Ideal.defs (F := Ideal)) _ _).mono (fun r h => ⟨fun c => (h c).2, sem_eq_zero_of_no_sems (by decide) r.2⟩)
    (Cert.Reference4Ideal.Value.run m ρ)

/-- The kernel's result is the reference's. -/
theorem results_eq (m : (ℓ : Loc Cert.Kernel4Ideal.nD Cert.Kernel4Ideal.τ Cert.Kernel4Ideal.sig) → Buf (Elt Ideal) ℓ) (c : Dev Cert.Kernel4Ideal.nD) :
    ((Cert.Kernel4Ideal.Gen.dats m 0 c).arrAt 7 Cert.Kernel4Ideal.cfg0.N : Vec Ideal Cert.Kernel4Ideal.S4096x1024 .f32)
      = Cert.Reference4Ideal.Read.val_main_v29 (F := Ideal) (m ((c : Thread Cert.Kernel4Ideal.nD Cert.Kernel4Ideal.τ).loc Cert.Kernel4Ideal.main_arg0))
          (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2))
          (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4))
          (m ((c : Thread Cert.Kernel4Ideal.nD Cert.Kernel4Ideal.τ).loc Cert.Kernel4Ideal.main_arg5)) (m ((c : Thread Cert.Kernel4Ideal.nD Cert.Kernel4Ideal.τ).loc Cert.Kernel4Ideal.main_arg6)) := by
  funext j
  rw [← ix2_eta j]
  generalize hl : j 0 = l
  generalize hd : j 1 = d
  clear hl hd
  change Fin 4096 at l
  obtain ⟨b, q, rfl⟩ : ∃ (b : Fin 16) (q : Fin 256), l = ⟨b.val * 256 + q.val, by have := b.isLt; have := q.isLt; omega⟩ :=
    ⟨⟨l.val / 256, by have := l.isLt; omega⟩, ⟨l.val % 256, by omega⟩, Fin.ext (show l.val = l.val / 256 * 256 + l.val % 256 by omega)⟩
  refine (final_apply m c b q d).trans ?_
  refine Eq.trans ?_ (Ref.v29_apply _ _ _ _ _ _ _ b q d).symm
  rfl

/-- The kernel and the reference end with equal results. -/
theorem algebraic : Cert.algebraic_Kernel4Ideal_Reference4Ideal := by
  intro m g m' g' _ hm
  refine ⟨fun c => (Cert.Kernel4Ideal.Gen.dats m 0 c).arrAt 7 Cert.Kernel4Ideal.cfg0.N, Cert.Kernel4Ideal.Value.run_blocks m g, ?_⟩
  refine (θ_run (Cert.Reference4Ideal.defs (F := Ideal)) _ _).mono (fun r h c => ⟨(h c).1.trans ?_, (h c).2⟩) (Cert.Reference4Ideal.Value.run m' g')
  obtain ⟨e0, e1, e2, e3, e4, e5, e6⟩ := hm c
  rw [Cert.Reference4Ideal.Read.val_main_v29_eq, e0, e1, e2, e3, e4, e5, e6]
  exact (results_eq m c).symm

end Cert.FfnCtx

end
-- ==== Proof.Out.Row.lean ====
/- One row of the stream around the attention: its modulated normalisation, and the projection of the attention's heads joined
   with the mixed lanes. -/
module

public import proofs.«01_k».proof.Proof.Ffn.Row

@[expose] public section

set_option maxRecDepth 16384

noncomputable section

open Idealize.ShloMosaic Idealize.ShloMosaic.TcCoe Idealize.SL.Sem

namespace Cert.Out

/-- A row normalised by its root mean square, gained, scaled and shifted. -/
def modulated (x g sc sh : Fin 1024 → EReal) (d : Fin 1024) : EReal :=
  x d * Ideal.rsqrt (Ideal.div (∑ k, x k * x k) (Ideal.ofBits .f32 0x44800000#32) + Ideal.ofBits .f32 0x358637BD#32) * g d * (Ideal.ofBits .f32 0x3F800000#32 + sc d) + sh d

/-- The attention's lanes, and after them the mixed lanes. -/
def joined (a f : Fin 512 → EReal) (k : Fin 1024) : EReal := if h : k.val < 512 then a ⟨k.val, h⟩ else f ⟨k.val - 512, by omega⟩

/-- The joined lanes, projected. -/
def projected (a f : Fin 512 → EReal) (w : Fin 1024 → Fin 1024 → EReal) (d : Fin 1024) : EReal := ∑ k, joined a f k * w k d

/-- The row of the stream after the attention. -/
def stream (a f : Fin 512 → EReal) (x gt g : Fin 1024 → EReal) (w : Fin 1024 → Fin 1024 → EReal) : Fin 1024 → EReal :=
  Cert.Ffn.added x gt (projected a f w) g

end Cert.Out
end
-- ==== Proof.Inp.Row.lean ====
/- One row of the input projection: its lanes, and the rotary turn of the first two thirds of the attention's. -/
module

public import proofs.«01_k».proof.Proof.Out.Row
public import Idealize.ShloMosaic.Lib.IdealHost

@[expose] public section

set_option maxRecDepth 16384

noncomputable section

open Idealize.ShloMosaic Idealize.ShloMosaic.TcCoe Idealize.SL.Sem

namespace Cert.Inp

/-- The modulated row, projected. -/
def projected (x g sc sh : Fin 1024 → EReal) (w : Fin 1024 → Fin 2048 → EReal) (d : Fin 2048) : EReal := ∑ k, Cert.Out.modulated x g sc sh k * w k d

/-- The lane sixteen away in its group of thirty-two. -/
def partner (l : Fin 1024) : Fin 1024 := if l.val % 32 < 16 then ⟨(l.val + 16) % 1024, by omega⟩ else ⟨(l.val + 1008) % 1024, by omega⟩

/-- A lane turned with its partner by the position's cosine and sine. -/
def turned (p : Fin 1024 → EReal) (cs sn : Fin 64 → EReal) (l : Fin 1024) : EReal :=
  p l * cs ⟨l.val % 64, by omega⟩ + (if l.val % 32 < 16 then -p (partner l) else p (partner l)) * sn ⟨l.val % 64, by omega⟩

/-- A sine with the sign of its lane. -/
def signed (s : EReal) (l : Nat) : EReal := s * (if l % 32 < 16 then Ideal.ofBits .f32 0xBF800000#32 else Ideal.ofBits .f32 0x3F800000#32)

/-- The lanes of the queries and keys, among the projection's. -/
def early (p : Fin 2048 → EReal) (l : Fin 1024) : EReal := p ⟨l.val, by omega⟩

/-- The word of minus one. -/
theorem neg_one_word : Ideal.ofBits .f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]; norm_num
/-- Carrying the sign in the sine turns a lane alike. -/
theorem signed_turn (x : EReal) (s : EReal) (l : Nat) : x * signed s l = (if l % 32 < 16 then -x else x) * s := by
  have h1 : Ideal.ofBits .f32 0x3F800000#32 = 1 := Ideal.ofBits_one_f32
  have h2 : Ideal.ofBits .f32 0xBF800000#32 = -1 := Cert.Inp.neg_one_word
  unfold signed
  split
  · rw [h2, mul_neg, mul_one, mul_neg, neg_mul]
  · rw [h1, mul_one]

end Cert.Inp
end
-- ==== Proof.Inp.Read.lean ====
/- The input projection's arrays as its grid points read them, entry by entry. -/
module

public import proofs.«01_k».proof.Proof.Gen.Kernel5Ideal.Value
public import proofs.«01_k».proof.Proof.Inp.Row
public import Idealize.ShloMosaic.Lib.Pipeline.Value
public import Idealize.ShloMosaic.Lib.Pipeline.ValueKit.Tiles
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.Inp

open Cert.Kernel5Ideal Cert.Kernel5Ideal.Gen

/-! ## The block indices at a grid point -/

/-- Window 0's block index. -/
theorem index0 : ∀ t : Fin cfg0.N, win0_0.index t 0 = t.val ∧ win0_0.index t 1 = 0 := (by decide +kernel : ∀ t : Fin grid0.N, win0_0.index t 0 = t.val ∧ win0_0.index t 1 = 0)
/-- Window 7's block index. -/
theorem index7 : ∀ t : Fin cfg0.N, win0_7.index t 0 = t.val ∧ win0_7.index t 1 = 0 := (by decide +kernel : ∀ t : Fin grid0.N, win0_7.index t 0 = t.val ∧ win0_7.index t 1 = 0)
/-- Window 8's block index. -/
theorem index8 : ∀ t : Fin cfg0.N, win0_8.index t 0 = t.val ∧ win0_8.index t 1 = 0 := (by decide +kernel : ∀ t : Fin grid0.N, win0_8.index t 0 = t.val ∧ win0_8.index t 1 = 0)
/-- Window 5's block index. -/
theorem index5 : ∀ t : Fin cfg0.N, win0_5.index t 0 = t.val % 8 ∧ win0_5.index t 1 = 0 := (by decide +kernel : ∀ t : Fin grid0.N, win0_5.index t 0 = t.val % 8 ∧ win0_5.index t 1 = 0)
/-- Window 6's block index. -/
theorem index6 : ∀ t : Fin cfg0.N, win0_6.index t 0 = t.val % 8 ∧ win0_6.index t 1 = 0 := (by decide +kernel : ∀ t : Fin grid0.N, win0_6.index t 0 = t.val % 8 ∧ win0_6.index t 1 = 0)
/-- Window 3's block index. -/
theorem index3 : ∀ t : Fin cfg0.N, win0_3.index t 0 = 0 ∧ win0_3.index t 1 = 0 := (by decide +kernel : ∀ t : Fin grid0.N, win0_3.index t 0 = 0 ∧ win0_3.index t 1 = 0)
/-- Window 4's block index. -/
theorem index4 : ∀ t : Fin cfg0.N, win0_4.index t 0 = 0 ∧ win0_4.index t 1 = 0 := (by decide +kernel : ∀ t : Fin grid0.N, win0_4.index t 0 = 0 ∧ win0_4.index t 1 = 0)
/-- Window 1's block index. -/
theorem index1 : ∀ t : Fin cfg0.N, win0_1.index t 0 = 0 ∧ win0_1.index t 1 = 0 ∧ win0_1.index t 2 = 0 := (by decide +kernel : ∀ t : Fin grid0.N, win0_1.index t 0 = 0 ∧ win0_1.index t 1 = 0 ∧ win0_1.index t 2 = 0)
/-- Window 2's block index. -/
theorem index2 : ∀ t : Fin cfg0.N, win0_2.index t 0 = 0 ∧ win0_2.index t 1 = 0 ∧ win0_2.index t 2 = 1 := (by decide +kernel : ∀ t : Fin grid0.N, win0_2.index t 0 = 0 ∧ win0_2.index t 1 = 0 ∧ win0_2.index t 2 = 1)
/-- The place of the group's row of modulations. -/
theorem off1 : ∀ t : Fin cfg0.N, k0_off1 (grid0.coords t) 0 = 0 ∧ k0_off1 (grid0.coords t) 1 = 1 + t.val / 8 ∧ k0_off1 (grid0.coords t) 2 = 0 := (by decide +kernel : ∀ t : Fin grid0.N, k0_off1 (grid0.coords t) 0 = 0 ∧ k0_off1 (grid0.coords t) 1 = 1 + t.val / 8 ∧ k0_off1 (grid0.coords t) 2 = 0)

/-! ## A block of an array, read at an entry -/

/-- Window 0's block at an entry. -/
theorem read0 (X : S8192x1024.Idx → Elt Ideal .f32) (t : Fin cfg0.N) (r : Fin 512) (d : Fin 1024) :
    (((cfg0.win 0).blk t).view.read (Elt Ideal) X : Vec Ideal S512x1024 .f32) (ix2 r d) = X (ix2 ⟨t.val * 512 + r.val, by have := Nat.lt_of_lt_of_eq t.isLt N_0; omega⟩ d) := by
  rw [View.read_apply]
  show X _ = X _
  refine congrArg X ?_
  funext a
  apply Fin.ext
  match a with
  | ⟨0, _⟩ => show win0_0.index t 0 * 512 + 1 * r.val = t.val * 512 + r.val; rw [(index0 t).1]; omega
  | ⟨1, _⟩ => show win0_0.index t 1 * 1024 + 1 * d.val = d.val; rw [(index0 t).2]; omega

/-- Window 7's block at an entry. -/
theorem read7 (X : S8192x1536.Idx → Elt Ideal .bf16) (t : Fin cfg0.N) (r : Fin 512) (d : Fin 1536) :
    (((cfg0.win 7).blk t).view.read (Elt Ideal) X : Vec Ideal S512x1536 .bf16) (ix2 r d) = X (ix2 ⟨t.val * 512 + r.val, by have := Nat.lt_of_lt_of_eq t.isLt N_0; omega⟩ d) := by
  rw [View.read_apply]
  show X _ = X _
  refine congrArg X ?_
  funext a
  apply Fin.ext
  match a with
  | ⟨0, _⟩ => show win0_7.index t 0 * 512 + 1 * r.val = t.val * 512 + r.val; rw [(index7 t).1]; omega
  | ⟨1, _⟩ => show win0_7.index t 1 * 1536 + 1 * d.val = d.val; rw [(index7 t).2]; omega

/-- Window 8's block at an entry. -/
theorem read8 (X : S8192x512.Idx → Elt Ideal .f32) (t : Fin cfg0.N) (r : Fin 512) (d : Fin 512) :
    (((cfg0.win 8).blk t).view.read (Elt Ideal) X : Vec Ideal S512x512 .f32) (ix2 r d) = X (ix2 ⟨t.val * 512 + r.val, by have := Nat.lt_of_lt_of_eq t.isLt N_0; omega⟩ d) := by
  rw [View.read_apply]
  show X _ = X _
  refine congrArg X ?_
  funext a
  apply Fin.ext
  match a with
  | ⟨0, _⟩ => show win0_8.index t 0 * 512 + 1 * r.val = t.val * 512 + r.val; rw [(index8 t).1]; omega
  | ⟨1, _⟩ => show win0_8.index t 1 * 512 + 1 * d.val = d.val; rw [(index8 t).2]; omega

/-- Window 5's block at an entry. -/
theorem read5 (X : S4096x128.Idx → Elt Ideal .f32) (t : Fin cfg0.N) (r : Fin 512) (d : Fin 128) :
    (((cfg0.win 5).blk t).view.read (Elt Ideal) X : Vec Ideal S512x128 .f32) (ix2 r d) = X (ix2 ⟨t.val % 8 * 512 + r.val, by omega⟩ d) := by
  rw [View.read_apply]
  show X _ = X _
  refine congrArg X ?_
  funext a
  apply Fin.ext
  match a with
  | ⟨0, _⟩ => show win0_5.index t 0 * 512 + 1 * r.val = t.val % 8 * 512 + r.val; rw [(index5 t).1]; omega
  | ⟨1, _⟩ => show win0_5.index t 1 * 128 + 1 * d.val = d.val; rw [(index5 t).2]; omega

/-- Window 6's block at an entry. -/
theorem read6 (X : S4096x128.Idx → Elt Ideal .f32) (t : Fin cfg0.N) (r : Fin 512) (d : Fin 128) :
    (((cfg0.win 6).blk t).view.read (Elt Ideal) X : Vec Ideal S512x128 .f32) (ix2 r d) = X (ix2 ⟨t.val % 8 * 512 + r.val, by omega⟩ d) := by
  rw [View.read_apply]
  show X _ = X _
  refine congrArg X ?_
  funext a
  apply Fin.ext
  match a with
  | ⟨0, _⟩ => show win0_6.index t 0 * 512 + 1 * r.val = t.val % 8 * 512 + r.val; rw [(index6 t).1]; omega
  | ⟨1, _⟩ => show win0_6.index t 1 * 128 + 1 * d.val = d.val; rw [(index6 t).2]; omega

/-- Window 3's block at an entry. -/
theorem read3 (X : S1x1024.Idx → Elt Ideal .f32) (t : Fin cfg0.N) (r : Fin 1) (d : Fin 1024) :
    (((cfg0.win 3).blk t).view.read (Elt Ideal) X : Vec Ideal S1x1024 .f32) (ix2 r d) = X (ix2 r d) := by
  rw [View.read_apply]
  show X _ = X _
  refine congrArg X ?_
  funext a
  apply Fin.ext
  match a with
  | ⟨0, _⟩ => show win0_3.index t 0 * 1 + 1 * r.val = r.val; rw [(index3 t).1]; omega
  | ⟨1, _⟩ => show win0_3.index t 1 * 1024 + 1 * d.val = d.val; rw [(index3 t).2]; omega

/-- Window 4's block at an entry. -/
theorem read4 (X : S1024x2048.Idx → Elt Ideal .bf16) (t : Fin cfg0.N) (r : Fin 1024) (d : Fin 2048) :
    (((cfg0.win 4).blk t).view.read (Elt Ideal) X : Vec Ideal S1024x2048 .bf16) (ix2 r d) = X (ix2 r d) := by
  rw [View.read_apply]
  show X _ = X _
  refine congrArg X ?_
  funext a
  apply Fin.ext
  match a with
  | ⟨0, _⟩ => show win0_4.index t 0 * 1024 + 1 * r.val = r.val; rw [(index4 t).1]; omega
  | ⟨1, _⟩ => show win0_4.index t 1 * 2048 + 1 * d.val = d.val; rw [(index4 t).2]; omega

/-- Window 1's block at an entry: a sixth of the first layer's modulations. -/
theorem read1 (X : S2x8x6144.Idx → Elt Ideal .f32) (t : Fin cfg0.N) (r : Fin 8) (d : Fin 1024) :
    (((cfg0.win 1).blk t).view.read (Elt Ideal) X : Vec Ideal S1x8x1024 .f32) (ix3 0 r d) = X (ix3 0 r ⟨d.val, by omega⟩) := by
  rw [View.read_apply]
  show X _ = X _
  refine congrArg X ?_
  funext a
  apply Fin.ext
  match a with
  | ⟨0, _⟩ => show win0_1.index t 0 * 1 + 1 * 0 = 0; rw [(index1 t).1]
  | ⟨1, _⟩ => show win0_1.index t 1 * 8 + 1 * r.val = r.val; rw [(index1 t).2.1]; omega
  | ⟨2, _⟩ => show win0_1.index t 2 * 1024 + 1 * d.val = d.val; rw [(index1 t).2.2]; omega

/-- Window 2's block at an entry: a sixth of the first layer's modulations. -/
theorem read2 (X : S2x8x6144.Idx → Elt Ideal .f32) (t : Fin cfg0.N) (r : Fin 8) (d : Fin 1024) :
    (((cfg0.win 2).blk t).view.read (Elt Ideal) X : Vec Ideal S1x8x1024 .f32) (ix3 0 r d) = X (ix3 0 r ⟨1024 + d.val, by omega⟩) := by
  rw [View.read_apply]
  show X _ = X _
  refine congrArg X ?_
  funext a
  apply Fin.ext
  match a with
  | ⟨0, _⟩ => show win0_2.index t 0 * 1 + 1 * 0 = 0; rw [(index2 t).1]
  | ⟨1, _⟩ => show win0_2.index t 1 * 8 + 1 * r.val = r.val; rw [(index2 t).2.1]; omega
  | ⟨2, _⟩ => show win0_2.index t 2 * 1024 + 1 * d.val = 1024 + d.val; rw [(index2 t).2.2]; omega

/-! ## What the region finds in its arrays -/

variable (m : (ℓ : Loc nD τ sig) → Buf (Elt Ideal) ℓ) (c : Dev nD)

/-- The stream's rows, flattened. -/
def rows (x : FVec Ideal S2x4096x1024 .f32) : FVec Ideal S8192x1024 .f32 := shapeCast S8192x1024 x shapeCasts_S2x4096x1024_S8192x1024
/-- The first layer's gains, as a row. -/
def gains (x : FVec Ideal S2x1024 .f32) : FVec Ideal S1x1024 .f32 :=
  shapeCast S1x1024 (shapeCast S1024 (extractStridedSlice S1x1024 ![0, 0] x slices_S2x1024_S1x1024_0_0) shapeCasts_S1x1024_S1024) shapeCasts_S1024_S1x1024
/-- The first layer's weights, narrowed. -/
def weights (x : FVec Ideal S2x1024x2048 .f32) : FVec Ideal S1024x2048 .bf16 :=
  truncf .bf16 (shapeCast S1024x2048 (extractStridedSlice S1x1024x2048 ![0, 0, 0] x slices_S2x1024x2048_S1x1024x2048_0_0_0) shapeCasts_S1x1024x2048_S1024x2048) bitsLt_bf16_f32
/-- A table of sixty-four lanes, twice over. -/
def doubled (x : FVec Ideal S4096x64 .f32) : FVec Ideal S4096x128 .f32 :=
  shapeCast S4096x128 (broadcastInDim S1x4096x2x64 ![0, 1, 2, 3] bcast_S1x4096x1x64_S1x4096x2x64_0_1_2_3 (shapeCast S1x4096x1x64 x shapeCasts_S4096x64_S1x4096x1x64)) shapeCasts_S1x4096x2x64_S4096x128
/-- The signs of sixty-four lanes. -/
def signs : FVec Ideal S64 .f32 :=
  concatenate S64 0 [⟨S16, broadcastInDim S16 ![] bcast_S_S16 (constant (F := Ideal) S_ .f32 0xBF800000#32)⟩, ⟨S16, broadcastInDim S16 ![] bcast_S_S16 (constant (F := Ideal) S_ .f32 0x3F800000#32)⟩,
    ⟨S16, broadcastInDim S16 ![] bcast_S_S16 (constant (F := Ideal) S_ .f32 0xBF800000#32)⟩, ⟨S16, broadcastInDim S16 ![] bcast_S_S16 (constant (F := Ideal) S_ .f32 0x3F800000#32)⟩] concatenates_S16_S16_S16_S16_S64_d0
/-- The sines with their lanes' signs. -/
def sines (x : FVec Ideal S4096x64 .f32) : FVec Ideal S4096x64 .f32 :=
  mulf x (broadcastInDim S4096x64 ![0, 1] bcast_S1x64_S4096x64_0_1 (broadcastInDim S1x64 ![1] bcast_S64_S1x64_1 signs))

/-- The stream's rows, as the region finds them. -/
theorem V_v12 : V m c main_v12 = rows (m ((c : Thread nD τ).loc main_arg0)) := by
  show StableHlo.after hostOps0 _ (Proc.devRef .tc main_v12) = _
  after_results
  rfl
/-- The gains of the normalisation, as the region finds them. -/
theorem V_v18 : V m c main_v18 = gains (m ((c : Thread nD τ).loc main_arg2)) := by
  show StableHlo.after hostOps0 _ (Proc.devRef .tc main_v18) = _
  after_results
  rfl
/-- The weights, as the region finds them. -/
theorem V_v17 : V m c main_v17 = weights (m ((c : Thread nD τ).loc main_arg3)) := by
  show StableHlo.after hostOps0 _ (Proc.devRef .tc main_v17) = _
  after_results
  rfl
/-- The cosines, as the region finds them. -/
theorem V_v5 : V m c main_v5 = doubled (m ((c : Thread nD τ).loc main_arg4)) := by
  show StableHlo.after hostOps0 _ (Proc.devRef .tc main_v5) = _
  after_results
  rfl
/-- The signed sines, as the region finds them. -/
theorem V_v11 : V m c main_v11 = doubled (sines (m ((c : Thread nD τ).loc main_arg5))) := by
  show StableHlo.after hostOps0 _ (Proc.devRef .tc main_v11) = _
  after_results
  rfl
/-- The modulations, as the region finds them. -/
theorem V_arg1 : V m c main_arg1 = m ((c : Thread nD τ).loc main_arg1) := by
  show StableHlo.after hostOps0 _ (Proc.devRef .tc main_arg1) = _
  after_results

/-- The stream at a row of a batch. -/
theorem rows_apply (x : FVec Ideal S2x4096x1024 .f32) (b : Fin 2) (q : Fin 4096) (k : Fin 1024) : rows x (ix2 ⟨b.val * 4096 + q.val, by omega⟩ k) = x (ix3 b q k) := by
  pointwise [rows]
/-- The first layer's gains at a lane. -/
theorem gains_apply (x : FVec Ideal S2x1024 .f32) (d : Fin 1024) : gains x (ix2 0 d) = x (ix2 0 d) := by
  pointwise [gains]
/-- The first layer's weights at an entry. -/
theorem weights_apply (x : FVec Ideal S2x1024x2048 .f32) (k : Fin 1024) (d : Fin 2048) : weights x (ix2 k d) = x (ix3 0 k d) := by
  pointwise [weights]
/-- A doubled table at an entry. -/
theorem doubled_apply' (x : FVec Ideal S4096x64 .f32) (q : Fin 4096) (e : Fin 2) (j : Fin 64) : doubled x (ix2 q ⟨e.val * 64 + j.val, by omega⟩) = x (ix2 q j) := by
  pointwise [doubled]
/-- A doubled table at an entry. -/
theorem doubled_apply (x : FVec Ideal S4096x64 .f32) (q : Fin 4096) (l : Fin 128) : doubled x (ix2 q l) = x (ix2 q ⟨l.val % 64, by omega⟩) := by
  have h := doubled_apply' x q ⟨l.val / 64, by omega⟩ ⟨l.val % 64, by omega⟩
  rw [show l = ⟨l.val / 64 * 64 + l.val % 64, by omega⟩ from Fin.ext (by show l.val = l.val / 64 * 64 + l.val % 64; omega)]
  refine h.trans (congrArg (fun j => x (ix2 q j)) (Fin.ext ?_))
  show l.val % 64 = (l.val / 64 * 64 + l.val % 64) % 64
  omega
/-- A lane's sign. -/
theorem signs_apply (j : Fin 64) : signs (ix1 j) = if j.val % 32 < 16 then Ideal.ofBits .f32 0xBF800000#32 else Ideal.ofBits .f32 0x3F800000#32 := by
  unfold signs
  pointwise []
  split_ifs <;> first | (exfalso; omega) | rfl
/-- A signed sine at an entry. -/
theorem sines_apply (x : FVec Ideal S4096x64 .f32) (q : Fin 4096) (j : Fin 64) : sines x (ix2 q j) = signed (x (ix2 q j)) j.val := by
  unfold signed
  rw [← signs_apply]
  unfold sines
  generalize signs = y
  pointwise []

end Cert.Inp
end
-- ==== Proof.Inp.Pay.lean ====
/- What a grid point of the input projection stores, entry by entry. -/
module

public import proofs.«01_k».proof.Proof.Inp.Read

@[expose] public section

set_option maxRecDepth 16384

noncomputable section

open Idealize.ShloMosaic Idealize.ShloMosaic.TcCoe Idealize.SL.Sem

namespace Cert.Inp

open Cert.Kernel5Ideal Cert.Kernel5Ideal.Gen

/-- The projection of a block, at an entry. -/
theorem pay1_apply (sh sc : Vec Ideal S1x1x1024 .f32) (x : Vec Ideal S512x1024 .f32) (g : Vec Ideal S1x1024 .f32) (w : Vec Ideal S1024x2048 .bf16) (r : Fin 512) (d : Fin 2048) :
    k0_pay1 (F := Ideal) sh sc x g w (ix2 r d)
      = projected (fun k => x (ix2 r k)) (fun k => g (ix2 0 k)) (fun k => sc (ix3 0 0 k)) (fun k => sh (ix3 0 0 k)) (fun k d => w (ix2 k d)) d := by
  pointwise [k0_pay1, projected, Cert.Out.modulated]

/-- The lanes of the queries and keys. -/
theorem pay2_apply (sh sc : Vec Ideal S1x1x1024 .f32) (x : Vec Ideal S512x1024 .f32) (g : Vec Ideal S1x1024 .f32) (w : Vec Ideal S1024x2048 .bf16) (r : Fin 512) (l : Fin 1024) :
    k0_pay2 (F := Ideal) sh sc x g w (ix2 r l) = k0_pay1 sh sc x g w (ix2 r ⟨l.val, by omega⟩) := by
  unfold k0_pay2
  generalize k0_pay1 (F := Ideal) sh sc x g w = z
  pointwise []

/-- The lanes of the values. -/
theorem pay3_apply (sh sc : Vec Ideal S1x1x1024 .f32) (x : Vec Ideal S512x1024 .f32) (g : Vec Ideal S1x1024 .f32) (w : Vec Ideal S1024x2048 .bf16) (r l : Fin 512) :
    k0_pay3 (F := Ideal) sh sc x g w (ix2 r l) = k0_pay1 sh sc x g w (ix2 r ⟨1024 + l.val, by omega⟩) := by
  unfold k0_pay3
  generalize k0_pay1 (F := Ideal) sh sc x g w = z
  pointwise []

/-- Eight copies of a table's lanes. -/
theorem pay4_apply (x : Vec Ideal S512x128 .f32) (r : Fin 512) (l : Fin 1024) : k0_pay4 (F := Ideal) x (ix2 r l) = x (ix2 r ⟨l.val % 128, by omega⟩) := by
  pointwise [k0_pay4]
  split_ifs <;> exact congrArg (fun j => x (ix2 r j)) (Fin.ext (by dsimp only; omega))

/-- The mask of the lanes in the first halves of their groups of thirty-two. -/
def mask (l : Nat) : BitVec 1 :=
  let n : BitVec 32 := Scalar.select (Scalar.cmpi CmpIPredicate.eq 32#32 0#32) 1#32 32#32
  let w : BitVec 32 := IntOp.remsi ArithUnit.vector (BitVec.ofNat 32 l) n
  IntOp.cmpi CmpIPredicate.slt (Scalar.select (IntOp.andi (IntOp.xori (IntOp.cmpi CmpIPredicate.slt w 0#32) (Scalar.cmpi CmpIPredicate.slt n 0#32)) (IntOp.cmpi CmpIPredicate.ne w 0#32)) (IntOp.addi w n) w) 16#32

/-- The mask marks the lanes whose remainder by thirty-two is below sixteen. -/
theorem mask_eq : ∀ l : Fin 1024, mask l.val = if l.val % 32 < 16 then 1#1 else 0#1 := by decide +kernel

/-- Choosing by the mask chooses the partner. -/
theorem mask_select (p : Fin 1024 → EReal) (l : Fin 1024) : Scalar.select (mask l.val) (p ⟨(l.val + 1024 - 1008) % 1024, by omega⟩) (p ⟨(l.val + 1024 - 16) % 1024, by omega⟩) = p (partner l) := by
  rw [mask_eq l]
  unfold partner
  split
  · exact congrArg p (Fin.ext (by show (l.val + 1024 - 1008) % 1024 = (l.val + 16) % 1024; omega))
  · exact congrArg p (Fin.ext (by show (l.val + 1024 - 16) % 1024 = (l.val + 1008) % 1024; omega))

/-- The turn of the queries' and keys' lanes, at an entry. -/
theorem pay5_apply (p c : FVec Ideal S512x1024 .f32) (s : Vec Ideal S512x128 .f32) (r : Fin 512) (l : Fin 1024) :
    k0_pay5 (F := Ideal) p c s (ix2 r l) = p (ix2 r l) * c (ix2 r l) + p (ix2 r (partner l)) * s (ix2 r ⟨l.val % 128, by omega⟩) := by
  rw [← mask_select (fun j => p (ix2 r j)) l]
  unfold mask
  pointwise [k0_pay5]
  split_ifs <;> refine congrArg (fun j => p (ix2 r l) * c (ix2 r l) + _ * s (ix2 r j)) (Fin.ext (by dsimp only; omega))

/-- The queries' lanes. -/
theorem pay6_apply (p c : FVec Ideal S512x1024 .f32) (s : Vec Ideal S512x128 .f32) (r l : Fin 512) :
    k0_pay6 (F := Ideal) p c s (ix2 r l) = k0_pay5 p c s (ix2 r ⟨l.val, by omega⟩) := by
  unfold k0_pay6
  generalize k0_pay5 (F := Ideal) p c s = z
  pointwise []
/-- The keys' lanes. -/
theorem pay7_apply (p c : FVec Ideal S512x1024 .f32) (s : Vec Ideal S512x128 .f32) (r l : Fin 512) :
    k0_pay7 (F := Ideal) p c s (ix2 r l) = k0_pay5 p c s (ix2 r ⟨512 + l.val, by omega⟩) := by
  unfold k0_pay7
  generalize k0_pay5 (F := Ideal) p c s = z
  pointwise []
/-- The values' lanes, narrowed. -/
theorem pay8_apply (x : FVec Ideal S512x512 .f32) (r l : Fin 512) : k0_pay8 (F := Ideal) x (ix2 r l) = x (ix2 r l) := by
  pointwise [k0_pay8]
/-- The lanes to be mixed. -/
theorem pay9_apply (x : FVec Ideal S512x2048 .f32) (r l : Fin 512) : k0_pay9 (F := Ideal) x (ix2 r l) = x (ix2 r ⟨1536 + l.val, by omega⟩) := by
  pointwise [k0_pay9]

end Cert.Inp
end
-- ==== Proof.Inp.Point.lean ====
/- The input projection's grid points: the two blocks of rows each leaves, and the two arrays they make. -/
module

public import proofs.«01_k».proof.Proof.Inp.Pay

@[expose] public section

set_option maxRecDepth 16384

noncomputable section

open Idealize.ShloMosaic Idealize.ShloMosaic.TcCoe Idealize.SL.Sem

namespace Cert.Inp

/-- A lane and its partner, combined by a position's two tables of a hundred and twenty-eight lanes. -/
def mixed (p : Fin 1024 → EReal) (cs sn : Fin 128 → EReal) (l : Fin 1024) : EReal := p l * cs ⟨l.val % 128, by omega⟩ + p (partner l) * sn ⟨l.val % 128, by omega⟩

/-- Doubled tables, the sines signed, turn a lane. -/
theorem mixed_eq (p : Fin 1024 → EReal) (cs sn : Fin 128 → EReal) (c s : Fin 64 → EReal) (hc : ∀ j, cs j = c ⟨j.val % 64, by omega⟩) (hs : ∀ j, sn j = signed (s ⟨j.val % 64, by omega⟩) (j.val % 64)) (l : Fin 1024) :
    mixed p cs sn l = turned p c s l := by
  unfold mixed turned
  rw [hc, hs, signed_turn]
  have hj : l.val % 128 % 64 = l.val % 64 := by omega
  have hi : (l.val % 64 % 32 < 16) = (l.val % 32 < 16) := propext ⟨fun h => by omega, fun h => by omega⟩
  simp only [hj, hi]

/-- Queries, keys and values: the first two turned, the last as projected. -/
def lanesOf (P : Fin 2048 → EReal) (f : Fin 1024 → EReal) (l : Fin 1536) : EReal := if h : l.val < 1024 then f ⟨l.val, h⟩ else P ⟨l.val, by omega⟩

open Cert.Kernel5Ideal Cert.Kernel5Ideal.Gen

/-- The place of a window's only block is the origin. -/
theorem hz2 : (![0, 0] : Fin 2 → Nat) = fun _ => 0 := funext fun a => by fin_cases a <;> rfl

/-- The three thirds cover a block. -/
theorem thirds (p q s : Vec Ideal S512x512 .bf16) (y : S512x1536.Idx) :
    ∃ pc ∈ ([⟨Rect.unit (s := S512x1536) ![0, 1024] S512x512.size inb_S512x1536_S512x512_0_1024, p⟩, ⟨Rect.unit (s := S512x1536) ![0, 512] S512x512.size inb_S512x1536_S512x512_0_512, q⟩, ⟨Rect.unit (s := S512x1536) ![0, 0] S512x512.size inb_S512x1536_S512x512_0_0, s⟩] : List (View.Piece (Elt Ideal) S512x1536 .bf16)), y ∈ pc.1.set :=
  View.cover_of_tiled (s := S512x1536) _ S512x512.size (by rfl) y

/-- Three thirds that hold an array's lanes leave the array. -/
theorem canon_thirds (p q s : Vec Ideal S512x512 .bf16) (E : Fin 512 → Fin 1536 → EReal) (hp : ∀ r l : Fin 512, p (ix2 r l) = E r ⟨1024 + l.val, by omega⟩)
    (hq : ∀ r l : Fin 512, q (ix2 r l) = E r ⟨512 + l.val, by omega⟩) (hs : ∀ r l : Fin 512, s (ix2 r l) = E r ⟨l.val, by omega⟩) (r : Fin 512) (l : Fin 1536) :
    View.canon ([⟨Rect.unit (s := S512x1536) ![0, 1024] S512x512.size inb_S512x1536_S512x512_0_1024, p⟩, ⟨Rect.unit (s := S512x1536) ![0, 512] S512x512.size inb_S512x1536_S512x512_0_512, q⟩, ⟨Rect.unit (s := S512x1536) ![0, 0] S512x512.size inb_S512x1536_S512x512_0_0, s⟩] : List (View.Piece (Elt Ideal) S512x1536 .bf16)) (ix2 r l) = E r l := by
  refine View.canon_apply_of_pieces (fun y => E (y 0) (y 1)) _ ?_ (ix2 r l) (thirds p q s _)
  intro pc hpc
  rcases List.mem_cons.mp hpc with rfl | hpc
  · intro j
    obtain ⟨a, b, rfl⟩ : ∃ (a : Fin 512) (b : Fin 512), j = ix2 a b := ⟨j 0, j 1, (ix2_eta j).symm⟩
    refine (hp a b).trans (congrArg₂ E (Fin.ext ?_) (Fin.ext ?_))
    · show a.val = 0 + 1 * a.val; omega
    · show 1024 + b.val = 1024 + 1 * b.val; omega
  rcases List.mem_cons.mp hpc with rfl | hpc
  · intro j
    obtain ⟨a, b, rfl⟩ : ∃ (a : Fin 512) (b : Fin 512), j = ix2 a b := ⟨j 0, j 1, (ix2_eta j).symm⟩
    refine (hq a b).trans (congrArg₂ E (Fin.ext ?_) (Fin.ext ?_))
    · show a.val = 0 + 1 * a.val; omega
    · show 512 + b.val = 512 + 1 * b.val; omega
  rcases List.mem_cons.mp hpc with rfl | hpc
  · intro j
    obtain ⟨a, b, rfl⟩ : ∃ (a : Fin 512) (b : Fin 512), j = ix2 a b := ⟨j 0, j 1, (ix2_eta j).symm⟩
    refine (hs a b).trans (congrArg₂ E (Fin.ext ?_) (Fin.ext ?_))
    · show a.val = 0 + 1 * a.val; omega
    · show b.val = 0 + 1 * b.val; omega
  nomatch hpc

section
variable (x0 : Vec Ideal S512x1024 .f32) (x1 : Vec Ideal S1x8x1024 .f32) (x2 : Vec Ideal S1x8x1024 .f32) (x3 : Vec Ideal S1x1024 .f32) (x4 : Vec Ideal S1024x2048 .bf16) (x5 : Vec Ideal S512x128 .f32) (x6 : Vec Ideal S512x128 .f32)

/-- A row's projection, from a point's blocks and the group's modulations. -/
def projOf (sc sh : Fin 1024 → EReal) (r : Fin 512) : Fin 2048 → EReal := projected (fun k => x0 (ix2 r k)) (fun k => x3 (ix2 0 k)) sc sh (fun k d => x4 (ix2 k d))

/-- The group's row of modulations, as a point loads it. -/
theorem ld_mod (x : Vec Ideal S1x8x1024 .f32) (t : Fin cfg0.N) (b : Fin 2) (hb : b.val = t.val / 8) (d : Fin 1024) :
    View.ld x (Rect.unit (s := S1x8x1024) (k0_off1 (grid0.coords t)) S1x1x1024.size (k0_off1_inb (grid0.coords t))) (ix3 0 0 d) = x (ix3 0 ⟨1 + b.val, by omega⟩ d) :=
  View.ld_unit_apply_of _ _ _ _ _ _ fun a => by
    match a with
    | ⟨0, _⟩ => show 0 = k0_off1 (grid0.coords t) 0 + 0; rw [(off1 t).1]
    | ⟨1, _⟩ => show 1 + b.val = k0_off1 (grid0.coords t) 1 + 0; rw [(off1 t).2.1]; omega
    | ⟨2, _⟩ => show d.val = k0_off1 (grid0.coords t) 2 + d.val; rw [(off1 t).2.2]; omega

/-- A point's projection at an entry. -/
theorem proj_apply (t : Fin cfg0.N) (b : Fin 2) (hb : b.val = t.val / 8) (r : Fin 512) (d : Fin 2048) :
    k0_pay1 (F := Ideal) (View.ld x1 (Rect.unit (s := S1x8x1024) (k0_off1 (grid0.coords t)) S1x1x1024.size (k0_off1_inb (grid0.coords t)))) (View.ld x2 (Rect.unit (s := S1x8x1024) (k0_off1 (grid0.coords t)) S1x1x1024.size (k0_off1_inb (grid0.coords t)))) x0 x3 x4 (ix2 r d)
      = (projOf x0 x3 x4 (fun d => x2 (ix3 0 ⟨1 + b.val, by omega⟩ d)) (fun d => x1 (ix3 0 ⟨1 + b.val, by omega⟩ d)) r) d := by
  rw [pay1_apply]
  unfold projOf
  have h := fun x : Vec Ideal S1x8x1024 .f32 => funext (ld_mod x t b hb)
  exact congrArg₂ (fun u v : Fin 1024 → EReal => projected (fun k => x0 (ix2 r k)) (fun k => x3 (ix2 0 k)) u v (fun k d => x4 (ix2 k d)) d) (h x2) (h x1)
end

section
variable (c : Dev nD) (t : Fin cfg0.N) (arg1 : Memref sig .tc .vmem S512x1024 .f32) (harg1 : arg1.IsWhole) (arg2 : Memref sig .tc .vmem S1x8x1024 .f32) (harg2 : arg2.IsWhole) (arg3 : Memref sig .tc .vmem S1x8x1024 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x1536 .bf16) (harg8 : arg8.IsWhole) (arg9 : Memref sig .tc .vmem S512x512 .f32) (harg9 : arg9.IsWhole)
    (x0 : Vec Ideal S512x1024 .f32) (x1 : Vec Ideal S1x8x1024 .f32) (x2 : Vec Ideal S1x8x1024 .f32) (x3 : Vec Ideal S1x1024 .f32) (x4 : Vec Ideal S1024x2048 .bf16) (x5 : Vec Ideal S512x128 .f32) (x6 : Vec Ideal S512x128 .f32)

/-- What a point leaves in the block of queries, keys and values. -/
theorem out7_apply (b : Fin 2) (hb : b.val = t.val / 8) (r : Fin 512) (l : Fin 1536) :
    out0_A_7 c (grid0.coords t) arg1 harg1 arg2 harg2 arg3 harg3 arg4 harg4 arg5 harg5 arg6 harg6 arg7 harg7 arg8 harg8 arg9 harg9 x0 x1 x2 x3 x4 x5 x6 (ix2 r l)
      = lanesOf (projOf x0 x3 x4 (fun d => x2 (ix3 0 ⟨1 + b.val, by omega⟩ d)) (fun d => x1 (ix3 0 ⟨1 + b.val, by omega⟩ d)) r) (mixed (early (projOf x0 x3 x4 (fun d => x2 (ix3 0 ⟨1 + b.val, by omega⟩ d)) (fun d => x1 (ix3 0 ⟨1 + b.val, by omega⟩ d)) r)) (fun j => x5 (ix2 r j)) (fun j => x6 (ix2 r j))) l := by
  unfold out0_A_7
  rw [View.read_writes_eq_canon _ _ _ (cover0_A_7 c (grid0.coords t) arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, View.ld_unit_zero (S := S1x1024) hz2, View.ld_unit_zero (S := S512x1024) hz2, View.ld_unit_zero (S := S1024x2048) hz2, View.ld_unit_zero (S := S512x128) hz2]
  have hP := fun (r : Fin 512) (d : Fin 2048) => proj_apply x0 x1 x2 x3 x4 t b hb r d
  refine canon_thirds _ _ _ (fun r l => lanesOf (projOf x0 x3 x4 (fun d => x2 (ix3 0 ⟨1 + b.val, by omega⟩ d)) (fun d => x1 (ix3 0 ⟨1 + b.val, by omega⟩ d)) r) (mixed (early (projOf x0 x3 x4 (fun d => x2 (ix3 0 ⟨1 + b.val, by omega⟩ d)) (fun d => x1 (ix3 0 ⟨1 + b.val, by omega⟩ d)) r)) (fun j => x5 (ix2 r j)) (fun j => x6 (ix2 r j))) l) (fun r l => ?_) (fun r l => ?_) (fun r l => ?_) r l
  · rw [pay8_apply, pay3_apply]
    refine (hP r _).trans ?_
    unfold lanesOf
    rw [dif_neg (by show ¬ 1024 + l.val < 1024; omega)]
  · rw [pay7_apply, pay5_apply, pay4_apply, pay2_apply, pay2_apply]
    refine (congrArg₂ (fun u v : EReal => u * x5 (ix2 r ⟨(512 + l.val) % 128, by omega⟩) + v * x6 (ix2 r ⟨(512 + l.val) % 128, by omega⟩)) (hP r _) (hP r _)).trans ?_
    unfold lanesOf
    rw [dif_pos (by show 512 + l.val < 1024; omega)]
    rfl
  · rw [pay6_apply, pay5_apply, pay4_apply, pay2_apply, pay2_apply]
    refine (congrArg₂ (fun u v : EReal => u * x5 (ix2 r ⟨l.val % 128, by omega⟩) + v * x6 (ix2 r ⟨l.val % 128, by omega⟩)) (hP r _) (hP r _)).trans ?_
    unfold lanesOf
    rw [dif_pos (by show l.val < 1024; omega)]
    rfl

/-- What a point leaves in the block of lanes to be mixed. -/
theorem out8_apply (b : Fin 2) (hb : b.val = t.val / 8) (r l : Fin 512) :
    out0_A_8 c (grid0.coords t) arg1 harg1 arg2 harg2 arg3 harg3 arg4 harg4 arg5 harg5 arg6 harg6 arg7 harg7 arg8 harg8 arg9 harg9 x0 x1 x2 x3 x4 x5 x6 (ix2 r l) = (projOf x0 x3 x4 (fun d => x2 (ix3 0 ⟨1 + b.val, by omega⟩ d)) (fun d => x1 (ix3 0 ⟨1 + b.val, by omega⟩ d)) r) ⟨1536 + l.val, by omega⟩ := by
  unfold out0_A_8
  rw [View.read_writes_eq_canon _ _ _ (cover0_A_8 c (grid0.coords t) arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, View.ld_unit_zero (S := S1x1024) hz2, View.ld_unit_zero (S := S512x1024) hz2, View.ld_unit_zero (S := S1024x2048) hz2, View.ld_unit_zero (S := S512x128) hz2]
  rw [View.canon_unit_zero hz2, pay9_apply]
  exact proj_apply x0 x1 x2 x3 x4 t b hb r _
end

variable (m : (ℓ : Loc nD τ sig) → Buf (Elt Ideal) ℓ) (c : Dev nD)

/-- A row's projection, from the arguments. -/
def projArg (b : Fin 2) (q : Fin 4096) : Fin 2048 → EReal :=
  projected (fun k => m ((c : Thread nD τ).loc main_arg0) (ix3 b q k)) (fun k => m ((c : Thread nD τ).loc main_arg2) (ix2 0 k))
    (fun k => m ((c : Thread nD τ).loc main_arg1) (ix3 0 ⟨1 + b.val, by omega⟩ ⟨1024 + k.val, by omega⟩)) (fun k => m ((c : Thread nD τ).loc main_arg1) (ix3 0 ⟨1 + b.val, by omega⟩ ⟨k.val, by omega⟩))
    (fun k d => m ((c : Thread nD τ).loc main_arg3) (ix3 0 k d))

section
variable (t : Fin cfg0.N) (b : Fin 2) (q : Fin 4096) (r : Fin 512) (hq : t.val * 512 + r.val = b.val * 4096 + q.val)
include hq

/-- The projection a point computes is the arguments'. -/
theorem projOf_eq :
    projOf (iblk m c 0 t) (iblk m c 3 t) (iblk m c 4 t) (fun d => (iblk m c 2 t : Vec Ideal S1x8x1024 .f32) (ix3 0 ⟨1 + b.val, by omega⟩ d)) (fun d => (iblk m c 1 t : Vec Ideal S1x8x1024 .f32) (ix3 0 ⟨1 + b.val, by omega⟩ d)) r
      = projArg m c b q := by
  have ht := Nat.lt_of_lt_of_eq t.isLt N_0
  have hR : (⟨t.val * 512 + r.val, by omega⟩ : Fin 8192) = ⟨b.val * 4096 + q.val, by omega⟩ := Fin.ext hq
  have h0 : ∀ k, (iblk m c 0 t : Vec Ideal S512x1024 .f32) (ix2 r k) = m ((c : Thread nD τ).loc main_arg0) (ix3 b q k) := fun k => by
    refine (read0 (V m c main_v12) t r k).trans ((congrFun (V_v12 m c) _).trans ?_); rw [hR]; exact rows_apply _ b q k
  have h1 : ∀ d : Fin 1024, (iblk m c 1 t : Vec Ideal S1x8x1024 .f32) (ix3 0 ⟨1 + b.val, by omega⟩ d) = m ((c : Thread nD τ).loc main_arg1) (ix3 0 ⟨1 + b.val, by omega⟩ ⟨d.val, by omega⟩) := fun d =>
    (read1 (V m c main_arg1) t _ d).trans (congrFun (V_arg1 m c) _)
  have h2 : ∀ d : Fin 1024, (iblk m c 2 t : Vec Ideal S1x8x1024 .f32) (ix3 0 ⟨1 + b.val, by omega⟩ d) = m ((c : Thread nD τ).loc main_arg1) (ix3 0 ⟨1 + b.val, by omega⟩ ⟨1024 + d.val, by omega⟩) := fun d =>
    (read2 (V m c main_arg1) t _ d).trans (congrFun (V_arg1 m c) _)
  have h3 : ∀ d, (iblk m c 3 t : Vec Ideal S1x1024 .f32) (ix2 0 d) = m ((c : Thread nD τ).loc main_arg2) (ix2 0 d) := fun d =>
    (read3 (V m c main_v18) t 0 d).trans ((congrFun (V_v18 m c) _).trans (gains_apply _ d))
  have h4 : ∀ k d, (iblk m c 4 t : Vec Ideal S1024x2048 .bf16) (ix2 k d) = m ((c : Thread nD τ).loc main_arg3) (ix3 0 k d) := fun k d =>
    (read4 (V m c main_v17) t k d).trans ((congrFun (V_v17 m c) _).trans (weights_apply _ k d))
  unfold projOf projArg
  simp only [h0, h1, h2, h3, h4]

/-- The tables a point finds turn a lane by the arguments'. -/
theorem mixed_blocks (p : Fin 1024 → EReal) (l : Fin 1024) :
    mixed p (fun j => (iblk m c 5 t : Vec Ideal S512x128 .f32) (ix2 r j)) (fun j => (iblk m c 6 t : Vec Ideal S512x128 .f32) (ix2 r j)) l
      = turned p (fun j => m ((c : Thread nD τ).loc main_arg4) (ix2 q j)) (fun j => m ((c : Thread nD τ).loc main_arg5) (ix2 q j)) l := by
  have ht := Nat.lt_of_lt_of_eq t.isLt N_0
  have hR : (⟨t.val % 8 * 512 + r.val, by omega⟩ : Fin 4096) = q := Fin.ext (by show t.val % 8 * 512 + r.val = q.val; omega)
  refine mixed_eq p _ _ _ _ (fun j => ?_) (fun j => ?_) l
  · refine (read5 (V m c main_v5) t r j).trans ((congrFun (V_v5 m c) _).trans ?_); rw [hR]; exact doubled_apply _ q j
  · refine (read6 (V m c main_v11) t r j).trans ((congrFun (V_v11 m c) _).trans ?_); rw [hR]; exact (doubled_apply _ q j).trans (sines_apply _ q _)

end

/-- Every entry of the queries, keys and values. -/
theorem final7 (b : Fin 2) (q : Fin 4096) (l : Fin 1536) :
    ((dats m 0 c).arrAt 7 cfg0.N : Vec Ideal S8192x1536 .bf16) (ix2 ⟨b.val * 4096 + q.val, by omega⟩ l)
      = lanesOf (projArg m c b q) (turned (early (projArg m c b q)) (fun j => m ((c : Thread nD τ).loc main_arg4) (ix2 q j)) (fun j => m ((c : Thread nD τ).loc main_arg5) (ix2 q j))) l := by
  have hN : (b.val * 4096 + q.val) / 512 < cfg0.N := Nat.lt_of_lt_of_eq (by omega) N_0.symm
  have hR : (⟨b.val * 4096 + q.val, by omega⟩ : Fin 8192) = ⟨(b.val * 4096 + q.val) / 512 * 512 + (b.val * 4096 + q.val) % 512, by omega⟩ :=
    Fin.ext (by show b.val * 4096 + q.val = (b.val * 4096 + q.val) / 512 * 512 + (b.val * 4096 + q.val) % 512; omega)
  have hq : (b.val * 4096 + q.val) / 512 * 512 + (b.val * 4096 + q.val) % 512 = b.val * 4096 + q.val := by omega
  rw [hR, ← read7 ((dats m 0 c).arrAt 7 cfg0.N) ⟨(b.val * 4096 + q.val) / 512, hN⟩ ⟨(b.val * 4096 + q.val) % 512, by omega⟩ l, Value.blocks7 m c _ (flush0_7 _), Value.flushed7_A]
  refine (out7_apply c ⟨(b.val * 4096 + q.val) / 512, hN⟩ _ _ _ _ _ _ _ _ _ _ _ _ _ _ _ _ _ _ _ _ _ _ _ _ _ b (by show b.val = (b.val * 4096 + q.val) / 512 / 8; omega) ⟨(b.val * 4096 + q.val) % 512, by omega⟩ l).trans ?_
  rw [projOf_eq m c ⟨(b.val * 4096 + q.val) / 512, hN⟩ b q ⟨(b.val * 4096 + q.val) % 512, by omega⟩ hq]
  exact congrArg (fun f => lanesOf (projArg m c b q) f l) (funext fun l => mixed_blocks m c ⟨(b.val * 4096 + q.val) / 512, hN⟩ b q ⟨(b.val * 4096 + q.val) % 512, by omega⟩ hq _ l)

/-- Every entry of the lanes to be mixed. -/
theorem final8 (b : Fin 2) (q : Fin 4096) (l : Fin 512) :
    ((dats m 0 c).arrAt 8 cfg0.N : Vec Ideal S8192x512 .f32) (ix2 ⟨b.val * 4096 + q.val, by omega⟩ l) = projArg m c b q ⟨1536 + l.val, by omega⟩ := by
  have hN : (b.val * 4096 + q.val) / 512 < cfg0.N := Nat.lt_of_lt_of_eq (by omega) N_0.symm
  have hR : (⟨b.val * 4096 + q.val, by omega⟩ : Fin 8192) = ⟨(b.val * 4096 + q.val) / 512 * 512 + (b.val * 4096 + q.val) % 512, by omega⟩ :=
    Fin.ext (by show b.val * 4096 + q.val = (b.val * 4096 + q.val) / 512 * 512 + (b.val * 4096 + q.val) % 512; omega)
  have hq : (b.val * 4096 + q.val) / 512 * 512 + (b.val * 4096 + q.val) % 512 = b.val * 4096 + q.val := by omega
  rw [hR, ← read8 ((dats m 0 c).arrAt 8 cfg0.N) ⟨(b.val * 4096 + q.val) / 512, hN⟩ ⟨(b.val * 4096 + q.val) % 512, by omega⟩ l, Value.blocks8 m c _ (flush0_8 _), Value.flushed8_A]
  refine (out8_apply c ⟨(b.val * 4096 + q.val) / 512, hN⟩ _ _ _ _ _ _ _ _ _ _ _ _ _ _ _ _ _ _ _ _ _ _ _ _ _ b (by show b.val = (b.val * 4096 + q.val) / 512 / 8; omega) ⟨(b.val * 4096 + q.val) % 512, by omega⟩ l).trans ?_
  rw [projOf_eq m c ⟨(b.val * 4096 + q.val) / 512, hN⟩ b q ⟨(b.val * 4096 + q.val) % 512, by omega⟩ hq]

end Cert.Inp
end
-- ==== Proof.Inp.Ref.lean ====
/- The input projection's reference, at an entry. -/
module

public import proofs.«01_k».proof.Proof.Gen.Reference5Ideal.Read
public import proofs.«01_k».proof.Proof.Inp.Row
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.Inp.Ref

open Cert.Reference5Ideal Cert.Reference5Ideal.Gen Cert.Reference5Ideal.Read

variable (x0 : FVec Ideal S2x4096x1024 .f32) (x1 : FVec Ideal S2x8x6144 .f32) (x2 : FVec Ideal S2x1024 .f32) (x3 : FVec Ideal S2x1024x2048 .f32) (x4 x5 : FVec Ideal S4096x64 .f32)

/-- The modulated rows, at an entry. -/
theorem v26_apply (b : Fin 2) (q : Fin 4096) (k : Fin 1024) :
    val_main_v26 (F := Ideal) x0 x1 x2 (ix3 b q k)
      = Cert.Out.modulated (fun k => x0 (ix3 b q k)) (fun k => x2 (ix2 0 k)) (fun k => x1 (ix3 0 ⟨1 + b.val, by omega⟩ ⟨1024 + k.val, by omega⟩)) (fun k => x1 (ix3 0 ⟨1 + b.val, by omega⟩ ⟨k.val, by omega⟩)) k := by
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, Cert.Out.modulated]

/-- The projection, at an entry. -/
theorem v29_apply (b : Fin 2) (q : Fin 4096) (d : Fin 2048) :
    val_main_v29 (F := Ideal) x0 x1 x2 x3 (ix3 b q d)
      = projected (fun k => x0 (ix3 b q k)) (fun k => x2 (ix2 0 k)) (fun k => x1 (ix3 0 ⟨1 + b.val, by omega⟩ ⟨1024 + k.val, by omega⟩)) (fun k => x1 (ix3 0 ⟨1 + b.val, by omega⟩ ⟨k.val, by omega⟩)) (fun k d => x3 (ix3 0 k d)) d := by
  unfold projected
  simp only [← v26_apply]
  unfold val_main_v29 val_main_v28 val_main_v27
  generalize val_main_v26 (F := Ideal) x0 x1 x2 = y
  pointwise []

/-- A six-axis array's row-major position. -/
theorem rowMajor_six {d : Fin 6 → Nat} (i : (⟨6, d⟩ : Shape).Idx) :
    ((⟨6, d⟩ : Shape).rowMajor i).val = (((((i 0).val * d 1 + (i 1).val) * d 2 + (i 2).val) * d 3 + (i 3).val) * d 4 + (i 4).val) * d 5 + (i 5).val := by
  rw [Shape.rowMajor_val_succ, Shape.rowMajor_val_five]
  simp only [Shape.numel, Fin.prod_univ_five]
  show (i 0).val * (d 1 * d 2 * d 3 * d 4 * d 5) + (((((i 1).val * d 2 + (i 2).val) * d 3 + (i 3).val) * d 4 + (i 4).val) * d 5 + (i 5).val) = _
  ring

/-- A seven-axis array's row-major position. -/
theorem rowMajor_seven {d : Fin 7 → Nat} (i : (⟨7, d⟩ : Shape).Idx) :
    ((⟨7, d⟩ : Shape).rowMajor i).val = ((((((i 0).val * d 1 + (i 1).val) * d 2 + (i 2).val) * d 3 + (i 3).val) * d 4 + (i 4).val) * d 5 + (i 5).val) * d 6 + (i 6).val := by
  rw [Shape.rowMajor_val_succ, rowMajor_six]
  simp only [Shape.numel, Fin.prod_univ_six]
  show (i 0).val * (d 1 * d 2 * d 3 * d 4 * d 5 * d 6) + ((((((i 1).val * d 2 + (i 2).val) * d 3 + (i 3).val) * d 4 + (i 4).val) * d 5 + (i 5).val) * d 6 + (i 6).val) = _
  ring

/-- Sixty-four lanes cut into halves of groups of thirty-two. -/
theorem cut_apply (y : FVec Ideal S2x4096x4x2x64 .f32) (b : Fin 2) (q : Fin 4096) (h : Fin 4) (e a c : Fin 2) (i : Fin 16) :
    shapeCast S2x4096x4x2x2x2x16 y shapeCasts_S2x4096x4x2x64_S2x4096x4x2x2x2x16 (ix7 b q h e a c i) = y (ix5 b q h e ⟨a.val * 32 + c.val * 16 + i.val, by omega⟩) := by
  refine shapeCast_apply _ _ _ _ ?_
  rw [Shape.rowMajor_val_five, rowMajor_seven]
  show (((b.val * 4096 + q.val) * 4 + h.val) * 2 + e.val) * 64 + (a.val * 32 + c.val * 16 + i.val) = (((((b.val * 4096 + q.val) * 4 + h.val) * 2 + e.val) * 2 + a.val) * 2 + c.val) * 16 + i.val
  omega

/-- The halves of groups of thirty-two joined into sixty-four lanes. -/
theorem glue_apply (y : FVec Ideal S2x4096x4x2x2x2x16 .f32) (b : Fin 2) (q : Fin 4096) (h : Fin 4) (e a c : Fin 2) (i : Fin 16) (j : Fin 64) (hj : j.val = a.val * 32 + c.val * 16 + i.val) :
    shapeCast S2x4096x4x2x64 y shapeCasts_S2x4096x4x2x2x2x16_S2x4096x4x2x64 (ix5 b q h e j) = y (ix7 b q h e a c i) := by
  refine shapeCast_apply _ _ _ _ ?_
  rw [Shape.rowMajor_val_five, rowMajor_seven]
  show (((((b.val * 4096 + q.val) * 4 + h.val) * 2 + e.val) * 2 + a.val) * 2 + c.val) * 16 + i.val = (((b.val * 4096 + q.val) * 4 + h.val) * 2 + e.val) * 64 + j.val
  omega

/-- One half of every group, without its axis. -/
theorem drop_apply (y : FVec Ideal S2x4096x4x2x2x1x16 .f32) (b : Fin 2) (q : Fin 4096) (h : Fin 4) (e a : Fin 2) (i : Fin 16) :
    shapeCast S2x4096x4x2x2x16 y shapeCasts_S2x4096x4x2x2x1x16_S2x4096x4x2x2x16 (ix6 b q h e a i) = y (ix7 b q h e a 0 i) := by
  refine shapeCast_apply _ _ _ _ ?_
  rw [rowMajor_six, rowMajor_seven]
  show (((((b.val * 4096 + q.val) * 4 + h.val) * 2 + e.val) * 2 + a.val) * 1 + 0) * 16 + i.val = ((((b.val * 4096 + q.val) * 4 + h.val) * 2 + e.val) * 2 + a.val) * 16 + i.val
  omega

/-- Two halves stacked, at an entry of the first. -/
theorem stack_zero (y z : FVec Ideal S2x4096x4x2x2x1x16 .f32) (b : Fin 2) (q : Fin 4096) (h : Fin 4) (e a : Fin 2) (i : Fin 16) :
    concatenate S2x4096x4x2x2x2x16 5 [⟨S2x4096x4x2x2x1x16, y⟩, ⟨S2x4096x4x2x2x1x16, z⟩] concatenates_S2x4096x4x2x2x1x16_S2x4096x4x2x2x1x16_S2x4096x4x2x2x2x16_d5 (ix7 b q h e a 0 i) = y (ix7 b q h e a 0 i) := by
  refine concatenate_pair_apply_left (t := S2x4096x4x2x2x2x16) (s₁ := S2x4096x4x2x2x1x16) (s₂ := S2x4096x4x2x2x1x16) 5 y z concatenates_S2x4096x4x2x2x1x16_S2x4096x4x2x2x1x16_S2x4096x4x2x2x2x16_d5 (ix7 b q h e a 0 i) rfl (ix7 b q h e a 0 i) ?_
  intro k
  match k with
  | ⟨0, _⟩ => show b.val = b.val; rfl
  | ⟨1, _⟩ => show q.val = q.val; rfl
  | ⟨2, _⟩ => show h.val = h.val; rfl
  | ⟨3, _⟩ => show e.val = e.val; rfl
  | ⟨4, _⟩ => show a.val = a.val; rfl
  | ⟨5, _⟩ => show (0 : Nat) = 0; rfl
  | ⟨6, _⟩ => show i.val = i.val; rfl

/-- Two halves stacked, at an entry of the second. -/
theorem stack_one (y z : FVec Ideal S2x4096x4x2x2x1x16 .f32) (b : Fin 2) (q : Fin 4096) (h : Fin 4) (e a : Fin 2) (i : Fin 16) :
    concatenate S2x4096x4x2x2x2x16 5 [⟨S2x4096x4x2x2x1x16, y⟩, ⟨S2x4096x4x2x2x1x16, z⟩] concatenates_S2x4096x4x2x2x1x16_S2x4096x4x2x2x1x16_S2x4096x4x2x2x2x16_d5 (ix7 b q h e a 1 i) = z (ix7 b q h e a 0 i) := by
  refine concatenate_pair_apply_right (t := S2x4096x4x2x2x2x16) (s₁ := S2x4096x4x2x2x1x16) (s₂ := S2x4096x4x2x2x1x16) 5 y z concatenates_S2x4096x4x2x2x1x16_S2x4096x4x2x2x1x16_S2x4096x4x2x2x2x16_d5 (ix7 b q h e a 1 i) rfl rfl (ix7 b q h e a 0 i) ?_ ?_
  · intro k hk
    match k with
    | ⟨0, _⟩ => show b.val = b.val; rfl
    | ⟨1, _⟩ => show q.val = q.val; rfl
    | ⟨2, _⟩ => show h.val = h.val; rfl
    | ⟨3, _⟩ => show e.val = e.val; rfl
    | ⟨4, _⟩ => show a.val = a.val; rfl
    | ⟨5, _⟩ => exact absurd rfl hk
    | ⟨6, _⟩ => show i.val = i.val; rfl
  · show (0 : Nat) + 1 = 1; rfl

/-- A lane of a first half is one of sixty-four. -/
theorem low (a : Fin 2) (i : Fin 16) : a.val * 32 + i.val < 64 := by omega
/-- A lane of a second half is one of sixty-four. -/
theorem high (a : Fin 2) (i : Fin 16) : a.val * 32 + 16 + i.val < 64 := by omega

/-- A pair of coordinates is its index. -/
theorem eta2 {n0 n1 : Nat} (f : (⟨2, ![n0, n1]⟩ : Shape).Idx) (a : Fin n0) (b : Fin n1) (h0 : f 0 = a) (h1 : f 1 = b) : f = ix2 a b := by subst h0 h1; exact (ix2_eta f).symm
/-- Six coordinates are their index. -/
theorem eta6 (f : S2x4096x4x2x2x16.Idx) (b : Fin 2) (q : Fin 4096) (h : Fin 4) (e a : Fin 2) (i : Fin 16) (h0 : f 0 = b) (h1 : f 1 = q) (h2 : f 2 = h) (h3 : f 3 = e) (h4 : f 4 = a) (h5 : f 5 = i) : f = ix6 b q h e a i := by
  subst h0 h1 h2 h3 h4 h5; exact (ix6_eta f).symm
/-- Seven coordinates are their index. -/
theorem eta7 (f : S2x4096x4x2x2x2x16.Idx) (b : Fin 2) (q : Fin 4096) (h : Fin 4) (e a c : Fin 2) (i : Fin 16) (h0 : f 0 = b) (h1 : f 1 = q) (h2 : f 2 = h) (h3 : f 3 = e) (h4 : f 4 = a) (h5 : f 5 = c) (h6 : f 6 = i) : f = ix7 b q h e a c i := by
  subst h0 h1 h2 h3 h4 h5 h6; exact (ix7_eta f).symm

/-- The queries' heads, at an entry. -/
theorem v31_apply (b : Fin 2) (q : Fin 4096) (h : Fin 4) (e : Fin 2) (j : Fin 64) :
    val_main_v31 (F := Ideal) x0 x1 x2 x3 (ix5 b q h e j) = val_main_v29 (F := Ideal) x0 x1 x2 x3 (ix3 b q ⟨(h.val * 128 + e.val * 64 + j.val), by omega⟩) := by
  unfold val_main_v31 val_main_v30
  generalize val_main_v29 (F := Ideal) x0 x1 x2 x3 = y
  pointwise []

/-- The queries' first lanes, turned: their partners negated. -/
theorem v43_zero (b : Fin 2) (q : Fin 4096) (h : Fin 4) (e a : Fin 2) (i : Fin 16) :
    val_main_v43 (F := Ideal) x0 x1 x2 x3 (ix5 b q h e ⟨a.val * 32 + i.val, by omega⟩) = -val_main_v31 (F := Ideal) x0 x1 x2 x3 (ix5 b q h e ⟨a.val * 32 + 16 + i.val, by omega⟩) := by
  unfold val_main_v43 val_main_v42
  refine (glue_apply _ b q h e a 0 i _ (by show a.val * 32 + i.val = a.val * 32 + 0 * 16 + i.val; omega)).trans ((stack_zero _ _ b q h e a i).trans ?_)
  rw [val_main_v40_apply, val_main_v37_apply]
  refine congrArg (fun x : EReal => -x) ?_
  unfold val_main_v36
  refine (congrArg (shapeCast S2x4096x4x2x2x16 (val_main_v35 (F := Ideal) x0 x1 x2 x3) shapeCasts_S2x4096x4x2x2x1x16_S2x4096x4x2x2x16) (eta6 (idx_main_v40 (ix7 b q h e a 0 i)) b q h e a i rfl rfl rfl rfl rfl rfl)).trans ((drop_apply _ b q h e a i).trans ?_)
  rw [val_main_v35_apply]
  unfold val_main_v34
  refine (congrArg (shapeCast S2x4096x4x2x2x2x16 (val_main_v31 (F := Ideal) x0 x1 x2 x3) shapeCasts_S2x4096x4x2x64_S2x4096x4x2x2x2x16) (eta7 (idx_main_v35 (ix7 b q h e a 0 i)) b q h e a 1 i rfl rfl rfl rfl rfl rfl rfl)).trans ((cut_apply _ b q h e a 1 i).trans ?_)
  exact congrArg (fun j => val_main_v31 (F := Ideal) x0 x1 x2 x3 (ix5 b q h e j)) (Fin.ext (by show a.val * 32 + 1 * 16 + i.val = a.val * 32 + 16 + i.val; omega))

/-- The queries' later lanes, turned: their partners. -/
theorem v43_one (b : Fin 2) (q : Fin 4096) (h : Fin 4) (e a : Fin 2) (i : Fin 16) :
    val_main_v43 (F := Ideal) x0 x1 x2 x3 (ix5 b q h e ⟨a.val * 32 + 16 + i.val, by omega⟩) = val_main_v31 (F := Ideal) x0 x1 x2 x3 (ix5 b q h e ⟨a.val * 32 + i.val, by omega⟩) := by
  unfold val_main_v43 val_main_v42
  refine (glue_apply _ b q h e a 1 i _ (by show a.val * 32 + 16 + i.val = a.val * 32 + 1 * 16 + i.val; omega)).trans ((stack_one _ _ b q h e a i).trans ?_)
  rw [val_main_v41_apply]
  unfold val_main_v39
  refine (congrArg (shapeCast S2x4096x4x2x2x16 (val_main_v38 (F := Ideal) x0 x1 x2 x3) shapeCasts_S2x4096x4x2x2x1x16_S2x4096x4x2x2x16) (eta6 (idx_main_v41 (ix7 b q h e a 0 i)) b q h e a i rfl rfl rfl rfl rfl rfl)).trans ((drop_apply _ b q h e a i).trans ?_)
  rw [val_main_v38_apply]
  unfold val_main_v34
  refine (congrArg (shapeCast S2x4096x4x2x2x2x16 (val_main_v31 (F := Ideal) x0 x1 x2 x3) shapeCasts_S2x4096x4x2x64_S2x4096x4x2x2x2x16) (eta7 (idx_main_v38 (ix7 b q h e a 0 i)) b q h e a 0 i rfl rfl rfl rfl rfl rfl rfl)).trans ((cut_apply _ b q h e a 0 i).trans ?_)
  exact congrArg (fun j => val_main_v31 (F := Ideal) x0 x1 x2 x3 (ix5 b q h e j)) (Fin.ext (by show a.val * 32 + 0 * 16 + i.val = a.val * 32 + i.val; omega))

/-- The queries with their turn, at an entry. -/
theorem v50_apply (b : Fin 2) (q : Fin 4096) (h : Fin 4) (e : Fin 2) (j : Fin 64) :
    val_main_v50 (F := Ideal) x0 x1 x2 x3 x4 x5 (ix5 b q h e j)
      = val_main_v31 (F := Ideal) x0 x1 x2 x3 (ix5 b q h e j) * x4 (ix2 q j) + val_main_v43 (F := Ideal) x0 x1 x2 x3 (ix5 b q h e j) * x5 (ix2 q j) := by
  rw [val_main_v50_apply, val_main_v46_apply, val_main_v49_apply, val_main_v45_apply, val_main_v44_apply, val_main_v48_apply, val_main_v47_apply]
  refine congrArg₂ (fun s t : EReal => val_main_v31 (F := Ideal) x0 x1 x2 x3 (ix5 b q h e j) * s + val_main_v43 (F := Ideal) x0 x1 x2 x3 (ix5 b q h e j) * t) ?_ ?_
  · exact congrArg x4 (eta2 _ q j rfl rfl)
  · exact congrArg x5 (eta2 _ q j rfl rfl)

/-- The queries flattened, at an entry. -/
theorem v51_apply (b : Fin 2) (q : Fin 4096) (h : Fin 4) (e : Fin 2) (j : Fin 64) :
    val_main_v51 (F := Ideal) x0 x1 x2 x3 x4 x5 (ix2 ⟨b.val * 4096 + q.val, by omega⟩ ⟨h.val * 128 + e.val * 64 + j.val, by omega⟩) = val_main_v50 (F := Ideal) x0 x1 x2 x3 x4 x5 (ix5 b q h e j) := by
  unfold val_main_v51
  generalize val_main_v50 (F := Ideal) x0 x1 x2 x3 x4 x5 = y
  pointwise []

/-- The queries are the projection's lanes, turned. -/
theorem v51_turned (b : Fin 2) (q : Fin 4096) (l : Fin 512) :
    val_main_v51 (F := Ideal) x0 x1 x2 x3 x4 x5 (ix2 ⟨b.val * 4096 + q.val, by omega⟩ l)
      = turned (early fun d => val_main_v29 (F := Ideal) x0 x1 x2 x3 (ix3 b q d)) (fun j => x4 (ix2 q j)) (fun j => x5 (ix2 q j)) ⟨l.val, by omega⟩ := by
  obtain ⟨h, e, j, rfl⟩ : ∃ (h : Fin 4) (e : Fin 2) (j : Fin 64), l = ⟨h.val * 128 + e.val * 64 + j.val, by omega⟩ :=
    ⟨⟨l.val / 128, by omega⟩, ⟨l.val / 64 % 2, by omega⟩, ⟨l.val % 64, by omega⟩, Fin.ext (by show l.val = l.val / 128 * 128 + l.val / 64 % 2 * 64 + l.val % 64; omega)⟩
  rw [v51_apply, v50_apply, v31_apply]
  unfold turned early
  have hj : (⟨((h.val * 128 + e.val * 64 + j.val)) % 64, by omega⟩ : Fin 64) = j := Fin.ext (by show ((h.val * 128 + e.val * 64 + j.val)) % 64 = j.val; omega)
  refine congrArg₂ (· + ·) (congrArg₂ (· * ·) rfl (congrArg (fun j => x4 (ix2 q j)) hj.symm)) (congrArg₂ (· * ·) ?_ (congrArg (fun j => x5 (ix2 q j)) hj.symm))
  by_cases hl : j.val % 32 < 16
  · rw [if_pos (by show ((h.val * 128 + e.val * 64 + j.val)) % 32 < 16; omega)]
    clear hj
    obtain ⟨a, i, rfl⟩ : ∃ (a : Fin 2) (i : Fin 16), j = ⟨a.val * 32 + i.val, low a i⟩ :=
      ⟨⟨j.val / 32, by omega⟩, ⟨j.val % 32, hl⟩, Fin.ext (by show j.val = j.val / 32 * 32 + j.val % 32; omega)⟩
    rw [v43_zero, v31_apply]
    refine congrArg (fun d => -val_main_v29 (F := Ideal) x0 x1 x2 x3 (ix3 b q d)) (Fin.ext ?_)
    unfold partner
    rw [if_pos (by show ((h.val * 128 + e.val * 64 + (a.val * 32 + i.val))) % 32 < 16; omega)]
    show (h.val * 128 + e.val * 64 + (a.val * 32 + 16 + i.val)) = ((h.val * 128 + e.val * 64 + (a.val * 32 + i.val)) + 16) % 1024
    omega
  · rw [if_neg (by show ¬ ((h.val * 128 + e.val * 64 + j.val)) % 32 < 16; omega)]
    clear hj
    obtain ⟨a, i, rfl⟩ : ∃ (a : Fin 2) (i : Fin 16), j = ⟨a.val * 32 + 16 + i.val, high a i⟩ :=
      ⟨⟨j.val / 32, by omega⟩, ⟨j.val % 32 - 16, by omega⟩, Fin.ext (by show j.val = j.val / 32 * 32 + 16 + (j.val % 32 - 16); omega)⟩
    rw [v43_one, v31_apply]
    refine congrArg (fun d => val_main_v29 (F := Ideal) x0 x1 x2 x3 (ix3 b q d)) (Fin.ext ?_)
    unfold partner
    rw [if_neg (by show ¬ ((h.val * 128 + e.val * 64 + (a.val * 32 + 16 + i.val))) % 32 < 16; omega)]
    show (h.val * 128 + e.val * 64 + (a.val * 32 + i.val)) = ((h.val * 128 + e.val * 64 + (a.val * 32 + 16 + i.val)) + 1008) % 1024
    omega

/-- The keys' heads, at an entry. -/
theorem v33_apply (b : Fin 2) (q : Fin 4096) (h : Fin 4) (e : Fin 2) (j : Fin 64) :
    val_main_v33 (F := Ideal) x0 x1 x2 x3 (ix5 b q h e j) = val_main_v29 (F := Ideal) x0 x1 x2 x3 (ix3 b q ⟨512 + (h.val * 128 + e.val * 64 + j.val), by omega⟩) := by
  unfold val_main_v33 val_main_v32
  generalize val_main_v29 (F := Ideal) x0 x1 x2 x3 = y
  pointwise []

/-- The keys' first lanes, turned: their partners negated. -/
theorem v61_zero (b : Fin 2) (q : Fin 4096) (h : Fin 4) (e a : Fin 2) (i : Fin 16) :
    val_main_v61 (F := Ideal) x0 x1 x2 x3 (ix5 b q h e ⟨a.val * 32 + i.val, by omega⟩) = -val_main_v33 (F := Ideal) x0 x1 x2 x3 (ix5 b q h e ⟨a.val * 32 + 16 + i.val, by omega⟩) := by
  unfold val_main_v61 val_main_v60
  refine (glue_apply _ b q h e a 0 i _ (by show a.val * 32 + i.val = a.val * 32 + 0 * 16 + i.val; omega)).trans ((stack_zero _ _ b q h e a i).trans ?_)
  rw [val_main_v58_apply, val_main_v55_apply]
  refine congrArg (fun x : EReal => -x) ?_
  unfold val_main_v54
  refine (congrArg (shapeCast S2x4096x4x2x2x16 (val_main_v53 (F := Ideal) x0 x1 x2 x3) shapeCasts_S2x4096x4x2x2x1x16_S2x4096x4x2x2x16) (eta6 (idx_main_v58 (ix7 b q h e a 0 i)) b q h e a i rfl rfl rfl rfl rfl rfl)).trans ((drop_apply _ b q h e a i).trans ?_)
  rw [val_main_v53_apply]
  unfold val_main_v52
  refine (congrArg (shapeCast S2x4096x4x2x2x2x16 (val_main_v33 (F := Ideal) x0 x1 x2 x3) shapeCasts_S2x4096x4x2x64_S2x4096x4x2x2x2x16) (eta7 (idx_main_v53 (ix7 b q h e a 0 i)) b q h e a 1 i rfl rfl rfl rfl rfl rfl rfl)).trans ((cut_apply _ b q h e a 1 i).trans ?_)
  exact congrArg (fun j => val_main_v33 (F := Ideal) x0 x1 x2 x3 (ix5 b q h e j)) (Fin.ext (by show a.val * 32 + 1 * 16 + i.val = a.val * 32 + 16 + i.val; omega))

/-- The keys' later lanes, turned: their partners. -/
theorem v61_one (b : Fin 2) (q : Fin 4096) (h : Fin 4) (e a : Fin 2) (i : Fin 16) :
    val_main_v61 (F := Ideal) x0 x1 x2 x3 (ix5 b q h e ⟨a.val * 32 + 16 + i.val, by omega⟩) = val_main_v33 (F := Ideal) x0 x1 x2 x3 (ix5 b q h e ⟨a.val * 32 + i.val, by omega⟩) := by
  unfold val_main_v61 val_main_v60
  refine (glue_apply _ b q h e a 1 i _ (by show a.val * 32 + 16 + i.val = a.val * 32 + 1 * 16 + i.val; omega)).trans ((stack_one _ _ b q h e a i).trans ?_)
  rw [val_main_v59_apply]
  unfold val_main_v57
  refine (congrArg (shapeCast S2x4096x4x2x2x16 (val_main_v56 (F := Ideal) x0 x1 x2 x3) shapeCasts_S2x4096x4x2x2x1x16_S2x4096x4x2x2x16) (eta6 (idx_main_v59 (ix7 b q h e a 0 i)) b q h e a i rfl rfl rfl rfl rfl rfl)).trans ((drop_apply _ b q h e a i).trans ?_)
  rw [val_main_v56_apply]
  unfold val_main_v52
  refine (congrArg (shapeCast S2x4096x4x2x2x2x16 (val_main_v33 (F := Ideal) x0 x1 x2 x3) shapeCasts_S2x4096x4x2x64_S2x4096x4x2x2x2x16) (eta7 (idx_main_v56 (ix7 b q h e a 0 i)) b q h e a 0 i rfl rfl rfl rfl rfl rfl rfl)).trans ((cut_apply _ b q h e a 0 i).trans ?_)
  exact congrArg (fun j => val_main_v33 (F := Ideal) x0 x1 x2 x3 (ix5 b q h e j)) (Fin.ext (by show a.val * 32 + 0 * 16 + i.val = a.val * 32 + i.val; omega))

/-- The keys with their turn, at an entry. -/
theorem v68_apply (b : Fin 2) (q : Fin 4096) (h : Fin 4) (e : Fin 2) (j : Fin 64) :
    val_main_v68 (F := Ideal) x0 x1 x2 x3 x4 x5 (ix5 b q h e j)
      = val_main_v33 (F := Ideal) x0 x1 x2 x3 (ix5 b q h e j) * x4 (ix2 q j) + val_main_v61 (F := Ideal) x0 x1 x2 x3 (ix5 b q h e j) * x5 (ix2 q j) := by
  rw [val_main_v68_apply, val_main_v64_apply, val_main_v67_apply, val_main_v63_apply, val_main_v62_apply, val_main_v66_apply, val_main_v65_apply]
  refine congrArg₂ (fun s t : EReal => val_main_v33 (F := Ideal) x0 x1 x2 x3 (ix5 b q h e j) * s + val_main_v61 (F := Ideal) x0 x1 x2 x3 (ix5 b q h e j) * t) ?_ ?_
  · exact congrArg x4 (eta2 _ q j rfl rfl)
  · exact congrArg x5 (eta2 _ q j rfl rfl)

/-- The keys flattened, at an entry. -/
theorem v69_apply (b : Fin 2) (q : Fin 4096) (h : Fin 4) (e : Fin 2) (j : Fin 64) :
    val_main_v69 (F := Ideal) x0 x1 x2 x3 x4 x5 (ix2 ⟨b.val * 4096 + q.val, by omega⟩ ⟨h.val * 128 + e.val * 64 + j.val, by omega⟩) = val_main_v68 (F := Ideal) x0 x1 x2 x3 x4 x5 (ix5 b q h e j) := by
  unfold val_main_v69
  generalize val_main_v68 (F := Ideal) x0 x1 x2 x3 x4 x5 = y
  pointwise []

/-- The keys are the projection's lanes, turned. -/
theorem v69_turned (b : Fin 2) (q : Fin 4096) (l : Fin 512) :
    val_main_v69 (F := Ideal) x0 x1 x2 x3 x4 x5 (ix2 ⟨b.val * 4096 + q.val, by omega⟩ l)
      = turned (early fun d => val_main_v29 (F := Ideal) x0 x1 x2 x3 (ix3 b q d)) (fun j => x4 (ix2 q j)) (fun j => x5 (ix2 q j)) ⟨512 + l.val, by omega⟩ := by
  obtain ⟨h, e, j, rfl⟩ : ∃ (h : Fin 4) (e : Fin 2) (j : Fin 64), l = ⟨h.val * 128 + e.val * 64 + j.val, by omega⟩ :=
    ⟨⟨l.val / 128, by omega⟩, ⟨l.val / 64 % 2, by omega⟩, ⟨l.val % 64, by omega⟩, Fin.ext (by show l.val = l.val / 128 * 128 + l.val / 64 % 2 * 64 + l.val % 64; omega)⟩
  rw [v69_apply, v68_apply, v33_apply]
  unfold turned early
  have hj : (⟨(512 + (h.val * 128 + e.val * 64 + j.val)) % 64, by omega⟩ : Fin 64) = j := Fin.ext (by show (512 + (h.val * 128 + e.val * 64 + j.val)) % 64 = j.val; omega)
  refine congrArg₂ (· + ·) (congrArg₂ (· * ·) rfl (congrArg (fun j => x4 (ix2 q j)) hj.symm)) (congrArg₂ (· * ·) ?_ (congrArg (fun j => x5 (ix2 q j)) hj.symm))
  by_cases hl : j.val % 32 < 16
  · rw [if_pos (by show (512 + (h.val * 128 + e.val * 64 + j.val)) % 32 < 16; omega)]
    clear hj
    obtain ⟨a, i, rfl⟩ : ∃ (a : Fin 2) (i : Fin 16), j = ⟨a.val * 32 + i.val, low a i⟩ :=
      ⟨⟨j.val / 32, by omega⟩, ⟨j.val % 32, hl⟩, Fin.ext (by show j.val = j.val / 32 * 32 + j.val % 32; omega)⟩
    rw [v61_zero, v33_apply]
    refine congrArg (fun d => -val_main_v29 (F := Ideal) x0 x1 x2 x3 (ix3 b q d)) (Fin.ext ?_)
    unfold partner
    rw [if_pos (by show (512 + (h.val * 128 + e.val * 64 + (a.val * 32 + i.val))) % 32 < 16; omega)]
    show 512 + (h.val * 128 + e.val * 64 + (a.val * 32 + 16 + i.val)) = (512 + (h.val * 128 + e.val * 64 + (a.val * 32 + i.val)) + 16) % 1024
    omega
  · rw [if_neg (by show ¬ (512 + (h.val * 128 + e.val * 64 + j.val)) % 32 < 16; omega)]
    clear hj
    obtain ⟨a, i, rfl⟩ : ∃ (a : Fin 2) (i : Fin 16), j = ⟨a.val * 32 + 16 + i.val, high a i⟩ :=
      ⟨⟨j.val / 32, by omega⟩, ⟨j.val % 32 - 16, by omega⟩, Fin.ext (by show j.val = j.val / 32 * 32 + 16 + (j.val % 32 - 16); omega)⟩
    rw [v61_one, v33_apply]
    refine congrArg (fun d => val_main_v29 (F := Ideal) x0 x1 x2 x3 (ix3 b q d)) (Fin.ext ?_)
    unfold partner
    rw [if_neg (by show ¬ (512 + (h.val * 128 + e.val * 64 + (a.val * 32 + 16 + i.val))) % 32 < 16; omega)]
    show 512 + (h.val * 128 + e.val * 64 + (a.val * 32 + i.val)) = (512 + (h.val * 128 + e.val * 64 + (a.val * 32 + 16 + i.val)) + 1008) % 1024
    omega

/-- The values flattened, at an entry. -/
theorem v71_apply (b : Fin 2) (q : Fin 4096) (l : Fin 512) :
    val_main_v71 (F := Ideal) x0 x1 x2 x3 (ix2 ⟨b.val * 4096 + q.val, by omega⟩ l) = val_main_v29 (F := Ideal) x0 x1 x2 x3 (ix3 b q ⟨1024 + l.val, by omega⟩) := by
  unfold val_main_v71 val_main_v70
  generalize val_main_v29 (F := Ideal) x0 x1 x2 x3 = y
  pointwise []

/-- The lanes to be mixed, at an entry. -/
theorem v75_apply (b : Fin 2) (q : Fin 4096) (l : Fin 512) :
    val_main_v75 (F := Ideal) x0 x1 x2 x3 (ix2 ⟨b.val * 4096 + q.val, by omega⟩ l) = val_main_v29 (F := Ideal) x0 x1 x2 x3 (ix3 b q ⟨1536 + l.val, by omega⟩) := by
  unfold val_main_v75 val_main_v74
  generalize val_main_v29 (F := Ideal) x0 x1 x2 x3 = y
  pointwise []

/-- Queries, keys and values side by side, at an entry. -/
theorem v73_apply (R : Fin 8192) (l : Fin 1536) :
    val_main_v73 (F := Ideal) x0 x1 x2 x3 x4 x5 (ix2 R l)
      = if h : l.val < 512 then val_main_v51 (F := Ideal) x0 x1 x2 x3 x4 x5 (ix2 R ⟨l.val, h⟩)
        else if h : l.val - 512 < 512 then val_main_v69 (F := Ideal) x0 x1 x2 x3 x4 x5 (ix2 R ⟨l.val - 512, h⟩) else val_main_v71 (F := Ideal) x0 x1 x2 x3 (ix2 R ⟨l.val - 512 - 512, by omega⟩) := by
  unfold val_main_v73 val_main_v72
  generalize val_main_v51 (F := Ideal) x0 x1 x2 x3 x4 x5 = y
  generalize val_main_v69 (F := Ideal) x0 x1 x2 x3 x4 x5 = z
  generalize val_main_v71 (F := Ideal) x0 x1 x2 x3 = w
  pointwise []

end Cert.Inp.Ref
end
-- ==== Proof.Inp.Claim.lean ====
/- The claims of the input projection: the reference's frame, and the two results set side by side. -/
module

public import proofs.«01_k».proof.Defs
public import proofs.«01_k».proof.Proof.Gen.Kernel5.Frame
public import proofs.«01_k».proof.Proof.Gen.Reference5Ideal.Run
public import proofs.«01_k».proof.Proof.Inp.Point
public import proofs.«01_k».proof.Proof.Inp.Ref
public import Idealize.ShloMosaic.Adequacy
public import Idealize.ShloMosaic.Init

@[expose] public section

set_option maxRecDepth 16384

noncomputable section

open Idealize.ShloMosaic Idealize.ShloMosaic.TcCoe Idealize.SL.Sem

namespace Cert.Inp

/-- The reference terminates, keeps its arguments, and leaves its counters at zero. -/
theorem refFrame : Cert.quiescent_Reference5Ideal (hReference5Ideal := Cert.Reference5Ideal.Gen.facts) := fun m ρ _ =>
  (θ_run (Cert.Reference5Ideal.defs (F := Ideal)) _ _).mono (fun r h => ⟨fun c => (h c).2.2, sem_eq_zero_of_no_sems (by decide) r.2⟩)
    (Cert.Reference5Ideal.Value.run m ρ)

section
open Cert.Kernel5Ideal Cert.Kernel5Ideal.Gen

/-- The kernel's queries, keys and values are the reference's. -/
theorem lanes_eq (m : (ℓ : Loc nD τ sig) → Buf (Elt Ideal) ℓ) (c : Dev nD) :
    ((dats m 0 c).arrAt 7 cfg0.N : Vec Ideal S8192x1536 .bf16) = Cert.Reference5Ideal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext j
  rw [← ix2_eta j]
  generalize hl : j 0 = l
  generalize hd : j 1 = d
  clear hl hd
  change Fin 8192 at l
  change Fin 1536 at d
  obtain ⟨b, q, rfl⟩ : ∃ (b : Fin 2) (q : Fin 4096), l = ⟨b.val * 4096 + q.val, by have := b.isLt; have := q.isLt; omega⟩ :=
    ⟨⟨l.val / 4096, by have := l.isLt; omega⟩, ⟨l.val % 4096, by omega⟩, Fin.ext (show l.val = l.val / 4096 * 4096 + l.val % 4096 by omega)⟩
  refine (final7 m c b q d).trans ?_
  have hP : (fun d => Cert.Reference5Ideal.Read.val_main_v29 (F := Ideal) (m ((c : Thread nD τ).loc main_arg0)) (m ((c : Thread nD τ).loc main_arg1)) (m ((c : Thread nD τ).loc main_arg2)) (m ((c : Thread nD τ).loc main_arg3)) (ix3 b q d)) = projArg m c b q := funext fun d => Ref.v29_apply _ _ _ _ b q d
  refine Eq.trans ?_ (Ref.v73_apply _ _ _ _ _ _ _ d).symm
  unfold lanesOf
  split
  · split
    · exact ((Ref.v51_turned _ _ _ _ _ _ b q _).trans (by rw [hP])).symm
    · rename_i h1 h2
      rw [dif_pos (by omega)]
      refine ((Ref.v69_turned _ _ _ _ _ _ b q _).trans (by rw [hP]; exact congrArg _ (Fin.ext (by show 512 + (d.val - 512) = d.val; omega)))).symm
  · rename_i h1
    rw [dif_neg (by omega), dif_neg (by omega)]
    exact ((Ref.v71_apply _ _ _ _ b q _).trans ((congrFun hP _).trans (congrArg _ (Fin.ext (by show 1024 + (d.val - 512 - 512) = d.val; omega))))).symm

/-- The kernel's lanes to be mixed are the reference's. -/
theorem mixing_eq (m : (ℓ : Loc nD τ sig) → Buf (Elt Ideal) ℓ) (c : Dev nD) :
    ((dats m 0 c).arrAt 8 cfg0.N : Vec Ideal S8192x512 .f32) = Cert.Reference5Ideal.Read.val_main_v75 (F := Ideal) (m ((c : Thread nD τ).loc main_arg0)) (m ((c : Thread nD τ).loc main_arg1)) (m ((c : Thread nD τ).loc main_arg2)) (m ((c : Thread nD τ).loc main_arg3)) := by
  funext j
  rw [← ix2_eta j]
  generalize hl : j 0 = l
  generalize hd : j 1 = d
  clear hl hd
  change Fin 8192 at l
  change Fin 512 at d
  obtain ⟨b, q, rfl⟩ : ∃ (b : Fin 2) (q : Fin 4096), l = ⟨b.val * 4096 + q.val, by have := b.isLt; have := q.isLt; omega⟩ :=
    ⟨⟨l.val / 4096, by have := l.isLt; omega⟩, ⟨l.val % 4096, by omega⟩, Fin.ext (show l.val = l.val / 4096 * 4096 + l.val % 4096 by omega)⟩
  refine (final8 m c b q d).trans ?_
  have hP : (fun d => Cert.Reference5Ideal.Read.val_main_v29 (F := Ideal) (m ((c : Thread nD τ).loc main_arg0)) (m ((c : Thread nD τ).loc main_arg1)) (m ((c : Thread nD τ).loc main_arg2)) (m ((c : Thread nD τ).loc main_arg3)) (ix3 b q d)) = projArg m c b q := funext fun d => Ref.v29_apply _ _ _ _ b q d
  exact ((Ref.v75_apply _ _ _ _ b q d).trans (congrFun hP _)).symm

end

/-- The kernel and the reference end with equal results. -/
theorem algebraic : Cert.algebraic_Kernel5Ideal_Reference5Ideal := by
  intro m g m' g' _ hm
  refine ⟨fun c => (Cert.Kernel5Ideal.Gen.dats m 0 c).arrAt 7 Cert.Kernel5Ideal.cfg0.N, fun c => (Cert.Kernel5Ideal.Gen.dats m 0 c).arrAt 8 Cert.Kernel5Ideal.cfg0.N, Cert.Kernel5Ideal.Value.run_blocks m g, ?_⟩
  refine (θ_run (Cert.Reference5Ideal.defs (F := Ideal)) _ _).mono (fun r h c => ⟨(h c).1.trans ?_, (h c).2.1.trans ?_, (h c).2.2⟩) (Cert.Reference5Ideal.Value.run m' g')
  · obtain ⟨e0, e1, e2, e3, e4, e5⟩ := hm c
    rw [Cert.Reference5Ideal.Read.val_main_v73_eq, e0, e1, e2, e3, e4, e5]
    exact (lanes_eq m c).symm
  · obtain ⟨e0, e1, e2, e3, e4, e5⟩ := hm c
    rw [Cert.Reference5Ideal.Read.val_main_v75_eq, e0, e1, e2, e3]
    exact (mixing_eq m c).symm

end Cert.Inp

end
-- ==== Proof.Out.Read.lean ====
/- The output projection's arrays as its grid points read them, entry by entry. -/
module

public import proofs.«01_k».proof.Proof.Gen.Kernel6Ideal.Value
public import proofs.«01_k».proof.Proof.Out.Row
public import Idealize.ShloMosaic.Lib.Pipeline.Value
public import Idealize.ShloMosaic.Lib.Pipeline.ValueKit.Tiles
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.Out

open Cert.Kernel6Ideal Cert.Kernel6Ideal.Gen

/-! ## The block indices at a grid point -/

/-- Window 0's block index. -/
theorem index0 : ∀ t : Fin cfg0.N, win0_0.index t 0 = t.val ∧ win0_0.index t 1 = 0 := (by decide +kernel : ∀ t : Fin grid0.N, win0_0.index t 0 = t.val ∧ win0_0.index t 1 = 0)
/-- Window 1's block index. -/
theorem index1 : ∀ t : Fin cfg0.N, win0_1.index t 0 = t.val ∧ win0_1.index t 1 = 0 := (by decide +kernel : ∀ t : Fin grid0.N, win0_1.index t 0 = t.val ∧ win0_1.index t 1 = 0)
/-- Window 2's block index. -/
theorem index2 : ∀ t : Fin cfg0.N, win0_2.index t 0 = t.val ∧ win0_2.index t 1 = 0 := (by decide +kernel : ∀ t : Fin grid0.N, win0_2.index t 0 = t.val ∧ win0_2.index t 1 = 0)
/-- Window 9's block index. -/
theorem index9 : ∀ t : Fin cfg0.N, win0_9.index t 0 = t.val ∧ win0_9.index t 1 = 0 := (by decide +kernel : ∀ t : Fin grid0.N, win0_9.index t 0 = t.val ∧ win0_9.index t 1 = 0)
/-- Window 10's block index. -/
theorem index10 : ∀ t : Fin cfg0.N, win0_10.index t 0 = t.val ∧ win0_10.index t 1 = 0 := (by decide +kernel : ∀ t : Fin grid0.N, win0_10.index t 0 = t.val ∧ win0_10.index t 1 = 0)
/-- Window 6's block index. -/
theorem index6 : ∀ t : Fin cfg0.N, win0_6.index t 0 = 0 ∧ win0_6.index t 1 = 0 := (by decide +kernel : ∀ t : Fin grid0.N, win0_6.index t 0 = 0 ∧ win0_6.index t 1 = 0)
/-- Window 7's block index. -/
theorem index7 : ∀ t : Fin cfg0.N, win0_7.index t 0 = 0 ∧ win0_7.index t 1 = 0 := (by decide +kernel : ∀ t : Fin grid0.N, win0_7.index t 0 = 0 ∧ win0_7.index t 1 = 0)
/-- Window 8's block index. -/
theorem index8 : ∀ t : Fin cfg0.N, win0_8.index t 0 = 0 ∧ win0_8.index t 1 = 0 := (by decide +kernel : ∀ t : Fin grid0.N, win0_8.index t 0 = 0 ∧ win0_8.index t 1 = 0)
/-- Window 3's block index. -/
theorem index3 : ∀ t : Fin cfg0.N, win0_3.index t 0 = 0 ∧ win0_3.index t 1 = 0 ∧ win0_3.index t 2 = 2 := (by decide +kernel : ∀ t : Fin grid0.N, win0_3.index t 0 = 0 ∧ win0_3.index t 1 = 0 ∧ win0_3.index t 2 = 2)
/-- Window 4's block index. -/
theorem index4 : ∀ t : Fin cfg0.N, win0_4.index t 0 = 0 ∧ win0_4.index t 1 = 0 ∧ win0_4.index t 2 = 3 := (by decide +kernel : ∀ t : Fin grid0.N, win0_4.index t 0 = 0 ∧ win0_4.index t 1 = 0 ∧ win0_4.index t 2 = 3)
/-- Window 5's block index. -/
theorem index5 : ∀ t : Fin cfg0.N, win0_5.index t 0 = 0 ∧ win0_5.index t 1 = 0 ∧ win0_5.index t 2 = 4 := (by decide +kernel : ∀ t : Fin grid0.N, win0_5.index t 0 = 0 ∧ win0_5.index t 1 = 0 ∧ win0_5.index t 2 = 4)
/-- The place of the group's row of modulations. -/
theorem off1 : ∀ t : Fin cfg0.N, k0_off1 (grid0.coords t) 0 = 0 ∧ k0_off1 (grid0.coords t) 1 = 1 + t.val / 4 ∧ k0_off1 (grid0.coords t) 2 = 0 := (by decide +kernel : ∀ t : Fin grid0.N, k0_off1 (grid0.coords t) 0 = 0 ∧ k0_off1 (grid0.coords t) 1 = 1 + t.val / 4 ∧ k0_off1 (grid0.coords t) 2 = 0)

/-! ## A block of an array, read at an entry -/

/-- Window 0's block at an entry. -/
theorem read0 (X : S8192x512.Idx → Elt Ideal .bf16) (t : Fin cfg0.N) (r : Fin 1024) (d : Fin 512) :
    (((cfg0.win 0).blk t).view.read (Elt Ideal) X : Vec Ideal S1024x512 .bf16) (ix2 r d) = X (ix2 ⟨t.val * 1024 + r.val, by have := Nat.lt_of_lt_of_eq t.isLt N_0; omega⟩ d) := by
  rw [View.read_apply]
  show X _ = X _
  refine congrArg X ?_
  funext a
  apply Fin.ext
  match a with
  | ⟨0, _⟩ => show win0_0.index t 0 * 1024 + 1 * r.val = t.val * 1024 + r.val; rw [(index0 t).1]; omega
  | ⟨1, _⟩ => show win0_0.index t 1 * 512 + 1 * d.val = d.val; rw [(index0 t).2]; omega

/-- Window 1's block at an entry. -/
theorem read1 (X : S8192x512.Idx → Elt Ideal .f32) (t : Fin cfg0.N) (r : Fin 1024) (d : Fin 512) :
    (((cfg0.win 1).blk t).view.read (Elt Ideal) X : Vec Ideal S1024x512 .f32) (ix2 r d) = X (ix2 ⟨t.val * 1024 + r.val, by have := Nat.lt_of_lt_of_eq t.isLt N_0; omega⟩ d) := by
  rw [View.read_apply]
  show X _ = X _
  refine congrArg X ?_
  funext a
  apply Fin.ext
  match a with
  | ⟨0, _⟩ => show win0_1.index t 0 * 1024 + 1 * r.val = t.val * 1024 + r.val; rw [(index1 t).1]; omega
  | ⟨1, _⟩ => show win0_1.index t 1 * 512 + 1 * d.val = d.val; rw [(index1 t).2]; omega

/-- Window 2's block at an entry. -/
theorem read2 (X : S8192x1024.Idx → Elt Ideal .f32) (t : Fin cfg0.N) (r : Fin 1024) (d : Fin 1024) :
    (((cfg0.win 2).blk t).view.read (Elt Ideal) X : Vec Ideal S1024x1024 .f32) (ix2 r d) = X (ix2 ⟨t.val * 1024 + r.val, by have := Nat.lt_of_lt_of_eq t.isLt N_0; omega⟩ d) := by
  rw [View.read_apply]
  show X _ = X _
  refine congrArg X ?_
  funext a
  apply Fin.ext
  match a with
  | ⟨0, _⟩ => show win0_2.index t 0 * 1024 + 1 * r.val = t.val * 1024 + r.val; rw [(index2 t).1]; omega
  | ⟨1, _⟩ => show win0_2.index t 1 * 1024 + 1 * d.val = d.val; rw [(index2 t).2]; omega

/-- Window 9's block at an entry. -/
theorem read9 (X : S8192x1024.Idx → Elt Ideal .f32) (t : Fin cfg0.N) (r : Fin 1024) (d : Fin 1024) :
    (((cfg0.win 9).blk t).view.read (Elt Ideal) X : Vec Ideal S1024x1024 .f32) (ix2 r d) = X (ix2 ⟨t.val * 1024 + r.val, by have := Nat.lt_of_lt_of_eq t.isLt N_0; omega⟩ d) := by
  rw [View.read_apply]
  show X _ = X _
  refine congrArg X ?_
  funext a
  apply Fin.ext
  match a with
  | ⟨0, _⟩ => show win0_9.index t 0 * 1024 + 1 * r.val = t.val * 1024 + r.val; rw [(index9 t).1]; omega
  | ⟨1, _⟩ => show win0_9.index t 1 * 1024 + 1 * d.val = d.val; rw [(index9 t).2]; omega

/-- Window 10's block at an entry. -/
theorem read10 (X : S8192x1024.Idx → Elt Ideal .bf16) (t : Fin cfg0.N) (r : Fin 1024) (d : Fin 1024) :
    (((cfg0.win 10).blk t).view.read (Elt Ideal) X : Vec Ideal S1024x1024 .bf16) (ix2 r d) = X (ix2 ⟨t.val * 1024 + r.val, by have := Nat.lt_of_lt_of_eq t.isLt N_0; omega⟩ d) := by
  rw [View.read_apply]
  show X _ = X _
  refine congrArg X ?_
  funext a
  apply Fin.ext
  match a with
  | ⟨0, _⟩ => show win0_10.index t 0 * 1024 + 1 * r.val = t.val * 1024 + r.val; rw [(index10 t).1]; omega
  | ⟨1, _⟩ => show win0_10.index t 1 * 1024 + 1 * d.val = d.val; rw [(index10 t).2]; omega

/-- Window 6's block at an entry. -/
theorem read6 (X : S1x1024.Idx → Elt Ideal .f32) (t : Fin cfg0.N) (r : Fin 1) (d : Fin 1024) :
    (((cfg0.win 6).blk t).view.read (Elt Ideal) X : Vec Ideal S1x1024 .f32) (ix2 r d) = X (ix2 r d) := by
  rw [View.read_apply]
  show X _ = X _
  refine congrArg X ?_
  funext a
  apply Fin.ext
  match a with
  | ⟨0, _⟩ => show win0_6.index t 0 * 1 + 1 * r.val = r.val; rw [(index6 t).1]; omega
  | ⟨1, _⟩ => show win0_6.index t 1 * 1024 + 1 * d.val = d.val; rw [(index6 t).2]; omega

/-- Window 7's block at an entry. -/
theorem read7 (X : S1x1024.Idx → Elt Ideal .f32) (t : Fin cfg0.N) (r : Fin 1) (d : Fin 1024) :
    (((cfg0.win 7).blk t).view.read (Elt Ideal) X : Vec Ideal S1x1024 .f32) (ix2 r d) = X (ix2 r d) := by
  rw [View.read_apply]
  show X _ = X _
  refine congrArg X ?_
  funext a
  apply Fin.ext
  match a with
  | ⟨0, _⟩ => show win0_7.index t 0 * 1 + 1 * r.val = r.val; rw [(index7 t).1]; omega
  | ⟨1, _⟩ => show win0_7.index t 1 * 1024 + 1 * d.val = d.val; rw [(index7 t).2]; omega

/-- Window 8's block at an entry. -/
theorem read8 (X : S1024x1024.Idx → Elt Ideal .bf16) (t : Fin cfg0.N) (r : Fin 1024) (d : Fin 1024) :
    (((cfg0.win 8).blk t).view.read (Elt Ideal) X : Vec Ideal S1024x1024 .bf16) (ix2 r d) = X (ix2 r d) := by
  rw [View.read_apply]
  show X _ = X _
  refine congrArg X ?_
  funext a
  apply Fin.ext
  match a with
  | ⟨0, _⟩ => show win0_8.index t 0 * 1024 + 1 * r.val = r.val; rw [(index8 t).1]; omega
  | ⟨1, _⟩ => show win0_8.index t 1 * 1024 + 1 * d.val = d.val; rw [(index8 t).2]; omega

/-- Window 3's block at an entry: a sixth of the first layer's modulations. -/
theorem read3 (X : S2x8x6144.Idx → Elt Ideal .f32) (t : Fin cfg0.N) (r : Fin 8) (d : Fin 1024) :
    (((cfg0.win 3).blk t).view.read (Elt Ideal) X : Vec Ideal S1x8x1024 .f32) (ix3 0 r d) = X (ix3 0 r ⟨2048 + d.val, by omega⟩) := by
  rw [View.read_apply]
  show X _ = X _
  refine congrArg X ?_
  funext a
  apply Fin.ext
  match a with
  | ⟨0, _⟩ => show win0_3.index t 0 * 1 + 1 * 0 = 0; rw [(index3 t).1]
  | ⟨1, _⟩ => show win0_3.index t 1 * 8 + 1 * r.val = r.val; rw [(index3 t).2.1]; omega
  | ⟨2, _⟩ => show win0_3.index t 2 * 1024 + 1 * d.val = 2048 + d.val; rw [(index3 t).2.2]; omega

/-- Window 4's block at an entry: a sixth of the first layer's modulations. -/
theorem read4 (X : S2x8x6144.Idx → Elt Ideal .f32) (t : Fin cfg0.N) (r : Fin 8) (d : Fin 1024) :
    (((cfg0.win 4).blk t).view.read (Elt Ideal) X : Vec Ideal S1x8x1024 .f32) (ix3 0 r d) = X (ix3 0 r ⟨3072 + d.val, by omega⟩) := by
  rw [View.read_apply]
  show X _ = X _
  refine congrArg X ?_
  funext a
  apply Fin.ext
  match a with
  | ⟨0, _⟩ => show win0_4.index t 0 * 1 + 1 * 0 = 0; rw [(index4 t).1]
  | ⟨1, _⟩ => show win0_4.index t 1 * 8 + 1 * r.val = r.val; rw [(index4 t).2.1]; omega
  | ⟨2, _⟩ => show win0_4.index t 2 * 1024 + 1 * d.val = 3072 + d.val; rw [(index4 t).2.2]; omega

/-- Window 5's block at an entry: a sixth of the first layer's modulations. -/
theorem read5 (X : S2x8x6144.Idx → Elt Ideal .f32) (t : Fin cfg0.N) (r : Fin 8) (d : Fin 1024) :
    (((cfg0.win 5).blk t).view.read (Elt Ideal) X : Vec Ideal S1x8x1024 .f32) (ix3 0 r d) = X (ix3 0 r ⟨4096 + d.val, by omega⟩) := by
  rw [View.read_apply]
  show X _ = X _
  refine congrArg X ?_
  funext a
  apply Fin.ext
  match a with
  | ⟨0, _⟩ => show win0_5.index t 0 * 1 + 1 * 0 = 0; rw [(index5 t).1]
  | ⟨1, _⟩ => show win0_5.index t 1 * 8 + 1 * r.val = r.val; rw [(index5 t).2.1]; omega
  | ⟨2, _⟩ => show win0_5.index t 2 * 1024 + 1 * d.val = 4096 + d.val; rw [(index5 t).2.2]; omega

/-! ## What the region finds in its arrays -/

variable (m : (ℓ : Loc nD τ sig) → Buf (Elt Ideal) ℓ) (c : Dev nD)

/-- The attention's rows, flattened and narrowed. -/
def heads (x : FVec Ideal S2x4096x512 .f32) : FVec Ideal S8192x512 .bf16 := truncf .bf16 (shapeCast S8192x512 x shapeCasts_S2x4096x512_S8192x512) bitsLt_bf16_f32
/-- The mixed lanes' rows, flattened. -/
def lanes (x : FVec Ideal S2x4096x512 .f32) : FVec Ideal S8192x512 .f32 := shapeCast S8192x512 x shapeCasts_S2x4096x512_S8192x512
/-- The stream's rows, flattened. -/
def rows (x : FVec Ideal S2x4096x1024 .f32) : FVec Ideal S8192x1024 .f32 := shapeCast S8192x1024 x shapeCasts_S2x4096x1024_S8192x1024
/-- The first layer's gains, as a row. -/
def gains (x : FVec Ideal S2x1024 .f32) : FVec Ideal S1x1024 .f32 :=
  shapeCast S1x1024 (shapeCast S1024 (extractStridedSlice S1x1024 ![0, 0] x slices_S2x1024_S1x1024_0_0) shapeCasts_S1x1024_S1024) shapeCasts_S1024_S1x1024
/-- The first layer's weights, narrowed. -/
def weights (x : FVec Ideal S2x1024x1024 .f32) : FVec Ideal S1024x1024 .bf16 :=
  truncf .bf16 (shapeCast S1024x1024 (extractStridedSlice S1x1024x1024 ![0, 0, 0] x slices_S2x1024x1024_S1x1024x1024_0_0_0) shapeCasts_S1x1024x1024_S1024x1024) bitsLt_bf16_f32

/-- The attention's rows, as the region finds them. -/
theorem V_v1 : V m c main_v1 = heads (m ((c : Thread nD τ).loc main_arg0)) := by
  show StableHlo.after hostOps0 _ (Proc.devRef .tc main_v1) = _
  after_results
  rfl
/-- The mixed lanes' rows, as the region finds them. -/
theorem V_v2 : V m c main_v2 = lanes (m ((c : Thread nD τ).loc main_arg1)) := by
  show StableHlo.after hostOps0 _ (Proc.devRef .tc main_v2) = _
  after_results
  rfl
/-- The stream's rows, as the region finds them. -/
theorem V_v3 : V m c main_v3 = rows (m ((c : Thread nD τ).loc main_arg2)) := by
  show StableHlo.after hostOps0 _ (Proc.devRef .tc main_v3) = _
  after_results
  rfl
/-- The gains of the closing normalisation, as the region finds them. -/
theorem V_v11 : V m c main_v11 = gains (m ((c : Thread nD τ).loc main_arg4)) := by
  show StableHlo.after hostOps0 _ (Proc.devRef .tc main_v11) = _
  after_results
  rfl
/-- The gains of the opening normalisation, as the region finds them. -/
theorem V_v12 : V m c main_v12 = gains (m ((c : Thread nD τ).loc main_arg5)) := by
  show StableHlo.after hostOps0 _ (Proc.devRef .tc main_v12) = _
  after_results
  rfl
/-- The weights, as the region finds them. -/
theorem V_v10 : V m c main_v10 = weights (m ((c : Thread nD τ).loc main_arg6)) := by
  show StableHlo.after hostOps0 _ (Proc.devRef .tc main_v10) = _
  after_results
  rfl
/-- The modulations, as the region finds them. -/
theorem V_arg3 : V m c main_arg3 = m ((c : Thread nD τ).loc main_arg3) := by
  show StableHlo.after hostOps0 _ (Proc.devRef .tc main_arg3) = _
  after_results

/-- The attention's rows at a row of a batch. -/
theorem heads_apply (x : FVec Ideal S2x4096x512 .f32) (b : Fin 2) (q : Fin 4096) (k : Fin 512) : heads x (ix2 ⟨b.val * 4096 + q.val, by omega⟩ k) = x (ix3 b q k) := by
  pointwise [heads]
/-- The mixed lanes at a row of a batch. -/
theorem lanes_apply (x : FVec Ideal S2x4096x512 .f32) (b : Fin 2) (q : Fin 4096) (k : Fin 512) : lanes x (ix2 ⟨b.val * 4096 + q.val, by omega⟩ k) = x (ix3 b q k) := by
  pointwise [lanes]
/-- The stream at a row of a batch. -/
theorem rows_apply (x : FVec Ideal S2x4096x1024 .f32) (b : Fin 2) (q : Fin 4096) (k : Fin 1024) : rows x (ix2 ⟨b.val * 4096 + q.val, by omega⟩ k) = x (ix3 b q k) := by
  pointwise [rows]
/-- The first layer's gains at a lane. -/
theorem gains_apply (x : FVec Ideal S2x1024 .f32) (d : Fin 1024) : gains x (ix2 0 d) = x (ix2 0 d) := by
  pointwise [gains]
/-- The first layer's weights at an entry. -/
theorem weights_apply (x : FVec Ideal S2x1024x1024 .f32) (k d : Fin 1024) : weights x (ix2 k d) = x (ix3 0 k d) := by
  pointwise [weights]

end Cert.Out
end
-- ==== Proof.Out.Pay.lean ====
/- What a grid point of the output projection stores, entry by entry. -/
module

public import proofs.«01_k».proof.Proof.Out.Read

@[expose] public section

set_option maxRecDepth 16384

noncomputable section

open Idealize.ShloMosaic Idealize.ShloMosaic.TcCoe Idealize.SL.Sem

namespace Cert.Out

open Cert.Kernel6Ideal Cert.Kernel6Ideal.Gen

/-- The projection of a half of a block, at an entry. -/
theorem pay11_apply (a : Vec Ideal S512x512 .bf16) (f : Vec Ideal S512x512 .f32) (w : Vec Ideal S1024x1024 .bf16) (r : Fin 512) (d : Fin 1024) :
    k0_pay11 (F := Ideal) a f w (ix2 r d) = projected (fun k => a (ix2 r k)) (fun k => f (ix2 r k)) (fun k d => w (ix2 k d)) d := by
  pointwise [k0_pay11, projected, joined]

/-- A half's rows of the stream, at an entry. -/
theorem pay1_apply (gt : FVec Ideal S1x1024 .f32) (y x : FVec Ideal S512x1024 .f32) (g : Vec Ideal S1x1024 .f32) (r : Fin 512) (d : Fin 1024) :
    k0_pay1 (F := Ideal) gt y x g (ix2 r d) = Cert.Ffn.added (fun d => x (ix2 r d)) (fun d => gt (ix2 0 d)) (fun d => y (ix2 r d)) (fun d => g (ix2 0 d)) d := by
  pointwise [k0_pay1, Cert.Ffn.added]

/-- A half's rows for the feed-forward, at an entry. -/
theorem pay2_apply (gt sh sc : FVec Ideal S1x1024 .f32) (y x : FVec Ideal S512x1024 .f32) (g g' : Vec Ideal S1x1024 .f32) (r : Fin 512) (d : Fin 1024) :
    k0_pay2 (F := Ideal) gt sh sc y x g g' (ix2 r d)
      = modulated (fun d => k0_pay1 (F := Ideal) gt y x g (ix2 r d)) (fun d => g' (ix2 0 d)) (fun d => sc (ix2 0 d)) (fun d => sh (ix2 0 d)) d := by
  unfold k0_pay2
  generalize k0_pay1 (F := Ideal) gt y x g = z
  pointwise [modulated]

/-- The first half's rows of the stream are computed as the second half's. -/
theorem pay9_eq (a : Vec Ideal S512x512 .bf16) (f : Vec Ideal S512x512 .f32) (w : Vec Ideal S1024x1024 .bf16) (x : Vec Ideal S512x1024 .f32) (g : Vec Ideal S1x1024 .f32) (gt : Vec Ideal S1x1x1024 .f32) :
    k0_pay9 (F := Ideal) (k0_pay6 x) (k0_pay7 a f w g) (k0_pay8 gt) = k0_pay1 (k0_pay3 gt) (k0_pay11 a f w) (k0_pay12 x) g := rfl

/-- The first half's rows for the feed-forward are computed as the second half's. -/
theorem pay10_eq (a : Vec Ideal S512x512 .bf16) (f : Vec Ideal S512x512 .f32) (w : Vec Ideal S1024x1024 .bf16) (x : Vec Ideal S512x1024 .f32) (g g' : Vec Ideal S1x1024 .f32) (gt : Vec Ideal S1x1x1024 .f32) (sh sc : FVec Ideal S1x1024 .f32) :
    k0_pay10 (F := Ideal) sh sc (k0_pay6 x) (k0_pay7 a f w g) (k0_pay8 gt) g' = k0_pay2 (k0_pay3 gt) sh sc (k0_pay11 a f w) (k0_pay12 x) g g' := rfl

/-- A group's row of gains. -/
theorem pay3_apply (x : Vec Ideal S1x1x1024 .f32) (d : Fin 1024) : k0_pay3 (F := Ideal) x (ix2 0 d) = x (ix3 0 0 d) := by
  pointwise [k0_pay3]
/-- A group's row of shifts. -/
theorem pay4_apply (x : Vec Ideal S1x1x1024 .f32) (d : Fin 1024) : k0_pay4 (F := Ideal) x (ix2 0 d) = x (ix3 0 0 d) := by
  pointwise [k0_pay4]
/-- A group's row of scales. -/
theorem pay5_apply (x : Vec Ideal S1x1x1024 .f32) (d : Fin 1024) : k0_pay5 (F := Ideal) x (ix2 0 d) = x (ix3 0 0 d) := by
  pointwise [k0_pay5]
/-- A half's rows of the stream, as loaded. -/
theorem pay12_apply (x : Vec Ideal S512x1024 .f32) (r : Fin 512) (d : Fin 1024) : k0_pay12 (F := Ideal) x (ix2 r d) = x (ix2 r d) := by
  pointwise [k0_pay12]

end Cert.Out
end
-- ==== Proof.Out.Point.lean ====
/- The output projection's grid points: the two blocks of rows each leaves, and the two arrays they make. -/
module

public import proofs.«01_k».proof.Proof.Out.Pay

@[expose] public section

set_option maxRecDepth 16384

noncomputable section

open Idealize.ShloMosaic Idealize.ShloMosaic.TcCoe Idealize.SL.Sem

namespace Cert.Out

open Cert.Kernel6Ideal Cert.Kernel6Ideal.Gen

/-- The place of a window's only block is the origin. -/
theorem hz2 : (![0, 0] : Fin 2 → Nat) = fun _ => 0 := funext fun a => by fin_cases a <;> rfl

section
variable (x0 : Vec Ideal S1024x512 .bf16) (x1 : Vec Ideal S1024x512 .f32) (x2 : Vec Ideal S1024x1024 .f32) (x3 : Vec Ideal S1x8x1024 .f32) (x4 : Vec Ideal S1x8x1024 .f32) (x5 : Vec Ideal S1x8x1024 .f32) (x6 : Vec Ideal S1x1024 .f32) (x7 : Vec Ideal S1x1024 .f32) (x8 : Vec Ideal S1024x1024 .bf16)

/-- A row of the stream, from a point's blocks and the group's modulations. -/
def streamOf (gt : Fin 1024 → EReal) (r : Fin 1024) : Fin 1024 → EReal :=
  stream (fun k => x0 (ix2 r k)) (fun k => x1 (ix2 r k)) (fun d => x2 (ix2 r d)) gt (fun d => x6 (ix2 0 d)) (fun k d => x8 (ix2 k d))

/-- A row for the feed-forward, from a point's blocks and the group's modulations. -/
def fedOf (gt sh sc : Fin 1024 → EReal) (r : Fin 1024) : Fin 1024 → EReal :=
  modulated (streamOf x0 x1 x2 x6 x8 gt r) (fun d => x7 (ix2 0 d)) sc sh

/-- The two halves cover a block of the stream. -/
theorem halves32 (p q : Vec Ideal S512x1024 .f32) (y : S1024x1024.Idx) :
    ∃ pc ∈ ([⟨Rect.unit (s := S1024x1024) ![512, 0] S512x1024.size inb_S1024x1024_S512x1024_512_0, p⟩, ⟨Rect.unit (s := S1024x1024) ![0, 0] S512x1024.size inb_S1024x1024_S512x1024_0_0, q⟩] : List (View.Piece (Elt Ideal) S1024x1024 .f32)), y ∈ pc.1.set :=
  View.cover_of_tiled (s := S1024x1024) _ S512x1024.size (by rfl) y
/-- The two halves cover a block for the feed-forward. -/
theorem halves16 (p q : Vec Ideal S512x1024 .bf16) (y : S1024x1024.Idx) :
    ∃ pc ∈ ([⟨Rect.unit (s := S1024x1024) ![512, 0] S512x1024.size inb_S1024x1024_S512x1024_512_0, p⟩, ⟨Rect.unit (s := S1024x1024) ![0, 0] S512x1024.size inb_S1024x1024_S512x1024_0_0, q⟩] : List (View.Piece (Elt Ideal) S1024x1024 .bf16)), y ∈ pc.1.set :=
  View.cover_of_tiled (s := S1024x1024) _ S512x1024.size (by rfl) y

/-- Two halves that hold an array's rows leave the array. -/
theorem canon32 (p q : Vec Ideal S512x1024 .f32) (E : Fin 1024 → Fin 1024 → EReal) (hp : ∀ (r : Fin 512) d, p (ix2 r d) = E ⟨512 + r.val, by omega⟩ d) (hq : ∀ (r : Fin 512) d, q (ix2 r d) = E ⟨r.val, by omega⟩ d) (r d : Fin 1024) :
    View.canon ([⟨Rect.unit (s := S1024x1024) ![512, 0] S512x1024.size inb_S1024x1024_S512x1024_512_0, p⟩, ⟨Rect.unit (s := S1024x1024) ![0, 0] S512x1024.size inb_S1024x1024_S512x1024_0_0, q⟩] : List (View.Piece (Elt Ideal) S1024x1024 .f32)) (ix2 r d) = E r d := by
  refine View.canon_apply_of_pieces (fun y => E (y 0) (y 1)) _ ?_ (ix2 r d) (halves32 p q _)
  intro pc hpc
  rcases List.mem_cons.mp hpc with rfl | hpc
  · intro j
    obtain ⟨a, b, rfl⟩ : ∃ (a : Fin 512) (b : Fin 1024), j = ix2 a b := ⟨j 0, j 1, (ix2_eta j).symm⟩
    refine (hp a b).trans (congrArg₂ E (Fin.ext ?_) (Fin.ext ?_))
    · show 512 + a.val = 512 + 1 * a.val; omega
    · show b.val = 0 + 1 * b.val; omega
  rcases List.mem_cons.mp hpc with rfl | hpc
  · intro j
    obtain ⟨a, b, rfl⟩ : ∃ (a : Fin 512) (b : Fin 1024), j = ix2 a b := ⟨j 0, j 1, (ix2_eta j).symm⟩
    refine (hq a b).trans (congrArg₂ E (Fin.ext ?_) (Fin.ext ?_))
    · show a.val = 0 + 1 * a.val; omega
    · show b.val = 0 + 1 * b.val; omega
  nomatch hpc

/-- Two halves that hold an array's rows leave the array, at the narrower format. -/
theorem canon16 (p q : Vec Ideal S512x1024 .bf16) (E : Fin 1024 → Fin 1024 → EReal) (hp : ∀ (r : Fin 512) d, p (ix2 r d) = E ⟨512 + r.val, by omega⟩ d) (hq : ∀ (r : Fin 512) d, q (ix2 r d) = E ⟨r.val, by omega⟩ d) (r d : Fin 1024) :
    View.canon ([⟨Rect.unit (s := S1024x1024) ![512, 0] S512x1024.size inb_S1024x1024_S512x1024_512_0, p⟩, ⟨Rect.unit (s := S1024x1024) ![0, 0] S512x1024.size inb_S1024x1024_S512x1024_0_0, q⟩] : List (View.Piece (Elt Ideal) S1024x1024 .bf16)) (ix2 r d) = E r d := by
  refine View.canon_apply_of_pieces (fun y => E (y 0) (y 1)) _ ?_ (ix2 r d) (halves16 p q _)
  intro pc hpc
  rcases List.mem_cons.mp hpc with rfl | hpc
  · intro j
    obtain ⟨a, b, rfl⟩ : ∃ (a : Fin 512) (b : Fin 1024), j = ix2 a b := ⟨j 0, j 1, (ix2_eta j).symm⟩
    refine (hp a b).trans (congrArg₂ E (Fin.ext ?_) (Fin.ext ?_))
    · show 512 + a.val = 512 + 1 * a.val; omega
    · show b.val = 0 + 1 * b.val; omega
  rcases List.mem_cons.mp hpc with rfl | hpc
  · intro j
    obtain ⟨a, b, rfl⟩ : ∃ (a : Fin 512) (b : Fin 1024), j = ix2 a b := ⟨j 0, j 1, (ix2_eta j).symm⟩
    refine (hq a b).trans (congrArg₂ E (Fin.ext ?_) (Fin.ext ?_))
    · show a.val = 0 + 1 * a.val; omega
    · show b.val = 0 + 1 * b.val; omega
  nomatch hpc

/-- Rows of the stream from equal parts are equal. -/
theorem stream_congr {a f a' f' : Fin 512 → EReal} {y gt g y' gt' g' : Fin 1024 → EReal} {w w' : Fin 1024 → Fin 1024 → EReal} (ha : ∀ k, a k = a' k) (hf : ∀ k, f k = f' k) (hy : ∀ d, y d = y' d)
    (hgt : ∀ d, gt d = gt' d) (hg : ∀ d, g d = g' d) (hw : ∀ k d, w k d = w' k d) : stream a f y gt g w = stream a' f' y' gt' g' w' := by
  rw [funext ha, funext hf, funext hy, funext hgt, funext hg, funext fun k => funext (hw k)]
/-- Modulated rows from equal parts are equal. -/
theorem modulated_congr {y g sc sh y' g' sc' sh' : Fin 1024 → EReal} (hy : y = y') (hg : ∀ d, g d = g' d) (hsc : ∀ d, sc d = sc' d) (hsh : ∀ d, sh d = sh' d) : modulated y g sc sh = modulated y' g' sc' sh' := by
  rw [hy, funext hg, funext hsc, funext hsh]

/-- The second half of a block of heads, as loaded. -/
theorem ld_heads1 (r k : Fin 512) : View.ld x0 (Rect.unit (s := S1024x512) ![512, 0] S512x512.size inb_S1024x512_S512x512_512_0) (ix2 r k) = x0 (ix2 ⟨512 + r.val, by omega⟩ k) :=
  View.ld_unit_apply_of _ _ _ _ _ _ fun a => by match a with | ⟨0, _⟩ => rfl | ⟨1, _⟩ => show k.val = 0 + k.val; omega
/-- The first half of a block of heads, as loaded. -/
theorem ld_heads0 (r k : Fin 512) : View.ld x0 (Rect.unit (s := S1024x512) ![0, 0] S512x512.size inb_S1024x512_S512x512_0_0) (ix2 r k) = x0 (ix2 ⟨r.val, by omega⟩ k) :=
  View.ld_unit_apply_of _ _ _ _ _ _ fun a => by match a with | ⟨0, _⟩ => show r.val = 0 + r.val; omega | ⟨1, _⟩ => show k.val = 0 + k.val; omega
/-- The second half of a block of mixed lanes, as loaded. -/
theorem ld_lanes1 (r k : Fin 512) : View.ld x1 (Rect.unit (s := S1024x512) ![512, 0] S512x512.size inb_S1024x512_S512x512_512_0) (ix2 r k) = x1 (ix2 ⟨512 + r.val, by omega⟩ k) :=
  View.ld_unit_apply_of _ _ _ _ _ _ fun a => by match a with | ⟨0, _⟩ => rfl | ⟨1, _⟩ => show k.val = 0 + k.val; omega
/-- The first half of a block of mixed lanes, as loaded. -/
theorem ld_lanes0 (r k : Fin 512) : View.ld x1 (Rect.unit (s := S1024x512) ![0, 0] S512x512.size inb_S1024x512_S512x512_0_0) (ix2 r k) = x1 (ix2 ⟨r.val, by omega⟩ k) :=
  View.ld_unit_apply_of _ _ _ _ _ _ fun a => by match a with | ⟨0, _⟩ => show r.val = 0 + r.val; omega | ⟨1, _⟩ => show k.val = 0 + k.val; omega
/-- The second half of a block of the stream, as loaded. -/
theorem ld_rows1 (r : Fin 512) (k : Fin 1024) : View.ld x2 (Rect.unit (s := S1024x1024) ![512, 0] S512x1024.size inb_S1024x1024_S512x1024_512_0) (ix2 r k) = x2 (ix2 ⟨512 + r.val, by omega⟩ k) :=
  View.ld_unit_apply_of _ _ _ _ _ _ fun a => by match a with | ⟨0, _⟩ => rfl | ⟨1, _⟩ => show k.val = 0 + k.val; omega
/-- The first half of a block of the stream, as loaded. -/
theorem ld_rows0 (r : Fin 512) (k : Fin 1024) : View.ld x2 (Rect.unit (s := S1024x1024) ![0, 0] S512x1024.size inb_S1024x1024_S512x1024_0_0) (ix2 r k) = x2 (ix2 ⟨r.val, by omega⟩ k) :=
  View.ld_unit_apply_of _ _ _ _ _ _ fun a => by match a with | ⟨0, _⟩ => show r.val = 0 + r.val; omega | ⟨1, _⟩ => show k.val = 0 + k.val; omega
/-- The group's row of modulations, as a point loads it. -/
theorem ld_mod (x : Vec Ideal S1x8x1024 .f32) (t : Fin cfg0.N) (b : Fin 2) (hb : b.val = t.val / 4) (d : Fin 1024) :
    View.ld x (Rect.unit (s := S1x8x1024) (k0_off1 (grid0.coords t)) S1x1x1024.size (k0_off1_inb (grid0.coords t))) (ix3 0 0 d) = x (ix3 0 ⟨1 + b.val, by omega⟩ d) :=
  View.ld_unit_apply_of _ _ _ _ _ _ fun a => by
    match a with
    | ⟨0, _⟩ => show 0 = k0_off1 (grid0.coords t) 0 + 0; rw [(off1 t).1]
    | ⟨1, _⟩ => show 1 + b.val = k0_off1 (grid0.coords t) 1 + 0; rw [(off1 t).2.1]; omega
    | ⟨2, _⟩ => show d.val = k0_off1 (grid0.coords t) 2 + d.val; rw [(off1 t).2.2]; omega
end

section
variable (c : Dev nD) (t : Fin cfg0.N) (arg1 : Memref sig .tc .vmem S1024x512 .bf16) (harg1 : arg1.IsWhole) (arg2 : Memref sig .tc .vmem S1024x512 .f32) (harg2 : arg2.IsWhole) (arg3 : Memref sig .tc .vmem S1024x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S1024x1024 .f32) (harg10 : arg10.IsWhole) (arg11 : Memref sig .tc .vmem S1024x1024 .bf16) (harg11 : arg11.IsWhole)
    (x0 : Vec Ideal S1024x512 .bf16) (x1 : Vec Ideal S1024x512 .f32) (x2 : Vec Ideal S1024x1024 .f32) (x3 : Vec Ideal S1x8x1024 .f32) (x4 : Vec Ideal S1x8x1024 .f32) (x5 : Vec Ideal S1x8x1024 .f32) (x6 : Vec Ideal S1x1024 .f32) (x7 : Vec Ideal S1x1024 .f32) (x8 : Vec Ideal S1024x1024 .bf16)

/-- What a point leaves in the block of the stream. -/
theorem out9_apply (b : Fin 2) (hb : b.val = t.val / 4) (r d : Fin 1024) :
    out0_A_9 c (grid0.coords t) arg1 harg1 arg2 harg2 arg3 harg3 arg4 harg4 arg5 harg5 arg6 harg6 arg7 harg7 arg8 harg8 arg9 harg9 arg10 harg10 arg11 harg11 x0 x1 x2 x3 x4 x5 x6 x7 x8 (ix2 r d)
      = streamOf x0 x1 x2 x6 x8 (fun d => x3 (ix3 0 ⟨1 + b.val, by omega⟩ d)) r d := by
  unfold out0_A_9
  rw [View.read_writes_eq_canon _ _ _ (cover0_A_9 c (grid0.coords t) arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S1x1024) hz2, View.ld_unit_zero (S := S1024x1024) hz2]
  simp only [pay9_eq]
  refine canon32 _ _ (streamOf x0 x1 x2 x6 x8 (fun d => x3 (ix3 0 ⟨1 + b.val, by omega⟩ d))) (fun r d => ?_) (fun r d => ?_) r d
  · rw [pay1_apply]
    simp only [pay12_apply, pay11_apply, pay3_apply]
    exact congrFun (stream_congr (fun k => ld_heads1 x0 r k) (fun k => ld_lanes1 x1 r k) (fun k => ld_rows1 x2 r k) (fun d => ld_mod x3 t b hb d) (fun _ => rfl) (fun _ _ => rfl)) d
  · rw [pay1_apply]
    simp only [pay12_apply, pay11_apply, pay3_apply]
    exact congrFun (stream_congr (fun k => ld_heads0 x0 r k) (fun k => ld_lanes0 x1 r k) (fun k => ld_rows0 x2 r k) (fun d => ld_mod x3 t b hb d) (fun _ => rfl) (fun _ _ => rfl)) d

/-- What a point leaves in the block for the feed-forward. -/
theorem out10_apply (b : Fin 2) (hb : b.val = t.val / 4) (r d : Fin 1024) :
    out0_A_10 c (grid0.coords t) arg1 harg1 arg2 harg2 arg3 harg3 arg4 harg4 arg5 harg5 arg6 harg6 arg7 harg7 arg8 harg8 arg9 harg9 arg10 harg10 arg11 harg11 x0 x1 x2 x3 x4 x5 x6 x7 x8 (ix2 r d)
      = fedOf x0 x1 x2 x6 x7 x8 (fun d => x3 (ix3 0 ⟨1 + b.val, by omega⟩ d)) (fun d => x4 (ix3 0 ⟨1 + b.val, by omega⟩ d)) (fun d => x5 (ix3 0 ⟨1 + b.val, by omega⟩ d)) r d := by
  unfold out0_A_10
  rw [View.read_writes_eq_canon _ _ _ (cover0_A_10 c (grid0.coords t) arg1 harg1 arg2 harg2 arg3 harg3 arg4 harg4 arg5 harg5 arg6 harg6 arg7 harg7 arg8 harg8 arg9 harg9 arg10 harg10 arg11 harg11 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S1x1024) hz2, View.ld_unit_zero (S := S1024x1024) hz2]
  simp only [pay10_eq]
  refine canon16 _ _ (fedOf x0 x1 x2 x6 x7 x8 (fun d => x3 (ix3 0 ⟨1 + b.val, by omega⟩ d)) (fun d => x4 (ix3 0 ⟨1 + b.val, by omega⟩ d)) (fun d => x5 (ix3 0 ⟨1 + b.val, by omega⟩ d))) (fun r d => ?_) (fun r d => ?_) r d
  · rw [pay2_apply]
    simp only [pay1_apply, pay12_apply, pay11_apply, pay3_apply, pay4_apply, pay5_apply]
    exact congrFun (modulated_congr (stream_congr (fun k => ld_heads1 x0 r k) (fun k => ld_lanes1 x1 r k) (fun k => ld_rows1 x2 r k) (fun d => ld_mod x3 t b hb d) (fun _ => rfl) (fun _ _ => rfl)) (fun _ => rfl) (fun d => ld_mod x5 t b hb d) (fun d => ld_mod x4 t b hb d)) d
  · rw [pay2_apply]
    simp only [pay1_apply, pay12_apply, pay11_apply, pay3_apply, pay4_apply, pay5_apply]
    exact congrFun (modulated_congr (stream_congr (fun k => ld_heads0 x0 r k) (fun k => ld_lanes0 x1 r k) (fun k => ld_rows0 x2 r k) (fun d => ld_mod x3 t b hb d) (fun _ => rfl) (fun _ _ => rfl)) (fun _ => rfl) (fun d => ld_mod x5 t b hb d) (fun d => ld_mod x4 t b hb d)) d
end

variable (m : (ℓ : Loc nD τ sig) → Buf (Elt Ideal) ℓ) (c : Dev nD)

/-- A row of the stream, from the arguments. -/
def streamArg (b : Fin 2) (q : Fin 4096) : Fin 1024 → EReal :=
  stream (fun k => m ((c : Thread nD τ).loc main_arg0) (ix3 b q k)) (fun k => m ((c : Thread nD τ).loc main_arg1) (ix3 b q k)) (fun d => m ((c : Thread nD τ).loc main_arg2) (ix3 b q d))
    (fun d => m ((c : Thread nD τ).loc main_arg3) (ix3 0 ⟨1 + b.val, by omega⟩ ⟨2048 + d.val, by omega⟩)) (fun d => m ((c : Thread nD τ).loc main_arg4) (ix2 0 d))
    (fun k d => m ((c : Thread nD τ).loc main_arg6) (ix3 0 k d))

/-- A row for the feed-forward, from the arguments. -/
def fedArg (b : Fin 2) (q : Fin 4096) : Fin 1024 → EReal :=
  modulated (streamArg m c b q) (fun d => m ((c : Thread nD τ).loc main_arg5) (ix2 0 d))
    (fun d => m ((c : Thread nD τ).loc main_arg3) (ix3 0 ⟨1 + b.val, by omega⟩ ⟨4096 + d.val, by omega⟩))
    (fun d => m ((c : Thread nD τ).loc main_arg3) (ix3 0 ⟨1 + b.val, by omega⟩ ⟨3072 + d.val, by omega⟩))

section
variable (t : Fin cfg0.N) (b : Fin 2) (q : Fin 4096) (r : Fin 1024) (hq : t.val * 1024 + r.val = b.val * 4096 + q.val)
include hq

/-- The row a point finds of the heads. -/
theorem e0 (k : Fin 512) : (iblk m c 0 t : Vec Ideal S1024x512 .bf16) (ix2 r k) = m ((c : Thread nD τ).loc main_arg0) (ix3 b q k) := by
  have ht := Nat.lt_of_lt_of_eq t.isLt N_0
  have hR : (⟨t.val * 1024 + r.val, by omega⟩ : Fin 8192) = ⟨b.val * 4096 + q.val, by omega⟩ := Fin.ext hq
  refine (read0 (V m c main_v1) t r k).trans ((congrFun (V_v1 m c) _).trans ?_); rw [hR]; exact heads_apply _ b q k
/-- The row a point finds of the mixed lanes. -/
theorem e1 (k : Fin 512) : (iblk m c 1 t : Vec Ideal S1024x512 .f32) (ix2 r k) = m ((c : Thread nD τ).loc main_arg1) (ix3 b q k) := by
  have ht := Nat.lt_of_lt_of_eq t.isLt N_0
  have hR : (⟨t.val * 1024 + r.val, by omega⟩ : Fin 8192) = ⟨b.val * 4096 + q.val, by omega⟩ := Fin.ext hq
  refine (read1 (V m c main_v2) t r k).trans ((congrFun (V_v2 m c) _).trans ?_); rw [hR]; exact lanes_apply _ b q k
/-- The row a point finds of the stream. -/
theorem e2 (k : Fin 1024) : (iblk m c 2 t : Vec Ideal S1024x1024 .f32) (ix2 r k) = m ((c : Thread nD τ).loc main_arg2) (ix3 b q k) := by
  have ht := Nat.lt_of_lt_of_eq t.isLt N_0
  have hR : (⟨t.val * 1024 + r.val, by omega⟩ : Fin 8192) = ⟨b.val * 4096 + q.val, by omega⟩ := Fin.ext hq
  refine (read2 (V m c main_v3) t r k).trans ((congrFun (V_v3 m c) _).trans ?_); rw [hR]; exact rows_apply _ b q k

/-- The row of the stream a point computes is the arguments'. -/
theorem streamOf_eq :
    streamOf (iblk m c 0 t) (iblk m c 1 t) (iblk m c 2 t) (iblk m c 6 t) (iblk m c 8 t) (fun d => (iblk m c 3 t : Vec Ideal S1x8x1024 .f32) (ix3 0 ⟨1 + b.val, by omega⟩ d)) r
      = streamArg m c b q := by
  have h0 := fun k => e0 m c t b q r hq k
  have h1 := fun k => e1 m c t b q r hq k
  have h2 := fun k => e2 m c t b q r hq k
  have h3 : ∀ d : Fin 1024, (iblk m c 3 t : Vec Ideal S1x8x1024 .f32) (ix3 0 ⟨1 + b.val, by omega⟩ d) = m ((c : Thread nD τ).loc main_arg3) (ix3 0 ⟨1 + b.val, by omega⟩ ⟨2048 + d.val, by omega⟩) := fun d =>
    (read3 (V m c main_arg3) t _ d).trans (congrFun (V_arg3 m c) _)
  have h6 : ∀ d, (iblk m c 6 t : Vec Ideal S1x1024 .f32) (ix2 0 d) = m ((c : Thread nD τ).loc main_arg4) (ix2 0 d) := fun d =>
    (read6 (V m c main_v11) t 0 d).trans ((congrFun (V_v11 m c) _).trans (gains_apply _ d))
  have h8 : ∀ k d, (iblk m c 8 t : Vec Ideal S1024x1024 .bf16) (ix2 k d) = m ((c : Thread nD τ).loc main_arg6) (ix3 0 k d) := fun k d =>
    (read8 (V m c main_v10) t k d).trans ((congrFun (V_v10 m c) _).trans (weights_apply _ k d))
  unfold streamOf streamArg
  simp only [h0, h1, h2, h3, h6, h8]

/-- The row for the feed-forward a point computes is the arguments'. -/
theorem fedOf_eq :
    fedOf (iblk m c 0 t) (iblk m c 1 t) (iblk m c 2 t) (iblk m c 6 t) (iblk m c 7 t) (iblk m c 8 t) (fun d => (iblk m c 3 t : Vec Ideal S1x8x1024 .f32) (ix3 0 ⟨1 + b.val, by omega⟩ d))
        (fun d => (iblk m c 4 t : Vec Ideal S1x8x1024 .f32) (ix3 0 ⟨1 + b.val, by omega⟩ d)) (fun d => (iblk m c 5 t : Vec Ideal S1x8x1024 .f32) (ix3 0 ⟨1 + b.val, by omega⟩ d)) r
      = fedArg m c b q := by
  have h4 : ∀ d : Fin 1024, (iblk m c 4 t : Vec Ideal S1x8x1024 .f32) (ix3 0 ⟨1 + b.val, by omega⟩ d) = m ((c : Thread nD τ).loc main_arg3) (ix3 0 ⟨1 + b.val, by omega⟩ ⟨3072 + d.val, by omega⟩) := fun d =>
    (read4 (V m c main_arg3) t _ d).trans (congrFun (V_arg3 m c) _)
  have h5 : ∀ d : Fin 1024, (iblk m c 5 t : Vec Ideal S1x8x1024 .f32) (ix3 0 ⟨1 + b.val, by omega⟩ d) = m ((c : Thread nD τ).loc main_arg3) (ix3 0 ⟨1 + b.val, by omega⟩ ⟨4096 + d.val, by omega⟩) := fun d =>
    (read5 (V m c main_arg3) t _ d).trans (congrFun (V_arg3 m c) _)
  have h7 : ∀ d, (iblk m c 7 t : Vec Ideal S1x1024 .f32) (ix2 0 d) = m ((c : Thread nD τ).loc main_arg5) (ix2 0 d) := fun d =>
    (read7 (V m c main_v12) t 0 d).trans ((congrFun (V_v12 m c) _).trans (gains_apply _ d))
  unfold fedOf fedArg
  rw [streamOf_eq m c t b q r hq]
  simp only [h4, h5, h7]

end

/-- Every entry of the stream's result. -/
theorem final9 (b : Fin 2) (q : Fin 4096) (d : Fin 1024) :
    ((dats m 0 c).arrAt 9 cfg0.N : Vec Ideal S8192x1024 .f32) (ix2 ⟨b.val * 4096 + q.val, by omega⟩ d) = streamArg m c b q d := by
  have hN : (b.val * 4096 + q.val) / 1024 < cfg0.N := Nat.lt_of_lt_of_eq (by omega) N_0.symm
  have hR : (⟨b.val * 4096 + q.val, by omega⟩ : Fin 8192) = ⟨(b.val * 4096 + q.val) / 1024 * 1024 + (b.val * 4096 + q.val) % 1024, by omega⟩ :=
    Fin.ext (by show b.val * 4096 + q.val = (b.val * 4096 + q.val) / 1024 * 1024 + (b.val * 4096 + q.val) % 1024; omega)
  rw [hR, ← read9 ((dats m 0 c).arrAt 9 cfg0.N) ⟨(b.val * 4096 + q.val) / 1024, hN⟩ ⟨(b.val * 4096 + q.val) % 1024, by omega⟩ d, Value.blocks9 m c _ (flush0_9 _), Value.flushed9_A]
  refine (out9_apply c ⟨(b.val * 4096 + q.val) / 1024, hN⟩ _ _ _ _ _ _ _ _ _ _ _ _ _ _ _ _ _ _ _ _ _ _ _ _ _ _ _ _ _ _ _ b (by show b.val = (b.val * 4096 + q.val) / 1024 / 4; omega) ⟨(b.val * 4096 + q.val) % 1024, by omega⟩ d).trans ?_
  exact congrFun (streamOf_eq m c ⟨(b.val * 4096 + q.val) / 1024, hN⟩ b q ⟨(b.val * 4096 + q.val) % 1024, by omega⟩ (by show (b.val * 4096 + q.val) / 1024 * 1024 + (b.val * 4096 + q.val) % 1024 = b.val * 4096 + q.val; omega)) d

/-- Every entry of the feed-forward's input. -/
theorem final10 (b : Fin 2) (q : Fin 4096) (d : Fin 1024) :
    ((dats m 0 c).arrAt 10 cfg0.N : Vec Ideal S8192x1024 .bf16) (ix2 ⟨b.val * 4096 + q.val, by omega⟩ d) = fedArg m c b q d := by
  have hN : (b.val * 4096 + q.val) / 1024 < cfg0.N := Nat.lt_of_lt_of_eq (by omega) N_0.symm
  have hR : (⟨b.val * 4096 + q.val, by omega⟩ : Fin 8192) = ⟨(b.val * 4096 + q.val) / 1024 * 1024 + (b.val * 4096 + q.val) % 1024, by omega⟩ :=
    Fin.ext (by show b.val * 4096 + q.val = (b.val * 4096 + q.val) / 1024 * 1024 + (b.val * 4096 + q.val) % 1024; omega)
  rw [hR, ← read10 ((dats m 0 c).arrAt 10 cfg0.N) ⟨(b.val * 4096 + q.val) / 1024, hN⟩ ⟨(b.val * 4096 + q.val) % 1024, by omega⟩ d, Value.blocks10 m c _ (flush0_10 _), Value.flushed10_A]
  refine (out10_apply c ⟨(b.val * 4096 + q.val) / 1024, hN⟩ _ _ _ _ _ _ _ _ _ _ _ _ _ _ _ _ _ _ _ _ _ _ _ _ _ _ _ _ _ _ _ b (by show b.val = (b.val * 4096 + q.val) / 1024 / 4; omega) ⟨(b.val * 4096 + q.val) % 1024, by omega⟩ d).trans ?_
  exact congrFun (fedOf_eq m c ⟨(b.val * 4096 + q.val) / 1024, hN⟩ b q ⟨(b.val * 4096 + q.val) % 1024, by omega⟩ (by show (b.val * 4096 + q.val) / 1024 * 1024 + (b.val * 4096 + q.val) % 1024 = b.val * 4096 + q.val; omega)) d

end Cert.Out
end
-- ==== Proof.Out.Ref.lean ====
/- The output projection's reference, at an entry. -/
module

public import proofs.«01_k».proof.Proof.Gen.Reference6Ideal.Read
public import proofs.«01_k».proof.Proof.Out.Row
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.Out.Ref

open Cert.Reference6Ideal Cert.Reference6Ideal.Gen Cert.Reference6Ideal.Read

variable (x0 x1 : FVec Ideal S2x4096x512 .f32) (x2 : FVec Ideal S2x4096x1024 .f32) (x3 : FVec Ideal S2x8x6144 .f32) (x4 x5 : FVec Ideal S2x1024 .f32)
  (x6 : FVec Ideal S2x1024x1024 .f32)

/-- The projection of the joined lanes. -/
theorem v12_apply (b : Fin 2) (q : Fin 4096) (d : Fin 1024) :
    val_main_v12 (F := Ideal) x0 x1 x6 (ix3 b q d) = projected (fun k => x0 (ix3 b q k)) (fun k => x1 (ix3 b q k)) (fun k d => x6 (ix3 0 k d)) d := by
  pointwise [val_main_v12, val_main_v11, val_main_v10, val_main_v9, projected, joined]

/-- The stream at an entry. -/
theorem v30_apply (b : Fin 2) (q : Fin 4096) (d : Fin 1024) :
    val_main_v30 (F := Ideal) x0 x1 x2 x3 x4 x6 (ix3 b q d)
      = stream (fun k => x0 (ix3 b q k)) (fun k => x1 (ix3 b q k)) (fun d => x2 (ix3 b q d)) (fun d => x3 (ix3 0 ⟨1 + b.val, by omega⟩ ⟨2048 + d.val, by omega⟩)) (fun d => x4 (ix2 0 d)) (fun k d => x6 (ix3 0 k d)) d := by
  unfold stream Cert.Ffn.added
  simp only [← v12_apply]
  unfold val_main_v30 val_main_v29 val_main_v28 val_main_v27 val_main_v26 val_main_v25 val_main_v24 val_main_v23 val_main_v22 val_main_v21 val_main_v20 val_main_v19 val_main_v18 val_main_v17 val_main_v16 val_main_v15
    val_main_v14 val_main_v13 val_main_v2 val_main_v1 val_main_v0 val_main_cst val_main_cst_0 val_main_cst_1
  generalize val_main_v12 (F := Ideal) x0 x1 x6 = y
  pointwise []

/-- The stream, flattened, at an entry. -/
theorem v52_apply (b : Fin 2) (q : Fin 4096) (d : Fin 1024) :
    val_main_v52 (F := Ideal) x0 x1 x2 x3 x4 x6 (ix2 ⟨b.val * 4096 + q.val, by omega⟩ d) = val_main_v30 (F := Ideal) x0 x1 x2 x3 x4 x6 (ix3 b q d) := by
  unfold val_main_v52
  generalize val_main_v30 (F := Ideal) x0 x1 x2 x3 x4 x6 = y
  pointwise []

/-- The feed-forward's input at an entry. -/
theorem v54_apply (b : Fin 2) (q : Fin 4096) (d : Fin 1024) :
    val_main_v54 (F := Ideal) x0 x1 x2 x3 x4 x5 x6 (ix2 ⟨b.val * 4096 + q.val, by omega⟩ d)
      = modulated (fun d => val_main_v30 (F := Ideal) x0 x1 x2 x3 x4 x6 (ix3 b q d)) (fun d => x5 (ix2 0 d)) (fun d => x3 (ix3 0 ⟨1 + b.val, by omega⟩ ⟨4096 + d.val, by omega⟩))
          (fun d => x3 (ix3 0 ⟨1 + b.val, by omega⟩ ⟨3072 + d.val, by omega⟩)) d := by
  unfold modulated
  unfold val_main_v54 val_main_v53 val_main_v51 val_main_v50 val_main_v49 val_main_v48 val_main_v47 val_main_v46 val_main_v45 val_main_v44 val_main_v43 val_main_v42 val_main_v41 val_main_v40 val_main_v39 val_main_v38
    val_main_v37 val_main_v36 val_main_v35 val_main_v34 val_main_v33 val_main_v32 val_main_v31 val_main_v8 val_main_v7 val_main_v6 val_main_v5 val_main_v4 val_main_v3 val_main_cst_2 val_main_cst_3 val_main_cst_4 val_main_cst_5
  generalize val_main_v30 (F := Ideal) x0 x1 x2 x3 x4 x6 = y
  pointwise []

end Cert.Out.Ref
end
-- ==== Proof.Out.Claim.lean ====
/- The claims of the output projection: the reference's frame, and the two results set side by side. -/
module

public import proofs.«01_k».proof.Defs
public import proofs.«01_k».proof.Proof.Gen.Kernel6.Frame
public import proofs.«01_k».proof.Proof.Gen.Reference6Ideal.Run
public import proofs.«01_k».proof.Proof.Out.Point
public import proofs.«01_k».proof.Proof.Out.Ref
public import Idealize.ShloMosaic.Adequacy
public import Idealize.ShloMosaic.Init

@[expose] public section

set_option maxRecDepth 16384

noncomputable section

open Idealize.ShloMosaic Idealize.ShloMosaic.TcCoe Idealize.SL.Sem

namespace Cert.Out

/-- The reference terminates, keeps its arguments, and leaves its counters at zero. -/
theorem refFrame : Cert.quiescent_Reference6Ideal (hReference6Ideal := Cert.Reference6Ideal.Gen.facts) := fun m ρ _ =>
  (θ_run (Cert.Reference6Ideal.defs (F := Ideal)) _ _).mono (fun r h => ⟨fun c => (h c).2.2, sem_eq_zero_of_no_sems (by decide) r.2⟩)
    (Cert.Reference6Ideal.Value.run m ρ)

section
open Cert.Kernel6Ideal Cert.Kernel6Ideal.Gen

/-- The kernel's stream is the reference's. -/
theorem stream_eq (m : (ℓ : Loc nD τ sig) → Buf (Elt Ideal) ℓ) (c : Dev nD) :
    ((dats m 0 c).arrAt 9 cfg0.N : Vec Ideal S8192x1024 .f32) = Cert.Reference6Ideal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  funext j
  rw [← ix2_eta j]
  generalize hl : j 0 = l
  generalize hd : j 1 = d
  clear hl hd
  change Fin 8192 at l
  obtain ⟨b, q, rfl⟩ : ∃ (b : Fin 2) (q : Fin 4096), l = ⟨b.val * 4096 + q.val, by have := b.isLt; have := q.isLt; omega⟩ :=
    ⟨⟨l.val / 4096, by have := l.isLt; omega⟩, ⟨l.val % 4096, by omega⟩, Fin.ext (show l.val = l.val / 4096 * 4096 + l.val % 4096 by omega)⟩
  refine (final9 m c b q d).trans ?_
  refine Eq.trans ?_ ((Ref.v52_apply _ _ _ _ _ _ b q d).trans (Ref.v30_apply _ _ _ _ _ _ b q d)).symm
  rfl

/-- The kernel's input for the feed-forward is the reference's. -/
theorem fed_eq (m : (ℓ : Loc nD τ sig) → Buf (Elt Ideal) ℓ) (c : Dev nD) :
    ((dats m 0 c).arrAt 10 cfg0.N : Vec Ideal S8192x1024 .bf16) = Cert.Reference6Ideal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext j
  rw [← ix2_eta j]
  generalize hl : j 0 = l
  generalize hd : j 1 = d
  clear hl hd
  change Fin 8192 at l
  obtain ⟨b, q, rfl⟩ : ∃ (b : Fin 2) (q : Fin 4096), l = ⟨b.val * 4096 + q.val, by have := b.isLt; have := q.isLt; omega⟩ :=
    ⟨⟨l.val / 4096, by have := l.isLt; omega⟩, ⟨l.val % 4096, by omega⟩, Fin.ext (show l.val = l.val / 4096 * 4096 + l.val % 4096 by omega)⟩
  refine (final10 m c b q d).trans ?_
  refine Eq.trans ?_ (Ref.v54_apply _ _ _ _ _ _ _ b q d).symm
  simp only [Ref.v30_apply]
  rfl

end

/-- The kernel and the reference end with equal results. -/
theorem algebraic : Cert.algebraic_Kernel6Ideal_Reference6Ideal := by
  intro m g m' g' _ hm
  refine ⟨fun c => (Cert.Kernel6Ideal.Gen.dats m 0 c).arrAt 9 Cert.Kernel6Ideal.cfg0.N, fun c => (Cert.Kernel6Ideal.Gen.dats m 0 c).arrAt 10 Cert.Kernel6Ideal.cfg0.N, Cert.Kernel6Ideal.Value.run_blocks m g, ?_⟩
  refine (θ_run (Cert.Reference6Ideal.defs (F := Ideal)) _ _).mono (fun r h c => ⟨(h c).1.trans ?_, (h c).2.1.trans ?_, (h c).2.2⟩) (Cert.Reference6Ideal.Value.run m' g')
  · obtain ⟨e0, e1, e2, e3, e4, e5, e6⟩ := hm c
    rw [Cert.Reference6Ideal.Read.val_main_v52_eq, e0, e1, e2, e3, e4, e6]
    exact (stream_eq m c).symm
  · obtain ⟨e0, e1, e2, e3, e4, e5, e6⟩ := hm c
    rw [Cert.Reference6Ideal.Read.val_main_v54_eq, e0, e1, e2, e3, e4, e5, e6]
    exact (fed_eq m c).symm

end Cert.Out

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel3Ideal.Launch
public import proofs.«01_k».proof.Proof.Gen.Kernel3Ideal.Skeleton
public import proofs.«01_k».proof.Proof.Gen.Kernel3
public import proofs.«01_k».proof.Proof.Gen.Reference3Ideal.Run
public import proofs.«01_k».proof.Proof.Gen.Reference3Ideal.Read
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Lat.Claim
public import proofs.«01_k».proof.Proof.Ffn.Claim
public import proofs.«01_k».proof.Proof.Moe.Word
public import proofs.«01_k».proof.Proof.Moe.Claim
public import proofs.«01_k».proof.Proof.FfnCtx.Claim
public import proofs.«01_k».proof.Proof.Inp.Claim
public import proofs.«01_k».proof.Proof.Out.Claim

@[expose] public section

noncomputable section

namespace Cert.Proof

open Idealize.ShloMosaic Idealize.SL.Sem

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Lat.preFacts, Cert.Moe.preFacts,
  fun m ρ _ => Cert.Kernel.Gen.frame m ρ, fun m ρ _ => Cert.KernelIdeal.Gen.frame m ρ, fun m ρ _ => Cert.KernelIdeal.Gen.frame m ρ,
  Cert.Lat.refFrame, fun m ρ _ => Cert.Lat.refFrame m ρ trivial,
  fun m ρ _ => Cert.Kernel2.Gen.frame m ρ, fun m ρ _ => Cert.Kernel2Ideal.Gen.frame m ρ, Cert.Ffn.refFrame,
  Cert.Moe.frameWord, Cert.Moe.frameIdeal, Cert.Moe.refFrame, fun m ρ _ => Cert.Moe.refFrame m ρ trivial,
  fun m ρ _ => Cert.Kernel4.Gen.frame m ρ, fun m ρ _ => Cert.Kernel4Ideal.Gen.frame m ρ, Cert.FfnCtx.refFrame,
  fun m ρ _ => Cert.Kernel5.Gen.frame m ρ, fun m ρ _ => Cert.Kernel5Ideal.Gen.frame m ρ, Cert.Inp.refFrame,
  fun m ρ _ => Cert.Kernel6.Gen.frame m ρ, fun m ρ _ => Cert.Kernel6Ideal.Gen.frame m ρ, Cert.Out.refFrame,
  IdealRules.named_const.statement Cert.KernelIdeal.κ "scale_log2e" .f32 0x3E38AA3B#32 ((8⁻¹ * (Real.log 2)⁻¹ : ℝ) : EReal) rfl,
  Cert.Lat.algebraic, trivial, Cert.Ffn.algebraic, trivial, Cert.Moe.algebraic, trivial, Cert.FfnCtx.algebraic, trivial, Cert.Inp.algebraic, trivial, Cert.Out.algebraic⟩

end Cert.Proof

end
